-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v2_0)) (v1 : (c : Dev Cert.OProjIdeal.nD) → Buf (Elt Ideal) ((c.tc : Thread Cert.OProjIdeal.nD Cert.OProjIdeal.τ).loc Cert.OProjIdeal.main_v2_1)) (v2 : (c : Dev Cert.OProjIdeal.nD) → Buf (Elt Ideal) ((c.tc : Thread Cert.OProjIdeal.nD Cert.OProjIdeal.τ).loc Cert.OProjIdeal.main_v2_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v2_0) = v0 c
          ∧ r.2.mem ((c.tc : Thread Cert.OProjIdeal.nD Cert.OProjIdeal.τ).loc Cert.OProjIdeal.main_v2_1) = v1 c
          ∧ r.2.mem ((c.tc : Thread Cert.OProjIdeal.nD Cert.OProjIdeal.τ).loc Cert.OProjIdeal.main_v2_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0_0) = v0 c
          ∧ r.2.mem ((c.tc : Thread Cert.OProjRefIdeal.nD Cert.OProjRefIdeal.τ).loc Cert.OProjRefIdeal.main_v0_1) = v1 c
          ∧ r.2.mem ((c.tc : Thread Cert.OProjRefIdeal.nD Cert.OProjRefIdeal.τ).loc Cert.OProjRefIdeal.main_v0_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hOProj : Cert.OProj.Facts) (hOProjIdeal : Cert.OProjIdeal.Facts) (hOProjRefIdeal : Cert.OProjRefIdeal.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OProj (hOProj := hOProj)
    ∧ quiescent_OProjIdeal (hOProjIdeal := hOProjIdeal)
    ∧ quiescent_OProjRefIdeal (hOProjRefIdeal := hOProjRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_OProj_OProjIdeal
    ∧ algebraic_OProjIdeal_OProjRefIdeal (hOProjIdeal := hOProjIdeal) (hOProjRefIdeal := hOProjRefIdeal)
-- ==== Down.lean ====
abbrev S4608x4736 : Shape := ⟨2, ![4608, 4736]⟩
abbrev S4608x1 : Shape := ⟨2, ![4608, 1]⟩
abbrev S2x4736x3584 : Shape := ⟨3, ![2, 4736, 3584]⟩
abbrev S2x3584 : Shape := ⟨2, ![2, 3584]⟩
abbrev S4608x3584 : Shape := ⟨2, ![4608, 3584]⟩
abbrev S2x1x3584 : Shape := ⟨3, ![2, 1, 3584]⟩
abbrev S576x4736 : Shape := ⟨2, ![576, 4736]⟩
abbrev S576x1 : Shape := ⟨2, ![576, 1]⟩
abbrev S1x1x3584 : Shape := ⟨3, ![1, 1, 3584]⟩
abbrev S576x3584 : Shape := ⟨2, ![576, 3584]⟩
abbrev S14x4736x256 : Shape := ⟨3, ![14, 4736, 256]⟩
abbrev S14 : Shape := ⟨1, ![14]⟩
abbrev S1 : Shape := ⟨1, ![1]⟩
abbrev S_ : Shape := ⟨0, ![]⟩
abbrev S1x4736x256 : Shape := ⟨3, ![1, 4736, 256]⟩
abbrev S4736x256 : Shape := ⟨2, ![4736, 256]⟩
abbrev S576x256 : Shape := ⟨2, ![576, 256]⟩
abbrev S1x1x256 : Shape := ⟨3, ![1, 1, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S4608x4736, .fp8e4m3⟩
  | .hbm, ⟨1, _⟩ => ⟨S4608x1, .f32⟩
  | .hbm, ⟨2, _⟩ => ⟨S2x4736x3584, .fp8e4m3⟩
  | .hbm, ⟨3, _⟩ => ⟨S2x3584, .f32⟩
  | .hbm, ⟨4, _⟩ => ⟨S4608x3584, .f32⟩
  | .hbm, ⟨5, _⟩ => ⟨S2x1x3584, .f32⟩
  | .hbm, ⟨6, _⟩ => ⟨S4608x3584, .bf16⟩
  | .local _ .vmem, ⟨0, _⟩ => ⟨S576x4736, .fp8e4m3⟩
  | .local _ .vmem, ⟨1, _⟩ => ⟨S576x4736, .fp8e4m3⟩
  | .local _ .vmem, ⟨2, _⟩ => ⟨S576x1, .f32⟩
  | .local _ .vmem, ⟨3, _⟩ => ⟨S576x1, .f32⟩
  | .local _ .vmem, ⟨4, _⟩ => ⟨S1x1x3584, .f32⟩
  | .local _ .vmem, ⟨5, _⟩ => ⟨S1x1x3584, .f32⟩
  | .local _ .vmem, ⟨6, _⟩ => ⟨S576x3584, .f32⟩
  | .local _ .vmem, ⟨7, _⟩ => ⟨S576x3584, .f32⟩
  | .local _ .vmem, ⟨8, _⟩ => ⟨S576x3584, .bf16⟩
  | .local _ .vmem, ⟨9, _⟩ => ⟨S576x3584, .bf16⟩
  | .local _ .vmem, ⟨10, _⟩ => ⟨S14x4736x256, .fp8e4m3⟩
  | _, _ => ⟨S4608x4736, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c14_i32 : BitVec 32 := 14#32
  let v4 : BitVec 32 := Scalar.addi c0_i32_3 c14_i32
  let c1_i32_4 : BitVec 32 := 1#32
  ⟨c0_i32_3, v4, c1_i32_4⟩
def k0_mult1 (k0_t1 : Fin k0_t1_loop.trips) : BitVec 32 :=
  let c0_i32_7 : BitVec 32 := 0#32
  let c0_i32_3 : BitVec 32 := 0#32
  let c1_i32_4 : BitVec 32 := 1#32
  let arg9 : BitVec 32 := Scf.iv c0_i32_3 c1_i32_4 k0_t1
  let c1_i32_6 : BitVec 32 := 1#32
  let v5 : BitVec 32 := Scalar.muli arg9 c1_i32_6
  let v6 : BitVec 32 := Scalar.addi c0_i32_7 v5
  let c256_i32 : BitVec 32 := 256#32
  let v7 : BitVec 32 := Scalar.muli v6 c256_i32
  v7
def k0_off1 (k0_t1 : Fin k0_t1_loop.trips) : Fin 1 → Nat :=
  let c0_i32_7 : BitVec 32 := 0#32
  let c0_i32_3 : BitVec 32 := 0#32
  let c1_i32_4 : BitVec 32 := 1#32
  let arg9 : BitVec 32 := Scf.iv c0_i32_3 c1_i32_4 k0_t1
  let c1_i32_6 : BitVec 32 := 1#32
  let v5 : BitVec 32 := Scalar.muli arg9 c1_i32_6
  let v6 : BitVec 32 := Scalar.addi c0_i32_7 v5
  ![v6.toNat]
def k0_off2 (k0_t1 : Fin k0_t1_loop.trips) : Fin 3 → Nat :=
  let c0_i32_7 : BitVec 32 := 0#32
  let c0_i32_3 : BitVec 32 := 0#32
  let c1_i32_4 : BitVec 32 := 1#32
  let arg9 : BitVec 32 := Scf.iv c0_i32_3 c1_i32_4 k0_t1
  let c1_i32_6 : BitVec 32 := 1#32
  let v5 : BitVec 32 := Scalar.muli arg9 c1_i32_6
  let v6 : BitVec 32 := Scalar.addi c0_i32_7 v5
  let c0_i32_9 : BitVec 32 := 0#32
  let c0_i32_10 : BitVec 32 := 0#32
  ![v6.toNat, 0, 0]
def k0_off3 (k0_t1 : Fin k0_t1_loop.trips) : Fin 3 → Nat :=
  let c0_i32_8 : BitVec 32 := 0#32
  let c0_i32_11 : BitVec 32 := 0#32
  let c0_i32_7 : BitVec 32 := 0#32
  let c0_i32_3 : BitVec 32 := 0#32
  let c1_i32_4 : BitVec 32 := 1#32
  let arg9 : BitVec 32 := Scf.iv c0_i32_3 c1_i32_4 k0_t1
  let c1_i32_6 : BitVec 32 := 1#32
  let v5 : BitVec 32 := Scalar.muli arg9 c1_i32_6
  let v6 : BitVec 32 := Scalar.addi c0_i32_7 v5
  let c256_i32 : BitVec 32 := 256#32
  let v7 : BitVec 32 := Scalar.muli v6 c256_i32
  let v8 : BitVec 32 := v7
  ![0, 0, v8.toNat]
@[reducible] def k0_t2_loop : Scf.Loop 32 :=
  let c0_i32_1 : BitVec 32 := 0#32
  let c7_i32 : BitVec 32 := 7#32
  let v3 : BitVec 32 := Scalar.addi c0_i32_1 c7_i32
  let c1_i32 : BitVec 32 := 1#32
  ⟨c0_i32_1, v3, c1_i32⟩
def k0_mult2 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c256_i32 : BitVec 32 := 256#32
  let v8 : BitVec 32 := Scalar.muli v7 c256_i32
  v8
def k0_cond2 (i : grid0.Coords) : BitVec 1 :=
  let arg0 : BitVec 32 := BitVec.ofNat 32 (i 0).val
  let c2_i32_6 : BitVec 32 := 2#32
  let v10 : BitVec 1 := Scalar.cmpi .slt arg0 c2_i32_6
  let v11 : BitVec 32 := Scalar.extui v10
  let c0_i32_7 : BitVec 32 := 0#32
  let v12 : BitVec 1 := Scalar.cmpi .ne v11 c0_i32_7
  v12

def k0_mult3 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c256_i32_38 : BitVec 32 := 256#32
  let v65 : BitVec 32 := Scalar.muli v7 c256_i32_38
  v65
def k0_off4 (k0_t2 : Fin k0_t2_loop.trips) : Fin 1 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  ![v7.toNat]
def k0_off5 (k0_t2 : Fin k0_t2_loop.trips) : Fin 3 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c0_i32_39 : BitVec 32 := 0#32
  let c0_i32_40 : BitVec 32 := 0#32
  ![v7.toNat, 0, 0]
def k0_off6 (i : grid0.Coords) (k0_t2 : Fin k0_t2_loop.trips) : Fin 3 → Nat :=
  let arg0 : BitVec 32 := BitVec.ofNat 32 (i 0).val
  let c1_i32_37 : BitVec 32 := 1#32
  let v64 : BitVec 32 := Scalar.minsi arg0 c1_i32_37
  let c0_i32_41 : BitVec 32 := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c256_i32_38 : BitVec 32 := 256#32
  let v65 : BitVec 32 := Scalar.muli v7 c256_i32_38
  let v66 : BitVec 32 := v65
  ![v64.toNat, 0, v66.toNat]
def k0_off7 (k0_t2 : Fin k0_t2_loop.trips) (c0_i32_5 : BitVec 32) : Fin 2 → Nat :=
  let c0 : Index := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let v7 : BitVec 32 := Scalar.addi v6 c0_i32_5
  let c256_i32 : BitVec 32 := 256#32
  let v8 : BitVec 32 := Scalar.muli v7 c256_i32
  let v9 : BitVec 32 := v8
  let v13 : Index := Scalar.indexCast v9
  ![0, v13.toNat]
def k0_off8 (k0_t2 : Fin k0_t2_loop.trips) (c0_i32_5 : BitVec 32) : Fin 3 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let v7 : BitVec 32 := Scalar.addi v6 c0_i32_5
  let v16 : Index := Scalar.indexCast v7
  let c0_10 : Index := 0#32
  let c0_11 : Index := 0#32
  ![v16.toNat, 0, 0]
def k0_off9 (k0_t2 : Fin k0_t2_loop.trips) (c0_i32_5 : BitVec 32) : Fin 3 → Nat :=
  let c0_14 : Index := 0#32
  let c0_15 : Index := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let v7 : BitVec 32 := Scalar.addi v6 c0_i32_5
  let c256_i32 : BitVec 32 := 256#32
  let v8 : BitVec 32 := Scalar.muli v7 c256_i32
  let v9 : BitVec 32 := v8
  let v23 : Index := Scalar.indexCast v9
  ![0, 0, v23.toNat]
def k0_cond3 (i : grid0.Coords) : BitVec 1 :=
  let arg0 : BitVec 32 := BitVec.ofNat 32 (i 0).val
  let c0_i32_17 : BitVec 32 := 0#32
  let v32 : BitVec 1 := Scalar.cmpi .eq arg0 c0_i32_17
  let v33 : BitVec 32 := Scalar.extui v32
  let c0_i32_18 : BitVec 32 := 0#32
  let v34 : BitVec 1 := Scalar.cmpi .ne v33 c0_i32_18
  v34

def k0_mult4 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c256_i32_37 : BitVec 32 := 256#32
  let v64 : BitVec 32 := Scalar.muli v7 c256_i32_37
  v64
def k0_off10 (k0_t2 : Fin k0_t2_loop.trips) : Fin 1 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  ![v7.toNat]
def k0_off11 (k0_t2 : Fin k0_t2_loop.trips) : Fin 3 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c0_i32_39 : BitVec 32 := 0#32
  let c0_i32_40 : BitVec 32 := 0#32
  ![v7.toNat, 0, 0]
def k0_off12 (k0_t2 : Fin k0_t2_loop.trips) : Fin 3 → Nat :=
  let c1_i32_38 : BitVec 32 := 1#32
  let c0_i32_41 : BitVec 32 := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32 : BitVec 32 := 2#32
  let v6 : BitVec 32 := Scalar.muli v5 c2_i32
  let c0_i32_5 : BitVec 32 := 0#32
  let v7 : BitVec 32 := Scalar.addi v6 c0_i32_5
  let c256_i32_37 : BitVec 32 := 256#32
  let v64 : BitVec 32 := Scalar.muli v7 c256_i32_37
  let v65 : BitVec 32 := v64
  ![1, 0, v65.toNat]
def k0_mult5 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c256_i32_21 : BitVec 32 := 256#32
  let v37 : BitVec 32 := Scalar.muli v36 c256_i32_21
  v37
def k0_cond4 (i : grid0.Coords) : BitVec 1 :=
  let arg0 : BitVec 32 := BitVec.ofNat 32 (i 0).val
  let c2_i32_22 : BitVec 32 := 2#32
  let v39 : BitVec 1 := Scalar.cmpi .slt arg0 c2_i32_22
  let v40 : BitVec 32 := Scalar.extui v39
  let c0_i32_23 : BitVec 32 := 0#32
  let v41 : BitVec 1 := Scalar.cmpi .ne v40 c0_i32_23
  v41

def k0_mult6 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c256_i32_38 : BitVec 32 := 256#32
  let v65 : BitVec 32 := Scalar.muli v36 c256_i32_38
  v65
def k0_off13 (k0_t2 : Fin k0_t2_loop.trips) : Fin 1 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  ![v36.toNat]
def k0_off14 (k0_t2 : Fin k0_t2_loop.trips) : Fin 3 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c0_i32_39 : BitVec 32 := 0#32
  let c0_i32_40 : BitVec 32 := 0#32
  ![v36.toNat, 0, 0]
def k0_off15 (i : grid0.Coords) (k0_t2 : Fin k0_t2_loop.trips) : Fin 3 → Nat :=
  let arg0 : BitVec 32 := BitVec.ofNat 32 (i 0).val
  let c1_i32_37 : BitVec 32 := 1#32
  let v64 : BitVec 32 := Scalar.minsi arg0 c1_i32_37
  let c0_i32_41 : BitVec 32 := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c256_i32_38 : BitVec 32 := 256#32
  let v65 : BitVec 32 := Scalar.muli v36 c256_i32_38
  let v66 : BitVec 32 := v65
  ![v64.toNat, 0, v66.toNat]
def k0_cond5 (i : grid0.Coords) : BitVec 1 :=
  let arg0 : BitVec 32 := BitVec.ofNat 32 (i 0).val
  let c0_i32_35 : BitVec 32 := 0#32
  let v61 : BitVec 1 := Scalar.cmpi .eq arg0 c0_i32_35
  let v62 : BitVec 32 := Scalar.extui v61
  let c0_i32_36 : BitVec 32 := 0#32
  let v63 : BitVec 1 := Scalar.cmpi .ne v62 c0_i32_36
  v63

def k0_mult7 (k0_t2 : Fin k0_t2_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c256_i32_37 : BitVec 32 := 256#32
  let v64 : BitVec 32 := Scalar.muli v36 c256_i32_37
  v64
def k0_off16 (k0_t2 : Fin k0_t2_loop.trips) : Fin 1 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  ![v36.toNat]
def k0_off17 (k0_t2 : Fin k0_t2_loop.trips) : Fin 3 → Nat :=
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c0_i32_39 : BitVec 32 := 0#32
  let c0_i32_40 : BitVec 32 := 0#32
  ![v36.toNat, 0, 0]
def k0_off18 (k0_t2 : Fin k0_t2_loop.trips) : Fin 3 → Nat :=
  let c1_i32_38 : BitVec 32 := 1#32
  let c0_i32_41 : BitVec 32 := 0#32
  let c0_i32_4 : BitVec 32 := 0#32
  let c0_i32_1 : BitVec 32 := 0#32
  let c1_i32 : BitVec 32 := 1#32
  let arg9 : BitVec 32 := Scf.iv c0_i32_1 c1_i32 k0_t2
  let c1_i32_3 : BitVec 32 := 1#32
  let v4 : BitVec 32 := Scalar.muli arg9 c1_i32_3
  let v5 : BitVec 32 := Scalar.addi c0_i32_4 v4
  let c2_i32_19 : BitVec 32 := 2#32
  let v35 : BitVec 32 := Scalar.muli v5 c2_i32_19
  let c1_i32_20 : BitVec 32 := 1#32
  let v36 : BitVec 32 := Scalar.addi v35 c1_i32_20
  let c256_i32_37 : BitVec 32 := 256#32
  let v64 : BitVec 32 := Scalar.muli v36 c256_i32_37
  let v65 : BitVec 32 := v64
  ![1, 0, v65.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x4736 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S576x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S576x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S4608x4736 : Shape := ⟨2, ![4608, 4736]⟩
abbrev S4608x1 : Shape := ⟨2, ![4608, 1]⟩
abbrev S2x4736x3584 : Shape := ⟨3, ![2, 4736, 3584]⟩
abbrev S2x3584 : Shape := ⟨2, ![2, 3584]⟩
abbrev S4608x3584 : Shape := ⟨2, ![4608, 3584]⟩
abbrev S2x1x3584 : Shape := ⟨3, ![2, 1, 3584]⟩
abbrev S576x4736 : Shape := ⟨2, ![576, 4736]⟩
abbrev S576x1 : Shape := ⟨2, ![576, 1]⟩
abbrev S1x4736x3584 : Shape := ⟨3, ![1, 4736, 3584]⟩
abbrev S4736x3584 : Shape := ⟨2, ![4736, 3584]⟩
abbrev S1x1x3584 : Shape := ⟨3, ![1, 1, 3584]⟩
abbrev S1x3584 : Shape := ⟨2, ![1, 3584]⟩
abbrev S576x3584 : Shape := ⟨2, ![576, 3584]⟩
abbrev S4032x4736 : Shape := ⟨2, ![4032, 4736]⟩
abbrev S4032x1 : Shape := ⟨2, ![4032, 1]⟩
abbrev S4032x3584 : Shape := ⟨2, ![4032, 3584]⟩

abbrev nBuf : Space → Nat
  | .hbm => 7
  | .vmem => 6
  | .smem => 0
  | _ => 0

abbrev bufTy : (tb : Table) → Fin (tcTables nBuf tb) → BufTy
  | .hbm, ⟨0, _⟩ => ⟨S4608x4736, .fp8e4m3⟩
  | .hbm, ⟨1, _⟩ => ⟨S4608x1, .f32⟩
  | .hbm, ⟨2, _⟩ => ⟨S2x4736x3584, .fp8e4m3⟩
  | .hbm, ⟨3, _⟩ => ⟨S2x3584, .f32⟩
  | .hbm, ⟨4, _⟩ => ⟨S4608x3584, .f32⟩
  | .hbm, ⟨5, _⟩ => ⟨S2x1x3584, .f32⟩
  | .hbm, ⟨6, _⟩ => ⟨S4608x3584, .bf16⟩
  | .local _ .vmem, ⟨0, _⟩ => ⟨S4608x4736, .fp8e4m3⟩
  | .local _ .vmem, ⟨1, _⟩ => ⟨S4608x1, .f32⟩
  | .local _ .vmem, ⟨2, _⟩ => ⟨S2x4736x3584, .fp8e4m3⟩
  | .local _ .vmem, ⟨3, _⟩ => ⟨S2x1x3584, .f32⟩
  | .local _ .vmem, ⟨4, _⟩ => ⟨S4608x3584, .f32⟩
  | .local _ .vmem, ⟨5, _⟩ => ⟨S4608x3584, .bf16⟩
  | _, _ => ⟨S4608x4736, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4608x4736 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4736x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S4608x3584 : Shape := ⟨2, ![4608, 3584]⟩
abbrev S4608x1 : Shape := ⟨2, ![4608, 1]⟩
abbrev S2x3584x9472 : Shape := ⟨3, ![2, 3584, 9472]⟩
abbrev S2x9472 : Shape := ⟨2, ![2, 9472]⟩
abbrev S2x1x9472 : Shape := ⟨3, ![2, 1, 9472]⟩
abbrev S4608x4736 : Shape := ⟨2, ![4608, 4736]⟩
abbrev S576x3584 : Shape := ⟨2, ![576, 3584]⟩
abbrev S576x1 : Shape := ⟨2, ![576, 1]⟩
abbrev S1x1x9472 : Shape := ⟨3, ![1, 1, 9472]⟩
abbrev S576x4736 : Shape := ⟨2, ![576, 4736]⟩
abbrev S37x3584x256 : Shape := ⟨3, ![37, 3584, 256]⟩
abbrev S576x128 : Shape := ⟨2, ![576, 128]⟩
abbrev S37 : Shape := ⟨1, ![37]⟩
abbrev S1 : Shape := ⟨1, ![1]⟩
abbrev S_ : Shape := ⟨0, ![]⟩
abbrev S1x3584x128 : Shape := ⟨3, ![1, 3584, 128]⟩
abbrev S3584x128 : Shape := ⟨2, ![3584, 128]⟩
abbrev S1x3584x256 : Shape := ⟨3, ![1, 3584, 256]⟩
abbrev S3584x256 : Shape := ⟨2, ![3584, 256]⟩
abbrev S576x256 : Shape := ⟨2, ![576, 256]⟩
abbrev S1x1x128 : Shape := ⟨3, ![1, 1, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S32x4736 : Shape := ⟨2, ![32, 4736]⟩

abbrev nBuf : Space → Nat
  | .hbm => 7
  | .vmem => 13
  | .smem => 0
  | _ => 0

abbrev bufTy : (tb : Table) → Fin (tcTables nBuf tb) → BufTy
  | .hbm, ⟨0, _⟩ => ⟨S4608x3584, .fp8e4m3⟩
  | .hbm, ⟨1, _⟩ => ⟨S4608x1, .f32⟩
  | .hbm, ⟨2, _⟩ => ⟨S2x3584x9472, .fp8e4m3⟩
  | .hbm, ⟨3, _⟩ => ⟨S2x9472, .f32⟩
  | .hbm, ⟨4, _⟩ => ⟨S2x1x9472, .f32⟩
  | .hbm, ⟨5, _⟩ => ⟨S4608x4736, .fp8e4m3⟩
  | .hbm, ⟨6, _⟩ => ⟨S4608x1, .f32⟩
  | .local _ .vmem, ⟨0, _⟩ => ⟨S576x3584, .fp8e4m3⟩
  | .local _ .vmem, ⟨1, _⟩ => ⟨S576x3584, .fp8e4m3⟩
  | .local _ .vmem, ⟨2, _⟩ => ⟨S576x1, .f32⟩
  | .local _ .vmem, ⟨3, _⟩ => ⟨S576x1, .f32⟩
  | .local _ .vmem, ⟨4, _⟩ => ⟨S1x1x9472, .f32⟩
  | .local _ .vmem, ⟨5, _⟩ => ⟨S1x1x9472, .f32⟩
  | .local _ .vmem, ⟨6, _⟩ => ⟨S576x4736, .fp8e4m3⟩
  | .local _ .vmem, ⟨7, _⟩ => ⟨S576x4736, .fp8e4m3⟩
  | .local _ .vmem, ⟨8, _⟩ => ⟨S576x1, .f32⟩
  | .local _ .vmem, ⟨9, _⟩ => ⟨S576x1, .f32⟩
  | .local _ .vmem, ⟨10, _⟩ => ⟨S37x3584x256, .fp8e4m3⟩
  | .local _ .vmem, ⟨11, _⟩ => ⟨S576x4736, .f32⟩
  | .local _ .vmem, ⟨12, _⟩ => ⟨S576x128, .f32⟩
  | _, _ => ⟨S4608x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_30 : BitVec 32 := 0#32
  let c37_i32 : BitVec 32 := 37#32
  let v56 : BitVec 32 := Scalar.addi c0_i32_30 c37_i32
  let c1_i32_31 : BitVec 32 := 1#32
  ⟨c0_i32_30, v56, c1_i32_31⟩
def k0_mult1 (k0_t1 : Fin k0_t1_loop.trips) : BitVec 32 :=
  let c0_i32_35 : BitVec 32 := 0#32
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  let c128_i32 : BitVec 32 := 128#32
  let v59 : BitVec 32 := Scalar.muli v58 c128_i32
  let v60 : BitVec 32 := Scalar.addi c0_i32_35 v59
  v60
def k0_mult2 (k0_t1 : Fin k0_t1_loop.trips) : BitVec 32 :=
  let c4736_i32 : BitVec 32 := 4736#32
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  let c128_i32_36 : BitVec 32 := 128#32
  let v62 : BitVec 32 := Scalar.muli v58 c128_i32_36
  let v63 : BitVec 32 := Scalar.addi c4736_i32 v62
  v63
def k0_off1 (k0_t1 : Fin k0_t1_loop.trips) : Fin 1 → Nat :=
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  ![v58.toNat]
def k0_off2 (k0_t1 : Fin k0_t1_loop.trips) : Fin 3 → Nat :=
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  let c0_i32_38 : BitVec 32 := 0#32
  let c0_i32_39 : BitVec 32 := 0#32
  ![v58.toNat, 0, 0]
def k0_off3 (k0_t1 : Fin k0_t1_loop.trips) (c0_i32_35 : BitVec 32) : Fin 3 → Nat :=
  let c0_i32_37 : BitVec 32 := 0#32
  let c0_i32_40 : BitVec 32 := 0#32
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  let c128_i32 : BitVec 32 := 128#32
  let v59 : BitVec 32 := Scalar.muli v58 c128_i32
  let v60 : BitVec 32 := Scalar.addi c0_i32_35 v59
  let v61 : BitVec 32 := v60
  ![0, 0, v61.toNat]
def k0_off4 (k0_t1 : Fin k0_t1_loop.trips) : Fin 3 → Nat :=
  let c0_i32_34 : BitVec 32 := 0#32
  let c0_i32_30 : BitVec 32 := 0#32
  let c1_i32_31 : BitVec 32 := 1#32
  let arg11 : BitVec 32 := Scf.iv c0_i32_30 c1_i32_31 k0_t1
  let c1_i32_33 : BitVec 32 := 1#32
  let v57 : BitVec 32 := Scalar.muli arg11 c1_i32_33
  let v58 : BitVec 32 := Scalar.addi c0_i32_34 v57
  let c0_i32_42 : BitVec 32 := 0#32
  let c128_i32_43 : BitVec 32 := 128#32
  ![v58.toNat, 0, 128]
@[reducible] def k0_t2_loop : Scf.Loop 32 :=
  let c0_i32_2 : BitVec 32 := 0#32
  let c9_i32 : BitVec 32 := 9#32
  let v7 : BitVec 32 := Scalar.addi c0_i32_2 c9_i32
  let c1_i32 : BitVec 32 := 1#32
  ⟨c0_i32_2, v7, c1_i32⟩
def k0_cond2 (i : grid0.Coords) : BitVec 1 :=
  let arg0 : BitVec 32 := BitVec.ofNat 32 (i 0).val
  let c2_i32_33 : BitVec 32 := 2#32
  let v60 : BitVec 1 := Scalar.cmpi .slt arg0 c2_i32_33
  let v61 : BitVec 32 := Scalar.extui v60
  let c0_i32_34 : BitVec 32 := 0#32
  let v62 : BitVec 1 := Scalar.cmpi .ne v61 c0_i32_34
  v62

def k0_mult3 (k0_t2 : Fin k0_t2_loop.trips) : BitVec 32 :=
  let c0_i32_146 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_145 : BitVec 32 := 128#32
  let v275 : BitVec 32 := Scalar.muli v59 c128_i32_145
  let v276 : BitVec 32 := Scalar.addi c0_i32_146 v275
  v276
def k0_mult4 (k0_t2 : Fin k0_t2_loop.trips) : BitVec 32 :=
  let c4736_i32_148 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_147 : BitVec 32 := 128#32
  let v278 : BitVec 32 := Scalar.muli v59 c128_i32_147
  let v279 : BitVec 32 := Scalar.addi c4736_i32_148 v278
  v279
def k0_off5 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  ![v59.toNat]
def k0_off6 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c0_i32_149 : BitVec 32 := 0#32
  let c0_i32_150 : BitVec 32 := 0#32
  ![v59.toNat, 0, 0]
def k0_off7 (i : grid0.Coords) (k0_t2 : Fin k0_t2_loop.trips) (c0_i32_146 : BitVec 32) : Fin 3 → Nat :=
  let arg0 : BitVec 32 := BitVec.ofNat 32 (i 0).val
  let c1_i32_144 : BitVec 32 := 1#32
  let v274 : BitVec 32 := Scalar.minsi arg0 c1_i32_144
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_145 : BitVec 32 := 128#32
  let v275 : BitVec 32 := Scalar.muli v59 c128_i32_145
  let v276 : BitVec 32 := Scalar.addi c0_i32_146 v275
  let v277 : BitVec 32 := v276
  ![v274.toNat, 0, v277.toNat]
def k0_off8 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c0_i32_152 : BitVec 32 := 0#32
  let c128_i32_153 : BitVec 32 := 128#32
  ![v59.toNat, 0, 128]
def k0_off9 (k0_t2 : Fin k0_t2_loop.trips) (c0_i32_32 : BitVec 32) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let v59 : BitVec 32 := Scalar.addi v58 c0_i32_32
  let v64 : Index := Scalar.indexCast v59
  let c0_37 : Index := 0#32
  let c0_38 : Index := 0#32
  ![v64.toNat, 0, 0]
def k0_mult5 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32 : BitVec 32 := 128#32
  let v72 : BitVec 32 := Scalar.muli v59 c128_i32
  v72
def k0_off10 (k0_t2 : Fin k0_t2_loop.trips) (c0_i32_32 : BitVec 32) : Fin 3 → Nat :=
  let c0_42 : Index := 0#32
  let c0_43 : Index := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let v59 : BitVec 32 := Scalar.addi v58 c0_i32_32
  let c128_i32 : BitVec 32 := 128#32
  let v72 : BitVec 32 := Scalar.muli v59 c128_i32
  let v73 : BitVec 32 := v72
  let v74 : Index := Scalar.indexCast v73
  ![0, 0, v74.toNat]
def k0_mult6 (k0_t2 : Fin k0_t2_loop.trips) : BitVec 32 :=
  let c4736_i32 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_44 : BitVec 32 := 128#32
  let v80 : BitVec 32 := Scalar.muli v59 c128_i32_44
  let v81 : BitVec 32 := Scalar.addi c4736_i32 v80
  v81
def k0_off11 (k0_t2 : Fin k0_t2_loop.trips) (c0_i32_32 : BitVec 32) : Fin 3 → Nat :=
  let c0_45 : Index := 0#32
  let c0_46 : Index := 0#32
  let c4736_i32 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let v59 : BitVec 32 := Scalar.addi v58 c0_i32_32
  let c128_i32_44 : BitVec 32 := 128#32
  let v80 : BitVec 32 := Scalar.muli v59 c128_i32_44
  let v81 : BitVec 32 := Scalar.addi c4736_i32 v80
  let v82 : BitVec 32 := v81
  let v83 : Index := Scalar.indexCast v82
  ![0, 0, v83.toNat]
def k0_mult7 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_50 : BitVec 32 := 128#32
  let v97 : BitVec 32 := Scalar.muli v59 c128_i32_50
  v97
def k0_off12 (k0_t2 : Fin k0_t2_loop.trips) (c0_i32_32 : BitVec 32) : Fin 2 → Nat :=
  let c0_51 : Index := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let v59 : BitVec 32 := Scalar.addi v58 c0_i32_32
  let c128_i32_50 : BitVec 32 := 128#32
  let v97 : BitVec 32 := Scalar.muli v59 c128_i32_50
  let v98 : BitVec 32 := v97
  let v99 : Index := Scalar.indexCast v98
  ![0, v99.toNat]
def k0_cond3 (i : grid0.Coords) : BitVec 1 :=
  let arg0 : BitVec 32 := BitVec.ofNat 32 (i 0).val
  let c0_i32_56 : BitVec 32 := 0#32
  let v109 : BitVec 1 := Scalar.cmpi .eq arg0 c0_i32_56
  let v110 : BitVec 32 := Scalar.extui v109
  let c0_i32_57 : BitVec 32 := 0#32
  let v111 : BitVec 1 := Scalar.cmpi .ne v110 c0_i32_57
  v111

def k0_mult8 (k0_t2 : Fin k0_t2_loop.trips) : BitVec 32 :=
  let c0_i32_145 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_144 : BitVec 32 := 128#32
  let v274 : BitVec 32 := Scalar.muli v59 c128_i32_144
  let v275 : BitVec 32 := Scalar.addi c0_i32_145 v274
  v275
def k0_mult9 (k0_t2 : Fin k0_t2_loop.trips) : BitVec 32 :=
  let c4736_i32_147 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_146 : BitVec 32 := 128#32
  let v277 : BitVec 32 := Scalar.muli v59 c128_i32_146
  let v278 : BitVec 32 := Scalar.addi c4736_i32_147 v277
  v278
def k0_off13 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  ![v59.toNat]
def k0_off14 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c0_i32_149 : BitVec 32 := 0#32
  let c0_i32_150 : BitVec 32 := 0#32
  ![v59.toNat, 0, 0]
def k0_off15 (k0_t2 : Fin k0_t2_loop.trips) (c0_i32_145 : BitVec 32) : Fin 3 → Nat :=
  let c1_i32_148 : BitVec 32 := 1#32
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c128_i32_144 : BitVec 32 := 128#32
  let v274 : BitVec 32 := Scalar.muli v59 c128_i32_144
  let v275 : BitVec 32 := Scalar.addi c0_i32_145 v274
  let v276 : BitVec 32 := v275
  ![1, 0, v276.toNat]
def k0_off16 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32 : BitVec 32 := 4#32
  let v58 : BitVec 32 := Scalar.muli v57 c4_i32
  let c0_i32_32 : BitVec 32 := 0#32
  let v59 : BitVec 32 := Scalar.addi v58 c0_i32_32
  let c0_i32_153 : BitVec 32 := 0#32
  let c128_i32_154 : BitVec 32 := 128#32
  ![v59.toNat, 0, 128]
def k0_cond4 (i : grid0.Coords) : BitVec 1 :=
  let arg0 : BitVec 32 := BitVec.ofNat 32 (i 0).val
  let c2_i32_60 : BitVec 32 := 2#32
  let v114 : BitVec 1 := Scalar.cmpi .slt arg0 c2_i32_60
  let v115 : BitVec 32 := Scalar.extui v114
  let c0_i32_61 : BitVec 32 := 0#32
  let v116 : BitVec 1 := Scalar.cmpi .ne v115 c0_i32_61
  v116

def k0_mult10 (k0_t2 : Fin k0_t2_loop.trips) : BitVec 32 :=
  let c0_i32_146 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_145 : BitVec 32 := 128#32
  let v275 : BitVec 32 := Scalar.muli v113 c128_i32_145
  let v276 : BitVec 32 := Scalar.addi c0_i32_146 v275
  v276
def k0_mult11 (k0_t2 : Fin k0_t2_loop.trips) : BitVec 32 :=
  let c4736_i32_148 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_147 : BitVec 32 := 128#32
  let v278 : BitVec 32 := Scalar.muli v113 c128_i32_147
  let v279 : BitVec 32 := Scalar.addi c4736_i32_148 v278
  v279
def k0_off17 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  ![v113.toNat]
def k0_off18 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c0_i32_149 : BitVec 32 := 0#32
  let c0_i32_150 : BitVec 32 := 0#32
  ![v113.toNat, 0, 0]
def k0_off19 (i : grid0.Coords) (k0_t2 : Fin k0_t2_loop.trips) (c0_i32_146 : BitVec 32) : Fin 3 → Nat :=
  let arg0 : BitVec 32 := BitVec.ofNat 32 (i 0).val
  let c1_i32_144 : BitVec 32 := 1#32
  let v274 : BitVec 32 := Scalar.minsi arg0 c1_i32_144
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_145 : BitVec 32 := 128#32
  let v275 : BitVec 32 := Scalar.muli v113 c128_i32_145
  let v276 : BitVec 32 := Scalar.addi c0_i32_146 v275
  let v277 : BitVec 32 := v276
  ![v274.toNat, 0, v277.toNat]
def k0_off20 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c0_i32_152 : BitVec 32 := 0#32
  let c128_i32_153 : BitVec 32 := 128#32
  ![v113.toNat, 0, 128]
def k0_mult12 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_69 : BitVec 32 := 128#32
  let v126 : BitVec 32 := Scalar.muli v113 c128_i32_69
  v126
def k0_mult13 (k0_t2 : Fin k0_t2_loop.trips) : BitVec 32 :=
  let c4736_i32_73 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_72 : BitVec 32 := 128#32
  let v134 : BitVec 32 := Scalar.muli v113 c128_i32_72
  let v135 : BitVec 32 := Scalar.addi c4736_i32_73 v134
  v135
def k0_mult14 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_79 : BitVec 32 := 128#32
  let v151 : BitVec 32 := Scalar.muli v113 c128_i32_79
  v151
def k0_cond5 (i : grid0.Coords) : BitVec 1 :=
  let arg0 : BitVec 32 := BitVec.ofNat 32 (i 0).val
  let c0_i32_85 : BitVec 32 := 0#32
  let v163 : BitVec 1 := Scalar.cmpi .eq arg0 c0_i32_85
  let v164 : BitVec 32 := Scalar.extui v163
  let c0_i32_86 : BitVec 32 := 0#32
  let v165 : BitVec 1 := Scalar.cmpi .ne v164 c0_i32_86
  v165

def k0_mult15 (k0_t2 : Fin k0_t2_loop.trips) : BitVec 32 :=
  let c0_i32_145 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_144 : BitVec 32 := 128#32
  let v274 : BitVec 32 := Scalar.muli v113 c128_i32_144
  let v275 : BitVec 32 := Scalar.addi c0_i32_145 v274
  v275
def k0_mult16 (k0_t2 : Fin k0_t2_loop.trips) : BitVec 32 :=
  let c4736_i32_147 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_146 : BitVec 32 := 128#32
  let v277 : BitVec 32 := Scalar.muli v113 c128_i32_146
  let v278 : BitVec 32 := Scalar.addi c4736_i32_147 v277
  v278
def k0_off21 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  ![v113.toNat]
def k0_off22 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c0_i32_149 : BitVec 32 := 0#32
  let c0_i32_150 : BitVec 32 := 0#32
  ![v113.toNat, 0, 0]
def k0_off23 (k0_t2 : Fin k0_t2_loop.trips) (c0_i32_145 : BitVec 32) : Fin 3 → Nat :=
  let c1_i32_148 : BitVec 32 := 1#32
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c128_i32_144 : BitVec 32 := 128#32
  let v274 : BitVec 32 := Scalar.muli v113 c128_i32_144
  let v275 : BitVec 32 := Scalar.addi c0_i32_145 v274
  let v276 : BitVec 32 := v275
  ![1, 0, v276.toNat]
def k0_off24 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_58 : BitVec 32 := 4#32
  let v112 : BitVec 32 := Scalar.muli v57 c4_i32_58
  let c1_i32_59 : BitVec 32 := 1#32
  let v113 : BitVec 32 := Scalar.addi v112 c1_i32_59
  let c0_i32_153 : BitVec 32 := 0#32
  let c128_i32_154 : BitVec 32 := 128#32
  ![v113.toNat, 0, 128]
def k0_cond6 (i : grid0.Coords) : BitVec 1 :=
  let arg0 : BitVec 32 := BitVec.ofNat 32 (i 0).val
  let c2_i32_89 : BitVec 32 := 2#32
  let v168 : BitVec 1 := Scalar.cmpi .slt arg0 c2_i32_89
  let v169 : BitVec 32 := Scalar.extui v168
  let c0_i32_90 : BitVec 32 := 0#32
  let v170 : BitVec 1 := Scalar.cmpi .ne v169 c0_i32_90
  v170

def k0_mult17 (k0_t2 : Fin k0_t2_loop.trips) : BitVec 32 :=
  let c0_i32_146 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_145 : BitVec 32 := 128#32
  let v275 : BitVec 32 := Scalar.muli v167 c128_i32_145
  let v276 : BitVec 32 := Scalar.addi c0_i32_146 v275
  v276
def k0_mult18 (k0_t2 : Fin k0_t2_loop.trips) : BitVec 32 :=
  let c4736_i32_148 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_147 : BitVec 32 := 128#32
  let v278 : BitVec 32 := Scalar.muli v167 c128_i32_147
  let v279 : BitVec 32 := Scalar.addi c4736_i32_148 v278
  v279
def k0_off25 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  ![v167.toNat]
def k0_off26 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c0_i32_149 : BitVec 32 := 0#32
  let c0_i32_150 : BitVec 32 := 0#32
  ![v167.toNat, 0, 0]
def k0_off27 (i : grid0.Coords) (k0_t2 : Fin k0_t2_loop.trips) (c0_i32_146 : BitVec 32) : Fin 3 → Nat :=
  let arg0 : BitVec 32 := BitVec.ofNat 32 (i 0).val
  let c1_i32_144 : BitVec 32 := 1#32
  let v274 : BitVec 32 := Scalar.minsi arg0 c1_i32_144
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_145 : BitVec 32 := 128#32
  let v275 : BitVec 32 := Scalar.muli v167 c128_i32_145
  let v276 : BitVec 32 := Scalar.addi c0_i32_146 v275
  let v277 : BitVec 32 := v276
  ![v274.toNat, 0, v277.toNat]
def k0_off28 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c0_i32_152 : BitVec 32 := 0#32
  let c128_i32_153 : BitVec 32 := 128#32
  ![v167.toNat, 0, 128]
def k0_mult19 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_98 : BitVec 32 := 128#32
  let v180 : BitVec 32 := Scalar.muli v167 c128_i32_98
  v180
def k0_mult20 (k0_t2 : Fin k0_t2_loop.trips) : BitVec 32 :=
  let c4736_i32_102 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_101 : BitVec 32 := 128#32
  let v188 : BitVec 32 := Scalar.muli v167 c128_i32_101
  let v189 : BitVec 32 := Scalar.addi c4736_i32_102 v188
  v189
def k0_mult21 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_108 : BitVec 32 := 128#32
  let v205 : BitVec 32 := Scalar.muli v167 c128_i32_108
  v205
def k0_cond7 (i : grid0.Coords) : BitVec 1 :=
  let arg0 : BitVec 32 := BitVec.ofNat 32 (i 0).val
  let c0_i32_114 : BitVec 32 := 0#32
  let v217 : BitVec 1 := Scalar.cmpi .eq arg0 c0_i32_114
  let v218 : BitVec 32 := Scalar.extui v217
  let c0_i32_115 : BitVec 32 := 0#32
  let v219 : BitVec 1 := Scalar.cmpi .ne v218 c0_i32_115
  v219

def k0_mult22 (k0_t2 : Fin k0_t2_loop.trips) : BitVec 32 :=
  let c0_i32_145 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_144 : BitVec 32 := 128#32
  let v274 : BitVec 32 := Scalar.muli v167 c128_i32_144
  let v275 : BitVec 32 := Scalar.addi c0_i32_145 v274
  v275
def k0_mult23 (k0_t2 : Fin k0_t2_loop.trips) : BitVec 32 :=
  let c4736_i32_147 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_146 : BitVec 32 := 128#32
  let v277 : BitVec 32 := Scalar.muli v167 c128_i32_146
  let v278 : BitVec 32 := Scalar.addi c4736_i32_147 v277
  v278
def k0_off29 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  ![v167.toNat]
def k0_off30 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c0_i32_149 : BitVec 32 := 0#32
  let c0_i32_150 : BitVec 32 := 0#32
  ![v167.toNat, 0, 0]
def k0_off31 (k0_t2 : Fin k0_t2_loop.trips) (c0_i32_145 : BitVec 32) : Fin 3 → Nat :=
  let c1_i32_148 : BitVec 32 := 1#32
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c128_i32_144 : BitVec 32 := 128#32
  let v274 : BitVec 32 := Scalar.muli v167 c128_i32_144
  let v275 : BitVec 32 := Scalar.addi c0_i32_145 v274
  let v276 : BitVec 32 := v275
  ![1, 0, v276.toNat]
def k0_off32 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_87 : BitVec 32 := 4#32
  let v166 : BitVec 32 := Scalar.muli v57 c4_i32_87
  let c2_i32_88 : BitVec 32 := 2#32
  let v167 : BitVec 32 := Scalar.addi v166 c2_i32_88
  let c0_i32_153 : BitVec 32 := 0#32
  let c128_i32_154 : BitVec 32 := 128#32
  ![v167.toNat, 0, 128]
def k0_cond8 (i : grid0.Coords) : BitVec 1 :=
  let arg0 : BitVec 32 := BitVec.ofNat 32 (i 0).val
  let c2_i32_117 : BitVec 32 := 2#32
  let v222 : BitVec 1 := Scalar.cmpi .slt arg0 c2_i32_117
  let v223 : BitVec 32 := Scalar.extui v222
  let c0_i32_118 : BitVec 32 := 0#32
  let v224 : BitVec 1 := Scalar.cmpi .ne v223 c0_i32_118
  v224

def k0_mult24 (k0_t2 : Fin k0_t2_loop.trips) : BitVec 32 :=
  let c0_i32_146 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_145 : BitVec 32 := 128#32
  let v275 : BitVec 32 := Scalar.muli v221 c128_i32_145
  let v276 : BitVec 32 := Scalar.addi c0_i32_146 v275
  v276
def k0_mult25 (k0_t2 : Fin k0_t2_loop.trips) : BitVec 32 :=
  let c4736_i32_148 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_147 : BitVec 32 := 128#32
  let v278 : BitVec 32 := Scalar.muli v221 c128_i32_147
  let v279 : BitVec 32 := Scalar.addi c4736_i32_148 v278
  v279
def k0_off33 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  ![v221.toNat]
def k0_off34 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c0_i32_149 : BitVec 32 := 0#32
  let c0_i32_150 : BitVec 32 := 0#32
  ![v221.toNat, 0, 0]
def k0_off35 (i : grid0.Coords) (k0_t2 : Fin k0_t2_loop.trips) (c0_i32_146 : BitVec 32) : Fin 3 → Nat :=
  let arg0 : BitVec 32 := BitVec.ofNat 32 (i 0).val
  let c1_i32_144 : BitVec 32 := 1#32
  let v274 : BitVec 32 := Scalar.minsi arg0 c1_i32_144
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_145 : BitVec 32 := 128#32
  let v275 : BitVec 32 := Scalar.muli v221 c128_i32_145
  let v276 : BitVec 32 := Scalar.addi c0_i32_146 v275
  let v277 : BitVec 32 := v276
  ![v274.toNat, 0, v277.toNat]
def k0_off36 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c0_i32_152 : BitVec 32 := 0#32
  let c128_i32_153 : BitVec 32 := 128#32
  ![v221.toNat, 0, 128]
def k0_mult26 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_126 : BitVec 32 := 128#32
  let v234 : BitVec 32 := Scalar.muli v221 c128_i32_126
  v234
def k0_mult27 (k0_t2 : Fin k0_t2_loop.trips) : BitVec 32 :=
  let c4736_i32_130 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_129 : BitVec 32 := 128#32
  let v242 : BitVec 32 := Scalar.muli v221 c128_i32_129
  let v243 : BitVec 32 := Scalar.addi c4736_i32_130 v242
  v243
def k0_mult28 (k0_t2 : Fin k0_t2_loop.trips) : BitVec 32 :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_136 : BitVec 32 := 128#32
  let v259 : BitVec 32 := Scalar.muli v221 c128_i32_136
  v259
def k0_cond9 (i : grid0.Coords) : BitVec 1 :=
  let arg0 : BitVec 32 := BitVec.ofNat 32 (i 0).val
  let c0_i32_142 : BitVec 32 := 0#32
  let v271 : BitVec 1 := Scalar.cmpi .eq arg0 c0_i32_142
  let v272 : BitVec 32 := Scalar.extui v271
  let c0_i32_143 : BitVec 32 := 0#32
  let v273 : BitVec 1 := Scalar.cmpi .ne v272 c0_i32_143
  v273

def k0_mult29 (k0_t2 : Fin k0_t2_loop.trips) : BitVec 32 :=
  let c0_i32_145 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_144 : BitVec 32 := 128#32
  let v274 : BitVec 32 := Scalar.muli v221 c128_i32_144
  let v275 : BitVec 32 := Scalar.addi c0_i32_145 v274
  v275
def k0_mult30 (k0_t2 : Fin k0_t2_loop.trips) : BitVec 32 :=
  let c4736_i32_147 : BitVec 32 := 4736#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_146 : BitVec 32 := 128#32
  let v277 : BitVec 32 := Scalar.muli v221 c128_i32_146
  let v278 : BitVec 32 := Scalar.addi c4736_i32_147 v277
  v278
def k0_off37 (k0_t2 : Fin k0_t2_loop.trips) : Fin 1 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  ![v221.toNat]
def k0_off38 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c0_i32_149 : BitVec 32 := 0#32
  let c0_i32_150 : BitVec 32 := 0#32
  ![v221.toNat, 0, 0]
def k0_off39 (k0_t2 : Fin k0_t2_loop.trips) (c0_i32_145 : BitVec 32) : Fin 3 → Nat :=
  let c1_i32_148 : BitVec 32 := 1#32
  let c0_i32_151 : BitVec 32 := 0#32
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c128_i32_144 : BitVec 32 := 128#32
  let v274 : BitVec 32 := Scalar.muli v221 c128_i32_144
  let v275 : BitVec 32 := Scalar.addi c0_i32_145 v274
  let v276 : BitVec 32 := v275
  ![1, 0, v276.toNat]
def k0_off40 (k0_t2 : Fin k0_t2_loop.trips) : Fin 3 → Nat :=
  let c0_i32_31 : BitVec 32 := 0#32
  let c0_i32_2 : BitVec 32 := 0#32
  let c1_i32 : BitVec 32 := 1#32
  let arg11 : BitVec 32 := Scf.iv c0_i32_2 c1_i32 k0_t2
  let c1_i32_30 : BitVec 32 := 1#32
  let v56 : BitVec 32 := Scalar.muli arg11 c1_i32_30
  let v57 : BitVec 32 := Scalar.addi c0_i32_31 v56
  let c4_i32_116 : BitVec 32 := 4#32
  let v220 : BitVec 32 := Scalar.muli v57 c4_i32_116
  let c3_i32 : BitVec 32 := 3#32
  let v221 : BitVec 32 := Scalar.addi v220 c3_i32
  let c0_i32_153 : BitVec 32 := 0#32
  let c128_i32_154 : BitVec 32 := 128#32
  ![v221.toNat, 0, 128]
def k0_cond10 (i : grid0.Coords) : BitVec 1 :=
  let arg0 : BitVec 32 := BitVec.ofNat 32 (i 0).val
  let c2_i32 : BitVec 32 := 2#32
  let v8 : BitVec 1 := Scalar.cmpi .slt arg0 c2_i32
  let v9 : BitVec 32 := Scalar.extui v8
  let c0_i32_4 : BitVec 32 := 0#32
  let v10 : BitVec 1 := Scalar.cmpi .ne v9 c0_i32_4
  v10

def k0_mult31 : BitVec 32 :=
  let c4608_i32_31 : BitVec 32 := 4608#32
  c4608_i32_31
def k0_mult32 : BitVec 32 :=
  let c9344_i32_32 : BitVec 32 := 9344#32
  c9344_i32_32
def k0_off41 (i : grid0.Coords) : Fin 3 → Nat :=
  let arg0 : BitVec 32 := BitVec.ofNat 32 (i 0).val
  let c1_i32_30 : BitVec 32 := 1#32
  let v56 : BitVec 32 := Scalar.minsi arg0 c1_i32_30
  let c0_i32_36 : BitVec 32 := 0#32
  let c4608_i32_31 : BitVec 32 := 4608#32
  let v57 : BitVec 32 := c4608_i32_31
  ![v56.toNat, 0, 4608]
def k0_off42 (i : grid0.Coords) : Fin 3 → Nat :=
  let arg0 : BitVec 32 := BitVec.ofNat 32 (i 0).val
  let c1_i32_30 : BitVec 32 := 1#32
  let v56 : BitVec 32 := Scalar.minsi arg0 c1_i32_30
  let c0_i32_40 : BitVec 32 := 0#32
  let c9344_i32_32 : BitVec 32 := 9344#32
  let v58 : BitVec 32 := c9344_i32_32
  ![v56.toNat, 0, 9344]
def k0_mult33 : BitVec 32 :=
  let c4608_i32 : BitVec 32 := 4608#32
  c4608_i32
def k0_mult34 : BitVec 32 :=
  let c9344_i32 : BitVec 32 := 9344#32
  c9344_i32
def k0_mult35 : BitVec 32 :=
  let c4608_i32_19 : BitVec 32 := 4608#32
  c4608_i32_19
def k0_cond11 (i : grid0.Coords) : BitVec 1 :=
  let arg0 : BitVec 32 := BitVec.ofNat 32 (i 0).val
  let c0_i32_25 : BitVec 32 := 0#32
  let v52 : BitVec 1 := Scalar.cmpi .eq arg0 c0_i32_25
  let v53 : BitVec 32 := Scalar.extui v52
  let c0_i32_26 : BitVec 32 := 0#32
  let v54 : BitVec 1 := Scalar.cmpi .ne v53 c0_i32_26
  v54

def k0_mult36 : BitVec 32 :=
  let c4608_i32_30 : BitVec 32 := 4608#32
  c4608_i32_30
def k0_mult37 : BitVec 32 :=
  let c9344_i32_31 : BitVec 32 := 9344#32
  c9344_i32_31
@[reducible] def k0_t3_loop : Scf.Loop 32 :=
  let c0_i32_27 : BitVec 32 := 0#32
  let c18_i32 : BitVec 32 := 18#32
  let v55 : BitVec 32 := Scalar.addi c0_i32_27 c18_i32
  let c1_i32_28 : BitVec 32 := 1#32
  ⟨c0_i32_27, v55, c1_i32_28⟩
def k0_mult38 (k0_t3 : Fin k0_t3_loop.trips) : BitVec 32 :=
  let c0_i32_31 : BitVec 32 := 0#32
  let c0_i32_27 : BitVec 32 := 0#32
  let c1_i32_28 : BitVec 32 := 1#32
  let arg11 : BitVec 32 := Scf.iv c0_i32_27 c1_i32_28 k0_t3
  let c1_i32_30 : BitVec 32 := 1#32
  let v56 : BitVec 32 := Scalar.muli arg11 c1_i32_30
  let v57 : BitVec 32 := Scalar.addi c0_i32_31 v56
  let c32_i32 : BitVec 32 := 32#32
  let v58 : BitVec 32 := Scalar.muli v57 c32_i32
  v58
def k0_off43 (k0_t3 : Fin k0_t3_loop.trips) : Fin 2 → Nat :=
  let c0_i32_31 : BitVec 32 := 0#32
  let c0_i32_27 : BitVec 32 := 0#32
  let c1_i32_28 : BitVec 32 := 1#32
  let arg11 : BitVec 32 := Scf.iv c0_i32_27 c1_i32_28 k0_t3
  let c1_i32_30 : BitVec 32 := 1#32
  let v56 : BitVec 32 := Scalar.muli arg11 c1_i32_30
  let v57 : BitVec 32 := Scalar.addi c0_i32_31 v56
  let c32_i32 : BitVec 32 := 32#32
  let v58 : BitVec 32 := Scalar.muli v57 c32_i32
  let v59 : BitVec 32 := v58
  let v60 : Index := Scalar.indexCast v59
  let c0_32 : Index := 0#32
  ![v60.toNat, 0]
def k0_off44 (k0_t3 : Fin k0_t3_loop.trips) : Fin 2 → Nat :=
  let c0_i32_31 : BitVec 32 := 0#32
  let c0_i32_27 : BitVec 32 := 0#32
  let c1_i32_28 : BitVec 32 := 1#32
  let arg11 : BitVec 32 := Scf.iv c0_i32_27 c1_i32_28 k0_t3
  let c1_i32_30 : BitVec 32 := 1#32
  let v56 : BitVec 32 := Scalar.muli arg11 c1_i32_30
  let v57 : BitVec 32 := Scalar.addi c0_i32_31 v56
  let c32_i32 : BitVec 32 := 32#32
  let v58 : BitVec 32 := Scalar.muli v57 c32_i32
  let v59 : BitVec 32 := v58
  let v70 : Index := Scalar.indexCast v59
  let c0_37 : Index := 0#32
  ![v70.toNat, 0]
def k0_off45 (k0_t3 : Fin k0_t3_loop.trips) : Fin 2 → Nat :=
  let c0_i32_31 : BitVec 32 := 0#32
  let c0_i32_27 : BitVec 32 := 0#32
  let c1_i32_28 : BitVec 32 := 1#32
  let arg11 : BitVec 32 := Scf.iv c0_i32_27 c1_i32_28 k0_t3
  let c1_i32_30 : BitVec 32 := 1#32
  let v56 : BitVec 32 := Scalar.muli arg11 c1_i32_30
  let v57 : BitVec 32 := Scalar.addi c0_i32_31 v56
  let c32_i32 : BitVec 32 := 32#32
  let v58 : BitVec 32 := Scalar.muli v57 c32_i32
  let v59 : BitVec 32 := v58
  let v83 : Index := Scalar.indexCast v59
  let c0_42 : Index := 0#32
  ![v83.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9472 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S576x4736 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S576x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateUpRefIdeal.lean ====
abbrev S4608x3584 : Shape := ⟨2, ![4608, 3584]⟩
abbrev S4608x1 : Shape := ⟨2, ![4608, 1]⟩
abbrev S2x3584x9472 : Shape := ⟨3, ![2, 3584, 9472]⟩
abbrev S2x9472 : Shape := ⟨2, ![2, 9472]⟩
abbrev S4608x4736 : Shape := ⟨2, ![4608, 4736]⟩
abbrev S576x3584 : Shape := ⟨2, ![576, 3584]⟩
abbrev S576x1 : Shape := ⟨2, ![576, 1]⟩
abbrev S1x3584x9472 : Shape := ⟨3, ![1, 3584, 9472]⟩
abbrev S3584x9472 : Shape := ⟨2, ![3584, 9472]⟩
abbrev S1x9472 : Shape := ⟨2, ![1, 9472]⟩
abbrev S9472 : Shape := ⟨1, ![9472]⟩
abbrev S576x9472 : Shape := ⟨2, ![576, 9472]⟩
abbrev S4032x3584 : Shape := ⟨2, ![4032, 3584]⟩
abbrev S4032x1 : Shape := ⟨2, ![4032, 1]⟩
abbrev S4032x9472 : Shape := ⟨2, ![4032, 9472]⟩
abbrev S4608x9472 : Shape := ⟨2, ![4608, 9472]⟩
abbrev S4608 : Shape := ⟨1, ![4608]⟩

abbrev nBuf : Space → Nat
  | .hbm => 6
  | .vmem => 6
  | .smem => 0
  | _ => 0

abbrev bufTy : (tb : Table) → Fin (tcTables nBuf tb) → BufTy
  | .hbm, ⟨0, _⟩ => ⟨S4608x3584, .fp8e4m3⟩
  | .hbm, ⟨1, _⟩ => ⟨S4608x1, .f32⟩
  | .hbm, ⟨2, _⟩ => ⟨S2x3584x9472, .fp8e4m3⟩
  | .hbm, ⟨3, _⟩ => ⟨S2x9472, .f32⟩
  | .hbm, ⟨4, _⟩ => ⟨S4608x4736, .fp8e4m3⟩
  | .hbm, ⟨5, _⟩ => ⟨S4608x1, .f32⟩
  | .local _ .vmem, ⟨0, _⟩ => ⟨S4608x3584, .fp8e4m3⟩
  | .local _ .vmem, ⟨1, _⟩ => ⟨S4608x1, .f32⟩
  | .local _ .vmem, ⟨2, _⟩ => ⟨S2x3584x9472, .fp8e4m3⟩
  | .local _ .vmem, ⟨3, _⟩ => ⟨S2x9472, .f32⟩
  | .local _ .vmem, ⟨4, _⟩ => ⟨S4608x4736, .fp8e4m3⟩
  | .local _ .vmem, ⟨5, _⟩ => ⟨S4608x1, .f32⟩
  | _, _ => ⟨S4608x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4608x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3584x9472 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x9472 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x4736 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OProj.lean ====
abbrev S4608x896 : Shape := ⟨2, ![4608, 896]⟩
abbrev S4608x1 : Shape := ⟨2, ![4608, 1]⟩
abbrev S2x896x3584 : Shape := ⟨3, ![2, 896, 3584]⟩
abbrev S2x3584 : Shape := ⟨2, ![2, 3584]⟩
abbrev S4608x3584 : Shape := ⟨2, ![4608, 3584]⟩
abbrev S2x1x3584 : Shape := ⟨3, ![2, 1, 3584]⟩
abbrev S576x896 : Shape := ⟨2, ![576, 896]⟩
abbrev S576x1 : Shape := ⟨2, ![576, 1]⟩
abbrev S1x896x3584 : Shape := ⟨3, ![1, 896, 3584]⟩
abbrev S1x1x3584 : Shape := ⟨3, ![1, 1, 3584]⟩
abbrev S576x3584 : Shape := ⟨2, ![576, 3584]⟩
abbrev S576x128 : Shape := ⟨2, ![576, 128]⟩
abbrev S576x512 : Shape := ⟨2, ![576, 512]⟩
abbrev S1x896x512 : Shape := ⟨3, ![1, 896, 512]⟩
abbrev S896x512 : Shape := ⟨2, ![896, 512]⟩
abbrev S1x1x512 : Shape := ⟨3, ![1, 1, 512]⟩
abbrev S1x512 : Shape := ⟨2, ![1, 512]⟩
abbrev S32x128 : Shape := ⟨2, ![32, 128]⟩
abbrev S32 : Shape := ⟨1, ![32]⟩
abbrev S32x1 : Shape := ⟨2, ![32, 1]⟩
abbrev S32x3584 : Shape := ⟨2, ![32, 3584]⟩
abbrev S1x3584 : Shape := ⟨2, ![1, 3584]⟩

abbrev nBuf : Space → Nat
  | .hbm => 11
  | .vmem => 20
  | .smem => 0
  | _ => 0

abbrev bufTy : (tb : Table) → Fin (tcTables nBuf tb) → BufTy
  | .hbm, ⟨0, _⟩ => ⟨S4608x896, .fp8e4m3⟩
  | .hbm, ⟨1, _⟩ => ⟨S4608x1, .f32⟩
  | .hbm, ⟨2, _⟩ => ⟨S2x896x3584, .fp8e4m3⟩
  | .hbm, ⟨3, _⟩ => ⟨S2x3584, .f32⟩
  | .hbm, ⟨4, _⟩ => ⟨S4608x3584, .bf16⟩
  | .hbm, ⟨5, _⟩ => ⟨S2x3584, .f32⟩
  | .hbm, ⟨6, _⟩ => ⟨S2x1x3584, .f32⟩
  | .hbm, ⟨7, _⟩ => ⟨S2x1x3584, .f32⟩
  | .hbm, ⟨8, _⟩ => ⟨S4608x3584, .f32⟩
  | .hbm, ⟨9, _⟩ => ⟨S4608x3584, .fp8e4m3⟩
  | .hbm, ⟨10, _⟩ => ⟨S4608x1, .f32⟩
  | .local _ .vmem, ⟨0, _⟩ => ⟨S576x896, .fp8e4m3⟩
  | .local _ .vmem, ⟨1, _⟩ => ⟨S576x896, .fp8e4m3⟩
  | .local _ .vmem, ⟨2, _⟩ => ⟨S576x1, .f32⟩
  | .local _ .vmem, ⟨3, _⟩ => ⟨S576x1, .f32⟩
  | .local _ .vmem, ⟨4, _⟩ => ⟨S1x896x3584, .fp8e4m3⟩
  | .local _ .vmem, ⟨5, _⟩ => ⟨S1x896x3584, .fp8e4m3⟩
  | .local _ .vmem, ⟨6, _⟩ => ⟨S1x1x3584, .f32⟩
  | .local _ .vmem, ⟨7, _⟩ => ⟨S1x1x3584, .f32⟩
  | .local _ .vmem, ⟨8, _⟩ => ⟨S576x3584, .bf16⟩
  | .local _ .vmem, ⟨9, _⟩ => ⟨S576x3584, .bf16⟩
  | .local _ .vmem, ⟨10, _⟩ => ⟨S1x1x3584, .f32⟩
  | .local _ .vmem, ⟨11, _⟩ => ⟨S1x1x3584, .f32⟩
  | .local _ .vmem, ⟨12, _⟩ => ⟨S576x3584, .f32⟩
  | .local _ .vmem, ⟨13, _⟩ => ⟨S576x3584, .f32⟩
  | .local _ .vmem, ⟨14, _⟩ => ⟨S576x3584, .fp8e4m3⟩
  | .local _ .vmem, ⟨15, _⟩ => ⟨S576x3584, .fp8e4m3⟩
  | .local _ .vmem, ⟨16, _⟩ => ⟨S576x1, .f32⟩
  | .local _ .vmem, ⟨17, _⟩ => ⟨S576x1, .f32⟩
  | .local _ .vmem, ⟨18, _⟩ => ⟨S576x128, .f32⟩
  | .local _ .vmem, ⟨19, _⟩ => ⟨S576x128, .f32⟩
  | _, _ => ⟨S4608x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c7_i32 : BitVec 32 := 7#32
  let v8 : BitVec 32 := Scalar.addi c0_i32 c7_i32
  let c1_i32 : BitVec 32 := 1#32
  ⟨c0_i32, v8, c1_i32⟩
def k0_mult1 (k0_t1 : Fin k0_t1_loop.trips) : BitVec 32 :=
  let c0_i32_9 : BitVec 32 := 0#32
  let c0_i32 : BitVec 32 := 0#32
  let c1_i32 : BitVec 32 := 1#32
  let arg12 : BitVec 32 := Scf.iv c0_i32 c1_i32 k0_t1
  let c1_i32_8 : BitVec 32 := 1#32
  let v10 : BitVec 32 := Scalar.muli arg12 c1_i32_8
  let v11 : BitVec 32 := Scalar.addi c0_i32_9 v10
  let c512_i32 : BitVec 32 := 512#32
  let v12 : BitVec 32 := Scalar.muli v11 c512_i32
  v12
def k0_off1 (k0_t1 : Fin k0_t1_loop.trips) : Fin 2 → Nat :=
  let c0_10 : Index := 0#32
  let c0_i32_9 : BitVec 32 := 0#32
  let c0_i32 : BitVec 32 := 0#32
  let c1_i32 : BitVec 32 := 1#32
  let arg12 : BitVec 32 := Scf.iv c0_i32 c1_i32 k0_t1
  let c1_i32_8 : BitVec 32 := 1#32
  let v10 : BitVec 32 := Scalar.muli arg12 c1_i32_8
  let v11 : BitVec 32 := Scalar.addi c0_i32_9 v10
  let c512_i32 : BitVec 32 := 512#32
  let v12 : BitVec 32 := Scalar.muli v11 c512_i32
  let v13 : BitVec 32 := v12
  let v14 : Index := Scalar.indexCast v13
  ![0, v14.toNat]
def k0_off2 (k0_t1 : Fin k0_t1_loop.trips) : Fin 3 → Nat :=
  let c0_13 : Index := 0#32
  let c0_14 : Index := 0#32
  let c0_i32_9 : BitVec 32 := 0#32
  let c0_i32 : BitVec 32 := 0#32
  let c1_i32 : BitVec 32 := 1#32
  let arg12 : BitVec 32 := Scf.iv c0_i32 c1_i32 k0_t1
  let c1_i32_8 : BitVec 32 := 1#32
  let v10 : BitVec 32 := Scalar.muli arg12 c1_i32_8
  let v11 : BitVec 32 := Scalar.addi c0_i32_9 v10
  let c512_i32 : BitVec 32 := 512#32
  let v12 : BitVec 32 := Scalar.muli v11 c512_i32
  let v13 : BitVec 32 := v12
  let v18 : Index := Scalar.indexCast v13
  ![0, 0, v18.toNat]
def k0_off3 (k0_t1 : Fin k0_t1_loop.trips) : Fin 3 → Nat :=
  let c0_18 : Index := 0#32
  let c0_19 : Index := 0#32
  let c0_i32_9 : BitVec 32 := 0#32
  let c0_i32 : BitVec 32 := 0#32
  let c1_i32 : BitVec 32 := 1#32
  let arg12 : BitVec 32 := Scf.iv c0_i32 c1_i32 k0_t1
  let c1_i32_8 : BitVec 32 := 1#32
  let v10 : BitVec 32 := Scalar.muli arg12 c1_i32_8
  let v11 : BitVec 32 := Scalar.addi c0_i32_9 v10
  let c512_i32 : BitVec 32 := 512#32
  let v12 : BitVec 32 := Scalar.muli v11 c512_i32
  let v13 : BitVec 32 := v12
  let v25 : Index := Scalar.indexCast v13
  ![0, 0, v25.toNat]
@[reducible] def k0_t2_loop : Scf.Loop 32 :=
  let c0_i32_5 : BitVec 32 := 0#32
  let c18_i32 : BitVec 32 := 18#32
  let v9 : BitVec 32 := Scalar.addi c0_i32_5 c18_i32
  let c1_i32_6 : BitVec 32 := 1#32
  ⟨c0_i32_5, v9, c1_i32_6⟩
def k0_mult2 (k0_t2 : Fin k0_t2_loop.trips) : BitVec 32 :=
  let c0_i32_9 : BitVec 32 := 0#32
  let c0_i32_5 : BitVec 32 := 0#32
  let c1_i32_6 : BitVec 32 := 1#32
  let arg12 : BitVec 32 := Scf.iv c0_i32_5 c1_i32_6 k0_t2
  let c1_i32_8 : BitVec 32 := 1#32
  let v10 : BitVec 32 := Scalar.muli arg12 c1_i32_8
  let v11 : BitVec 32 := Scalar.addi c0_i32_9 v10
  let c32_i32 : BitVec 32 := 32#32
  let v12 : BitVec 32 := Scalar.muli v11 c32_i32
  v12
def k0_off4 (k0_t2 : Fin k0_t2_loop.trips) : Fin 2 → Nat :=
  let c0_i32_9 : BitVec 32 := 0#32
  let c0_i32_5 : BitVec 32 := 0#32
  let c1_i32_6 : BitVec 32 := 1#32
  let arg12 : BitVec 32 := Scf.iv c0_i32_5 c1_i32_6 k0_t2
  let c1_i32_8 : BitVec 32 := 1#32
  let v10 : BitVec 32 := Scalar.muli arg12 c1_i32_8
  let v11 : BitVec 32 := Scalar.addi c0_i32_9 v10
  let c32_i32 : BitVec 32 := 32#32
  let v12 : BitVec 32 := Scalar.muli v11 c32_i32
  let v13 : BitVec 32 := v12
  let v14 : Index := Scalar.indexCast v13
  let c0_10 : Index := 0#32
  ![v14.toNat, 0]
def k0_off5 (k0_t2 : Fin k0_t2_loop.trips) : Fin 2 → Nat :=
  let c0_i32_9 : BitVec 32 := 0#32
  let c0_i32_5 : BitVec 32 := 0#32
  let c1_i32_6 : BitVec 32 := 1#32
  let arg12 : BitVec 32 := Scf.iv c0_i32_5 c1_i32_6 k0_t2
  let c1_i32_8 : BitVec 32 := 1#32
  let v10 : BitVec 32 := Scalar.muli arg12 c1_i32_8
  let v11 : BitVec 32 := Scalar.addi c0_i32_9 v10
  let c32_i32 : BitVec 32 := 32#32
  let v12 : BitVec 32 := Scalar.muli v11 c32_i32
  let v13 : BitVec 32 := v12
  let v36 : Index := Scalar.indexCast v13
  let c0_20 : Index := 0#32
  ![v36.toNat, 0]
def k0_off6 (k0_t2 : Fin k0_t2_loop.trips) : Fin 2 → Nat :=
  let c0_i32_9 : BitVec 32 := 0#32
  let c0_i32_5 : BitVec 32 := 0#32
  let c1_i32_6 : BitVec 32 := 1#32
  let arg12 : BitVec 32 := Scf.iv c0_i32_5 c1_i32_6 k0_t2
  let c1_i32_8 : BitVec 32 := 1#32
  let v10 : BitVec 32 := Scalar.muli arg12 c1_i32_8
  let v11 : BitVec 32 := Scalar.addi c0_i32_9 v10
  let c32_i32 : BitVec 32 := 32#32
  let v12 : BitVec 32 := Scalar.muli v11 c32_i32
  let v13 : BitVec 32 := v12
  let v56 : Index := Scalar.indexCast v13
  let c0_28 : Index := 0#32
  ![v56.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x896x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S576x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S576x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S576x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S576x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OProjRefIdeal.lean ====
abbrev S4608x896 : Shape := ⟨2, ![4608, 896]⟩
abbrev S4608x1 : Shape := ⟨2, ![4608, 1]⟩
abbrev S2x896x3584 : Shape := ⟨3, ![2, 896, 3584]⟩
abbrev S2x3584 : Shape := ⟨2, ![2, 3584]⟩
abbrev S4608x3584 : Shape := ⟨2, ![4608, 3584]⟩
abbrev S576x896 : Shape := ⟨2, ![576, 896]⟩
abbrev S576x1 : Shape := ⟨2, ![576, 1]⟩
abbrev S1x896x3584 : Shape := ⟨3, ![1, 896, 3584]⟩
abbrev S896x3584 : Shape := ⟨2, ![896, 3584]⟩
abbrev S1x3584 : Shape := ⟨2, ![1, 3584]⟩
abbrev S3584 : Shape := ⟨1, ![3584]⟩
abbrev S576x3584 : Shape := ⟨2, ![576, 3584]⟩
abbrev S4032x896 : Shape := ⟨2, ![4032, 896]⟩
abbrev S4032x1 : Shape := ⟨2, ![4032, 1]⟩
abbrev S4032x3584 : Shape := ⟨2, ![4032, 3584]⟩
abbrev S4608 : Shape := ⟨1, ![4608]⟩

abbrev nBuf : Space → Nat
  | .hbm => 9
  | .vmem => 9
  | .smem => 0
  | _ => 0

abbrev bufTy : (tb : Table) → Fin (tcTables nBuf tb) → BufTy
  | .hbm, ⟨0, _⟩ => ⟨S4608x896, .fp8e4m3⟩
  | .hbm, ⟨1, _⟩ => ⟨S4608x1, .f32⟩
  | .hbm, ⟨2, _⟩ => ⟨S2x896x3584, .fp8e4m3⟩
  | .hbm, ⟨3, _⟩ => ⟨S2x3584, .f32⟩
  | .hbm, ⟨4, _⟩ => ⟨S4608x3584, .bf16⟩
  | .hbm, ⟨5, _⟩ => ⟨S2x3584, .f32⟩
  | .hbm, ⟨6, _⟩ => ⟨S4608x3584, .f32⟩
  | .hbm, ⟨7, _⟩ => ⟨S4608x3584, .fp8e4m3⟩
  | .hbm, ⟨8, _⟩ => ⟨S4608x1, .f32⟩
  | .local _ .vmem, ⟨0, _⟩ => ⟨S4608x896, .fp8e4m3⟩
  | .local _ .vmem, ⟨1, _⟩ => ⟨S4608x1, .f32⟩
  | .local _ .vmem, ⟨2, _⟩ => ⟨S2x896x3584, .fp8e4m3⟩
  | .local _ .vmem, ⟨3, _⟩ => ⟨S2x3584, .f32⟩
  | .local _ .vmem, ⟨4, _⟩ => ⟨S4608x3584, .bf16⟩
  | .local _ .vmem, ⟨5, _⟩ => ⟨S2x3584, .f32⟩
  | .local _ .vmem, ⟨6, _⟩ => ⟨S4608x3584, .f32⟩
  | .local _ .vmem, ⟨7, _⟩ => ⟨S4608x3584, .fp8e4m3⟩
  | .local _ .vmem, ⟨8, _⟩ => ⟨S4608x1, .f32⟩
  | _, _ => ⟨S4608x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4608x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DownSlots.lean ====
/-
  The weight ring of the down projection, for the program `Down`: the fourteen weight slots of its scratch, the blocks of the
  weight array that the kernel's own copies bring into them, and the fourteen semaphores the copies are counted on. A slot is
  free, filled by a copy under way, or filled. Starting a copy and waiting for one are the two rules of this file.
-/
module

public import proofs.«01_k».proof.Proof.Gen.Down.Launch
public import proofs.«01_k».proof.Proof.Gen.Down.Skeleton
public import proofs.«01_k».proof.Proof.Gen.Down.Points
public import proofs.«01_k».proof.Proof.Gen.Down.Frame
public import Idealize.ShloMosaic.Lib.Pipeline.FrameBody
public import Idealize.ShloMosaic.Lib.Ring
public import Idealize.ShloMosaic.Lib.Tactic

@[expose] public section

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weight array, as the body names it. -/
abbrev wM : Memref sig .tc .hbm S2x4736x3584 .fp8e4m3 := Memref.whole main_arg2
/-- The weight scratch. -/
abbrev bufM : Memref sig .tc .vmem S14x4736x256 .fp8e4m3 := Memref.whole cc0_scratch0

abbrev semOff (j : Fin 14) : Fin 1 → Nat := ![j.val]
abbrev slotOff (j : Fin 14) : Fin 3 → Nat := ![j.val, 0, 0]
abbrev blkOff (k : Fin 2) (j : Fin 14) : Fin 3 → Nat := ![k.val, 0, 256 * j.val]

theorem semOff_inb (j : Fin 14) : ∀ a, semOff j a + S1.size a ≤ S14.size a := by
  have := j.isLt; intro a; fin_cases a; show j.val + 1 ≤ 14; omega
theorem slotOff_inb (j : Fin 14) : ∀ a, slotOff j a + S1x4736x256.size a ≤ S14x4736x256.size a := by
  have := j.isLt; intro a; fin_cases a
  · show j.val + 1 ≤ 14; omega
  · show 0 + 4736 ≤ 4736; omega
  · show 0 + 256 ≤ 256; omega
theorem blkOff_inb (k : Fin 2) (j : Fin 14) : ∀ a, blkOff k j a + S1x4736x256.size a ≤ S2x4736x3584.size a := by
  have := j.isLt; have := k.isLt; intro a; fin_cases a
  · show k.val + 1 ≤ 2; omega
  · show 0 + 4736 ≤ 4736; omega
  · show 256 * j.val + 256 ≤ 3584; omega

/-- The copies' semaphores, as one array. -/
abbrev sems : DmaSems sig S14 := cc0_scratch1

/-- Semaphore `j`. -/
def cellM (j : Fin 14) : DmaSem sig := ((sems.slice (Rect.unit (s := S14) (semOff j) S1.size (semOff_inb j))).squeeze S_ squeezes_S1_S_).sem
/-- Slot `j` of the scratch. -/
def slotM (j : Fin 14) : Memref sig .tc .vmem S4736x256 .fp8e4m3 :=
  (bufM.slice (Rect.unit (s := S14x4736x256) (slotOff j) S1x4736x256.size (slotOff_inb j)) (fun _ => rfl)).squeeze S4736x256 squeezes_S1x4736x256_S4736x256
/-- Column block `j` of weight `k`. -/
def blkM (k : Fin 2) (j : Fin 14) : Memref sig .tc .hbm S4736x256 .fp8e4m3 :=
  (wM.slice (Rect.unit (s := S2x4736x3584) (blkOff k j) S1x4736x256.size (blkOff_inb k j)) (fun _ => rfl)).squeeze S4736x256 squeezes_S1x4736x256_S4736x256

section State
variable (c : Dev nD) (w : Buf (Elt F) (wM.view.loc (c : Thread nD τ)))

/-- What column block `j` of weight `k` reads. -/
def wblk (k : Fin 2) (j : Fin 14) : S4736x256.Idx → Elt F .fp8e4m3 := (blkM k j).view.read (Elt F) w

/-- The share of the weight array that slot `j`'s copies read under. -/
abbrev tokS (j : Fin 14) : PosShare TreeShare := Transfers.shareTok fullShare 14 j

/-- The semaphore at rest. -/
abbrev cellP (j : Fin 14) : sProp 𝕄 := semVal ((c : Thread nD τ), SemLoc.dma (cellM j)) 0
/-- Slot `j` at contents `f`. -/
abbrev slotP (j : Fin 14) (f : Buf (Elt F) ((slotM j).view.loc (c : Thread nD τ))) : sProp 𝕄 :=
  (slotM j).view.loc (c : Thread nD τ) ↦[(slotM j).view.set]{fullShare} f
/-- The slot's read share of the whole weight array. -/
abbrev tokP (j : Fin 14) : sProp 𝕄 := wM.view.loc (c : Thread nD τ) ↦[Finset.univ]{tokS j} w
/-- Slot `j` filled with block `j` of weight `k`. -/
def fullP (k : Fin 2) (j : Fin 14) : sProp 𝕄 := iprop(∃ f, slotP c j f ∗ ⌜(slotM j).view.read (Elt F) f = wblk c w k j⌝)
/-- The block's elements under the slot's share, and the others'. -/
abbrev srcP (k : Fin 2) (j : Fin 14) : sProp 𝕄 := wM.view.loc (c : Thread nD τ) ↦[(blkM k j).view.set]{tokS j} w
abbrev srcRestP (k : Fin 2) (j : Fin 14) : sProp 𝕄 := wM.view.loc (c : Thread nD τ) ↦[Finset.univ \ (blkM k j).view.set]{tokS j} w

/-- What a slot is doing. -/
inductive St
  | free
  | fl (k : Fin 2)
  | ld (k : Fin 2)

/-- What is held of slot `j` in each state. -/
def slotSt (j : Fin 14) : St → sProp 𝕄
  | .free => iprop(cellP c j ∗ (∃ f, slotP c j f) ∗ tokP c w j)
  | .fl k => iprop(Transfers.Flight countersEmb (c : Thread nD τ) (SemLoc.dma (cellM j)) () (slotM j).view.dmaCredit
      iprop(fullP c w k j ∗ srcP c w k j) ∗ srcRestP c w k j)
  | .ld k => iprop(cellP c j ∗ fullP c w k j ∗ tokP c w j)

theorem tok_split (k : Fin 2) (j : Fin 14) : (tokP c w j : sProp 𝕄) ⊣⊢ iprop(srcP c w k j ∗ srcRestP c w k j) :=
  pointsTo_split_subset (Finset.subset_univ _)

/-- A filled slot may be filled again. -/
theorem ld_free (k : Fin 2) (j : Fin 14) : (slotSt c w j (.ld k) : sProp 𝕄) ⊢ slotSt c w j .free := by
  unfold slotSt fullP
  iintro ⟨Hc, ⟨%f, Hs, -⟩, Ht⟩
  isplitl [Hc]; · iexact Hc
  isplitl [Hs]; · iexists f; iexact Hs
  iexact Ht

variable (𝒱 : Variants) (bd : Option 𝒱.V)

/-- Starting the copy of block `j` of weight `k` into slot `j`. -/
theorem wp_start {α : Type} {Q : α → sProp 𝕄} (k : Fin 2) (j : Fin 14) {o1 : Fin 1 → Nat} {o2 o3 : Fin 3 → Nat} (e1 : o1 = semOff j) (e2 : o2 = slotOff j) (e3 : o3 = blkOff k j)
    {h1 h2 h3 hsrc hdst hsem} {K : PUnit → Prog (TpuEff nD τ sig (Elt F) Λ₀ .tc) α} :
    slotSt c w j .free ⊢ iprop((slotSt c w j (.fl k) -∗ wp frame (wpE defs₀ 𝒱 (c : Thread nD τ) bd) Set.univ (K ⟨⟩) Q)
      -∗ wp frame (wpE defs₀ 𝒱 (c : Thread nD τ) bd) Set.univ (.op (.enqueueDma
          ((wM.slice (Rect.unit (s := S2x4736x3584) o3 S1x4736x256.size h3) (fun _ => rfl)).squeeze S4736x256 squeezes_S1x4736x256_S4736x256)
          (.here ((bufM.slice (Rect.unit (s := S14x4736x256) o2 S1x4736x256.size h2) (fun _ => rfl)).squeeze S4736x256 squeezes_S1x4736x256_S4736x256))
          (.dma ((sems.slice (Rect.unit (s := S14) o1 S1.size h1)).squeeze S_ squeezes_S1_S_).sem) hsrc hdst hsem) K) Q) := by
  subst e1 e2 e3
  show _ ⊢ iprop(_ -∗ wp frame (wpE defs₀ 𝒱 (c : Thread nD τ) bd) Set.univ (.op (.enqueueDmaAs (blkM k j) (.here (slotM j)) .same (.dma (cellM j)) hsrc hdst hsem) K) Q)
  unfold slotSt
  iintro ⟨Hc, ⟨%f, Hs⟩, Ht⟩ HK
  ihave ⟨Hsrc, Hrest⟩ := (tok_split c w k j).1 $$ Ht
  iapply (Transfers.wp_dmaLocal countersEmb 𝒱 (c : Thread nD τ) bd (src := blkM k j) (dst := slotM j) (sm := .dma (cellM j)) () (slotM j).view.dmaCredit rfl
    ((slotM j).view.dmaCredit_pos (by decide)) (Finset.Subset.refl _) (fs := w) (fd := f) (q := tokS j)) $$ [Hc Hs Hsrc]
  · isplitl [Hsrc]; · iexact Hsrc
    isplitl [Hs]; · iexact Hs
    iexact Hc
  iintro Hf
  iapply HK
  isplitl [Hf]
  · iapply (Transfers.Flight_mono countersEmb (c : Thread nD τ) (D' := iprop(fullP c w k j ∗ srcP c w k j)) ?_) $$ Hf
    unfold fullP
    iintro ⟨Hd, Hs⟩
    isplitl [Hd]
    · iexists _
      isplitl [Hd]; · iexact Hd
      ipureintro
      exact View.read_write_univ _ _
    · iexact Hs
  · iexact Hrest

/-- Waiting for the copy into slot `j`. -/
theorem wp_await {α : Type} {Q : α → sProp 𝕄} (k : Fin 2) (j : Fin 14) {o1 : Fin 1 → Nat} {o2 o3 : Fin 3 → Nat} (e1 : o1 = semOff j) (e2 : o2 = slotOff j)
    {h1 h2 h3 hsrc hdst} {K : PUnit → Prog (TpuEff nD τ sig (Elt F) Λ₀ .tc) α} {W : Waits sig Unit} :
    iprop(slotSt c w j (.fl k) ∗ owes (c : Thread nD τ) 0 W) ⊢ iprop((iprop(slotSt c w j (.ld k) ∗ ∃ W', owes (c : Thread nD τ) 0 W') -∗ wp frame (wpE defs₀ 𝒱 (c : Thread nD τ) bd) Set.univ (K ⟨⟩) Q)
      -∗ wp frame (wpE defs₀ 𝒱 (c : Thread nD τ) bd) Set.univ (.op (.waitDma2
          ((sems.slice (Rect.unit (s := S14) o1 S1.size h1)).squeeze S_ squeezes_S1_S_).sem
          ((wM.slice (Rect.unit (s := S2x4736x3584) o3 S1x4736x256.size h3) (fun _ => rfl)).squeeze S4736x256 squeezes_S1x4736x256_S4736x256)
          ((bufM.slice (Rect.unit (s := S14x4736x256) o2 S1x4736x256.size h2) (fun _ => rfl)).squeeze S4736x256 squeezes_S1x4736x256_S4736x256)
           hsrc hdst) K) Q) := by
  subst e1 e2
  unfold slotSt
  iintro ⟨⟨Hf, Hrest⟩, HO⟩ HK
  iapply (Transfers.wp_waitLocal countersEmb 𝒱 (c : Thread nD τ) bd (sem := cellM j) (dstw := slotM j) () (N := (slotM j).view.dmaCredit) rfl) $$ [Hf HO]
  · isplitl [Hf]; · iexact Hf
    iexact HO
  iintro ⟨⟨Hd, Hsrc⟩, Hc, HO⟩
  iapply HK
  isplitr [HO]
  · isplitl [Hc]; · iexact Hc
    isplitl [Hd]; · iexact Hd
    iapply (tok_split c w k j).2
    isplitl [Hsrc]; · iexact Hsrc
    iexact Hrest
  · iexists _; iexact HO

end State

end Cert.Down.Hand
-- ==== Proof.DownTrip.lean ====
/-
  One column block of the down projection, for the program `Down`: its loads, its arithmetic and its store, and one trip of the
  kernel's main loop, which treats two column blocks: a block's weight is waited for at the first two grid points, its output
  block is stored, and at the first point the copy of the second weight's block is started into the slot.
-/
module

public import proofs.«01_k».proof.Proof.DownSlots

@[expose] public section

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev colOff (j : Fin 14) : Fin 2 → Nat := ![0, 256 * j.val]
abbrev scOff (j : Fin 14) : Fin 3 → Nat := ![0, 0, 256 * j.val]
theorem colOff_inb (j : Fin 14) : ∀ a, colOff j a + S576x256.size a ≤ S576x3584.size a := by
  have := j.isLt; intro a; fin_cases a
  · show 0 + 576 ≤ 576; omega
  · show 256 * j.val + 256 ≤ 3584; omega
theorem scOff_inb (j : Fin 14) : ∀ a, scOff j a + S1x1x256.size a ≤ S1x1x3584.size a := by
  have := j.isLt; intro a; fin_cases a
  · show 0 + 1 ≤ 1; omega
  · show 0 + 1 ≤ 1; omega
  · show 256 * j.val + 256 ≤ 3584; omega

/-- Column block `j` of a row block. -/
abbrev colR (j : Fin 14) : Rect S576x3584 := Rect.unit (s := S576x3584) (colOff j) S576x256.size (colOff_inb j)
/-- Column block `j` of the weight's scale row. -/
abbrev scR (j : Fin 14) : Rect S1x1x3584 := Rect.unit (s := S1x1x3584) (scOff j) S1x1x256.size (scOff_inb j)

/-- One output block: the residual's block plus the scaled product, rounded. -/
def payT (h2 : Vec F S576x256 .f32) (c4 : Vec F S576x4736 .fp8e4m3) (wb : Vec F S4736x256 .fp8e4m3) (s4 : Vec F S576x1 .f32) (sw : Vec F S1x1x256 .f32) :
    FVec F S576x256 .bf16 :=
  truncf .bf16 (addf h2 (mulf (mulf (matmul dot_S576x4736_S4736x256_S576x256_1_0_0_1_n_n none c4 wb (constant S576x256 .f32 0x00000000#32))
    (broadcastTo S576x256 s4 broadcasts_S576x1_S576x256))
    (broadcastTo S576x256 (shapeCast S1x256 sw shapeCasts_S1x1x256_S1x256) broadcasts_S1x256_S576x256))) bitsLt_bf16_f32

/-- Output block `j`, of what the four input windows hold and the weight block. -/
def outBlk (x1 : Vec F S576x4736 .fp8e4m3) (x2 : Vec F S576x1 .f32) (x3 : Vec F S1x1x3584 .f32) (x4 : Vec F S576x3584 .f32)
    (wb : Vec F S4736x256 .fp8e4m3) (j : Fin 14) : FVec F S576x256 .bf16 :=
  payT (fun y => x4 ((colR j).emb y)) (fun y => x1 ((Rect.unit (s := S576x4736) ![0, 0] S576x4736.size inb_S576x4736_S576x4736_0_0).emb y)) wb
    (fun y => x2 ((Rect.unit (s := S576x1) ![0, 0] S576x1.size inb_S576x1_S576x1_0_0).emb y)) (fun y => x3 ((scR j).emb y))

theorem col_disjoint (v : View sig .tc .vmem S576x3584 .bf16) (j j' : Fin 14) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 256 * j.val + 256 ≤ 256 * j'.val ∨ 256 * j'.val + 256 ≤ 256 * j.val
  omega

section Tile
/-- A slot's elements, named through the whole scratch. -/
theorem slot_respell (c : Dev nD) (j : Fin 14) (g : Buf (Elt F) (bufM.view.loc (c : Thread nD τ))) :
    (slotP c j g : sProp 𝕄) = ((bufM.access (Rect.unit (s := S14x4736x256) (slotOff j) S1x4736x256.size (slotOff_inb j))).loc (c : Thread nD τ)
      ↦[(slotM j).view.set]{fullShare} g : sProp 𝕄) := rfl

variable (c : Dev nD) (w : Buf (Elt F) (wM.view.loc (c : Thread nD τ)))
variable (arg1 : Memref sig .tc .vmem S576x4736 .fp8e4m3) (arg2 : Memref sig .tc .vmem S576x1 .f32) (arg3 : Memref sig .tc .vmem S1x1x3584 .f32)
variable (arg4 : Memref sig .tc .vmem S576x3584 .f32) (arg6 : Memref sig .tc .vmem S576x3584 .bf16)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))

/-- The four input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4))

/-- Output block `j` when weight `k` is the one used. -/
def outJ (k : Fin 2) (j : Fin 14) : FVec F S576x256 .bf16 :=
  outBlk (arg1.view.read (Elt F) f1) (arg2.view.read (Elt F) f2) (arg3.view.read (Elt F) f3) (arg4.view.read (Elt F) f4) (wblk c w k j) j

/-- The output window with its first `n` column blocks stored. -/
def outP (k : Fin 2) (n : ℕ) : sProp 𝕄 :=
  iprop(∃ f, (arg6.view.loc (c : Thread nD τ) ↦[arg6.view.set]{fullShare} f)
    ∗ ⌜∀ j : Fin 14, j.val < n → (arg6.access (colR j)).read (Elt F) f = outJ c w arg1 arg2 arg3 arg4 f1 f2 f3 f4 k j⌝)

variable (𝒱 : Variants) (bd : Option 𝒱.V)

/-- One column block's loads and store. -/
theorem wp_tile {α : Type} {Q : α → sProp 𝕄} (k : Fin 2) (j : Fin 14) {o7 : Fin 2 → Nat} {o8 o9 : Fin 3 → Nat} (e7 : o7 = colOff j) (e8 : o8 = slotOff j) (e9 : o9 = scOff j)
    {h7 h8 h9 l1 l2 l3 l4 l5 l6 hx hm} {K : PUnit → Prog (TpuEff nD τ sig (Elt F) Λ₀ .tc) α} :
    iprop(insP c arg1 arg2 arg3 arg4 f1 f2 f3 f4 ∗ outP c w arg1 arg2 arg3 arg4 arg6 f1 f2 f3 f4 k j.val ∗ slotSt c w j (.ld k)) ⊢
    iprop((iprop(insP c arg1 arg2 arg3 arg4 f1 f2 f3 f4 ∗ outP c w arg1 arg2 arg3 arg4 arg6 f1 f2 f3 f4 k (j.val + 1) ∗ slotSt c w j (.ld k))
        -∗ wp frame (wpE defs₀ 𝒱 (c : Thread nD τ) bd) Set.univ (K ⟨⟩) Q)
      -∗ wp frame (wpE defs₀ 𝒱 (c : Thread nD τ) bd) Set.univ
        (.op (.load arg4 (Rect.unit (s := S576x3584) o7 S576x256.size h7).toLoadRect l4) fun v14 =>
         .op (.load arg1 (Rect.unit (s := S576x4736) ![0, 0] S576x4736.size inb_S576x4736_S576x4736_0_0).toLoadRect l1) fun v15 =>
         .op (.load bufM (Rect.unit (s := S14x4736x256) o8 S1x4736x256.size h8).toLoadRect l5) fun v17 =>
         .op (.load arg2 (Rect.unit (s := S576x1) ![0, 0] S576x1.size inb_S576x1_S576x1_0_0).toLoadRect l2) fun v20 =>
         .op (.load arg3 (Rect.unit (s := S1x1x3584) o9 S1x1x256.size h9).toLoadRect l3) fun v24 =>
         .op (.load arg6 (Rect.unit (s := S576x3584) o7 S576x256.size h7).toLoadRect l6) fun v31 =>
         .op (.store arg6 (Rect.unit (s := S576x3584) o7 S576x256.size h7) (k0_pay2 v14 v15 v17 v20 v24) Finset.univ hx hm) K) Q) := by
  subst e7 e8 e9
  unfold insP outP slotSt fullP
  iintro ⟨⟨H1, H2, H3, H4⟩, ⟨%f, H6, %hf⟩, Hc, ⟨%g, Hs, %hg⟩, Ht⟩ HK
  iapply (wp_load_rect 𝒱 (c : Thread nD τ) bd Set.univ (m := arg4) (r := colR j) (S := arg4.view.set) (f := f4) (arg4.view.set_slice_subset _)) $$ H4
  iintro H4
  iapply (wp_load_rect 𝒱 (c : Thread nD τ) bd Set.univ (m := arg1) (r := Rect.unit (s := S576x4736) ![0, 0] S576x4736.size inb_S576x4736_S576x4736_0_0) (S := arg1.view.set) (f := f1) (arg1.view.set_slice_subset _)) $$ H1
  iintro H1
  ihave Hs := (BIBase.Entails.of_eq (slot_respell c j g)) $$ Hs
  iapply (wp_load_rect 𝒱 (c : Thread nD τ) bd Set.univ (m := bufM) (r := Rect.unit (s := S14x4736x256) (slotOff j) S1x4736x256.size (slotOff_inb j)) (S := (slotM j).view.set) (f := g) (q := fullShare)
    (by unfold slotM; rw [show ((bufM.slice (Rect.unit (s := S14x4736x256) (slotOff j) S1x4736x256.size (slotOff_inb j)) (fun _ => rfl)).squeeze S4736x256 squeezes_S1x4736x256_S4736x256).view.set
      = (bufM.view.slice (Rect.unit (s := S14x4736x256) (slotOff j) S1x4736x256.size (slotOff_inb j))).set from View.set_reshape _ _])) $$ Hs
  iintro Hs
  iapply (wp_load_rect 𝒱 (c : Thread nD τ) bd Set.univ (m := arg2) (r := Rect.unit (s := S576x1) ![0, 0] S576x1.size inb_S576x1_S576x1_0_0) (S := arg2.view.set) (f := f2) (arg2.view.set_slice_subset _)) $$ H2
  iintro H2
  iapply (wp_load_rect 𝒱 (c : Thread nD τ) bd Set.univ (m := arg3) (r := scR j) (S := arg3.view.set) (f := f3) (arg3.view.set_slice_subset _)) $$ H3
  iintro H3
  iapply (wp_load_rect 𝒱 (c : Thread nD τ) bd Set.univ (m := arg6) (r := colR j) (S := arg6.view.set) (f := f) (arg6.view.set_slice_subset _)) $$ H6
  iintro H6
  iapply (wp_store 𝒱 (c : Thread nD τ) bd Set.univ (m := arg6) (r := colR j) (S := arg6.view.set) (f := f) (arg6.view.set_slice_subset _)) $$ H6
  iintro H6
  iapply HK
  isplitl [H1 H2 H3 H4]
  · isplitl [H1]; · iexact H1
    isplitl [H2]; · iexact H2
    isplitl [H3]; · iexact H3
    iexact H4
  isplitl [H6]
  · iexists _
    isplitl [H6]; · iexact H6
    ipureintro
    intro j' hj'
    by_cases hjj : j' = j
    · subst hjj
      refine (View.read_write_univ _ _).trans ?_
      unfold outJ
      rw [← hg]
      rfl
    · refine (View.read_slice_write_slice_of_disjoint (v := arg6.view) (colR j') (colR j) _ _ _ (col_disjoint arg6.view j' j hjj)).trans ?_
      refine hf j' ?_
      have : j'.val ≠ j.val := fun e => hjj (Fin.ext e)
      omega
  · isplitl [Hc]; · iexact Hc
    isplitl [Hs]
    · iexists g
      isplitl [Hs]; · iapply (BIBase.Entails.of_eq (slot_respell c j g).symm) $$ Hs
      ipureintro; exact hg
    · iexact Ht

end Tile

end Cert.Down.Hand
-- ==== Proof.DownLoop.lean ====
/-
  The two loops of the down projection's body, for the program `Down`: the loop that starts all fourteen copies at the first grid
  point, and the main loop, two column blocks a trip, at every grid point; each by its invariant.
-/
module

public import proofs.«01_k».proof.Proof.DownTrip
public import proofs.«01_k».proof.Proof.Gen.Down.Loops

@[expose] public section

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the body computes -/

theorem trips1 : k0_t1_loop.trips = 14 := by decide
theorem trips2 : k0_t2_loop.trips = 7 := by decide

/-- The column block a trip of the first loop starts. -/
def pj (g : Fin k0_t1_loop.trips) : Fin 14 := ⟨g.val, g.isLt.trans_eq trips1⟩
/-- The two column blocks a trip of the main loop treats. -/
def j0 (g : Fin k0_t2_loop.trips) : Fin 14 := ⟨2 * g.val, by have := g.isLt.trans_eq trips2; omega⟩
def j1 (g : Fin k0_t2_loop.trips) : Fin 14 := ⟨2 * g.val + 1, by have := g.isLt.trans_eq trips2; omega⟩

theorem off1_eq : ∀ g, k0_off1 g = semOff (pj g) := by decide
theorem off2_eq : ∀ g, k0_off2 g = slotOff (pj g) := by decide
theorem off3_eq : ∀ g, k0_off3 g = blkOff 0 (pj g) := by decide
theorem off4_eq : ∀ g, k0_off4 g = semOff (j0 g) := by decide
theorem off5_eq : ∀ g, k0_off5 g = slotOff (j0 g) := by decide
theorem off7_eq0 : ∀ g, k0_off7 g 0#32 = colOff (j0 g) := by decide
theorem off7_eq1 : ∀ g, k0_off7 g 1#32 = colOff (j1 g) := by decide
theorem off8_eq0 : ∀ g, k0_off8 g 0#32 = slotOff (j0 g) := by decide
theorem off8_eq1 : ∀ g, k0_off8 g 1#32 = slotOff (j1 g) := by decide
theorem off9_eq0 : ∀ g, k0_off9 g 0#32 = scOff (j0 g) := by decide
theorem off9_eq1 : ∀ g, k0_off9 g 1#32 = scOff (j1 g) := by decide
theorem off10_eq : ∀ g, k0_off10 g = semOff (j0 g) := by decide
theorem off11_eq : ∀ g, k0_off11 g = slotOff (j0 g) := by decide
theorem off12_eq : ∀ g, k0_off12 g = blkOff 1 (j0 g) := by decide
theorem off13_eq : ∀ g, k0_off13 g = semOff (j1 g) := by decide
theorem off14_eq : ∀ g, k0_off14 g = slotOff (j1 g) := by decide
theorem off16_eq : ∀ g, k0_off16 g = semOff (j1 g) := by decide
theorem off17_eq : ∀ g, k0_off17 g = slotOff (j1 g) := by decide
theorem off18_eq : ∀ g, k0_off18 g = blkOff 1 (j1 g) := by decide

/-! ## The conditions the body tests -/

theorem i_lt (i : grid0.Coords) : (i 0).val < 8 := (i 0).isLt
theorem cond1_iff (i : grid0.Coords) : k0_cond1 i = 1#1 ↔ (i 0).val = 0 := by
  have h := i_lt i; unfold k0_cond1; generalize (i 0).val = n at h ⊢; revert n; decide
theorem cond2_iff (i : grid0.Coords) : k0_cond2 i = 1#1 ↔ (i 0).val < 2 := by
  have h := i_lt i; unfold k0_cond2; generalize (i 0).val = n at h ⊢; revert n; decide
theorem cond3_iff (i : grid0.Coords) : k0_cond3 i = 1#1 ↔ (i 0).val = 0 := by
  have h := i_lt i; unfold k0_cond3; generalize (i 0).val = n at h ⊢; revert n; decide
theorem cond4_iff (i : grid0.Coords) : k0_cond4 i = 1#1 ↔ (i 0).val < 2 := by
  have h := i_lt i; unfold k0_cond4; generalize (i 0).val = n at h ⊢; revert n; decide
theorem cond5_iff (i : grid0.Coords) : k0_cond5 i = 1#1 ↔ (i 0).val = 0 := by
  have h := i_lt i; unfold k0_cond5; generalize (i 0).val = n at h ⊢; revert n; decide

/-! ## The slots' states -/

/-- The weight used at grid point `n`. -/
def wk (n : ℕ) : Fin 2 := if n = 0 then 0 else 1

/-- A slot before the main loop of grid point `n`, -/
def stA : ℕ → St
  | 0 => .fl 0
  | 1 => .fl 1
  | _ => .ld 1
theorem stA_ge {n : ℕ} (h0 : n ≠ 0) (h1 : n ≠ 1) : stA n = .ld 1 := by
  obtain ⟨m, rfl⟩ : ∃ m, n = m + 2 := ⟨n - 2, by omega⟩
  rfl
/-- and after. -/
def stB (n : ℕ) : St := stA (n + 1)
/-- The slots before trip `g` of the main loop of grid point `n`. -/
def stG (n g : ℕ) (j : Fin 14) : St := if j.val < 2 * g then stB n else stA n

theorem stG_zero (n : ℕ) : stG n 0 = fun _ => stA n := by funext j; simp [stG]
theorem stG_end (n : ℕ) : stG n 7 = fun _ => stA (n + 1) := by funext j; have := j.isLt; unfold stG stB; rw [if_pos (by omega)]
theorem stG_j0 (n : ℕ) (g : Fin k0_t2_loop.trips) : stG n g.val (j0 g) = stA n := by unfold stG j0; simp
theorem stG_j1 (n : ℕ) (g : Fin k0_t2_loop.trips) (s : St) : Function.update (stG n g.val) (j0 g) s (j1 g) = stA n := by
  rw [Function.update_of_ne (by unfold j0 j1; intro h; have := congrArg Fin.val h; simp at this)]
  unfold stG j1; simp
theorem stG_succ (n : ℕ) (g : Fin k0_t2_loop.trips) :
    Function.update (Function.update (stG n g.val) (j0 g) (stB n)) (j1 g) (stB n) = stG n (g.val + 1) := by
  funext j
  by_cases h1 : j = j1 g
  · subst h1; rw [Function.update_self]; unfold stG j1; rw [if_pos (by simp; omega)]
  · rw [Function.update_of_ne h1]
    by_cases h0 : j = j0 g
    · subst h0; rw [Function.update_self]; unfold stG j0; rw [if_pos (by simp)]
    · rw [Function.update_of_ne h0]
      have h0' : j.val ≠ 2 * g.val := fun e => h0 (Fin.ext e)
      have h1' : j.val ≠ 2 * g.val + 1 := fun e => h1 (Fin.ext e)
      unfold stG
      by_cases h : j.val < 2 * g.val
      · rw [if_pos h, if_pos (by omega)]
      · rw [if_neg h, if_neg (by omega)]

/-- The slots before trip `g` of the first loop. -/
def stP (g : ℕ) (j : Fin 14) : St := if j.val < g then .fl 0 else .free
theorem stP_zero : stP 0 = fun _ => St.free := by funext j; simp [stP]
theorem stP_end : stP 14 = fun _ => St.fl 0 := by funext j; have := j.isLt; unfold stP; rw [if_pos (by omega)]
theorem stP_at (g : Fin k0_t1_loop.trips) : stP g.val (pj g) = .free := by unfold stP pj; simp
theorem stP_succ (g : Fin k0_t1_loop.trips) : Function.update (stP g.val) (pj g) (.fl 0) = stP (g.val + 1) := by
  funext j
  by_cases h1 : j = pj g
  · subst h1; rw [Function.update_self]; unfold stP pj; simp
  · rw [Function.update_of_ne h1]
    have h1' : j.val ≠ g.val := fun e => h1 (Fin.ext e)
    unfold stP
    by_cases h : j.val < g.val
    · rw [if_pos h, if_pos (by omega)]
    · rw [if_neg h, if_neg (by omega)]

section Loops
variable (c : Dev nD) (w : Buf (Elt F) (wM.view.loc (c : Thread nD τ)))
variable (i : grid0.Coords) (arg1 : Memref sig .tc .vmem S576x4736 .fp8e4m3) (harg1 : arg1.IsWhole) (arg2 : Memref sig .tc .vmem S576x1 .f32) (harg2 : arg2.IsWhole)
variable (arg3 : Memref sig .tc .vmem S1x1x3584 .f32) (harg3 : arg3.IsWhole) (arg4 : Memref sig .tc .vmem S576x3584 .f32) (harg4 : arg4.IsWhole)
variable (harg5 : wM.IsWhole) (arg6 : Memref sig .tc .vmem S576x3584 .bf16) (harg6 : arg6.IsWhole) (harg7 : bufM.IsWhole)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))
variable (𝒱 : Variants)

/-- All the slots. -/
abbrev slots (st : Fin 14 → St) : sProp 𝕄 := Ring.AtW (slotSt c w) st

/-- The first loop: every slot filled by a copy of its block of the first weight. -/
@[instance_reducible, sl_loop] def loop1 (h1 : k0_cond1 i = 1#1) :
    Gen.LoopInvTy_k0_t1 (F := F) Unit ℕ (Pipeline.UD sig nD τ) ℕ 𝒱 c none Set.univ i arg1 harg1 arg2 harg2 arg3 harg3 arg4 harg4 wM harg5 arg6 harg6 bufM harg7 sems h1 where
  inv := fun g _ => slots c w (stP g)
  step := by
    intro g acc
    unfold k0_t1_body slots
    simp only [Prog.bind_lift]
    rw [Ring.AtW_focus _ _ (pj g), stP_at g]
    iintro ⟨Hs, Hrest⟩
    iapply (wp_start c w 𝒱 none 0 (pj g) (off1_eq g) (off2_eq g) (off3_eq g)) $$ Hs
    iintro Hs
    rw [← stP_succ g]
    rw [wp_pure]
    imodintro
    iapply (Ring.AtW_update (slotSt c w) (stP g.val) (pj g) (.fl 0))
    isplitl [Hs]; · iexact Hs
    iexact Hrest

/-- The main loop: before trip `g` the first `2 g` column blocks are stored. -/
@[instance_reducible, sl_loop] def loop2 (arg0 : BitVec 32) :
    Gen.LoopInvTy_k0_t2 (F := F) Unit ℕ (Pipeline.UD sig nD τ) ℕ 𝒱 c none Set.univ i arg1 harg1 arg2 harg2 arg3 harg3 arg4 harg4 wM harg5 arg6 harg6 bufM harg7 sems arg0 where
  inv := fun g _ => iprop(insP c arg1 arg2 arg3 arg4 f1 f2 f3 f4 ∗ outP c w arg1 arg2 arg3 arg4 arg6 f1 f2 f3 f4 (wk (i 0).val) (2 * g)
    ∗ (∃ W, owes (c : Thread nD τ) 0 W) ∗ slots c w (stG (i 0).val g))
  step := by
    intro g acc
    unfold k0_t2_body slots
    rw [k0_part1_eq_skeleton]
    unfold k0_part1_skel
    rw [Ring.AtW_focus _ _ (j0 g), stG_j0, ← stG_succ]
    by_cases h0 : (i 0).val = 0
    · have c2 : k0_cond2 i = 1#1 := (cond2_iff i).2 (by omega)
      have c3 : k0_cond3 i = 1#1 := (cond3_iff i).2 h0
      have c4 : k0_cond4 i = 1#1 := (cond4_iff i).2 (by omega)
      have c5 : k0_cond5 i = 1#1 := (cond5_iff i).2 h0
      rw [show stA (i 0).val = .fl 0 from by rw [h0]; rfl, show stB (i 0).val = .fl 1 from by rw [h0]; rfl, show wk (i 0).val = 0 from by rw [h0]; rfl]
      rw [dif_pos c2]
      simp only [Prog.bind_lift, Prog.bind_op, Prog.bind_ret, pure_bind]
      rw [dif_pos c3]
      simp only [Prog.bind_lift, Prog.bind_op, Prog.bind_ret, pure_bind]
      rw [dif_pos c4]
      rw [dif_pos c5]
      try simp only [Prog.bind_lift, Prog.bind_op, Prog.bind_ret, pure_bind]
      iintro ⟨HI, HO, ⟨%W, HW⟩, Hs, Hrest⟩
      iapply (wp_await c w 𝒱 none 0 (j0 g) (off4_eq g) (off5_eq g)) $$ [Hs HW]
      · isplitl [Hs]; · iexact Hs
        iexact HW
      iintro ⟨Hs, ⟨%W', HW⟩⟩
      iapply (wp_tile c w arg1 arg2 arg3 arg4 arg6 f1 f2 f3 f4 𝒱 none 0 (j0 g) (off7_eq0 g) (off8_eq0 g) (off9_eq0 g)) $$ [HI HO Hs]
      · isplitl [HI]; · iexact HI
        isplitl [HO]; · iexact HO
        iexact Hs
      iintro ⟨HI, HO, Hs⟩
      ihave Hs := (ld_free c w _ _) $$ Hs
      iapply (wp_start c w 𝒱 none 1 (j0 g) (off10_eq g) (off11_eq g) (off12_eq g)) $$ Hs
      iintro Hs
      ihave Hrest := (Ring.AtW_update (slotSt c w) (stG (i 0).val g.val) (j0 g) (.fl 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.fl 1)) (j1 g))) $$ Hrest
      ihave Hs := (BIBase.Entails.of_eq (congrArg (slotSt c w (j1 g)) ((stG_j1 (i 0).val g (.fl 1)).trans (show stA (i 0).val = .fl 0 from by rw [h0]; rfl)))) $$ Hs
      iapply (wp_await c w 𝒱 none 0 (j1 g) (off13_eq g) (off14_eq g)) $$ [Hs HW]
      · isplitl [Hs]; · iexact Hs
        iexact HW
      iintro ⟨Hs, ⟨%W', HW⟩⟩
      iapply (wp_tile c w arg1 arg2 arg3 arg4 arg6 f1 f2 f3 f4 𝒱 none 0 (j1 g) (off7_eq1 g) (off8_eq1 g) (off9_eq1 g)) $$ [HI HO Hs]
      · isplitl [HI]; · iexact HI
        isplitl [HO]; · iexact HO
        iexact Hs
      iintro ⟨HI, HO, Hs⟩
      ihave Hs := (ld_free c w _ _) $$ Hs
      iapply (wp_start c w 𝒱 none 1 (j1 g) (off16_eq g) (off17_eq g) (off18_eq g)) $$ Hs
      iintro Hs
      ihave Hrest := (Ring.AtW_update (slotSt c w) (Function.update (stG (i 0).val g.val) (j0 g) (.fl 1)) (j1 g) (.fl 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
    have c3 : ¬ k0_cond3 i = 1#1 := fun e => h0 ((cond3_iff i).1 e)
    have c5 : ¬ k0_cond5 i = 1#1 := fun e => h0 ((cond5_iff i).1 e)
    by_cases h1 : (i 0).val = 1
    · have c2 : k0_cond2 i = 1#1 := (cond2_iff i).2 (by omega)
      have c4 : k0_cond4 i = 1#1 := (cond4_iff i).2 (by omega)
      rw [show stA (i 0).val = .fl 1 from by rw [h1]; rfl, show stB (i 0).val = .ld 1 from by rw [h1]; rfl, show wk (i 0).val = 1 from by unfold wk; rw [if_neg h0]]
      rw [dif_pos c2]
      simp only [Prog.bind_lift, Prog.bind_op, Prog.bind_ret, pure_bind]
      rw [dif_neg c3]
      simp only [Prog.bind_lift, Prog.bind_op, Prog.bind_ret, pure_bind]
      rw [dif_pos c4]
      rw [dif_neg c5]
      try simp only [Prog.bind_lift, Prog.bind_op, Prog.bind_ret, pure_bind]
      iintro ⟨HI, HO, ⟨%W, HW⟩, Hs, Hrest⟩
      iapply (wp_await c w 𝒱 none 1 (j0 g) (off4_eq g) (off5_eq g)) $$ [Hs HW]
      · isplitl [Hs]; · iexact Hs
        iexact HW
      iintro ⟨Hs, ⟨%W', HW⟩⟩
      iapply (wp_tile c w arg1 arg2 arg3 arg4 arg6 f1 f2 f3 f4 𝒱 none 1 (j0 g) (off7_eq0 g) (off8_eq0 g) (off9_eq0 g)) $$ [HI HO Hs]
      · isplitl [HI]; · iexact HI
        isplitl [HO]; · iexact HO
        iexact Hs
      iintro ⟨HI, HO, Hs⟩
      ihave Hrest := (Ring.AtW_update (slotSt c w) (stG (i 0).val g.val) (j0 g) (.ld 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.ld 1)) (j1 g))) $$ Hrest
      ihave Hs := (BIBase.Entails.of_eq (congrArg (slotSt c w (j1 g)) ((stG_j1 (i 0).val g (.ld 1)).trans (show stA (i 0).val = .fl 1 from by rw [h1]; rfl)))) $$ Hs
      iapply (wp_await c w 𝒱 none 1 (j1 g) (off13_eq g) (off14_eq g)) $$ [Hs HW]
      · isplitl [Hs]; · iexact Hs
        iexact HW
      iintro ⟨Hs, ⟨%W', HW⟩⟩
      iapply (wp_tile c w arg1 arg2 arg3 arg4 arg6 f1 f2 f3 f4 𝒱 none 1 (j1 g) (off7_eq1 g) (off8_eq1 g) (off9_eq1 g)) $$ [HI HO Hs]
      · isplitl [HI]; · iexact HI
        isplitl [HO]; · iexact HO
        iexact Hs
      iintro ⟨HI, HO, Hs⟩
      ihave Hrest := (Ring.AtW_update (slotSt c w) (Function.update (stG (i 0).val g.val) (j0 g) (.ld 1)) (j1 g) (.ld 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
    · have c2 : ¬ k0_cond2 i = 1#1 := fun e => by have := (cond2_iff i).1 e; omega
      have c4 : ¬ k0_cond4 i = 1#1 := fun e => by have := (cond4_iff i).1 e; omega
      rw [show stA (i 0).val = .ld 1 from by exact stA_ge h0 h1, show stB (i 0).val = .ld 1 from by exact stA_ge (by omega) (by omega), show wk (i 0).val = 1 from by unfold wk; rw [if_neg h0]]
      rw [dif_neg c2]
      simp only [Prog.bind_lift, Prog.bind_op, Prog.bind_ret, pure_bind]
      rw [dif_neg c3]
      simp only [Prog.bind_lift, Prog.bind_op, Prog.bind_ret, pure_bind]
      rw [dif_neg c4]
      rw [dif_neg c5]
      try simp only [Prog.bind_lift, Prog.bind_op, Prog.bind_ret, pure_bind]
      iintro ⟨HI, HO, ⟨%W, HW⟩, Hs, Hrest⟩
      iapply (wp_tile c w arg1 arg2 arg3 arg4 arg6 f1 f2 f3 f4 𝒱 none 1 (j0 g) (off7_eq0 g) (off8_eq0 g) (off9_eq0 g)) $$ [HI HO Hs]
      · isplitl [HI]; · iexact HI
        isplitl [HO]; · iexact HO
        iexact Hs
      iintro ⟨HI, HO, Hs⟩
      ihave Hrest := (Ring.AtW_update (slotSt c w) (stG (i 0).val g.val) (j0 g) (.ld 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.ld 1)) (j1 g))) $$ Hrest
      ihave Hs := (BIBase.Entails.of_eq (congrArg (slotSt c w (j1 g)) ((stG_j1 (i 0).val g (.ld 1)).trans (show stA (i 0).val = .ld 1 from by exact stA_ge h0 h1)))) $$ Hs
      iapply (wp_tile c w arg1 arg2 arg3 arg4 arg6 f1 f2 f3 f4 𝒱 none 1 (j1 g) (off7_eq1 g) (off8_eq1 g) (off9_eq1 g)) $$ [HI HO Hs]
      · isplitl [HI]; · iexact HI
        isplitl [HO]; · iexact HO
        iexact Hs
      iintro ⟨HI, HO, Hs⟩
      ihave Hrest := (Ring.AtW_update (slotSt c w) (Function.update (stG (i 0).val g.val) (j0 g) (.ld 1)) (j1 g) (.ld 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
end Loops

end Cert.Down.Hand
-- ==== Proof.DownBody.lean ====
/-
  One grid point of the down projection, for the program `Down`: the body run on its windows, its slots moved from their states
  before the point to those after it; and the slots at rest against the buffers the launch hands over.
-/
module

public import proofs.«01_k».proof.Proof.DownLoop

@[expose] public section

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A slot between grid points, before point `n`. -/
def stF (n : ℕ) : Fin 14 → St := fun _ => if n = 0 then .free else stA n

section Run
variable (c : Dev nD) (w : Buf (Elt F) (wM.view.loc (c : Thread nD τ)))
variable (i : grid0.Coords) (arg1 : Memref sig .tc .vmem S576x4736 .fp8e4m3) (harg1 : arg1.IsWhole) (arg2 : Memref sig .tc .vmem S576x1 .f32) (harg2 : arg2.IsWhole)
variable (arg3 : Memref sig .tc .vmem S1x1x3584 .f32) (harg3 : arg3.IsWhole) (arg4 : Memref sig .tc .vmem S576x3584 .f32) (harg4 : arg4.IsWhole)
variable (harg5 : wM.IsWhole) (arg6 : Memref sig .tc .vmem S576x3584 .bf16) (harg6 : arg6.IsWhole) (harg7 : bufM.IsWhole)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))
variable (𝒱 : Variants)

theorem loop1_inv (c1 : k0_cond1 i = 1#1) (n : ℕ) (a : Unit) :
    (loop1 c w i arg1 harg1 arg2 harg2 arg3 harg3 arg4 harg4 harg5 arg6 harg6 harg7 𝒱 c1).inv n a = slots c w (stP n) := rfl
theorem loop2_inv (arg0 : BitVec 32) (n : ℕ) (a : Unit) :
    (loop2 c w i arg1 harg1 arg2 harg2 arg3 harg3 arg4 harg4 harg5 arg6 harg6 harg7 f1 f2 f3 f4 𝒱 arg0).inv n a
      = iprop(insP c arg1 arg2 arg3 arg4 f1 f2 f3 f4 ∗ outP c w arg1 arg2 arg3 arg4 arg6 f1 f2 f3 f4 (wk (i 0).val) (2 * n)
        ∗ (∃ W, owes (c : Thread nD τ) 0 W) ∗ slots c w (stG (i 0).val n)) := rfl

theorem loop1_end (c1 : k0_cond1 i = 1#1) (a : Unit) (h : stA (i 0).val = St.fl 0) :
    (loop1 c w i arg1 harg1 arg2 harg2 arg3 harg3 arg4 harg4 harg5 arg6 harg6 harg7 𝒱 c1).inv (Scf.trips k0_t1_loop.lb k0_t1_loop.ub k0_t1_loop.st) a
      ⊢ slots c w (fun _ => stA (i 0).val) := by
  rw [show Scf.trips k0_t1_loop.lb k0_t1_loop.ub k0_t1_loop.st = 14 from trips1, loop1_inv, stP_end, h]
theorem loop2_end (arg0 : BitVec 32) (a : Unit) :
    (loop2 c w i arg1 harg1 arg2 harg2 arg3 harg3 arg4 harg4 harg5 arg6 harg6 harg7 f1 f2 f3 f4 𝒱 arg0).inv (Scf.trips k0_t2_loop.lb k0_t2_loop.ub k0_t2_loop.st) a
      ⊢ iprop(insP c arg1 arg2 arg3 arg4 f1 f2 f3 f4 ∗ outP c w arg1 arg2 arg3 arg4 arg6 f1 f2 f3 f4 (wk (i 0).val) 14
        ∗ (∃ W, owes (c : Thread nD τ) 0 W) ∗ slots c w (fun _ => stA ((i 0).val + 1))) := by
  rw [show Scf.trips k0_t2_loop.lb k0_t2_loop.ub k0_t2_loop.st = 7 from trips2, loop2_inv, stG_end]

/-- What the main loop is entered with, and what it is left with. -/
theorem main_loop (Q : PUnit → sProp 𝕄) (arg0 : BitVec 32) :
    iprop((insP c arg1 arg2 arg3 arg4 f1 f2 f3 f4 ∗ (∃ f, arg6.view.loc (c : Thread nD τ) ↦[arg6.view.set]{fullShare} f) ∗ (∃ W, owes (c : Thread nD τ) 0 W)
        ∗ slots c w (fun _ => stA (i 0).val))
      ∗ (iprop(insP c arg1 arg2 arg3 arg4 f1 f2 f3 f4 ∗ outP c w arg1 arg2 arg3 arg4 arg6 f1 f2 f3 f4 (wk (i 0).val) 14 ∗ (∃ W, owes (c : Thread nD τ) 0 W)
        ∗ slots c w (fun _ => stA ((i 0).val + 1))) -∗ Q ⟨⟩))
    ⊢ wp frame (wpE defs₀ 𝒱 (c : Thread nD τ) none) Set.univ
        (Scf.Loop.for k0_t2_loop k0_t2_ok ⟨⟩ (k0_t2_body (F := F) i arg1 harg1 arg2 harg2 arg3 harg3 arg4 harg4 wM harg5 arg6 harg6 bufM harg7 sems arg0) >>= fun _ => pure ⟨⟩) Q := by
  iintro ⟨⟨HI, ⟨%f, H6⟩, HW, Hs⟩, HK⟩
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 arg4 harg4 wM harg5 arg6 harg6 bufM harg7 sems arg0)
    (loop2 c w i arg1 harg1 arg2 harg2 arg3 harg3 arg4 harg4 harg5 arg6 harg6 harg7 f1 f2 f3 f4 𝒱 arg0)) $$ [HI H6 HW Hs]
  · rw [loop2_inv]
    isplitl [HI]; · iexact HI
    isplitl [H6]
    · unfold outP
      iexists f
      isplitl [H6]; · iexact H6
      ipureintro; intro j hj; omega
    isplitl [HW]; · iexact HW
    rw [stG_zero]
    iexact Hs
  iintro %acc HL
  rw [wp_pure]
  imodintro
  iapply HK
  iapply (loop2_end c w i arg1 harg1 arg2 harg2 arg3 harg3 arg4 harg4 harg5 arg6 harg6 harg7 f1 f2 f3 f4 𝒱 arg0 acc) $$ HL

/-- THE BODY at one grid point. -/
theorem body_run (Q : PUnit → sProp 𝕄) :
    iprop((insP c arg1 arg2 arg3 arg4 f1 f2 f3 f4 ∗ (∃ f, arg6.view.loc (c : Thread nD τ) ↦[arg6.view.set]{fullShare} f) ∗ (∃ W, owes (c : Thread nD τ) 0 W)
        ∗ slots c w (stF (i 0).val))
      ∗ (iprop(insP c arg1 arg2 arg3 arg4 f1 f2 f3 f4 ∗ outP c w arg1 arg2 arg3 arg4 arg6 f1 f2 f3 f4 (wk (i 0).val) 14 ∗ (∃ W, owes (c : Thread nD τ) 0 W)
        ∗ slots c w (stF ((i 0).val + 1))) -∗ Q ⟨⟩))
    ⊢ wp frame (wpE defs₀ 𝒱 (c : Thread nD τ) none) Set.univ
        (cc0_down (F := F) i arg1 harg1 arg2 harg2 arg3 harg3 arg4 harg4 wM harg5 arg6 harg6 bufM harg7 sems) Q := by
  rw [cc0_down_eq_skeleton]
  unfold cc0_down_skel
  rw [show stF ((i 0).val + 1) = fun _ => stA ((i 0).val + 1) from by funext j; unfold stF; rw [if_neg (by omega)]]
  by_cases h0 : (i 0).val = 0
  · have c1 : k0_cond1 i = 1#1 := (cond1_iff i).2 h0
    rw [dif_pos c1]
    iintro ⟨⟨HI, H6, HW, Hs⟩, HK⟩
    iapply (exec_loop frame (wpE defs₀ 𝒱 (c : Thread nD τ) none) Set.univ k0_t1_loop.lb k0_t1_loop.ub k0_t1_loop.st (k0_t1_ok i c1) ()
      (k0_t1_body (F := F) i arg1 harg1 arg2 harg2 arg3 harg3 arg4 harg4 wM harg5 arg6 harg6 bufM harg7 sems c1)
      (loop1 c w i arg1 harg1 arg2 harg2 arg3 harg3 arg4 harg4 harg5 arg6 harg6 harg7 𝒱 c1)) $$ [Hs]
    · rw [loop1_inv, stP_zero, show stF (i 0).val = fun _ => St.free from by funext j; unfold stF; rw [if_pos h0]]
      iexact Hs
    iintro %acc HL
    iapply (main_loop c w i arg1 harg1 arg2 harg2 arg3 harg3 arg4 harg4 harg5 arg6 harg6 harg7 f1 f2 f3 f4 𝒱 Q (BitVec.ofNat 32 (i 0).val))
    isplitr [HK]
    · isplitl [HI]; · iexact HI
      isplitl [H6]; · iexact H6
      isplitl [HW]; · iexact HW
      iapply (loop1_end c w i arg1 harg1 arg2 harg2 arg3 harg3 arg4 harg4 harg5 arg6 harg6 harg7 𝒱 c1 acc (by rw [h0]; rfl)) $$ HL
    · iexact HK
  · have c1 : ¬ k0_cond1 i = 1#1 := fun e => h0 ((cond1_iff i).1 e)
    rw [dif_neg c1, show stF (i 0).val = fun _ => stA (i 0).val from by funext j; unfold stF; rw [if_neg h0]]
    exact main_loop c w i arg1 harg1 arg2 harg2 arg3 harg3 arg4 harg4 harg5 arg6 harg6 harg7 f1 f2 f3 f4 𝒱 Q (BitVec.ofNat 32 (i 0).val)
end Run

/-! ## The slots at rest -/

/-- Slot `j`'s elements of the scratch. -/
def SJ (j : Fin 14) : Finset S14x4736x256.Idx := (Rect.unit (s := S14x4736x256) (slotOff j) S1x4736x256.size (slotOff_inb j)).set
theorem slot_set (j : Fin 14) : (slotM j).view.set = SJ j := (View.set_reshape _ _).trans (View.set_slice_whole _ _)
theorem mem_SJ (j : Fin 14) (y : S14x4736x256.Idx) : y ∈ SJ j ↔ (y 0).val = j.val := by
  unfold SJ
  rw [Rect.mem_set_unit]
  have h1 : (y 1).val < 4736 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 4736; omega
    · show 0 ≤ (y 2).val ∧ (y 2).val < 0 + 256; omega
theorem SJ_disjoint : ∀ j j' : Fin 14, j ≠ j' → Disjoint (SJ j) (SJ j') := by
  intro j j' hne; rw [Finset.disjoint_left]; intro y hy hy'; rw [mem_SJ] at hy hy'; exact hne (Fin.ext (hy.symm.trans hy'))
theorem SJ_cover : (Finset.univ : Finset (Fin 14)).biUnion SJ = Finset.univ := by
  ext y; simp only [Finset.mem_biUnion, Finset.mem_univ, true_and, iff_true]; exact ⟨(y 0).cast (by decide), by rw [mem_SJ]; rfl⟩

theorem slotP_eq (c : Dev nD) (j : Fin 14) (f : Buf (Elt F) (bufM.view.loc (c : Thread nD τ))) :
    (slotP c j f : sProp 𝕄) = ((c : Thread nD τ).loc cc0_scratch0 ↦[SJ j]{fullShare} f : sProp 𝕄) :=
  congrArg (fun S => (_ ↦[S]{fullShare} f : sProp 𝕄)) (slot_set j)

/-- The scratch whole is its slots; -/
theorem scratch_split (c : Dev nD) :
    iprop(∃ f : Buf (Elt F) ((c : Thread nD τ).loc cc0_scratch0), ((c : Thread nD τ).loc cc0_scratch0) ↦{fullShare} f)
      ⊢ (bigSep Finset.univ (fun j : Fin 14 => iprop(∃ f, slotP c j f)) : sProp 𝕄) := by
  refine exists_elim fun f => ?_
  rw [Ring.pointsTo_blocks (ℓ := (c : Thread nD τ).loc cc0_scratch0) SJ SJ_disjoint SJ_cover]
  refine bigSep_mono fun j _ => ?_
  rw [← slotP_eq]
  exact exists_intro (Φ := fun f => (slotP c j f : sProp 𝕄)) f
/-- and its slots are it whole. -/
theorem scratch_join (c : Dev nD) :
    (bigSep Finset.univ (fun j : Fin 14 => iprop(∃ f, slotP c j f)) : sProp 𝕄)
      ⊢ iprop(∃ f : Buf (Elt F) ((c : Thread nD τ).loc cc0_scratch0), ((c : Thread nD τ).loc cc0_scratch0) ↦{fullShare} f) := by
  have e : (fun j : Fin 14 => (iprop(∃ f, slotP c j f) : sProp 𝕄)) = fun j => iprop(∃ f, (c : Thread nD τ).loc cc0_scratch0 ↦[SJ j]{fullShare} f) := by
    funext j; exact congrArg (fun P : Buf (Elt F) (bufM.view.loc (c : Thread nD τ)) → sProp 𝕄 => iprop(∃ f, P f)) (funext fun f => slotP_eq c j f)
  rw [e]
  exact Ring.pointsTo_blocks_join_exists (ℓ := (c : Thread nD τ).loc cc0_scratch0) SJ SJ_disjoint SJ_cover (fun _ => default)

/-- The slots at rest, one kind of resource at a time. -/
theorem slots_free (c : Dev nD) (w : Buf (Elt F) (wM.view.loc (c : Thread nD τ))) :
    (slots c w (fun _ => St.free) : sProp 𝕄) = iprop(bigSep Finset.univ (fun j : Fin 14 => (cellP c j : sProp 𝕄))
      ∗ bigSep Finset.univ (fun j : Fin 14 => (iprop(∃ f, slotP c j f) : sProp 𝕄)) ∗ bigSep Finset.univ (fun j : Fin 14 => (tokP c w j : sProp 𝕄))) := by
  unfold slots Ring.AtW
  exact (bigSep_sep ..).trans (congrArg (fun P => iprop(_ ∗ P)) (bigSep_sep ..))

/-- Filled slots are slots at rest. -/
theorem slots_ld (c : Dev nD) (w : Buf (Elt F) (wM.view.loc (c : Thread nD τ))) (k : Fin 2) :
    (slots c w (fun _ => St.ld k) : sProp 𝕄) ⊢ slots c w (fun _ => St.free) :=
  bigSep_mono fun j _ => ld_free c w k j

end Cert.Down.Hand
-- ==== Proof.DownFrame.lean ====
/-
  The launch of the program `Down`: what each window holds after the body at each grid point, the invariant between points,
  the body obligation, the run of @main and the frame. At any float interpretation.
-/
module

public import proofs.«01_k».proof.Proof.DownBody

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The column block of an element of the output window, and its place inside that block. -/
def colj (y : S576x3584.Idx) : Fin 14 := ⟨(y 1).val / 256, by have h : (y 1).val < 3584 := (y 1).isLt; omega⟩
def inCol (y : S576x3584.Idx) : S576x256.Idx := fun a => match a with
  | ⟨0, _⟩ => ⟨(y 0).val, (y 0).isLt⟩
  | ⟨1, _⟩ => ⟨(y 1).val % 256, Nat.mod_lt _ (by decide)⟩
theorem emb_inCol (y : S576x3584.Idx) : (colR (colj y)).emb (inCol y) = y := by
  funext a
  apply Fin.ext
  rw [Rect.emb_apply]
  fin_cases a
  · show 0 + 1 * (y 0).val = (y 0).val; omega
  · show 256 * ((y 1).val / 256) + 1 * ((y 1).val % 256) = (y 1).val; omega

/-- What the body leaves in the output window at point `t`: its column blocks side by side. -/
def outW (c : Dev nD) (t : Fin cfg0.N) : Vec F S576x3584 .bf16 := fun y =>
  outBlk (iblk m c 0 t) (iblk m c 1 t) (iblk m c 2 t) (iblk m c 3 t) (wblk c (V m c main_arg2) (wk t.val) (colj y)) (colj y) (inCol y)

/-- What is left of the weight array beside the tokens of the slots. -/
abbrev wRest (c : Dev nD) : sProp 𝕄 := wM.view.loc (c : Thread nD τ) ↦[Finset.univ]{Transfers.shareDrop fullShare 14} (V m c main_arg2)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outW m c t
  Φ t := iprop((∃ r, prngReg c r) ∗ slots c (V m c main_arg2) (stF t.val) ∗ wRest m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outW m c t := by dsimp only [dats]

theorem coord_t (t : Fin cfg0.N) : ((grid0.coords t) 0).val = t.val := by
  rcases fin_N0 t with h | h | h | h | h | h | h | h <;> rw [h] <;> decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ r, prngReg c r) ∗ slots c (V m c main_arg2) (stF (t.val + 1)) ∗ wRest m c) from rfl,
    show (dats m 0 c).Φ t.castSucc = iprop((∃ r, prngReg c r) ∗ slots c (V m c main_arg2) (stF t.val) ∗ wRest m c) from rfl,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  unfold Dat.owesAt Pipeline.owesWithin
  rw [show (dats m 0 c).owed t.castSucc = 0 from rfl, show (dats m 0 c).owed t.succ = 0 from rfl]
  unfold owns
  iintro ⟨⟨Hg, Hs, Hw⟩, ⟨%W, -, HW⟩, ⟨%d0, %f1, %e1, H1⟩, ⟨%d1, %f2, %e2, H2⟩, ⟨%d2, %f3, %e3, H3⟩, ⟨%d3, %f4, %e4, H4⟩, ⟨%d4, %f6, %e6, H6⟩⟩
  iapply (body_run c (V m c main_arg2) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (Memref.isWhole_whole _) (st0_4 t)
    (hstage0_4 ((cfg0.slots t 4).cast nbuf0_4)) (Memref.isWhole_whole _) f1 f2 f3 f4 Variants.none _)
  rw [coord_t t]
  isplitr [Hg Hw]
  · isplitl [H1 H2 H3 H4]
    · unfold insP
      isplitl [H1]; · iexact H1
      isplitl [H2]; · iexact H2
      isplitl [H3]; · iexact H3
      iexact H4
    isplitl [H6]; · iexists f6; iexact H6
    isplitl [HW]; · iexists W; iexact HW
    iexact Hs
  · unfold insP outP
    iintro ⟨⟨H1, H2, H3, H4⟩, ⟨%f, H6, %hf⟩, ⟨%W', HW'⟩, Hs⟩
    isplitl [Hg Hs Hw]
    · isplitl [Hg]; · iexact Hg
      isplitl [Hs]; · iexact Hs
      iexact Hw
    isplitl [HW']
    · iexists W'; isplitr; · ipureintro; exact fun _ _ => Or.inl trivial
      iexact HW'
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    iexists f; isplitr
    · ipureintro
      funext y
      have hy := congrFun (hf (colj y) (colj y).isLt) (inCol y)
      unfold outW
      rw [← e1, ← e2, ← e3, ← e4]
      refine Eq.trans ?_ hy
      show _ = (st0_4 t).view.read (Elt F) f ((colR (colj y)).emb (inCol y))
      rw [emb_inCol]
    · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 14 → SemLoc sig := fun j => SemLoc.dma (cellM j)
theorem ownSemFacts0 : Pipeline.OwnSemFacts spec0 osem0 := by decide
/-- The one array in HBM the body's transfers read. -/
def H0 : Finset (Ref sig .tc) := {main_arg2}
theorem H0_sub : H0 ⊆ Pipeline.restRefs sig spec0 := by decide

theorem PhiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f) ∗ (∃ r, prngReg c r)
          ∗ bigSep Finset.univ (fun j : Fin 14 => (cellP c j : sProp 𝕄)) ∗ wM.view.loc (c : Thread nD τ) ↦{fullShare} V m c main_arg2) := by
  rw [Pipeline.ΦD_eq, scopedRest0_eq, show H0 = {main_arg2} from rfl, bigSep_singleton]
  rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ slots c (V m c main_arg2) (fun _ => St.free) ∗ wRest m c) from rfl, slots_free]
  iintro ⟨Hs, Hg, Hc, Hw⟩
  isplitl [Hg]; · iexact Hg
  ihave ⟨Hd, Ht⟩ := (Transfers.pointsTo_toks_split fullShare 14) $$ Hw
  isplitr [Hd]
  · isplitl [Hc]; · iexact Hc
    isplitl [Hs]
    · iapply (scratch_split c) $$ Hs
    · iexact Ht
  · iexact Hd

theorem hout (c : Dev nD) : (dats m 0 c).Φ (Fin.last _) ⊢ (Pipeline.ΦD osem0 spec0 H0 (V m) c : sProp 𝕄) := by
  rw [PhiD_eq, show (dats m 0 c).Φ (Fin.last _) = iprop((∃ r, prngReg c r) ∗ slots c (V m c main_arg2) (fun _ => St.ld 1) ∗ wRest m c) from rfl]
  iintro ⟨Hg, Hs, Hd⟩
  ihave Hs' := ((slots_ld c (V m c main_arg2) 1).trans (BIBase.Entails.of_eq (slots_free c (V m c main_arg2)))) $$ Hs
  icases Hs' with ⟨Hc, Hs, Ht⟩
  isplitl [Hs]; · iapply (scratch_join c) $$ Hs
  isplitl [Hg]; · iexact Hg
  isplitl [Hc]; · iexact Hc
  iapply (Transfers.pointsTo_toks_join fullShare 14)
  isplitl [Hd]; · iexact Hd
  iexact Ht

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => hin m c) (hout := fun c => hout m c)

/-- What the launch of the pipeline leaves, as the claims read it: the arguments as they were, the result assembled from
    the output window point by point, every semaphore at rest. -/
theorem run_post : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc (Pipeline.arrRef spec0 4)) = (dats m 0 c).arrAt 4 cfg0.N) :=
  (θ_run defs _ _).mono (fun _ h => ⟨⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩, fun c => (h.1 c).1 4⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.1) (run_post m ρ)

end Cert.Down.Hand
-- ==== Proof.DownIdealSlots.lean ====
/-
  The weight ring of the down projection, for the program `DownIdeal`: the fourteen weight slots of its scratch, the blocks of the
  weight array that the kernel's own copies bring into them, and the fourteen semaphores the copies are counted on. A slot is
  free, filled by a copy under way, or filled. Starting a copy and waiting for one are the two rules of this file.
-/
module

public import proofs.«01_k».proof.Proof.DownSlots
public import proofs.«01_k».proof.Proof.Gen.DownIdeal.Launch
public import proofs.«01_k».proof.Proof.Gen.DownIdeal.Skeleton
public import proofs.«01_k».proof.Proof.Gen.DownIdeal.Points
public import proofs.«01_k».proof.Proof.Gen.DownIdeal.Frame
public import Idealize.ShloMosaic.Lib.Pipeline.FrameBody
public import Idealize.ShloMosaic.Lib.Ring
public import Idealize.ShloMosaic.Lib.Tactic

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weight array, as the body names it. -/
abbrev wM : Memref sig .tc .hbm S2x4736x3584 .fp8e4m3 := Memref.whole main_arg2
/-- The weight scratch. -/
abbrev bufM : Memref sig .tc .vmem S14x4736x256 .fp8e4m3 := Memref.whole cc0_scratch0

abbrev semOff (j : Fin 14) : Fin 1 → Nat := ![j.val]
abbrev slotOff (j : Fin 14) : Fin 3 → Nat := ![j.val, 0, 0]
abbrev blkOff (k : Fin 2) (j : Fin 14) : Fin 3 → Nat := ![k.val, 0, 256 * j.val]

theorem semOff_inb (j : Fin 14) : ∀ a, semOff j a + S1.size a ≤ S14.size a := by
  have := j.isLt; intro a; fin_cases a; show j.val + 1 ≤ 14; omega
theorem slotOff_inb (j : Fin 14) : ∀ a, slotOff j a + S1x4736x256.size a ≤ S14x4736x256.size a := by
  have := j.isLt; intro a; fin_cases a
  · show j.val + 1 ≤ 14; omega
  · show 0 + 4736 ≤ 4736; omega
  · show 0 + 256 ≤ 256; omega
theorem blkOff_inb (k : Fin 2) (j : Fin 14) : ∀ a, blkOff k j a + S1x4736x256.size a ≤ S2x4736x3584.size a := by
  have := j.isLt; have := k.isLt; intro a; fin_cases a
  · show k.val + 1 ≤ 2; omega
  · show 0 + 4736 ≤ 4736; omega
  · show 256 * j.val + 256 ≤ 3584; omega

/-- The copies' semaphores, as one array. -/
abbrev sems : DmaSems sig S14 := cc0_scratch1

/-- Semaphore `j`. -/
def cellM (j : Fin 14) : DmaSem sig := ((sems.slice (Rect.unit (s := S14) (semOff j) S1.size (semOff_inb j))).squeeze S_ squeezes_S1_S_).sem
/-- Slot `j` of the scratch. -/
def slotM (j : Fin 14) : Memref sig .tc .vmem S4736x256 .fp8e4m3 :=
  (bufM.slice (Rect.unit (s := S14x4736x256) (slotOff j) S1x4736x256.size (slotOff_inb j)) (fun _ => rfl)).squeeze S4736x256 squeezes_S1x4736x256_S4736x256
/-- Column block `j` of weight `k`. -/
def blkM (k : Fin 2) (j : Fin 14) : Memref sig .tc .hbm S4736x256 .fp8e4m3 :=
  (wM.slice (Rect.unit (s := S2x4736x3584) (blkOff k j) S1x4736x256.size (blkOff_inb k j)) (fun _ => rfl)).squeeze S4736x256 squeezes_S1x4736x256_S4736x256

section State
variable (c : Dev nD) (w : Buf (Elt F) (wM.view.loc (c : Thread nD τ)))

/-- What column block `j` of weight `k` reads. -/
def wblk (k : Fin 2) (j : Fin 14) : S4736x256.Idx → Elt F .fp8e4m3 := (blkM k j).view.read (Elt F) w

/-- The share of the weight array that slot `j`'s copies read under. -/
abbrev tokS (j : Fin 14) : PosShare TreeShare := Transfers.shareTok fullShare 14 j

/-- The semaphore at rest. -/
abbrev cellP (j : Fin 14) : sProp 𝕄 := semVal ((c : Thread nD τ), SemLoc.dma (cellM j)) 0
/-- Slot `j` at contents `f`. -/
abbrev slotP (j : Fin 14) (f : Buf (Elt F) ((slotM j).view.loc (c : Thread nD τ))) : sProp 𝕄 :=
  (slotM j).view.loc (c : Thread nD τ) ↦[(slotM j).view.set]{fullShare} f
/-- The slot's read share of the whole weight array. -/
abbrev tokP (j : Fin 14) : sProp 𝕄 := wM.view.loc (c : Thread nD τ) ↦[Finset.univ]{tokS j} w
/-- Slot `j` filled with block `j` of weight `k`. -/
def fullP (k : Fin 2) (j : Fin 14) : sProp 𝕄 := iprop(∃ f, slotP c j f ∗ ⌜(slotM j).view.read (Elt F) f = wblk c w k j⌝)
/-- The block's elements under the slot's share, and the others'. -/
abbrev srcP (k : Fin 2) (j : Fin 14) : sProp 𝕄 := wM.view.loc (c : Thread nD τ) ↦[(blkM k j).view.set]{tokS j} w
abbrev srcRestP (k : Fin 2) (j : Fin 14) : sProp 𝕄 := wM.view.loc (c : Thread nD τ) ↦[Finset.univ \ (blkM k j).view.set]{tokS j} w

/-- What a slot is doing. -/
inductive St
  | free
  | fl (k : Fin 2)
  | ld (k : Fin 2)

/-- What is held of slot `j` in each state. -/
def slotSt (j : Fin 14) : St → sProp 𝕄
  | .free => iprop(cellP c j ∗ (∃ f, slotP c j f) ∗ tokP c w j)
  | .fl k => iprop(Transfers.Flight countersEmb (c : Thread nD τ) (SemLoc.dma (cellM j)) () (slotM j).view.dmaCredit
      iprop(fullP c w k j ∗ srcP c w k j) ∗ srcRestP c w k j)
  | .ld k => iprop(cellP c j ∗ fullP c w k j ∗ tokP c w j)

theorem tok_split (k : Fin 2) (j : Fin 14) : (tokP c w j : sProp 𝕄) ⊣⊢ iprop(srcP c w k j ∗ srcRestP c w k j) :=
  pointsTo_split_subset (Finset.subset_univ _)

/-- A filled slot may be filled again. -/
theorem ld_free (k : Fin 2) (j : Fin 14) : (slotSt c w j (.ld k) : sProp 𝕄) ⊢ slotSt c w j .free := by
  unfold slotSt fullP
  iintro ⟨Hc, ⟨%f, Hs, -⟩, Ht⟩
  isplitl [Hc]; · iexact Hc
  isplitl [Hs]; · iexists f; iexact Hs
  iexact Ht

variable (𝒱 : Variants) (bd : Option 𝒱.V)

/-- Starting the copy of block `j` of weight `k` into slot `j`. -/
theorem wp_start {α : Type} {Q : α → sProp 𝕄} (k : Fin 2) (j : Fin 14) {o1 : Fin 1 → Nat} {o2 o3 : Fin 3 → Nat} (e1 : o1 = semOff j) (e2 : o2 = slotOff j) (e3 : o3 = blkOff k j)
    {h1 h2 h3 hsrc hdst hsem} {K : PUnit → Prog (TpuEff nD τ sig (Elt F) Λ₀ .tc) α} :
    slotSt c w j .free ⊢ iprop((slotSt c w j (.fl k) -∗ wp frame (wpE defs₀ 𝒱 (c : Thread nD τ) bd) Set.univ (K ⟨⟩) Q)
      -∗ wp frame (wpE defs₀ 𝒱 (c : Thread nD τ) bd) Set.univ (.op (.enqueueDma
          ((wM.slice (Rect.unit (s := S2x4736x3584) o3 S1x4736x256.size h3) (fun _ => rfl)).squeeze S4736x256 squeezes_S1x4736x256_S4736x256)
          (.here ((bufM.slice (Rect.unit (s := S14x4736x256) o2 S1x4736x256.size h2) (fun _ => rfl)).squeeze S4736x256 squeezes_S1x4736x256_S4736x256))
          (.dma ((sems.slice (Rect.unit (s := S14) o1 S1.size h1)).squeeze S_ squeezes_S1_S_).sem) hsrc hdst hsem) K) Q) := by
  subst e1 e2 e3
  show _ ⊢ iprop(_ -∗ wp frame (wpE defs₀ 𝒱 (c : Thread nD τ) bd) Set.univ (.op (.enqueueDmaAs (blkM k j) (.here (slotM j)) .same (.dma (cellM j)) hsrc hdst hsem) K) Q)
  unfold slotSt
  iintro ⟨Hc, ⟨%f, Hs⟩, Ht⟩ HK
  ihave ⟨Hsrc, Hrest⟩ := (tok_split c w k j).1 $$ Ht
  iapply (Transfers.wp_dmaLocal countersEmb 𝒱 (c : Thread nD τ) bd (src := blkM k j) (dst := slotM j) (sm := .dma (cellM j)) () (slotM j).view.dmaCredit rfl
    ((slotM j).view.dmaCredit_pos (by decide)) (Finset.Subset.refl _) (fs := w) (fd := f) (q := tokS j)) $$ [Hc Hs Hsrc]
  · isplitl [Hsrc]; · iexact Hsrc
    isplitl [Hs]; · iexact Hs
    iexact Hc
  iintro Hf
  iapply HK
  isplitl [Hf]
  · iapply (Transfers.Flight_mono countersEmb (c : Thread nD τ) (D' := iprop(fullP c w k j ∗ srcP c w k j)) ?_) $$ Hf
    unfold fullP
    iintro ⟨Hd, Hs⟩
    isplitl [Hd]
    · iexists _
      isplitl [Hd]; · iexact Hd
      ipureintro
      exact View.read_write_univ _ _
    · iexact Hs
  · iexact Hrest

/-- Waiting for the copy into slot `j`. -/
theorem wp_await {α : Type} {Q : α → sProp 𝕄} (k : Fin 2) (j : Fin 14) {o1 : Fin 1 → Nat} {o2 o3 : Fin 3 → Nat} (e1 : o1 = semOff j) (e2 : o2 = slotOff j)
    {h1 h2 h3 hsrc hdst} {K : PUnit → Prog (TpuEff nD τ sig (Elt F) Λ₀ .tc) α} {W : Waits sig Unit} :
    iprop(slotSt c w j (.fl k) ∗ owes (c : Thread nD τ) 0 W) ⊢ iprop((iprop(slotSt c w j (.ld k) ∗ ∃ W', owes (c : Thread nD τ) 0 W') -∗ wp frame (wpE defs₀ 𝒱 (c : Thread nD τ) bd) Set.univ (K ⟨⟩) Q)
      -∗ wp frame (wpE defs₀ 𝒱 (c : Thread nD τ) bd) Set.univ (.op (.waitDma2
          ((sems.slice (Rect.unit (s := S14) o1 S1.size h1)).squeeze S_ squeezes_S1_S_).sem
          ((wM.slice (Rect.unit (s := S2x4736x3584) o3 S1x4736x256.size h3) (fun _ => rfl)).squeeze S4736x256 squeezes_S1x4736x256_S4736x256)
          ((bufM.slice (Rect.unit (s := S14x4736x256) o2 S1x4736x256.size h2) (fun _ => rfl)).squeeze S4736x256 squeezes_S1x4736x256_S4736x256)
           hsrc hdst) K) Q) := by
  subst e1 e2
  unfold slotSt
  iintro ⟨⟨Hf, Hrest⟩, HO⟩ HK
  iapply (Transfers.wp_waitLocal countersEmb 𝒱 (c : Thread nD τ) bd (sem := cellM j) (dstw := slotM j) () (N := (slotM j).view.dmaCredit) rfl) $$ [Hf HO]
  · isplitl [Hf]; · iexact Hf
    iexact HO
  iintro ⟨⟨Hd, Hsrc⟩, Hc, HO⟩
  iapply HK
  isplitr [HO]
  · isplitl [Hc]; · iexact Hc
    isplitl [Hd]; · iexact Hd
    iapply (tok_split c w k j).2
    isplitl [Hsrc]; · iexact Hsrc
    iexact Hrest
  · iexists _; iexact HO

end State

end Cert.DownIdeal.Hand
-- ==== Proof.DownIdealTrip.lean ====
/-
  One column block of the down projection, for the program `DownIdeal`: its loads, its arithmetic and its store, and one trip of the
  kernel's main loop, which treats two column blocks: a block's weight is waited for at the first two grid points, its output
  block is stored, and at the first point the copy of the second weight's block is started into the slot.
-/
module

public import proofs.«01_k».proof.Proof.DownIdealSlots

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev colOff (j : Fin 14) : Fin 2 → Nat := ![0, 256 * j.val]
abbrev scOff (j : Fin 14) : Fin 3 → Nat := ![0, 0, 256 * j.val]
theorem colOff_inb (j : Fin 14) : ∀ a, colOff j a + S576x256.size a ≤ S576x3584.size a := by
  have := j.isLt; intro a; fin_cases a
  · show 0 + 576 ≤ 576; omega
  · show 256 * j.val + 256 ≤ 3584; omega
theorem scOff_inb (j : Fin 14) : ∀ a, scOff j a + S1x1x256.size a ≤ S1x1x3584.size a := by
  have := j.isLt; intro a; fin_cases a
  · show 0 + 1 ≤ 1; omega
  · show 0 + 1 ≤ 1; omega
  · show 256 * j.val + 256 ≤ 3584; omega

/-- Column block `j` of a row block. -/
abbrev colR (j : Fin 14) : Rect S576x3584 := Rect.unit (s := S576x3584) (colOff j) S576x256.size (colOff_inb j)
/-- Column block `j` of the weight's scale row. -/
abbrev scR (j : Fin 14) : Rect S1x1x3584 := Rect.unit (s := S1x1x3584) (scOff j) S1x1x256.size (scOff_inb j)

/-- One output block: the residual's block plus the scaled product, rounded. -/
def payT (h2 : Vec F S576x256 .f32) (c4 : Vec F S576x4736 .fp8e4m3) (wb : Vec F S4736x256 .fp8e4m3) (s4 : Vec F S576x1 .f32) (sw : Vec F S1x1x256 .f32) :
    FVec F S576x256 .bf16 :=
  truncf .bf16 (addf h2 (mulf (mulf (matmul dot_S576x4736_S4736x256_S576x256_1_0_0_1_n_n none c4 wb (constant S576x256 .f32 0x00000000#32))
    (broadcastTo S576x256 s4 broadcasts_S576x1_S576x256))
    (broadcastTo S576x256 (shapeCast S1x256 sw shapeCasts_S1x1x256_S1x256) broadcasts_S1x256_S576x256))) bitsLt_bf16_f32

/-- Output block `j`, of what the four input windows hold and the weight block. -/
def outBlk (x1 : Vec F S576x4736 .fp8e4m3) (x2 : Vec F S576x1 .f32) (x3 : Vec F S1x1x3584 .f32) (x4 : Vec F S576x3584 .f32)
    (wb : Vec F S4736x256 .fp8e4m3) (j : Fin 14) : FVec F S576x256 .bf16 :=
  payT (fun y => x4 ((colR j).emb y)) (fun y => x1 ((Rect.unit (s := S576x4736) ![0, 0] S576x4736.size inb_S576x4736_S576x4736_0_0).emb y)) wb
    (fun y => x2 ((Rect.unit (s := S576x1) ![0, 0] S576x1.size inb_S576x1_S576x1_0_0).emb y)) (fun y => x3 ((scR j).emb y))

theorem col_disjoint (v : View sig .tc .vmem S576x3584 .bf16) (j j' : Fin 14) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 256 * j.val + 256 ≤ 256 * j'.val ∨ 256 * j'.val + 256 ≤ 256 * j.val
  omega

section Tile
/-- A slot's elements, named through the whole scratch. -/
theorem slot_respell (c : Dev nD) (j : Fin 14) (g : Buf (Elt F) (bufM.view.loc (c : Thread nD τ))) :
    (slotP c j g : sProp 𝕄) = ((bufM.access (Rect.unit (s := S14x4736x256) (slotOff j) S1x4736x256.size (slotOff_inb j))).loc (c : Thread nD τ)
      ↦[(slotM j).view.set]{fullShare} g : sProp 𝕄) := rfl

variable (c : Dev nD) (w : Buf (Elt F) (wM.view.loc (c : Thread nD τ)))
variable (arg1 : Memref sig .tc .vmem S576x4736 .fp8e4m3) (arg2 : Memref sig .tc .vmem S576x1 .f32) (arg3 : Memref sig .tc .vmem S1x1x3584 .f32)
variable (arg4 : Memref sig .tc .vmem S576x3584 .f32) (arg6 : Memref sig .tc .vmem S576x3584 .bf16)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))

/-- The four input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4))

/-- Output block `j` when weight `k` is the one used. -/
def outJ (k : Fin 2) (j : Fin 14) : FVec F S576x256 .bf16 :=
  outBlk (arg1.view.read (Elt F) f1) (arg2.view.read (Elt F) f2) (arg3.view.read (Elt F) f3) (arg4.view.read (Elt F) f4) (wblk c w k j) j

/-- The output window with its first `n` column blocks stored. -/
def outP (k : Fin 2) (n : ℕ) : sProp 𝕄 :=
  iprop(∃ f, (arg6.view.loc (c : Thread nD τ) ↦[arg6.view.set]{fullShare} f)
    ∗ ⌜∀ j : Fin 14, j.val < n → (arg6.access (colR j)).read (Elt F) f = outJ c w arg1 arg2 arg3 arg4 f1 f2 f3 f4 k j⌝)

variable (𝒱 : Variants) (bd : Option 𝒱.V)

/-- One column block's loads and store. -/
theorem wp_tile {α : Type} {Q : α → sProp 𝕄} (k : Fin 2) (j : Fin 14) {o7 : Fin 2 → Nat} {o8 o9 : Fin 3 → Nat} (e7 : o7 = colOff j) (e8 : o8 = slotOff j) (e9 : o9 = scOff j)
    {h7 h8 h9 l1 l2 l3 l4 l5 l6 hx hm} {K : PUnit → Prog (TpuEff nD τ sig (Elt F) Λ₀ .tc) α} :
    iprop(insP c arg1 arg2 arg3 arg4 f1 f2 f3 f4 ∗ outP c w arg1 arg2 arg3 arg4 arg6 f1 f2 f3 f4 k j.val ∗ slotSt c w j (.ld k)) ⊢
    iprop((iprop(insP c arg1 arg2 arg3 arg4 f1 f2 f3 f4 ∗ outP c w arg1 arg2 arg3 arg4 arg6 f1 f2 f3 f4 k (j.val + 1) ∗ slotSt c w j (.ld k))
        -∗ wp frame (wpE defs₀ 𝒱 (c : Thread nD τ) bd) Set.univ (K ⟨⟩) Q)
      -∗ wp frame (wpE defs₀ 𝒱 (c : Thread nD τ) bd) Set.univ
        (.op (.load arg4 (Rect.unit (s := S576x3584) o7 S576x256.size h7).toLoadRect l4) fun v14 =>
         .op (.load arg1 (Rect.unit (s := S576x4736) ![0, 0] S576x4736.size inb_S576x4736_S576x4736_0_0).toLoadRect l1) fun v15 =>
         .op (.load bufM (Rect.unit (s := S14x4736x256) o8 S1x4736x256.size h8).toLoadRect l5) fun v17 =>
         .op (.load arg2 (Rect.unit (s := S576x1) ![0, 0] S576x1.size inb_S576x1_S576x1_0_0).toLoadRect l2) fun v20 =>
         .op (.load arg3 (Rect.unit (s := S1x1x3584) o9 S1x1x256.size h9).toLoadRect l3) fun v24 =>
         .op (.load arg6 (Rect.unit (s := S576x3584) o7 S576x256.size h7).toLoadRect l6) fun v31 =>
         .op (.store arg6 (Rect.unit (s := S576x3584) o7 S576x256.size h7) (k0_pay2 v14 v15 v17 v20 v24) Finset.univ hx hm) K) Q) := by
  subst e7 e8 e9
  unfold insP outP slotSt fullP
  iintro ⟨⟨H1, H2, H3, H4⟩, ⟨%f, H6, %hf⟩, Hc, ⟨%g, Hs, %hg⟩, Ht⟩ HK
  iapply (wp_load_rect 𝒱 (c : Thread nD τ) bd Set.univ (m := arg4) (r := colR j) (S := arg4.view.set) (f := f4) (arg4.view.set_slice_subset _)) $$ H4
  iintro H4
  iapply (wp_load_rect 𝒱 (c : Thread nD τ) bd Set.univ (m := arg1) (r := Rect.unit (s := S576x4736) ![0, 0] S576x4736.size inb_S576x4736_S576x4736_0_0) (S := arg1.view.set) (f := f1) (arg1.view.set_slice_subset _)) $$ H1
  iintro H1
  ihave Hs := (BIBase.Entails.of_eq (slot_respell c j g)) $$ Hs
  iapply (wp_load_rect 𝒱 (c : Thread nD τ) bd Set.univ (m := bufM) (r := Rect.unit (s := S14x4736x256) (slotOff j) S1x4736x256.size (slotOff_inb j)) (S := (slotM j).view.set) (f := g) (q := fullShare)
    (by unfold slotM; rw [show ((bufM.slice (Rect.unit (s := S14x4736x256) (slotOff j) S1x4736x256.size (slotOff_inb j)) (fun _ => rfl)).squeeze S4736x256 squeezes_S1x4736x256_S4736x256).view.set
      = (bufM.view.slice (Rect.unit (s := S14x4736x256) (slotOff j) S1x4736x256.size (slotOff_inb j))).set from View.set_reshape _ _])) $$ Hs
  iintro Hs
  iapply (wp_load_rect 𝒱 (c : Thread nD τ) bd Set.univ (m := arg2) (r := Rect.unit (s := S576x1) ![0, 0] S576x1.size inb_S576x1_S576x1_0_0) (S := arg2.view.set) (f := f2) (arg2.view.set_slice_subset _)) $$ H2
  iintro H2
  iapply (wp_load_rect 𝒱 (c : Thread nD τ) bd Set.univ (m := arg3) (r := scR j) (S := arg3.view.set) (f := f3) (arg3.view.set_slice_subset _)) $$ H3
  iintro H3
  iapply (wp_load_rect 𝒱 (c : Thread nD τ) bd Set.univ (m := arg6) (r := colR j) (S := arg6.view.set) (f := f) (arg6.view.set_slice_subset _)) $$ H6
  iintro H6
  iapply (wp_store 𝒱 (c : Thread nD τ) bd Set.univ (m := arg6) (r := colR j) (S := arg6.view.set) (f := f) (arg6.view.set_slice_subset _)) $$ H6
  iintro H6
  iapply HK
  isplitl [H1 H2 H3 H4]
  · isplitl [H1]; · iexact H1
    isplitl [H2]; · iexact H2
    isplitl [H3]; · iexact H3
    iexact H4
  isplitl [H6]
  · iexists _
    isplitl [H6]; · iexact H6
    ipureintro
    intro j' hj'
    by_cases hjj : j' = j
    · subst hjj
      refine (View.read_write_univ _ _).trans ?_
      unfold outJ
      rw [← hg]
      rfl
    · refine (View.read_slice_write_slice_of_disjoint (v := arg6.view) (colR j') (colR j) _ _ _ (col_disjoint arg6.view j' j hjj)).trans ?_
      refine hf j' ?_
      have : j'.val ≠ j.val := fun e => hjj (Fin.ext e)
      omega
  · isplitl [Hc]; · iexact Hc
    isplitl [Hs]
    · iexists g
      isplitl [Hs]; · iapply (BIBase.Entails.of_eq (slot_respell c j g).symm) $$ Hs
      ipureintro; exact hg
    · iexact Ht

end Tile

end Cert.DownIdeal.Hand
-- ==== Proof.DownIdealLoop.lean ====
/-
  The two loops of the down projection's body, for the program `DownIdeal`: the loop that starts all fourteen copies at the first grid
  point, and the main loop, two column blocks a trip, at every grid point; each by its invariant.
-/
module

public import proofs.«01_k».proof.Proof.DownIdealTrip
public import proofs.«01_k».proof.Proof.Gen.DownIdeal.Loops

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the body computes -/

theorem trips1 : k0_t1_loop.trips = 14 := by decide
theorem trips2 : k0_t2_loop.trips = 7 := by decide

/-- The column block a trip of the first loop starts. -/
def pj (g : Fin k0_t1_loop.trips) : Fin 14 := ⟨g.val, g.isLt.trans_eq trips1⟩
/-- The two column blocks a trip of the main loop treats. -/
def j0 (g : Fin k0_t2_loop.trips) : Fin 14 := ⟨2 * g.val, by have := g.isLt.trans_eq trips2; omega⟩
def j1 (g : Fin k0_t2_loop.trips) : Fin 14 := ⟨2 * g.val + 1, by have := g.isLt.trans_eq trips2; omega⟩

theorem off1_eq : ∀ g, k0_off1 g = semOff (pj g) := by decide
theorem off2_eq : ∀ g, k0_off2 g = slotOff (pj g) := by decide
theorem off3_eq : ∀ g, k0_off3 g = blkOff 0 (pj g) := by decide
theorem off4_eq : ∀ g, k0_off4 g = semOff (j0 g) := by decide
theorem off5_eq : ∀ g, k0_off5 g = slotOff (j0 g) := by decide
theorem off7_eq0 : ∀ g, k0_off7 g 0#32 = colOff (j0 g) := by decide
theorem off7_eq1 : ∀ g, k0_off7 g 1#32 = colOff (j1 g) := by decide
theorem off8_eq0 : ∀ g, k0_off8 g 0#32 = slotOff (j0 g) := by decide
theorem off8_eq1 : ∀ g, k0_off8 g 1#32 = slotOff (j1 g) := by decide
theorem off9_eq0 : ∀ g, k0_off9 g 0#32 = scOff (j0 g) := by decide
theorem off9_eq1 : ∀ g, k0_off9 g 1#32 = scOff (j1 g) := by decide
theorem off10_eq : ∀ g, k0_off10 g = semOff (j0 g) := by decide
theorem off11_eq : ∀ g, k0_off11 g = slotOff (j0 g) := by decide
theorem off12_eq : ∀ g, k0_off12 g = blkOff 1 (j0 g) := by decide
theorem off13_eq : ∀ g, k0_off13 g = semOff (j1 g) := by decide
theorem off14_eq : ∀ g, k0_off14 g = slotOff (j1 g) := by decide
theorem off16_eq : ∀ g, k0_off16 g = semOff (j1 g) := by decide
theorem off17_eq : ∀ g, k0_off17 g = slotOff (j1 g) := by decide
theorem off18_eq : ∀ g, k0_off18 g = blkOff 1 (j1 g) := by decide

/-! ## The conditions the body tests -/

theorem i_lt (i : grid0.Coords) : (i 0).val < 8 := (i 0).isLt
theorem cond1_iff (i : grid0.Coords) : k0_cond1 i = 1#1 ↔ (i 0).val = 0 := by
  have h := i_lt i; unfold k0_cond1; generalize (i 0).val = n at h ⊢; revert n; decide
theorem cond2_iff (i : grid0.Coords) : k0_cond2 i = 1#1 ↔ (i 0).val < 2 := by
  have h := i_lt i; unfold k0_cond2; generalize (i 0).val = n at h ⊢; revert n; decide
theorem cond3_iff (i : grid0.Coords) : k0_cond3 i = 1#1 ↔ (i 0).val = 0 := by
  have h := i_lt i; unfold k0_cond3; generalize (i 0).val = n at h ⊢; revert n; decide
theorem cond4_iff (i : grid0.Coords) : k0_cond4 i = 1#1 ↔ (i 0).val < 2 := by
  have h := i_lt i; unfold k0_cond4; generalize (i 0).val = n at h ⊢; revert n; decide
theorem cond5_iff (i : grid0.Coords) : k0_cond5 i = 1#1 ↔ (i 0).val = 0 := by
  have h := i_lt i; unfold k0_cond5; generalize (i 0).val = n at h ⊢; revert n; decide

/-! ## The slots' states -/

/-- The weight used at grid point `n`. -/
def wk (n : ℕ) : Fin 2 := if n = 0 then 0 else 1

/-- A slot before the main loop of grid point `n`, -/
def stA : ℕ → St
  | 0 => .fl 0
  | 1 => .fl 1
  | _ => .ld 1
theorem stA_ge {n : ℕ} (h0 : n ≠ 0) (h1 : n ≠ 1) : stA n = .ld 1 := by
  obtain ⟨m, rfl⟩ : ∃ m, n = m + 2 := ⟨n - 2, by omega⟩
  rfl
/-- and after. -/
def stB (n : ℕ) : St := stA (n + 1)
/-- The slots before trip `g` of the main loop of grid point `n`. -/
def stG (n g : ℕ) (j : Fin 14) : St := if j.val < 2 * g then stB n else stA n

theorem stG_zero (n : ℕ) : stG n 0 = fun _ => stA n := by funext j; simp [stG]
theorem stG_end (n : ℕ) : stG n 7 = fun _ => stA (n + 1) := by funext j; have := j.isLt; unfold stG stB; rw [if_pos (by omega)]
theorem stG_j0 (n : ℕ) (g : Fin k0_t2_loop.trips) : stG n g.val (j0 g) = stA n := by unfold stG j0; simp
theorem stG_j1 (n : ℕ) (g : Fin k0_t2_loop.trips) (s : St) : Function.update (stG n g.val) (j0 g) s (j1 g) = stA n := by
  rw [Function.update_of_ne (by unfold j0 j1; intro h; have := congrArg Fin.val h; simp at this)]
  unfold stG j1; simp
theorem stG_succ (n : ℕ) (g : Fin k0_t2_loop.trips) :
    Function.update (Function.update (stG n g.val) (j0 g) (stB n)) (j1 g) (stB n) = stG n (g.val + 1) := by
  funext j
  by_cases h1 : j = j1 g
  · subst h1; rw [Function.update_self]; unfold stG j1; rw [if_pos (by simp; omega)]
  · rw [Function.update_of_ne h1]
    by_cases h0 : j = j0 g
    · subst h0; rw [Function.update_self]; unfold stG j0; rw [if_pos (by simp)]
    · rw [Function.update_of_ne h0]
      have h0' : j.val ≠ 2 * g.val := fun e => h0 (Fin.ext e)
      have h1' : j.val ≠ 2 * g.val + 1 := fun e => h1 (Fin.ext e)
      unfold stG
      by_cases h : j.val < 2 * g.val
      · rw [if_pos h, if_pos (by omega)]
      · rw [if_neg h, if_neg (by omega)]

/-- The slots before trip `g` of the first loop. -/
def stP (g : ℕ) (j : Fin 14) : St := if j.val < g then .fl 0 else .free
theorem stP_zero : stP 0 = fun _ => St.free := by funext j; simp [stP]
theorem stP_end : stP 14 = fun _ => St.fl 0 := by funext j; have := j.isLt; unfold stP; rw [if_pos (by omega)]
theorem stP_at (g : Fin k0_t1_loop.trips) : stP g.val (pj g) = .free := by unfold stP pj; simp
theorem stP_succ (g : Fin k0_t1_loop.trips) : Function.update (stP g.val) (pj g) (.fl 0) = stP (g.val + 1) := by
  funext j
  by_cases h1 : j = pj g
  · subst h1; rw [Function.update_self]; unfold stP pj; simp
  · rw [Function.update_of_ne h1]
    have h1' : j.val ≠ g.val := fun e => h1 (Fin.ext e)
    unfold stP
    by_cases h : j.val < g.val
    · rw [if_pos h, if_pos (by omega)]
    · rw [if_neg h, if_neg (by omega)]

section Loops
variable (c : Dev nD) (w : Buf (Elt F) (wM.view.loc (c : Thread nD τ)))
variable (i : grid0.Coords) (arg1 : Memref sig .tc .vmem S576x4736 .fp8e4m3) (harg1 : arg1.IsWhole) (arg2 : Memref sig .tc .vmem S576x1 .f32) (harg2 : arg2.IsWhole)
variable (arg3 : Memref sig .tc .vmem S1x1x3584 .f32) (harg3 : arg3.IsWhole) (arg4 : Memref sig .tc .vmem S576x3584 .f32) (harg4 : arg4.IsWhole)
variable (harg5 : wM.IsWhole) (arg6 : Memref sig .tc .vmem S576x3584 .bf16) (harg6 : arg6.IsWhole) (harg7 : bufM.IsWhole)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))
variable (𝒱 : Variants)

/-- All the slots. -/
abbrev slots (st : Fin 14 → St) : sProp 𝕄 := Ring.AtW (slotSt c w) st

/-- The first loop: every slot filled by a copy of its block of the first weight. -/
@[instance_reducible, sl_loop] def loop1 (h1 : k0_cond1 i = 1#1) :
    Gen.LoopInvTy_k0_t1 (F := F) Unit ℕ (Pipeline.UD sig nD τ) ℕ 𝒱 c none Set.univ i arg1 harg1 arg2 harg2 arg3 harg3 arg4 harg4 wM harg5 arg6 harg6 bufM harg7 sems h1 where
  inv := fun g _ => slots c w (stP g)
  step := by
    intro g acc
    unfold k0_t1_body slots
    simp only [Prog.bind_lift]
    rw [Ring.AtW_focus _ _ (pj g), stP_at g]
    iintro ⟨Hs, Hrest⟩
    iapply (wp_start c w 𝒱 none 0 (pj g) (off1_eq g) (off2_eq g) (off3_eq g)) $$ Hs
    iintro Hs
    rw [← stP_succ g]
    rw [wp_pure]
    imodintro
    iapply (Ring.AtW_update (slotSt c w) (stP g.val) (pj g) (.fl 0))
    isplitl [Hs]; · iexact Hs
    iexact Hrest

/-- The main loop: before trip `g` the first `2 g` column blocks are stored. -/
@[instance_reducible, sl_loop] def loop2 (arg0 : BitVec 32) :
    Gen.LoopInvTy_k0_t2 (F := F) Unit ℕ (Pipeline.UD sig nD τ) ℕ 𝒱 c none Set.univ i arg1 harg1 arg2 harg2 arg3 harg3 arg4 harg4 wM harg5 arg6 harg6 bufM harg7 sems arg0 where
  inv := fun g _ => iprop(insP c arg1 arg2 arg3 arg4 f1 f2 f3 f4 ∗ outP c w arg1 arg2 arg3 arg4 arg6 f1 f2 f3 f4 (wk (i 0).val) (2 * g)
    ∗ (∃ W, owes (c : Thread nD τ) 0 W) ∗ slots c w (stG (i 0).val g))
  step := by
    intro g acc
    unfold k0_t2_body slots
    rw [k0_part1_eq_skeleton]
    unfold k0_part1_skel
    rw [Ring.AtW_focus _ _ (j0 g), stG_j0, ← stG_succ]
    by_cases h0 : (i 0).val = 0
    · have c2 : k0_cond2 i = 1#1 := (cond2_iff i).2 (by omega)
      have c3 : k0_cond3 i = 1#1 := (cond3_iff i).2 h0
      have c4 : k0_cond4 i = 1#1 := (cond4_iff i).2 (by omega)
      have c5 : k0_cond5 i = 1#1 := (cond5_iff i).2 h0
      rw [show stA (i 0).val = .fl 0 from by rw [h0]; rfl, show stB (i 0).val = .fl 1 from by rw [h0]; rfl, show wk (i 0).val = 0 from by rw [h0]; rfl]
      rw [dif_pos c2]
      simp only [Prog.bind_lift, Prog.bind_op, Prog.bind_ret, pure_bind]
      rw [dif_pos c3]
      simp only [Prog.bind_lift, Prog.bind_op, Prog.bind_ret, pure_bind]
      rw [dif_pos c4]
      rw [dif_pos c5]
      try simp only [Prog.bind_lift, Prog.bind_op, Prog.bind_ret, pure_bind]
      iintro ⟨HI, HO, ⟨%W, HW⟩, Hs, Hrest⟩
      iapply (wp_await c w 𝒱 none 0 (j0 g) (off4_eq g) (off5_eq g)) $$ [Hs HW]
      · isplitl [Hs]; · iexact Hs
        iexact HW
      iintro ⟨Hs, ⟨%W', HW⟩⟩
      iapply (wp_tile c w arg1 arg2 arg3 arg4 arg6 f1 f2 f3 f4 𝒱 none 0 (j0 g) (off7_eq0 g) (off8_eq0 g) (off9_eq0 g)) $$ [HI HO Hs]
      · isplitl [HI]; · iexact HI
        isplitl [HO]; · iexact HO
        iexact Hs
      iintro ⟨HI, HO, Hs⟩
      ihave Hs := (ld_free c w _ _) $$ Hs
      iapply (wp_start c w 𝒱 none 1 (j0 g) (off10_eq g) (off11_eq g) (off12_eq g)) $$ Hs
      iintro Hs
      ihave Hrest := (Ring.AtW_update (slotSt c w) (stG (i 0).val g.val) (j0 g) (.fl 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.fl 1)) (j1 g))) $$ Hrest
      ihave Hs := (BIBase.Entails.of_eq (congrArg (slotSt c w (j1 g)) ((stG_j1 (i 0).val g (.fl 1)).trans (show stA (i 0).val = .fl 0 from by rw [h0]; rfl)))) $$ Hs
      iapply (wp_await c w 𝒱 none 0 (j1 g) (off13_eq g) (off14_eq g)) $$ [Hs HW]
      · isplitl [Hs]; · iexact Hs
        iexact HW
      iintro ⟨Hs, ⟨%W', HW⟩⟩
      iapply (wp_tile c w arg1 arg2 arg3 arg4 arg6 f1 f2 f3 f4 𝒱 none 0 (j1 g) (off7_eq1 g) (off8_eq1 g) (off9_eq1 g)) $$ [HI HO Hs]
      · isplitl [HI]; · iexact HI
        isplitl [HO]; · iexact HO
        iexact Hs
      iintro ⟨HI, HO, Hs⟩
      ihave Hs := (ld_free c w _ _) $$ Hs
      iapply (wp_start c w 𝒱 none 1 (j1 g) (off16_eq g) (off17_eq g) (off18_eq g)) $$ Hs
      iintro Hs
      ihave Hrest := (Ring.AtW_update (slotSt c w) (Function.update (stG (i 0).val g.val) (j0 g) (.fl 1)) (j1 g) (.fl 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
    have c3 : ¬ k0_cond3 i = 1#1 := fun e => h0 ((cond3_iff i).1 e)
    have c5 : ¬ k0_cond5 i = 1#1 := fun e => h0 ((cond5_iff i).1 e)
    by_cases h1 : (i 0).val = 1
    · have c2 : k0_cond2 i = 1#1 := (cond2_iff i).2 (by omega)
      have c4 : k0_cond4 i = 1#1 := (cond4_iff i).2 (by omega)
      rw [show stA (i 0).val = .fl 1 from by rw [h1]; rfl, show stB (i 0).val = .ld 1 from by rw [h1]; rfl, show wk (i 0).val = 1 from by unfold wk; rw [if_neg h0]]
      rw [dif_pos c2]
      simp only [Prog.bind_lift, Prog.bind_op, Prog.bind_ret, pure_bind]
      rw [dif_neg c3]
      simp only [Prog.bind_lift, Prog.bind_op, Prog.bind_ret, pure_bind]
      rw [dif_pos c4]
      rw [dif_neg c5]
      try simp only [Prog.bind_lift, Prog.bind_op, Prog.bind_ret, pure_bind]
      iintro ⟨HI, HO, ⟨%W, HW⟩, Hs, Hrest⟩
      iapply (wp_await c w 𝒱 none 1 (j0 g) (off4_eq g) (off5_eq g)) $$ [Hs HW]
      · isplitl [Hs]; · iexact Hs
        iexact HW
      iintro ⟨Hs, ⟨%W', HW⟩⟩
      iapply (wp_tile c w arg1 arg2 arg3 arg4 arg6 f1 f2 f3 f4 𝒱 none 1 (j0 g) (off7_eq0 g) (off8_eq0 g) (off9_eq0 g)) $$ [HI HO Hs]
      · isplitl [HI]; · iexact HI
        isplitl [HO]; · iexact HO
        iexact Hs
      iintro ⟨HI, HO, Hs⟩
      ihave Hrest := (Ring.AtW_update (slotSt c w) (stG (i 0).val g.val) (j0 g) (.ld 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.ld 1)) (j1 g))) $$ Hrest
      ihave Hs := (BIBase.Entails.of_eq (congrArg (slotSt c w (j1 g)) ((stG_j1 (i 0).val g (.ld 1)).trans (show stA (i 0).val = .fl 1 from by rw [h1]; rfl)))) $$ Hs
      iapply (wp_await c w 𝒱 none 1 (j1 g) (off13_eq g) (off14_eq g)) $$ [Hs HW]
      · isplitl [Hs]; · iexact Hs
        iexact HW
      iintro ⟨Hs, ⟨%W', HW⟩⟩
      iapply (wp_tile c w arg1 arg2 arg3 arg4 arg6 f1 f2 f3 f4 𝒱 none 1 (j1 g) (off7_eq1 g) (off8_eq1 g) (off9_eq1 g)) $$ [HI HO Hs]
      · isplitl [HI]; · iexact HI
        isplitl [HO]; · iexact HO
        iexact Hs
      iintro ⟨HI, HO, Hs⟩
      ihave Hrest := (Ring.AtW_update (slotSt c w) (Function.update (stG (i 0).val g.val) (j0 g) (.ld 1)) (j1 g) (.ld 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
    · have c2 : ¬ k0_cond2 i = 1#1 := fun e => by have := (cond2_iff i).1 e; omega
      have c4 : ¬ k0_cond4 i = 1#1 := fun e => by have := (cond4_iff i).1 e; omega
      rw [show stA (i 0).val = .ld 1 from by exact stA_ge h0 h1, show stB (i 0).val = .ld 1 from by exact stA_ge (by omega) (by omega), show wk (i 0).val = 1 from by unfold wk; rw [if_neg h0]]
      rw [dif_neg c2]
      simp only [Prog.bind_lift, Prog.bind_op, Prog.bind_ret, pure_bind]
      rw [dif_neg c3]
      simp only [Prog.bind_lift, Prog.bind_op, Prog.bind_ret, pure_bind]
      rw [dif_neg c4]
      rw [dif_neg c5]
      try simp only [Prog.bind_lift, Prog.bind_op, Prog.bind_ret, pure_bind]
      iintro ⟨HI, HO, ⟨%W, HW⟩, Hs, Hrest⟩
      iapply (wp_tile c w arg1 arg2 arg3 arg4 arg6 f1 f2 f3 f4 𝒱 none 1 (j0 g) (off7_eq0 g) (off8_eq0 g) (off9_eq0 g)) $$ [HI HO Hs]
      · isplitl [HI]; · iexact HI
        isplitl [HO]; · iexact HO
        iexact Hs
      iintro ⟨HI, HO, Hs⟩
      ihave Hrest := (Ring.AtW_update (slotSt c w) (stG (i 0).val g.val) (j0 g) (.ld 1)) $$ [Hs Hrest]
      · isplitl [Hs]; · iexact Hs
        iexact Hrest
      ihave ⟨Hs, Hrest⟩ := (BIBase.Entails.of_eq (Ring.AtW_focus (slotSt c w) (Function.update (stG (i 0).val g.val) (j0 g) (.ld 1)) (j1 g))) $$ Hrest
      ihave Hs := (BIBase.Entails.of_eq (congrArg (slotSt c w (j1 g)) ((stG_j1 (i 0).val g (.ld 1)).trans (show stA (i 0).val = .ld 1 from by exact stA_ge h0 h1)))) $$ Hs
      iapply (wp_tile c w arg1 arg2 arg3 arg4 arg6 f1 f2 f3 f4 𝒱 none 1 (j1 g) (off7_eq1 g) (off8_eq1 g) (off9_eq1 g)) $$ [HI HO Hs]
      · isplitl [HI]; · iexact HI
        isplitl [HO]; · iexact HO
        iexact Hs
      iintro ⟨HI, HO, Hs⟩
      ihave Hrest := (Ring.AtW_update (slotSt c w) (Function.update (stG (i 0).val g.val) (j0 g) (.ld 1)) (j1 g) (.ld 1)) $$ [Hs Hrest]
      · isplitl [Hs]; · iexact Hs
        iexact Hrest
      rw [wp_pure]
      imodintro
      isplitl [HI]; · iexact HI
      isplitl [HO]; · iexact HO
      isplitl [HW]; · iexists _; iexact HW
      iexact Hrest
end Loops

end Cert.DownIdeal.Hand
-- ==== Proof.DownIdealBody.lean ====
/-
  One grid point of the down projection, for the program `DownIdeal`: the body run on its windows, its slots moved from their states
  before the point to those after it; and the slots at rest against the buffers the launch hands over.
-/
module

public import proofs.«01_k».proof.Proof.DownIdealLoop

@[expose] public section

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A slot between grid points, before point `n`. -/
def stF (n : ℕ) : Fin 14 → St := fun _ => if n = 0 then .free else stA n

section Run
variable (c : Dev nD) (w : Buf (Elt F) (wM.view.loc (c : Thread nD τ)))
variable (i : grid0.Coords) (arg1 : Memref sig .tc .vmem S576x4736 .fp8e4m3) (harg1 : arg1.IsWhole) (arg2 : Memref sig .tc .vmem S576x1 .f32) (harg2 : arg2.IsWhole)
variable (arg3 : Memref sig .tc .vmem S1x1x3584 .f32) (harg3 : arg3.IsWhole) (arg4 : Memref sig .tc .vmem S576x3584 .f32) (harg4 : arg4.IsWhole)
variable (harg5 : wM.IsWhole) (arg6 : Memref sig .tc .vmem S576x3584 .bf16) (harg6 : arg6.IsWhole) (harg7 : bufM.IsWhole)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))
variable (𝒱 : Variants)

theorem loop1_inv (c1 : k0_cond1 i = 1#1) (n : ℕ) (a : Unit) :
    (loop1 c w i arg1 harg1 arg2 harg2 arg3 harg3 arg4 harg4 harg5 arg6 harg6 harg7 𝒱 c1).inv n a = slots c w (stP n) := rfl
theorem loop2_inv (arg0 : BitVec 32) (n : ℕ) (a : Unit) :
    (loop2 c w i arg1 harg1 arg2 harg2 arg3 harg3 arg4 harg4 harg5 arg6 harg6 harg7 f1 f2 f3 f4 𝒱 arg0).inv n a
      = iprop(insP c arg1 arg2 arg3 arg4 f1 f2 f3 f4 ∗ outP c w arg1 arg2 arg3 arg4 arg6 f1 f2 f3 f4 (wk (i 0).val) (2 * n)
        ∗ (∃ W, owes (c : Thread nD τ) 0 W) ∗ slots c w (stG (i 0).val n)) := rfl

theorem loop1_end (c1 : k0_cond1 i = 1#1) (a : Unit) (h : stA (i 0).val = St.fl 0) :
    (loop1 c w i arg1 harg1 arg2 harg2 arg3 harg3 arg4 harg4 harg5 arg6 harg6 harg7 𝒱 c1).inv (Scf.trips k0_t1_loop.lb k0_t1_loop.ub k0_t1_loop.st) a
      ⊢ slots c w (fun _ => stA (i 0).val) := by
  rw [show Scf.trips k0_t1_loop.lb k0_t1_loop.ub k0_t1_loop.st = 14 from trips1, loop1_inv, stP_end, h]
theorem loop2_end (arg0 : BitVec 32) (a : Unit) :
    (loop2 c w i arg1 harg1 arg2 harg2 arg3 harg3 arg4 harg4 harg5 arg6 harg6 harg7 f1 f2 f3 f4 𝒱 arg0).inv (Scf.trips k0_t2_loop.lb k0_t2_loop.ub k0_t2_loop.st) a
      ⊢ iprop(insP c arg1 arg2 arg3 arg4 f1 f2 f3 f4 ∗ outP c w arg1 arg2 arg3 arg4 arg6 f1 f2 f3 f4 (wk (i 0).val) 14
        ∗ (∃ W, owes (c : Thread nD τ) 0 W) ∗ slots c w (fun _ => stA ((i 0).val + 1))) := by
  rw [show Scf.trips k0_t2_loop.lb k0_t2_loop.ub k0_t2_loop.st = 7 from trips2, loop2_inv, stG_end]

/-- What the main loop is entered with, and what it is left with. -/
theorem main_loop (Q : PUnit → sProp 𝕄) (arg0 : BitVec 32) :
    iprop((insP c arg1 arg2 arg3 arg4 f1 f2 f3 f4 ∗ (∃ f, arg6.view.loc (c : Thread nD τ) ↦[arg6.view.set]{fullShare} f) ∗ (∃ W, owes (c : Thread nD τ) 0 W)
        ∗ slots c w (fun _ => stA (i 0).val))
      ∗ (iprop(insP c arg1 arg2 arg3 arg4 f1 f2 f3 f4 ∗ outP c w arg1 arg2 arg3 arg4 arg6 f1 f2 f3 f4 (wk (i 0).val) 14 ∗ (∃ W, owes (c : Thread nD τ) 0 W)
        ∗ slots c w (fun _ => stA ((i 0).val + 1))) -∗ Q ⟨⟩))
    ⊢ wp frame (wpE defs₀ 𝒱 (c : Thread nD τ) none) Set.univ
        (Scf.Loop.for k0_t2_loop k0_t2_ok ⟨⟩ (k0_t2_body (F := F) i arg1 harg1 arg2 harg2 arg3 harg3 arg4 harg4 wM harg5 arg6 harg6 bufM harg7 sems arg0) >>= fun _ => pure ⟨⟩) Q := by
  iintro ⟨⟨HI, ⟨%f, H6⟩, HW, Hs⟩, HK⟩
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 arg4 harg4 wM harg5 arg6 harg6 bufM harg7 sems arg0)
    (loop2 c w i arg1 harg1 arg2 harg2 arg3 harg3 arg4 harg4 harg5 arg6 harg6 harg7 f1 f2 f3 f4 𝒱 arg0)) $$ [HI H6 HW Hs]
  · rw [loop2_inv]
    isplitl [HI]; · iexact HI
    isplitl [H6]
    · unfold outP
      iexists f
      isplitl [H6]; · iexact H6
      ipureintro; intro j hj; omega
    isplitl [HW]; · iexact HW
    rw [stG_zero]
    iexact Hs
  iintro %acc HL
  rw [wp_pure]
  imodintro
  iapply HK
  iapply (loop2_end c w i arg1 harg1 arg2 harg2 arg3 harg3 arg4 harg4 harg5 arg6 harg6 harg7 f1 f2 f3 f4 𝒱 arg0 acc) $$ HL

/-- THE BODY at one grid point. -/
theorem body_run (Q : PUnit → sProp 𝕄) :
    iprop((insP c arg1 arg2 arg3 arg4 f1 f2 f3 f4 ∗ (∃ f, arg6.view.loc (c : Thread nD τ) ↦[arg6.view.set]{fullShare} f) ∗ (∃ W, owes (c : Thread nD τ) 0 W)
        ∗ slots c w (stF (i 0).val))
      ∗ (iprop(insP c arg1 arg2 arg3 arg4 f1 f2 f3 f4 ∗ outP c w arg1 arg2 arg3 arg4 arg6 f1 f2 f3 f4 (wk (i 0).val) 14 ∗ (∃ W, owes (c : Thread nD τ) 0 W)
        ∗ slots c w (stF ((i 0).val + 1))) -∗ Q ⟨⟩))
    ⊢ wp frame (wpE defs₀ 𝒱 (c : Thread nD τ) none) Set.univ
        (cc0_down (F := F) i arg1 harg1 arg2 harg2 arg3 harg3 arg4 harg4 wM harg5 arg6 harg6 bufM harg7 sems) Q := by
  rw [cc0_down_eq_skeleton]
  unfold cc0_down_skel
  rw [show stF ((i 0).val + 1) = fun _ => stA ((i 0).val + 1) from by funext j; unfold stF; rw [if_neg (by omega)]]
  by_cases h0 : (i 0).val = 0
  · have c1 : k0_cond1 i = 1#1 := (cond1_iff i).2 h0
    rw [dif_pos c1]
    iintro ⟨⟨HI, H6, HW, Hs⟩, HK⟩
    iapply (exec_loop frame (wpE defs₀ 𝒱 (c : Thread nD τ) none) Set.univ k0_t1_loop.lb k0_t1_loop.ub k0_t1_loop.st (k0_t1_ok i c1) ()
      (k0_t1_body (F := F) i arg1 harg1 arg2 harg2 arg3 harg3 arg4 harg4 wM harg5 arg6 harg6 bufM harg7 sems c1)
      (loop1 c w i arg1 harg1 arg2 harg2 arg3 harg3 arg4 harg4 harg5 arg6 harg6 harg7 𝒱 c1)) $$ [Hs]
    · rw [loop1_inv, stP_zero, show stF (i 0).val = fun _ => St.free from by funext j; unfold stF; rw [if_pos h0]]
      iexact Hs
    iintro %acc HL
    iapply (main_loop c w i arg1 harg1 arg2 harg2 arg3 harg3 arg4 harg4 harg5 arg6 harg6 harg7 f1 f2 f3 f4 𝒱 Q (BitVec.ofNat 32 (i 0).val))
    isplitr [HK]
    · isplitl [HI]; · iexact HI
      isplitl [H6]; · iexact H6
      isplitl [HW]; · iexact HW
      iapply (loop1_end c w i arg1 harg1 arg2 harg2 arg3 harg3 arg4 harg4 harg5 arg6 harg6 harg7 𝒱 c1 acc (by rw [h0]; rfl)) $$ HL
    · iexact HK
  · have c1 : ¬ k0_cond1 i = 1#1 := fun e => h0 ((cond1_iff i).1 e)
    rw [dif_neg c1, show stF (i 0).val = fun _ => stA (i 0).val from by funext j; unfold stF; rw [if_neg h0]]
    exact main_loop c w i arg1 harg1 arg2 harg2 arg3 harg3 arg4 harg4 harg5 arg6 harg6 harg7 f1 f2 f3 f4 𝒱 Q (BitVec.ofNat 32 (i 0).val)
end Run

/-! ## The slots at rest -/

/-- Slot `j`'s elements of the scratch. -/
def SJ (j : Fin 14) : Finset S14x4736x256.Idx := (Rect.unit (s := S14x4736x256) (slotOff j) S1x4736x256.size (slotOff_inb j)).set
theorem slot_set (j : Fin 14) : (slotM j).view.set = SJ j := (View.set_reshape _ _).trans (View.set_slice_whole _ _)
theorem mem_SJ (j : Fin 14) (y : S14x4736x256.Idx) : y ∈ SJ j ↔ (y 0).val = j.val := by
  unfold SJ
  rw [Rect.mem_set_unit]
  have h1 : (y 1).val < 4736 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 4736; omega
    · show 0 ≤ (y 2).val ∧ (y 2).val < 0 + 256; omega
theorem SJ_disjoint : ∀ j j' : Fin 14, j ≠ j' → Disjoint (SJ j) (SJ j') := by
  intro j j' hne; rw [Finset.disjoint_left]; intro y hy hy'; rw [mem_SJ] at hy hy'; exact hne (Fin.ext (hy.symm.trans hy'))
theorem SJ_cover : (Finset.univ : Finset (Fin 14)).biUnion SJ = Finset.univ := by
  ext y; simp only [Finset.mem_biUnion, Finset.mem_univ, true_and, iff_true]; exact ⟨(y 0).cast (by decide), by rw [mem_SJ]; rfl⟩

theorem slotP_eq (c : Dev nD) (j : Fin 14) (f : Buf (Elt F) (bufM.view.loc (c : Thread nD τ))) :
    (slotP c j f : sProp 𝕄) = ((c : Thread nD τ).loc cc0_scratch0 ↦[SJ j]{fullShare} f : sProp 𝕄) :=
  congrArg (fun S => (_ ↦[S]{fullShare} f : sProp 𝕄)) (slot_set j)

/-- The scratch whole is its slots; -/
theorem scratch_split (c : Dev nD) :
    iprop(∃ f : Buf (Elt F) ((c : Thread nD τ).loc cc0_scratch0), ((c : Thread nD τ).loc cc0_scratch0) ↦{fullShare} f)
      ⊢ (bigSep Finset.univ (fun j : Fin 14 => iprop(∃ f, slotP c j f)) : sProp 𝕄) := by
  refine exists_elim fun f => ?_
  rw [Ring.pointsTo_blocks (ℓ := (c : Thread nD τ).loc cc0_scratch0) SJ SJ_disjoint SJ_cover]
  refine bigSep_mono fun j _ => ?_
  rw [← slotP_eq]
  exact exists_intro (Φ := fun f => (slotP c j f : sProp 𝕄)) f
/-- and its slots are it whole. -/
theorem scratch_join (c : Dev nD) :
    (bigSep Finset.univ (fun j : Fin 14 => iprop(∃ f, slotP c j f)) : sProp 𝕄)
      ⊢ iprop(∃ f : Buf (Elt F) ((c : Thread nD τ).loc cc0_scratch0), ((c : Thread nD τ).loc cc0_scratch0) ↦{fullShare} f) := by
  have e : (fun j : Fin 14 => (iprop(∃ f, slotP c j f) : sProp 𝕄)) = fun j => iprop(∃ f, (c : Thread nD τ).loc cc0_scratch0 ↦[SJ j]{fullShare} f) := by
    funext j; exact congrArg (fun P : Buf (Elt F) (bufM.view.loc (c : Thread nD τ)) → sProp 𝕄 => iprop(∃ f, P f)) (funext fun f => slotP_eq c j f)
  rw [e]
  exact Ring.pointsTo_blocks_join_exists (ℓ := (c : Thread nD τ).loc cc0_scratch0) SJ SJ_disjoint SJ_cover (fun _ => default)

/-- The slots at rest, one kind of resource at a time. -/
theorem slots_free (c : Dev nD) (w : Buf (Elt F) (wM.view.loc (c : Thread nD τ))) :
    (slots c w (fun _ => St.free) : sProp 𝕄) = iprop(bigSep Finset.univ (fun j : Fin 14 => (cellP c j : sProp 𝕄))
      ∗ bigSep Finset.univ (fun j : Fin 14 => (iprop(∃ f, slotP c j f) : sProp 𝕄)) ∗ bigSep Finset.univ (fun j : Fin 14 => (tokP c w j : sProp 𝕄))) := by
  unfold slots Ring.AtW
  exact (bigSep_sep ..).trans (congrArg (fun P => iprop(_ ∗ P)) (bigSep_sep ..))

/-- Filled slots are slots at rest. -/
theorem slots_ld (c : Dev nD) (w : Buf (Elt F) (wM.view.loc (c : Thread nD τ))) (k : Fin 2) :
    (slots c w (fun _ => St.ld k) : sProp 𝕄) ⊢ slots c w (fun _ => St.free) :=
  bigSep_mono fun j _ => ld_free c w k j

end Cert.DownIdeal.Hand
-- ==== Proof.DownIdealFrame.lean ====
/-
  The launch of the program `DownIdeal`: what each window holds after the body at each grid point, the invariant between points,
  the body obligation, the run of @main and the frame. At any float interpretation.
-/
module

public import proofs.«01_k».proof.Proof.DownIdealBody

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The column block of an element of the output window, and its place inside that block. -/
def colj (y : S576x3584.Idx) : Fin 14 := ⟨(y 1).val / 256, by have h : (y 1).val < 3584 := (y 1).isLt; omega⟩
def inCol (y : S576x3584.Idx) : S576x256.Idx := fun a => match a with
  | ⟨0, _⟩ => ⟨(y 0).val, (y 0).isLt⟩
  | ⟨1, _⟩ => ⟨(y 1).val % 256, Nat.mod_lt _ (by decide)⟩
theorem emb_inCol (y : S576x3584.Idx) : (colR (colj y)).emb (inCol y) = y := by
  funext a
  apply Fin.ext
  rw [Rect.emb_apply]
  fin_cases a
  · show 0 + 1 * (y 0).val = (y 0).val; omega
  · show 256 * ((y 1).val / 256) + 1 * ((y 1).val % 256) = (y 1).val; omega

/-- What the body leaves in the output window at point `t`: its column blocks side by side. -/
def outW (c : Dev nD) (t : Fin cfg0.N) : Vec F S576x3584 .bf16 := fun y =>
  outBlk (iblk m c 0 t) (iblk m c 1 t) (iblk m c 2 t) (iblk m c 3 t) (wblk c (V m c main_arg2) (wk t.val) (colj y)) (colj y) (inCol y)

/-- What is left of the weight array beside the tokens of the slots. -/
abbrev wRest (c : Dev nD) : sProp 𝕄 := wM.view.loc (c : Thread nD τ) ↦[Finset.univ]{Transfers.shareDrop fullShare 14} (V m c main_arg2)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outW m c t
  Φ t := iprop((∃ r, prngReg c r) ∗ slots c (V m c main_arg2) (stF t.val) ∗ wRest m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outW m c t := by dsimp only [dats]

theorem coord_t (t : Fin cfg0.N) : ((grid0.coords t) 0).val = t.val := by
  rcases fin_N0 t with h | h | h | h | h | h | h | h <;> rw [h] <;> decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ r, prngReg c r) ∗ slots c (V m c main_arg2) (stF (t.val + 1)) ∗ wRest m c) from rfl,
    show (dats m 0 c).Φ t.castSucc = iprop((∃ r, prngReg c r) ∗ slots c (V m c main_arg2) (stF t.val) ∗ wRest m c) from rfl,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  unfold Dat.owesAt Pipeline.owesWithin
  rw [show (dats m 0 c).owed t.castSucc = 0 from rfl, show (dats m 0 c).owed t.succ = 0 from rfl]
  unfold owns
  iintro ⟨⟨Hg, Hs, Hw⟩, ⟨%W, -, HW⟩, ⟨%d0, %f1, %e1, H1⟩, ⟨%d1, %f2, %e2, H2⟩, ⟨%d2, %f3, %e3, H3⟩, ⟨%d3, %f4, %e4, H4⟩, ⟨%d4, %f6, %e6, H6⟩⟩
  iapply (body_run c (V m c main_arg2) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (Memref.isWhole_whole _) (st0_4 t)
    (hstage0_4 ((cfg0.slots t 4).cast nbuf0_4)) (Memref.isWhole_whole _) f1 f2 f3 f4 Variants.none _)
  rw [coord_t t]
  isplitr [Hg Hw]
  · isplitl [H1 H2 H3 H4]
    · unfold insP
      isplitl [H1]; · iexact H1
      isplitl [H2]; · iexact H2
      isplitl [H3]; · iexact H3
      iexact H4
    isplitl [H6]; · iexists f6; iexact H6
    isplitl [HW]; · iexists W; iexact HW
    iexact Hs
  · unfold insP outP
    iintro ⟨⟨H1, H2, H3, H4⟩, ⟨%f, H6, %hf⟩, ⟨%W', HW'⟩, Hs⟩
    isplitl [Hg Hs Hw]
    · isplitl [Hg]; · iexact Hg
      isplitl [Hs]; · iexact Hs
      iexact Hw
    isplitl [HW']
    · iexists W'; isplitr; · ipureintro; exact fun _ _ => Or.inl trivial
      iexact HW'
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    iexists f; isplitr
    · ipureintro
      funext y
      have hy := congrFun (hf (colj y) (colj y).isLt) (inCol y)
      unfold outW
      rw [← e1, ← e2, ← e3, ← e4]
      refine Eq.trans ?_ hy
      show _ = (st0_4 t).view.read (Elt F) f ((colR (colj y)).emb (inCol y))
      rw [emb_inCol]
    · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 14 → SemLoc sig := fun j => SemLoc.dma (cellM j)
theorem ownSemFacts0 : Pipeline.OwnSemFacts spec0 osem0 := by decide
/-- The one array in HBM the body's transfers read. -/
def H0 : Finset (Ref sig .tc) := {main_arg2}
theorem H0_sub : H0 ⊆ Pipeline.restRefs sig spec0 := by decide

theorem PhiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f) ∗ (∃ r, prngReg c r)
          ∗ bigSep Finset.univ (fun j : Fin 14 => (cellP c j : sProp 𝕄)) ∗ wM.view.loc (c : Thread nD τ) ↦{fullShare} V m c main_arg2) := by
  rw [Pipeline.ΦD_eq, scopedRest0_eq, show H0 = {main_arg2} from rfl, bigSep_singleton]
  rfl

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ slots c (V m c main_arg2) (fun _ => St.free) ∗ wRest m c) from rfl, slots_free]
  iintro ⟨Hs, Hg, Hc, Hw⟩
  isplitl [Hg]; · iexact Hg
  ihave ⟨Hd, Ht⟩ := (Transfers.pointsTo_toks_split fullShare 14) $$ Hw
  isplitr [Hd]
  · isplitl [Hc]; · iexact Hc
    isplitl [Hs]
    · iapply (scratch_split c) $$ Hs
    · iexact Ht
  · iexact Hd

theorem hout (c : Dev nD) : (dats m 0 c).Φ (Fin.last _) ⊢ (Pipeline.ΦD osem0 spec0 H0 (V m) c : sProp 𝕄) := by
  rw [PhiD_eq, show (dats m 0 c).Φ (Fin.last _) = iprop((∃ r, prngReg c r) ∗ slots c (V m c main_arg2) (fun _ => St.ld 1) ∗ wRest m c) from rfl]
  iintro ⟨Hg, Hs, Hd⟩
  ihave Hs' := ((slots_ld c (V m c main_arg2) 1).trans (BIBase.Entails.of_eq (slots_free c (V m c main_arg2)))) $$ Hs
  icases Hs' with ⟨Hc, Hs, Ht⟩
  isplitl [Hs]; · iapply (scratch_join c) $$ Hs
  isplitl [Hg]; · iexact Hg
  isplitl [Hc]; · iexact Hc
  iapply (Transfers.pointsTo_toks_join fullShare 14)
  isplitl [Hd]; · iexact Hd
  iexact Ht

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => hin m c) (hout := fun c => hout m c)

/-- What the launch of the pipeline leaves, as the claims read it: the arguments as they were, the result assembled from
    the output window point by point, every semaphore at rest. -/
theorem run_post : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc (Pipeline.arrRef spec0 4)) = (dats m 0 c).arrAt 4 cfg0.N) :=
  (θ_run defs _ _).mono (fun _ h => ⟨⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩, fun c => (h.1 c).1 4⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.1) (run_post m ρ)

end Cert.DownIdeal.Hand
-- ==== Proof.DownIdealValue.lean ====
/-
  What the program `DownIdeal` leaves in its result, at the exact instance: the residual plus the scaled product, element by element.
-/
module

public import proofs.«01_k».proof.Proof.DownIdealFrame
public import Idealize.ShloMosaic.Lib.Pointwise
public import Idealize.ShloMosaic.Lib.Pipeline.ValueKit
public import Idealize.ShloMosaic.Lib.VecWindow
public import Idealize.ShloMosaic.Lib.StableHlo.ReadAt
public import Idealize.ShloMosaic.Lib.ValueLayout

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.ShloMosaic.Pointwise
open Idealize.ShloMosaic.Pipeline (Dat Cfg Window BodyObligation cellOf)

/-- The weight a row of the output takes: the first for rows below 576, the second after. -/
def kof (r : Fin 4608) : Fin 2 := if r.val < 576 then 0 else 1

/-- One element of the down projection. -/
def downAt (a0 : Vec Ideal S4608x4736 .fp8e4m3) (a1 : Vec Ideal S4608x1 .f32) (a2 : Vec Ideal S2x4736x3584 .fp8e4m3) (a3 : Vec Ideal S2x3584 .f32)
    (a4 : Vec Ideal S4608x3584 .f32) (r : Fin 4608) (x : Fin 3584) : EReal :=
  a4 (ix2 r x) + (∑ k : Fin 4736, a0 (ix2 r k) * a2 (ix3 (kof r) k x)) * a1 (ix2 r 0) * a3 (ix2 (kof r) x)

theorem outBlk_apply (x1 : Vec Ideal S576x4736 .fp8e4m3) (x2 : Vec Ideal S576x1 .f32) (x3 : Vec Ideal S1x1x3584 .f32) (x4 : Vec Ideal S576x3584 .f32)
    (wb : Vec Ideal S4736x256 .fp8e4m3) (j : Fin 14) (p : Fin 576) (q : Fin 256) :
    outBlk x1 x2 x3 x4 wb j (ix2 p q)
      = x4 ((colR j).emb (ix2 p q)) + (∑ k : Fin 4736, x1 (ix2 p k) * wb (ix2 k q)) * x2 (ix2 p 0) * x3 ((scR j).emb (ix3 0 0 q)) := by
  unfold outBlk payT
  have e1 : ∀ k, (Rect.unit (s := S576x4736) ![0, 0] S576x4736.size inb_S576x4736_S576x4736_0_0).emb (ix2 p k) = ix2 p k := fun k => Rect.emb_unit_full _ _
  have e2 : (Rect.unit (s := S576x1) ![0, 0] S576x1.size inb_S576x1_S576x1_0_0).emb (ix2 p 0) = ix2 p 0 := Rect.emb_unit_full _ _
  pointwise
  refine congrArg₂ (· + ·) rfl (congrArg₂ (· * ·) (congrArg₂ (· * ·) (Finset.sum_congr rfl fun k _ => ?_) (congrArg x2 e2)) rfl)
  exact congrArg₂ (· * ·) (congrArg x1 (e1 k)) rfl

section Index
theorem idx0 (t : Fin cfg0.N) : win0_0.index t = ![t.val, 0] := by rcases fin_N0 t with h | h | h | h | h | h | h | h <;> rw [h] <;> decide
theorem idx1 (t : Fin cfg0.N) : win0_1.index t = ![t.val, 0] := by rcases fin_N0 t with h | h | h | h | h | h | h | h <;> rw [h] <;> decide
theorem idx2 (t : Fin cfg0.N) : win0_2.index t = ![(wk t.val).val, 0, 0] := by rcases fin_N0 t with h | h | h | h | h | h | h | h <;> rw [h] <;> decide
theorem idx3 (t : Fin cfg0.N) : win0_3.index t = ![t.val, 0] := by rcases fin_N0 t with h | h | h | h | h | h | h | h <;> rw [h] <;> decide
theorem idx4 (t : Fin cfg0.N) : win0_4.index t = ![t.val, 0] := by rcases fin_N0 t with h | h | h | h | h | h | h | h <;> rw [h] <;> decide
end Index

/-- Row `p` of row block `t`. -/
def rowOf (t : Fin cfg0.N) (p : Fin 576) : Fin 4608 := ⟨576 * t.val + p.val, by have := t.isLt; have h : cfg0.N = 8 := N_0; omega⟩
/-- Column `q` of column block `j`. -/
def colOf (j : Fin 14) (q : Fin 256) : Fin 3584 := ⟨256 * j.val + q.val, by omega⟩
theorem kof_rowOf (t : Fin cfg0.N) (p : Fin 576) : kof (rowOf t p) = wk t.val := by
  unfold kof rowOf
  rcases fin_N0 t with h | h | h | h | h | h | h | h <;> rw [h] <;> clear h <;> revert p <;> decide

theorem colR_emb (j : Fin 14) (p : Fin 576) (q : Fin 256) : (colR j).emb (ix2 p q) = ix2 p (colOf j q) := by
  funext a; apply Fin.ext; rw [Rect.emb_apply]; fin_cases a
  · show 0 + 1 * p.val = p.val; omega
  · show 256 * j.val + 1 * q.val = 256 * j.val + q.val; omega
theorem scR_emb (j : Fin 14) (q : Fin 256) : (scR j).emb (ix3 0 0 q) = ix3 0 0 (colOf j q) := by
  funext a; apply Fin.ext; rw [Rect.emb_apply]; fin_cases a
  · rfl
  · rfl
  · show 256 * j.val + 1 * q.val = 256 * j.val + q.val; omega

variable (m : (ℓ : Loc nD τ sig) → Buf (Elt Ideal) ℓ)

theorem iblk0_apply (c : Dev nD) (t : Fin cfg0.N) (p : Fin 576) (q : Fin 4736) : iblk m c 0 t (ix2 p q) = m (c.tc.loc main_arg0) (ix2 (rowOf t p) q) := by
  unfold iblk
  blk_simp
  refine (congrFun (V_main_arg0 m c) _).trans (congrArg _ ?_)
  funext a; apply Fin.ext; fin_cases a <;> blk_simp [idx0] <;> try rfl
  · show t.val * 576 + p.val = 576 * t.val + p.val; omega
theorem iblk1_apply (c : Dev nD) (t : Fin cfg0.N) (p : Fin 576) : iblk m c 1 t (ix2 p 0) = m (c.tc.loc main_arg1) (ix2 (rowOf t p) 0) := by
  unfold iblk
  blk_simp
  refine (congrFun (V_main_arg1 m c) _).trans (congrArg _ ?_)
  funext a; apply Fin.ext; fin_cases a <;> blk_simp [idx1] <;> try rfl
  · show t.val * 576 + p.val = 576 * t.val + p.val; omega
theorem iblk3_apply (c : Dev nD) (t : Fin cfg0.N) (p : Fin 576) (q : Fin 3584) : iblk m c 3 t (ix2 p q) = m (c.tc.loc main_arg4) (ix2 (rowOf t p) q) := by
  unfold iblk
  blk_simp
  refine (congrFun (V_main_arg4 m c) _).trans (congrArg _ ?_)
  funext a; apply Fin.ext; fin_cases a <;> blk_simp [idx3] <;> try rfl
  · show t.val * 576 + p.val = 576 * t.val + p.val; omega
theorem V_v0 (c : Dev nD) (k : Fin 2) (q : Fin 3584) : V m c main_v0 (ix3 k 0 q) = m (c.tc.loc main_arg3) (ix2 k q) := by
  unfold V
  after_reads_at
theorem iblk2_apply (c : Dev nD) (t : Fin cfg0.N) (q : Fin 3584) : iblk m c 2 t (ix3 0 0 q) = m (c.tc.loc main_arg3) (ix2 (wk t.val) q) := by
  unfold iblk
  blk_simp
  refine Eq.trans (congrArg _ ?_) (V_v0 m c (wk t.val) q)
  funext a; apply Fin.ext; fin_cases a <;> blk_simp [idx2] <;> rfl
theorem wblk_apply (c : Dev nD) (w : Buf (Elt Ideal) (wM.view.loc (c.tc : Thread nD τ))) (k : Fin 2) (j : Fin 14) (kk : Fin 4736) (q : Fin 256) :
    wblk c w k j (ix2 kk q) = w (ix3 k kk (colOf j q)) := by
  unfold wblk blkM
  refine congrArg w ?_
  rw [View.emb_reshape]
  show (wM.view.slice (Rect.unit (s := S2x4736x3584) (blkOff k j) S1x4736x256.size (blkOff_inb k j))).emb (Shape.reshapeEquiv _ (ix2 kk q)) = _
  rw [show Shape.reshapeEquiv _ (ix2 kk q) = (ix3 (0 : Fin 1) kk q : S1x4736x256.Idx) from ValueIdx.reshapeEquiv_ix2_1ab _ kk q]
  funext a; apply Fin.ext; fin_cases a
  · show k.val + 1 * 0 = k.val; omega
  · show 0 + 1 * kk.val = kk.val; omega
  · show 256 * j.val + 1 * q.val = 256 * j.val + q.val; omega

/-- The result of the run, element by element. -/
theorem arrAt_eq (c : Dev nD) : (dats m 0 c).arrAt 4 cfg0.N = fun y => downAt (m (c.tc.loc main_arg0)) (m (c.tc.loc main_arg1)) (m (c.tc.loc main_arg2)) (m (c.tc.loc main_arg3)) (m (c.tc.loc main_arg4)) (y 0) (y 1) := by
  refine (dats m 0 c).arrAt_eq_of_covers 4 _ (by decide +kernel) fun t hf y => ?_
  blk_simp
  rw [after0_4]
  obtain ⟨p, q, rfl⟩ : ∃ (p : Fin 576) (q : Fin 3584), y = ix2 p q := ⟨y 0, y 1, by funext a; fin_cases a <;> rfl⟩
  have e0 : (win0_4.blk t).view.emb (ix2 p q) = ix2 (rowOf t p) q := by
    funext a; apply Fin.ext; fin_cases a <;> blk_simp [idx4] <;> try rfl
    · show t.val * 576 + p.val = 576 * t.val + p.val; omega
  rw [e0]
  have e1 : inCol (ix2 p q) = ix2 p ⟨q.val % 256, Nat.mod_lt _ (by decide)⟩ := by funext a; fin_cases a <;> rfl
  have e2 : colOf (colj (ix2 p q)) ⟨q.val % 256, Nat.mod_lt _ (by decide)⟩ = q := by
    apply Fin.ext; show 256 * (q.val / 256) + q.val % 256 = q.val; omega
  unfold outW
  rw [e1, outBlk_apply, colR_emb, scR_emb, e2, iblk1_apply, iblk2_apply, iblk3_apply]
  unfold downAt
  rw [show kof (ix2 (rowOf t p) q 0) = wk t.val from kof_rowOf t p]
  refine congrArg₂ (· + ·) rfl (congrArg₂ (· * ·) (congrArg₂ (· * ·) (Finset.sum_congr rfl fun k _ => ?_) rfl) rfl)
  rw [iblk0_apply, wblk_apply, e2]
  exact congrArg₂ (· * ·) rfl (congrFun (V_main_arg2 m c) _)

end Cert.DownIdeal.Hand
-- ==== Proof.DownRefIdealValue.lean ====
/-
  What the reference of the down projection leaves in its result, at the exact instance: the same expression, element by element.
-/
module

public import proofs.«01_k».proof.Proof.DownIdealValue
public import proofs.«01_k».proof.Proof.Gen.DownRefIdeal.Frame

@[expose] public section

set_option maxRecDepth 16384

noncomputable section

namespace Cert.DownRefIdeal.Hand

open Cert.DownRefIdeal Cert.DownRefIdeal.Gen
open Cert.DownIdeal.Hand (downAt kof)
open Idealize.ShloMosaic Idealize.ShloMosaic.TcCoe Idealize.ShloMosaic.Tactic
open Idealize.ShloMosaic.Pointwise
open Idealize.ShloMosaic.Pipeline (Dat Cfg Window BodyObligation cellOf)

/-- The reference's payload at an element. -/
theorem pay_apply (x0 : Vec Ideal S4608x4736 .fp8e4m3) (x1 : Vec Ideal S4608x1 .f32) (x2 : Vec Ideal S2x4736x3584 .fp8e4m3) (x3 : Vec Ideal S2x1x3584 .f32)
    (x4 : Vec Ideal S4608x3584 .f32) (r : Fin 4608) (x : Fin 3584) :
    k0_pay1 (View.ld x0 r0_0) (View.ld x1 r0_1) (View.ld x2 r0_2) (View.ld x3 r0_3) (View.ld x0 r0_4) (View.ld x1 r0_5) (View.ld x2 r0_6) (View.ld x3 r0_7) (View.ld x4 r0_8) (ix2 r x)
      = downAt x0 x1 x2 (fun y => x3 (ix3 (y 0) 0 (y 1))) x4 r x := by
  unfold k0_pay1 downAt kof
  by_cases h : r.val < 576
  · rw [if_pos h]
    pointwise
    rw [dif_pos h]
  · rw [if_neg h]
    have e : ∀ h', (⟨576 + (r.val - 576), h'⟩ : Fin 4608) = r := fun h' => Fin.ext (by show 576 + (r.val - 576) = r.val; omega)
    pointwise
    rw [dif_neg h]
    simp only [e]

variable (m : (ℓ : Loc nD τ sig) → Buf (Elt Ideal) ℓ)

theorem V_v0 (c : Dev nD) (k : Fin 2) (q : Fin 3584) : V m c main_v0 (ix3 k 0 q) = m (c.tc.loc main_arg3) (ix2 k q) := by
  unfold V
  after_reads_at

theorem point (t : Fin cfg0.N) : t = t0_0 := fin_N0 t
theorem idx0 (t : Fin cfg0.N) : win0_0.index t = ![0, 0] := by rw [point t]; decide
theorem idx1 (t : Fin cfg0.N) : win0_1.index t = ![0, 0] := by rw [point t]; decide
theorem idx2 (t : Fin cfg0.N) : win0_2.index t = ![0, 0, 0] := by rw [point t]; decide
theorem idx3 (t : Fin cfg0.N) : win0_3.index t = ![0, 0, 0] := by rw [point t]; decide
theorem idx4 (t : Fin cfg0.N) : win0_4.index t = ![0, 0] := by rw [point t]; decide
theorem idx5 (t : Fin cfg0.N) : win0_5.index t = ![0, 0] := by rw [point t]; decide
theorem iblk0_eq (c : Dev nD) (t : Fin cfg0.N) : iblk m c 0 t = m (c.tc.loc main_arg0) := by
  funext y; unfold iblk; blk_simp
  refine (congrFun (V_main_arg0 m c) _).trans (congrArg _ ?_)
  funext a; apply Fin.ext; fin_cases a <;> blk_simp [idx0] <;> simp
theorem iblk1_eq (c : Dev nD) (t : Fin cfg0.N) : iblk m c 1 t = m (c.tc.loc main_arg1) := by
  funext y; unfold iblk; blk_simp
  refine (congrFun (V_main_arg1 m c) _).trans (congrArg _ ?_)
  funext a; apply Fin.ext; fin_cases a <;> blk_simp [idx1] <;> simp
theorem iblk2_eq (c : Dev nD) (t : Fin cfg0.N) : iblk m c 2 t = m (c.tc.loc main_arg2) := by
  funext y; unfold iblk; blk_simp
  refine (congrFun (V_main_arg2 m c) _).trans (congrArg _ ?_)
  funext a; apply Fin.ext; fin_cases a <;> blk_simp [idx2] <;> simp
theorem iblk3_eq (c : Dev nD) (t : Fin cfg0.N) : iblk m c 3 t = V m c main_v0 := by
  funext y; unfold iblk; blk_simp
  refine congrArg _ ?_
  funext a; apply Fin.ext; fin_cases a <;> blk_simp [idx3] <;> simp
theorem iblk4_eq (c : Dev nD) (t : Fin cfg0.N) : iblk m c 4 t = m (c.tc.loc main_arg4) := by
  funext y; unfold iblk; blk_simp
  refine (congrFun (V_main_arg4 m c) _).trans (congrArg _ ?_)
  funext a; apply Fin.ext; fin_cases a <;> blk_simp [idx4] <;> simp

/-- The result of the run, element by element. -/
theorem arrAt_eq (c : Dev nD) : (dats m 0 c).arrAt 5 cfg0.N = fun y => downAt (m (c.tc.loc main_arg0)) (m (c.tc.loc main_arg1)) (m (c.tc.loc main_arg2)) (m (c.tc.loc main_arg3)) (m (c.tc.loc main_arg4)) (y 0) (y 1) := by
  refine (dats m 0 c).arrAt_eq_of_covers 5 _ (by decide +kernel) fun t hf y => ?_
  blk_simp
  rw [after0_5, iblk0_eq, iblk1_eq, iblk2_eq, iblk3_eq, iblk4_eq]
  obtain ⟨r, x, rfl⟩ : ∃ (r : Fin 4608) (x : Fin 3584), y = ix2 r x := ⟨y 0, y 1, by funext a; fin_cases a <;> rfl⟩
  have e0 : ((View.whole main_v1).slice (win0_5.rect t)).emb (ix2 r x) = ix2 r x := by
    funext a; apply Fin.ext; fin_cases a <;> blk_simp [idx5] <;> simp
  rw [e0]
  refine Eq.trans ?_ ((pay_apply (m (c.tc.loc main_arg0)) (m (c.tc.loc main_arg1)) (m (c.tc.loc main_arg2)) (V m c main_v0) (m (c.tc.loc main_arg4)) r x).trans ?_)
  · unfold out0_5
    exact congrFun (View.canon_unit_zero (by decide) _ _) _
  · refine congrArg (fun a3 => downAt _ _ _ a3 _ r x) ?_
    funext y
    refine (V_v0 m c (y 0) (y 1)).trans (congrArg _ ?_)
    funext a; fin_cases a <;> rfl

end Cert.DownRefIdeal.Hand
-- ==== Proof.GateUpSlots.lean ====
/-
  The weight ring of the gate and up projections, for the program `GateUp`: the thirty-seven weight slots of its scratch, each of two
  halves, the blocks of the weight array that the kernel's own copies bring into them, and the thirty-seven semaphores the copies
  are counted on, two copies to a semaphore. A slot is free, filled by two copies under way, or filled. Starting a slot's two copies
  and waiting for them are the two rules of this file.
-/
module

public import proofs.«01_k».proof.Proof.Gen.GateUp.Launch
public import proofs.«01_k».proof.Proof.Gen.GateUp.Skeleton
public import proofs.«01_k».proof.Proof.Gen.GateUp.Points
public import proofs.«01_k».proof.Proof.Gen.GateUp.Frame
public import Idealize.ShloMosaic.Lib.Pipeline.FrameBody
public import Idealize.ShloMosaic.Lib.Ring
public import Idealize.ShloMosaic.Lib.Batch
public import Idealize.ShloMosaic.Lib.Tactic

@[expose] public section

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weight array, as the body names it. -/
abbrev wM : Memref sig .tc .hbm S2x3584x9472 .fp8e4m3 := Memref.whole main_arg2
/-- The weight scratch. -/
abbrev bufM : Memref sig .tc .vmem S37x3584x256 .fp8e4m3 := Memref.whole cc0_scratch0

abbrev semOff (j : Fin 37) : Fin 1 → Nat := ![j.val]
abbrev slotOff (j : Fin 37) : Fin 3 → Nat := ![j.val, 0, 0]
abbrev halfOff (j : Fin 37) (h : Fin 2) : Fin 3 → Nat := ![j.val, 0, 128 * h.val]
abbrev blkOff (k : Fin 2) (j : Fin 37) (h : Fin 2) : Fin 3 → Nat := ![k.val, 0, 4736 * h.val + 128 * j.val]

theorem semOff_inb (j : Fin 37) : ∀ a, semOff j a + S1.size a ≤ S37.size a := by
  have := j.isLt; intro a; fin_cases a; show j.val + 1 ≤ 37; omega
theorem slotOff_inb (j : Fin 37) : ∀ a, slotOff j a + S1x3584x256.size a ≤ S37x3584x256.size a := by
  have := j.isLt; intro a; fin_cases a
  · show j.val + 1 ≤ 37; omega
  · show 0 + 3584 ≤ 3584; omega
  · show 0 + 256 ≤ 256; omega
theorem halfOff_inb (j : Fin 37) (h : Fin 2) : ∀ a, halfOff j h a + S1x3584x128.size a ≤ S37x3584x256.size a := by
  have := j.isLt; have := h.isLt; intro a; fin_cases a
  · show j.val + 1 ≤ 37; omega
  · show 0 + 3584 ≤ 3584; omega
  · show 128 * h.val + 128 ≤ 256; omega
theorem blkOff_inb (k : Fin 2) (j : Fin 37) (h : Fin 2) : ∀ a, blkOff k j h a + S1x3584x128.size a ≤ S2x3584x9472.size a := by
  have := j.isLt; have := k.isLt; have := h.isLt; intro a; fin_cases a
  · show k.val + 1 ≤ 2; omega
  · show 0 + 3584 ≤ 3584; omega
  · show 4736 * h.val + 128 * j.val + 128 ≤ 9472; omega

/-- The copies' semaphores, as one array. -/
abbrev sems : DmaSems sig S37 := cc0_scratch3

/-- Slot `j`, its half `h` and block `h` of tile `j` of weight `k`, as rectangles. -/
abbrev slotR (j : Fin 37) : Rect S37x3584x256 := Rect.unit (s := S37x3584x256) (slotOff j) S1x3584x256.size (slotOff_inb j)
abbrev halfR (j : Fin 37) (h : Fin 2) : Rect S37x3584x256 := Rect.unit (s := S37x3584x256) (halfOff j h) S1x3584x128.size (halfOff_inb j h)
abbrev blkR (k : Fin 2) (j : Fin 37) (h : Fin 2) : Rect S2x3584x9472 := Rect.unit (s := S2x3584x9472) (blkOff k j h) S1x3584x128.size (blkOff_inb k j h)

/-- Semaphore `j`. -/
def cellM (j : Fin 37) : DmaSem sig := ((sems.slice (Rect.unit (s := S37) (semOff j) S1.size (semOff_inb j))).squeeze S_ squeezes_S1_S_).sem
/-- Half `h` of slot `j` of the scratch. -/
def halfM (j : Fin 37) (h : Fin 2) : Memref sig .tc .vmem S3584x128 .fp8e4m3 :=
  (bufM.slice (halfR j h) (fun _ => rfl)).squeeze S3584x128 squeezes_S1x3584x128_S3584x128
/-- Column block `j` of half `h` of weight `k`. -/
def blkM (k : Fin 2) (j : Fin 37) (h : Fin 2) : Memref sig .tc .hbm S3584x128 .fp8e4m3 :=
  (wM.slice (blkR k j h) (fun _ => rfl)).squeeze S3584x128 squeezes_S1x3584x128_S3584x128

/-! ## The sets of elements -/

theorem half_set (j : Fin 37) (h : Fin 2) : (halfM j h).view.set = (halfR j h).set := (View.set_reshape _ _).trans (View.set_slice_whole _ _)
theorem blk_set (k : Fin 2) (j : Fin 37) (h : Fin 2) : (blkM k j h).view.set = (blkR k j h).set := (View.set_reshape _ _).trans (View.set_slice_whole _ _)

theorem mem_slot (j : Fin 37) (y : S37x3584x256.Idx) : y ∈ (slotR j).set ↔ (y 0).val = j.val := by
  rw [Rect.mem_set_unit]
  have h1 : (y 1).val < 3584 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 3584; omega
    · show 0 ≤ (y 2).val ∧ (y 2).val < 0 + 256; omega
theorem mem_half (j : Fin 37) (h : Fin 2) (y : S37x3584x256.Idx) : y ∈ (halfR j h).set ↔ (y 0).val = j.val ∧ (y 2).val / 128 = h.val := by
  rw [Rect.mem_set_unit]
  have h1 : (y 1).val < 3584 := (y 1).isLt
  have h2 : (y 2).val < 256 := (y 2).isLt
  constructor
  · intro H
    have a0 : j.val ≤ (y 0).val ∧ (y 0).val < j.val + 1 := H 0
    have a2 : 128 * h.val ≤ (y 2).val ∧ (y 2).val < 128 * h.val + 128 := H 2
    omega
  · intro H i; fin_cases i
    · show j.val ≤ (y 0).val ∧ (y 0).val < j.val + 1; omega
    · show 0 ≤ (y 1).val ∧ (y 1).val < 0 + 3584; omega
    · show 128 * h.val ≤ (y 2).val ∧ (y 2).val < 128 * h.val + 128; omega
theorem half_sub (j : Fin 37) (h : Fin 2) : (halfR j h).set ⊆ (slotR j).set := fun y hy => (mem_slot j y).2 ((mem_half j h y).1 hy).1
theorem half_rest (j : Fin 37) : (slotR j).set \ (halfR j 0).set = (halfR j 1).set := by
  ext y
  rw [Finset.mem_sdiff, mem_slot, mem_half, mem_half]
  have h2 : (y 2).val < 256 := (y 2).isLt
  show _ ∧ ¬ (_ ∧ _ = 0) ↔ _ ∧ _ = 1
  omega
theorem half_disj (j : Fin 37) : Disjoint (halfR j 0).set (halfR j 1).set := by rw [← half_rest]; exact Finset.disjoint_sdiff
theorem half_union (j : Fin 37) : (halfR j 0).set ∪ (halfR j 1).set = (slotR j).set := by
  rw [← half_rest]; exact Finset.union_sdiff_of_subset (half_sub j 0)
theorem blk_sub (k : Fin 2) (j : Fin 37) : (blkR k j 1).set ⊆ Finset.univ \ (blkR k j 0).set := by
  intro y hy
  rw [Finset.mem_sdiff]
  refine ⟨Finset.mem_univ _, fun hy' => ?_⟩
  rw [Rect.mem_set_unit] at hy hy'
  have a : 4736 * 1 + 128 * j.val ≤ (y 2).val ∧ _ := hy 2
  have b : _ ∧ (y 2).val < 4736 * 0 + 128 * j.val + 128 := hy' 2
  have := j.isLt
  omega

section State
variable (c : Dev nD) (w : Buf (Elt F) (wM.view.loc (c : Thread nD τ)))

/-- What column block `j` of half `h` of weight `k` reads. -/
def wblk (k : Fin 2) (j : Fin 37) (h : Fin 2) : S3584x128.Idx → Elt F .fp8e4m3 := (blkM k j h).view.read (Elt F) w

/-- The share of the weight array that slot `j`'s copies read under. -/
abbrev tokS (j : Fin 37) : PosShare TreeShare := Transfers.shareTok fullShare 37 j

/-- The semaphore at rest. -/
abbrev cellP (j : Fin 37) : sProp 𝕄 := semVal ((c : Thread nD τ), SemLoc.dma (cellM j)) 0
/-- Slot `j` at contents `f`. -/
abbrev slotP (j : Fin 37) (f : Buf (Elt F) (bufM.view.loc (c : Thread nD τ))) : sProp 𝕄 :=
  bufM.view.loc (c : Thread nD τ) ↦[(slotR j).set]{fullShare} f
/-- Half `h` of slot `j` at contents `f`. -/
abbrev halfP (j : Fin 37) (h : Fin 2) (f : Buf (Elt F) (bufM.view.loc (c : Thread nD τ))) : sProp 𝕄 :=
  (halfM j h).view.loc (c : Thread nD τ) ↦[(halfM j h).view.set]{fullShare} f
/-- The slot's read share of the whole weight array. -/
abbrev tokP (j : Fin 37) : sProp 𝕄 := wM.view.loc (c : Thread nD τ) ↦[Finset.univ]{tokS j} w
/-- Half `h` of slot `j`'s contents once its copy has landed on contents `f`. -/
abbrev landed (k : Fin 2) (j : Fin 37) (f : Buf (Elt F) (bufM.view.loc (c : Thread nD τ))) (h : Fin 2) : Buf (Elt F) (bufM.view.loc (c : Thread nD τ)) :=
  (halfM j h).view.write (Elt F) f (wblk c w k j h) Finset.univ
/-- Slot `j` filled with tile `j` of weight `k`. -/
def fullP (k : Fin 2) (j : Fin 37) : sProp 𝕄 := iprop(∃ f, slotP c j f ∗ ⌜∀ h, (halfM j h).view.read (Elt F) f = wblk c w k j h⌝)
/-- A block's elements under the slot's share, and what is left beside the two blocks. -/
abbrev srcP (k : Fin 2) (j : Fin 37) (h : Fin 2) : sProp 𝕄 :=
  (blkM k j h).view.loc (c : Thread nD τ) ↦[(blkM k j h).view.set]{tokS j} w
abbrev srcRestP (k : Fin 2) (j : Fin 37) : sProp 𝕄 :=
  wM.view.loc (c : Thread nD τ) ↦[(Finset.univ \ (blkR k j 0).set) \ (blkR k j 1).set]{tokS j} w

/-- What the two copies into slot `j` deliver. -/
def deliv (k : Fin 2) (j : Fin 37) (f : Buf (Elt F) (bufM.view.loc (c : Thread nD τ))) (h : Fin 2) : sProp 𝕄 :=
  iprop(halfP c j h (landed c w k j f h) ∗ srcP c w k j h)

theorem halfP_eq (j : Fin 37) (h : Fin 2) (f : Buf (Elt F) (bufM.view.loc (c : Thread nD τ))) :
    (halfP c j h f : sProp 𝕄) = (bufM.view.loc (c : Thread nD τ) ↦[(halfR j h).set]{fullShare} f : sProp 𝕄) :=
  congrArg (fun S => (_ ↦[S]{fullShare} f : sProp 𝕄)) (half_set j h)

theorem srcP_eq (k : Fin 2) (j : Fin 37) (h : Fin 2) :
    (srcP c w k j h : sProp 𝕄) = (wM.view.loc (c : Thread nD τ) ↦[(blkR k j h).set]{tokS j} w : sProp 𝕄) :=
  congrArg (fun S => (_ ↦[S]{tokS j} w : sProp 𝕄)) (blk_set k j h)

instance deliv_storable (k : Fin 2) (j : Fin 37) (f : Buf (Elt F) (bufM.view.loc (c : Thread nD τ))) (h : Fin 2) :
    Storable (upEmb : UEmb _ 𝕄) (deliv c w k j f h) := by
  unfold deliv; rw [halfP_eq, srcP_eq]; infer_instance

/-- One copy's credit. -/
abbrev credN (j : Fin 37) : ℕ := (halfM j 0).view.dmaCredit

/-- What a slot is doing. -/
inductive St
  | free
  | fl (k : Fin 2)
  | ld (k : Fin 2)

/-- What is held of slot `j` in each state. -/
def slotSt (j : Fin 37) : St → sProp 𝕄
  | .free => iprop(cellP c j ∗ (∃ f, slotP c j f) ∗ tokP c w j)
  | .fl k => iprop(∃ f, Transfers.Batch (countersEmb) (c : Thread nD τ) (SemLoc.dma (cellM j)) () (credN j) (deliv c w k j f) 2 0 ∗ srcRestP c w k j)
  | .ld k => iprop(cellP c j ∗ fullP c w k j ∗ tokP c w j)

theorem tok_split (k : Fin 2) (j : Fin 37) : (tokP c w j : sProp 𝕄) ⊣⊢ iprop(srcP c w k j 0 ∗ srcP c w k j 1 ∗ srcRestP c w k j) := by
  rw [srcP_eq, srcP_eq]
  exact (pointsTo_split_subset (Finset.subset_univ _)).trans
    ⟨sep_mono_right (pointsTo_split_subset (blk_sub k j)).1, sep_mono_right (pointsTo_split_subset (blk_sub k j)).2⟩

theorem slot_split (j : Fin 37) (f : Buf (Elt F) (bufM.view.loc (c : Thread nD τ))) :
    (slotP c j f : sProp 𝕄) ⊢ iprop(halfP c j 0 f ∗ halfP c j 1 f) := by
  rw [halfP_eq, halfP_eq, ← half_rest]
  exact (pointsTo_split_subset (half_sub j 0)).1

/-- The two halves landed are the slot filled. -/
theorem slot_join (k : Fin 2) (j : Fin 37) (f : Buf (Elt F) (bufM.view.loc (c : Thread nD τ))) :
    iprop(halfP c j 0 (landed c w k j f 0) ∗ halfP c j 1 (landed c w k j f 1)) ⊢ (fullP c w k j : sProp 𝕄) := by
  have e0 : (halfP c j 0 (landed c w k j f 0) : sProp 𝕄) = halfP c j 0 (landed c w k j (landed c w k j f 0) 1) := by
    rw [halfP_eq, halfP_eq]
    refine pointsTo_congr fun y hy => (View.write_of_not_mem (v := (halfM j 1).view) _ _ Finset.univ fun hy' => ?_).symm
    rw [View.setOn_univ, half_set] at hy'
    exact Finset.disjoint_left.1 (half_disj j) hy hy'
  have e1 : (halfP c j 1 (landed c w k j f 1) : sProp 𝕄) = halfP c j 1 (landed c w k j (landed c w k j f 0) 1) := by
    refine pointsTo_congr fun y hy => ?_
    obtain ⟨x, -, rfl⟩ := Finset.mem_map.1 hy
    have a := congrFun (View.read_write_univ (v := (halfM j 1).view) (Val := Elt F) f (wblk c w k j 1)) x
    have b := congrFun (View.read_write_univ (v := (halfM j 1).view) (Val := Elt F) (landed c w k j f 0) (wblk c w k j 1)) x
    exact a.trans b.symm
  rw [e0, e1, halfP_eq, halfP_eq]
  unfold fullP
  have hr : ∀ h, (halfM j h).view.read (Elt F) (landed c w k j (landed c w k j f 0) 1) = wblk c w k j h := by
    intro h
    rcases (by omega : h.val = 0 ∨ h.val = 1) with h' | h'
    · obtain rfl : h = 0 := Fin.ext h'
      refine Eq.trans ?_ (View.read_write_univ (v := (halfM j 0).view) (Val := Elt F) f (wblk c w k j 0))
      funext x
      refine View.write_of_not_mem (v := (halfM j 1).view) _ _ Finset.univ fun hy' => ?_
      rw [View.setOn_univ, half_set] at hy'
      refine Finset.disjoint_left.1 (half_disj j) ?_ hy'
      rw [← half_set]
      exact Finset.mem_map_of_mem _ (Finset.mem_univ _)
    · obtain rfl : h = 1 := Fin.ext h'
      exact View.read_write_univ _ _
  iintro ⟨H0, H1⟩
  iexists (landed c w k j (landed c w k j f 0) 1)
  isplitl [H0 H1]
  · rw [slotP, ← half_union]
    iapply (pointsTo_union (half_disj j)).2
    isplitl [H0]; · iexact H0
    iexact H1
  · ipureintro; exact hr

/-- A filled slot may be filled again. -/
theorem ld_free (k : Fin 2) (j : Fin 37) : (slotSt c w j (.ld k) : sProp 𝕄) ⊢ slotSt c w j .free := by
  unfold slotSt fullP
  iintro ⟨Hc, ⟨%f, Hs, -⟩, Ht⟩
  isplitl [Hc]; · iexact Hc
  isplitl [Hs]; · iexists f; iexact Hs
  iexact Ht

theorem deliv_split (k : Fin 2) (j : Fin 37) (f : Buf (Elt F) (bufM.view.loc (c : Thread nD τ))) :
    bigSep Finset.univ (deliv c w k j f)
      ⊢ iprop((halfP c j 0 (landed c w k j f 0) ∗ srcP c w k j 0) ∗ (halfP c j 1 (landed c w k j f 1) ∗ srcP c w k j 1)) := by
  rw [Idealize.SL.BI.bigSep_univ_eq_bigSepL [0, 1] (by decide) (by decide) _]
  exact .rfl

theorem credN_pos (j : Fin 37) : 0 < credN j := (halfM j 0).view.dmaCredit_pos (by decide)

variable (𝒱 : Variants) (bd : Option 𝒱.V)

/-- Starting the two copies of tile `j` of weight `k` into slot `j`. -/
theorem wp_start {α : Type} {Q : α → sProp 𝕄} (k : Fin 2) (j : Fin 37) {o1 o1' : Fin 1 → Nat} {o2 o3 o2' o3' : Fin 3 → Nat} (e1 : o1 = semOff j) (e2 : o2 = halfOff j 0)
    (e3 : o3 = blkOff k j 0) (e1' : o1' = semOff j) (e2' : o2' = halfOff j 1) (e3' : o3' = blkOff k j 1)
    {h1 h2 h3 hsrc hdst hsem h1' h2' h3' hsrc' hdst' hsem'} {K : PUnit → Prog (TpuEff nD τ sig (Elt F) Λ₀ .tc) α} :
    slotSt c w j .free ⊢ iprop((slotSt c w j (.fl k) -∗ wp frame (wpE defs₀ 𝒱 (c : Thread nD τ) bd) Set.univ (K ⟨⟩) Q)
      -∗ wp frame (wpE defs₀ 𝒱 (c : Thread nD τ) bd) Set.univ (.op (.enqueueDma
          ((wM.slice (Rect.unit (s := S2x3584x9472) o3 S1x3584x128.size h3) (fun _ => rfl)).squeeze S3584x128 squeezes_S1x3584x128_S3584x128)
          (.here ((bufM.slice (Rect.unit (s := S37x3584x256) o2 S1x3584x128.size h2) (fun _ => rfl)).squeeze S3584x128 squeezes_S1x3584x128_S3584x128))
          (.dma ((sems.slice (Rect.unit (s := S37) o1 S1.size h1)).squeeze S_ squeezes_S1_S_).sem) hsrc hdst hsem) fun _ => .op (.enqueueDma
          ((wM.slice (Rect.unit (s := S2x3584x9472) o3' S1x3584x128.size h3') (fun _ => rfl)).squeeze S3584x128 squeezes_S1x3584x128_S3584x128)
          (.here ((bufM.slice (Rect.unit (s := S37x3584x256) o2' S1x3584x128.size h2') (fun _ => rfl)).squeeze S3584x128 squeezes_S1x3584x128_S3584x128))
          (.dma ((sems.slice (Rect.unit (s := S37) o1' S1.size h1')).squeeze S_ squeezes_S1_S_).sem) hsrc' hdst' hsem') K) Q) := by
  subst e1 e2 e3 e1' e2' e3'
  show _ ⊢ iprop(_ -∗ wp frame (wpE defs₀ 𝒱 (c : Thread nD τ) bd) Set.univ (.op (.enqueueDmaAs (blkM k j 0) (.here (halfM j 0)) .same (.dma (cellM j)) hsrc hdst hsem) fun _ =>
    .op (.enqueueDmaAs (blkM k j 1) (.here (halfM j 1)) .same (.dma (cellM j)) hsrc' hdst' hsem') K) Q)
  unfold slotSt
  iintro ⟨Hc, ⟨%f, Hs⟩, Ht⟩ HK
  ihave ⟨Hsrc0, Hsrc1, Hrest⟩ := (tok_split c w k j).1 $$ Ht
  ihave ⟨Hs0, Hs1⟩ := (slot_split c j f) $$ Hs
  imod (Transfers.batch_alloc' (Lvl := ℕ) countersEmb (c : Thread nD τ) () (credN j) (deliv c w k j f) (sm := .dma (cellM j)) (E := Set.univ)) $$ Hc with HB
  iapply (Transfers.wp_dmaBatch countersEmb 𝒱 (c : Thread nD τ) bd (src := blkM k j 0) (dst := halfM j 0) () (credN j) rfl (Finset.Subset.refl _)
    (D := deliv c w k j f) (j := 0) (u := 0) (fs := w) (fd := f) (q := tokS j) (by decide) (Nat.zero_le _) (by exact .rfl)) $$ [Hsrc0 Hs0 HB]
  · isplitl [Hsrc0]; · iexact Hsrc0
    isplitl [Hs0]; · iexact Hs0
    iexact HB
  iintro HB
  iapply (Transfers.wp_dmaBatch countersEmb 𝒱 (c : Thread nD τ) bd (src := blkM k j 1) (dst := halfM j 1) () (credN j) rfl (Finset.Subset.refl _)
    (D := deliv c w k j f) (j := 1) (u := 0) (fs := w) (fd := f) (q := tokS j) (by decide) (Nat.zero_le _) (by exact .rfl)) $$ [Hsrc1 Hs1 HB]
  · isplitl [Hsrc1]; · iexact Hsrc1
    isplitl [Hs1]; · iexact Hs1
    iexact HB
  iintro HB
  iapply HK
  iexists f
  isplitl [HB]; · iexact HB
  iexact Hrest

/-- Waiting for the two copies into slot `j`. -/
theorem wp_await {α : Type} {Q : α → sProp 𝕄} (k : Fin 2) (j : Fin 37) {o1 o1' : Fin 1 → Nat} {o2 o3 o2' o3' : Fin 3 → Nat} (e1 : o1 = semOff j) (e2 : o2 = halfOff j 0)
    (e1' : o1' = semOff j) (e2' : o2' = halfOff j 1)
    {h1 h2 h3 hsrc hdst h1' h2' h3' hsrc' hdst'} {K : PUnit → Prog (TpuEff nD τ sig (Elt F) Λ₀ .tc) α} {W : Waits sig Unit} :
    iprop(slotSt c w j (.fl k) ∗ owes (c : Thread nD τ) 0 W) ⊢ iprop((iprop(slotSt c w j (.ld k) ∗ ∃ W', owes (c : Thread nD τ) 0 W') -∗ wp frame (wpE defs₀ 𝒱 (c : Thread nD τ) bd) Set.univ (K ⟨⟩) Q)
      -∗ wp frame (wpE defs₀ 𝒱 (c : Thread nD τ) bd) Set.univ (.op (.waitDma2
          ((sems.slice (Rect.unit (s := S37) o1 S1.size h1)).squeeze S_ squeezes_S1_S_).sem
          ((wM.slice (Rect.unit (s := S2x3584x9472) o3 S1x3584x128.size h3) (fun _ => rfl)).squeeze S3584x128 squeezes_S1x3584x128_S3584x128)
          ((bufM.slice (Rect.unit (s := S37x3584x256) o2 S1x3584x128.size h2) (fun _ => rfl)).squeeze S3584x128 squeezes_S1x3584x128_S3584x128)
           hsrc hdst) fun _ => .op (.waitDma2
          ((sems.slice (Rect.unit (s := S37) o1' S1.size h1')).squeeze S_ squeezes_S1_S_).sem
          ((wM.slice (Rect.unit (s := S2x3584x9472) o3' S1x3584x128.size h3') (fun _ => rfl)).squeeze S3584x128 squeezes_S1x3584x128_S3584x128)
          ((bufM.slice (Rect.unit (s := S37x3584x256) o2' S1x3584x128.size h2') (fun _ => rfl)).squeeze S3584x128 squeezes_S1x3584x128_S3584x128)
           hsrc' hdst') K) Q) := by
  subst e1 e2 e1' e2'
  have hp := credN_pos j
  unfold slotSt
  iintro ⟨⟨%f, HB, Hrest⟩, HO⟩ HK
  iapply (Transfers.wp_waitBatch countersEmb 𝒱 (c : Thread nD τ) bd (sem := cellM j) (dstw := halfM j 0) () (N := credN j) rfl (D := deliv c w k j f) (u := 0) (by omega)) $$ [HB HO]
  · isplitl [HB]; · iexact HB
    iexact HO
  iintro ⟨HB, HO⟩
  iapply (Transfers.wp_waitBatchLast countersEmb 𝒱 (c : Thread nD τ) bd (sem := cellM j) (dstw := halfM j 1) () (N := credN j) rfl hp (D := deliv c w k j f) (u := 0 + credN j) (by omega)) $$ [HB HO]
  · isplitl [HB]; · iexact HB
    iexact HO
  iintro ⟨HD, Hc, HO⟩
  ihave ⟨⟨H0, Hs0⟩, H1, Hs1⟩ := (deliv_split c w k j f) $$ HD
  iapply HK
  isplitr [HO]
  · isplitl [Hc]; · iexact Hc
    isplitl [H0 H1]
    · iapply (slot_join c w k j f)
      isplitl [H0]; · iexact H0
      iexact H1
    iapply (tok_split c w k j).2
    isplitl [Hs0]; · iexact Hs0
    isplitl [Hs1]; · iexact Hs1
    iexact Hrest
  · iexists _; iexact HO

end State

end Cert.GateUp.Hand
-- ==== Proof.GateUpTrip.lean ====
/-
  One tile of the gate and up projections, for the program `GateUp`: what a tile computes, what of the accumulators is known after the
  first tiles, and the rules for the pieces of a tile's program: its loads, its two stores, and the conditional wait and refill of its
  weight slot.
-/
module

public import proofs.«01_k».proof.Proof.GateUpSlots
public import Idealize.ShloMosaic.Lib.Pointwise
public import Idealize.ShloMosaic.Lib.ValueLayout

@[expose] public section

noncomputable section

namespace Cert.GateUp.Hand

open Cert.GateUp Cert.GateUp.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev colOff (j : Fin 37) : Fin 2 → Nat := ![0, 128 * j.val]
abbrev scOff (h : Fin 2) (j : Fin 37) : Fin 3 → Nat := ![0, 0, 4736 * h.val + 128 * j.val]
theorem colOff_inb (j : Fin 37) : ∀ a, colOff j a + S576x128.size a ≤ S576x4736.size a := by
  have := j.isLt; intro a; fin_cases a
  · show 0 + 576 ≤ 576; omega
  · show 128 * j.val + 128 ≤ 4736; omega
theorem scOff_inb (h : Fin 2) (j : Fin 37) : ∀ a, scOff h j a + S1x1x128.size a ≤ S1x1x9472.size a := by
  have := j.isLt; have := h.isLt; intro a; fin_cases a
  · show 0 + 1 ≤ 1; omega
  · show 0 + 1 ≤ 1; omega
  · show 4736 * h.val + 128 * j.val + 128 ≤ 9472; omega

/-- Column block `j` of the activations. -/
abbrev colR (j : Fin 37) : Rect S576x4736 := Rect.unit (s := S576x4736) (colOff j) S576x128.size (colOff_inb j)
/-- Column block `j` of half `h` of the weight's scale row. -/
abbrev scR (h : Fin 2) (j : Fin 37) : Rect S1x1x9472 := Rect.unit (s := S1x1x9472) (scOff h j) S1x1x128.size (scOff_inb h j)
/-- The whole of the row block's inputs, its scales and the running maxima. -/
abbrev fullR1 : Rect S576x3584 := Rect.unit (s := S576x3584) ![0, 0] S576x3584.size inb_S576x3584_S576x3584_0_0
abbrev fullR2 : Rect S576x1 := Rect.unit (s := S576x1) ![0, 0] S576x1.size inb_S576x1_S576x1_0_0
abbrev fullR9 : Rect S576x128 := Rect.unit (s := S576x128) ![0, 0] S576x128.size inb_S576x128_S576x128_0_0

/-- Tile `j` of the activations, of what the three input windows hold and the weight tile. -/
def actT (x1 : Vec F S576x3584 .fp8e4m3) (x2 : Vec F S576x1 .f32) (x3 : Vec F S1x1x9472 .f32) (wb : Vec F S1x3584x256 .fp8e4m3) (j : Fin 37) : FVec F S576x128 .f32 :=
  k0_pay2 (k0_pay30 (fun y => x1 (fullR1.emb y)) wb (fun y => x2 (fullR2.emb y)) (fun y => x3 ((scR 0 j).emb y)))
    (k0_pay31 (fun y => x1 (fullR1.emb y)) wb (fun y => x2 (fullR2.emb y))) (k0_pay32 (fun y => x3 ((scR 1 j).emb y)))
/-- The running maxima `mx` raised by tile `j`. -/
def maxT (x1 : Vec F S576x3584 .fp8e4m3) (x2 : Vec F S576x1 .f32) (x3 : Vec F S1x1x9472 .f32) (wb : Vec F S1x3584x256 .fp8e4m3) (j : Fin 37) (mx : Vec F S576x128 .f32) : FVec F S576x128 .f32 :=
  k0_pay3 (k0_pay30 (fun y => x1 (fullR1.emb y)) wb (fun y => x2 (fullR2.emb y)) (fun y => x3 ((scR 0 j).emb y)))
    (k0_pay31 (fun y => x1 (fullR1.emb y)) wb (fun y => x2 (fullR2.emb y))) (k0_pay32 (fun y => x3 ((scR 1 j).emb y))) mx

/-- The running maxima after the first `n` tiles, of the inputs and the weight's tiles. -/
def maxV (x1 : Vec F S576x3584 .fp8e4m3) (x2 : Vec F S576x1 .f32) (x3 : Vec F S1x1x9472 .f32) (wb : Fin 37 → Vec F S1x3584x256 .fp8e4m3) : ℕ → FVec F S576x128 .f32
  | 0 => k0_pay25 (F := F)
  | n + 1 => if h : n < 37 then maxT x1 x2 x3 (wb ⟨n, h⟩) ⟨n, h⟩ (maxV x1 x2 x3 wb n) else maxV x1 x2 x3 wb n

theorem col_disjoint (v : View sig .tc .vmem S576x4736 .f32) (j j' : Fin 37) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 128 * j.val + 128 ≤ 128 * j'.val ∨ 128 * j'.val + 128 ≤ 128 * j.val
  omega

/-! ## The tiles' payloads

Each of a trip's four tiles is printed with its arithmetic cut at different places; all are the last tile's. -/

section Payloads
variable (a : Vec F S576x3584 .fp8e4m3) (b : Vec F S1x3584x256 .fp8e4m3) (d : Vec F S576x1 .f32) (s u : Vec F S1x1x128 .f32) (v : Vec F S576x128 .f32)
theorem act0_eq : k0_pay12 (k0_pay7 a b d s) (k0_pay8 a b d u) (k0_pay9 a b d s) (k0_pay10 (F := F)) = k0_pay2 (k0_pay30 a b d s) (k0_pay31 a b d) (k0_pay32 u) := rfl
theorem max0_eq : k0_pay13 (k0_pay7 a b d s) (k0_pay8 a b d u) (k0_pay9 a b d s) (k0_pay10 (F := F)) v = k0_pay3 (k0_pay30 a b d s) (k0_pay31 a b d) (k0_pay32 u) v := rfl
theorem act1_eq : k0_pay17 (k0_pay14 a b d) (k0_pay15 a b d) s u = k0_pay2 (k0_pay30 a b d s) (k0_pay31 a b d) (k0_pay32 u) := rfl
theorem max1_eq : k0_pay18 (k0_pay14 a b d) (k0_pay15 a b d) s u v = k0_pay3 (k0_pay30 a b d s) (k0_pay31 a b d) (k0_pay32 u) v := rfl
theorem act2_eq : k0_pay20 (k0_pay19 a b d s u) = k0_pay2 (k0_pay30 a b d s) (k0_pay31 a b d) (k0_pay32 u) := rfl
theorem max2_eq : k0_pay21 (k0_pay19 a b d s u) v = k0_pay3 (k0_pay30 a b d s) (k0_pay31 a b d) (k0_pay32 u) v := rfl
theorem act3_eq : k0_pay27 (k0_pay22 a b d) (k0_pay23 a b d) (k0_pay24 s) u = k0_pay2 (k0_pay30 a b d s) (k0_pay31 a b d) (k0_pay32 u) := rfl
theorem max3_eq : k0_pay28 (k0_pay22 a b d) (k0_pay23 a b d) (k0_pay24 s) u v = k0_pay3 (k0_pay30 a b d s) (k0_pay31 a b d) (k0_pay32 u) v := rfl
end Payloads

section Tile
variable (c : Dev nD) (w : Buf (Elt F) (wM.view.loc (c : Thread nD τ)))

/-- Tile `j` of weight `k`: its two column blocks side by side. -/
def wcat (k : Fin 2) (j : Fin 37) : Vec F S1x3584x256 .fp8e4m3 := fun y =>
  if h : (y 2).val < 128 then wblk c w k j 0 (ix2 (n0 := 3584) (n1 := 128) (y 1) ⟨(y 2).val, h⟩)
  else wblk c w k j 1 (ix2 (n0 := 3584) (n1 := 128) (y 1) ⟨(y 2).val - 128, by have h2 : (y 2).val < 256 := (y 2).isLt; omega⟩)

theorem half_at (j : Fin 37) (h : Fin 2) (g : Buf (Elt F) (bufM.view.loc (c : Thread nD τ))) (a : Fin 3584) (b : Fin 128) (y : S1x3584x256.Idx)
    (h0 : (y 0).val = 0) (h1 : (y 1).val = a.val) (h2 : (y 2).val = 128 * h.val + b.val) :
    (bufM.access (slotR j)).read (Elt F) g y = (halfM j h).view.read (Elt F) g (ix2 a b) := by
  unfold halfM
  refine congrArg g ?_
  rw [View.emb_reshape]
  show _ = (bufM.view.slice (halfR j h)).emb (Shape.reshapeEquiv _ (ix2 a b))
  rw [show Shape.reshapeEquiv _ (ix2 a b) = (ix3 (0 : Fin 1) a b : S1x3584x128.Idx) from ValueIdx.reshapeEquiv_ix2_1ab _ a b]
  funext i; apply Fin.ext; fin_cases i
  · show j.val + 1 * (y 0).val = j.val + 1 * 0; omega
  · show 0 + 1 * (y 1).val = 0 + 1 * a.val; omega
  · show 0 + 1 * (y 2).val = 128 * h.val + 1 * b.val; omega

/-- A filled slot reads its weight tile. -/
theorem slot_read (k : Fin 2) (j : Fin 37) (g : Buf (Elt F) (bufM.view.loc (c : Thread nD τ))) (hg : ∀ h, (halfM j h).view.read (Elt F) g = wblk c w k j h) :
    (bufM.access (slotR j)).read (Elt F) g = wcat c w k j := by
  funext y
  have h0 : (y 0).val < 1 := (y 0).isLt
  unfold wcat
  by_cases h : (y 2).val < 128
  · rw [dif_pos h, ← hg 0]
    exact half_at c j 0 g _ _ y (by omega) rfl (by show _ = 128 * 0 + _; simp)
  · rw [dif_neg h, ← hg 1]
    exact half_at c j 1 g _ _ y (by omega) rfl (by show _ = 128 * 1 + ((y 2).val - 128); omega)

theorem slot_respell (j : Fin 37) (g : Buf (Elt F) (bufM.view.loc (c : Thread nD τ))) :
    (slotP c j g : sProp 𝕄) = ((bufM.access (slotR j)).loc (c : Thread nD τ) ↦[(bufM.view.slice (slotR j)).set]{fullShare} g : sProp 𝕄) :=
  congrArg (fun S => (bufM.view.loc (c : Thread nD τ) ↦[S]{fullShare} g : sProp 𝕄)) (View.set_slice_whole _ _).symm

variable (arg1 : Memref sig .tc .vmem S576x3584 .fp8e4m3) (arg2 : Memref sig .tc .vmem S576x1 .f32) (arg3 : Memref sig .tc .vmem S1x1x9472 .f32)
variable (arg8 : Memref sig .tc .vmem S576x4736 .f32) (arg9 : Memref sig .tc .vmem S576x128 .f32)
variable (f1 : Buf (Elt F) (arg1.view.loc (c : Thread nD τ))) (f2 : Buf (Elt F) (arg2.view.loc (c : Thread nD τ)))
variable (f3 : Buf (Elt F) (arg3.view.loc (c : Thread nD τ)))

/-- The three input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3))

/-- Tile `j` of the activations when weight `k` is the one used. -/
def actJ (k : Fin 2) (j : Fin 37) : FVec F S576x128 .f32 :=
  actT (arg1.view.read (Elt F) f1) (arg2.view.read (Elt F) f2) (arg3.view.read (Elt F) f3) (wcat c w k j) j
/-- The running maxima after the first `n` tiles. -/
def maxN (k : Fin 2) (n : ℕ) : FVec F S576x128 .f32 :=
  maxV (arg1.view.read (Elt F) f1) (arg2.view.read (Elt F) f2) (arg3.view.read (Elt F) f3) (wcat c w k) n

/-- The accumulators with their first `n` tiles done. -/
def accP (k : Fin 2) (n : ℕ) : sProp 𝕄 :=
  iprop((∃ f, (arg8.view.loc (c : Thread nD τ) ↦[arg8.view.set]{fullShare} f)
      ∗ ⌜∀ j : Fin 37, j.val < n → (arg8.access (colR j)).read (Elt F) f = actJ c w arg1 arg2 arg3 f1 f2 f3 k j⌝)
    ∗ (∃ f, (arg9.view.loc (c : Thread nD τ) ↦[arg9.view.set]{fullShare} f)
      ∗ ⌜(arg9.access fullR9).read (Elt F) f = maxN c w arg1 arg2 arg3 f1 f2 f3 k n⌝))

variable (𝒱 : Variants) (bd : Option 𝒱.V)

/-- A tile's first three loads: the row block, the weight tile, the row block's scales. -/
theorem wp_ld3 {α : Type} {Q : α → sProp 𝕄} (k : Fin 2) (j : Fin 37) {o8 : Fin 3 → Nat} (e8 : o8 = slotOff j)
    {h8 l1 l2 l5} {K : Vec F S576x3584 .fp8e4m3 → Vec F S1x3584x256 .fp8e4m3 → Vec F S576x1 .f32 → Prog (TpuEff nD τ sig (Elt F) Λ₀ .tc) α} :
    iprop(insP c arg1 arg2 arg3 f1 f2 f3 ∗ slotSt c w j (.ld k)) ⊢
    iprop((iprop(insP c arg1 arg2 arg3 f1 f2 f3 ∗ slotSt c w j (.ld k))
        -∗ wp frame (wpE defs₀ 𝒱 (c : Thread nD τ) bd) Set.univ (K (fun y => arg1.view.read (Elt F) f1 (fullR1.emb y)) (wcat c w k j) (fun y => arg2.view.read (Elt F) f2 (fullR2.emb y))) Q)
      -∗ wp frame (wpE defs₀ 𝒱 (c : Thread nD τ) bd) Set.univ
        (.op (.load arg1 (Rect.unit (s := S576x3584) ![0, 0] S576x3584.size inb_S576x3584_S576x3584_0_0).toLoadRect l1) fun v1 =>
         .op (.load bufM (Rect.unit (s := S37x3584x256) o8 S1x3584x256.size h8).toLoadRect l5) fun v2 =>
         .op (.load arg2 (Rect.unit (s := S576x1) ![0, 0] S576x1.size inb_S576x1_S576x1_0_0).toLoadRect l2) fun v3 => K v1 v2 v3) Q) := by
  subst e8
  unfold insP slotSt fullP
  iintro ⟨⟨H1, H2, H3⟩, Hc, ⟨%g, Hs, %hg⟩, Ht⟩ HK
  iapply (wp_load_rect 𝒱 (c : Thread nD τ) bd Set.univ (m := arg1) (r := fullR1) (S := arg1.view.set) (f := f1) (arg1.view.set_slice_subset _)) $$ H1
  iintro H1
  ihave Hs := (BIBase.Entails.of_eq (slot_respell c j g)) $$ Hs
  iapply (wp_load_rect 𝒱 (c : Thread nD τ) bd Set.univ (m := bufM) (r := slotR j) (S := (bufM.view.slice (slotR j)).set) (f := g) (q := fullShare) (Finset.Subset.refl _)) $$ Hs
  iintro Hs
  iapply (wp_load_rect 𝒱 (c : Thread nD τ) bd Set.univ (m := arg2) (r := fullR2) (S := arg2.view.set) (f := f2) (arg2.view.set_slice_subset _)) $$ H2
  iintro H2
  rw [slot_read c w k j g hg]
  iapply HK
  isplitl [H1 H2 H3]
  · isplitl [H1]; · iexact H1
    isplitl [H2]; · iexact H2
    iexact H3
  · isplitl [Hc]; · iexact Hc
    isplitl [Hs]
    · iexists g
      isplitl [Hs]
      · iapply (BIBase.Entails.of_eq (slot_respell c j g).symm) $$ Hs
      · ipureintro; exact hg
    iexact Ht

/-- Loading the scales of half `h` of a tile. -/
theorem wp_ldsc {α : Type} {Q : α → sProp 𝕄} (h : Fin 2) (j : Fin 37) {o : Fin 3 → Nat} (e : o = scOff h j)
    {hi l} {K : Vec F S1x1x128 .f32 → Prog (TpuEff nD τ sig (Elt F) Λ₀ .tc) α} :
    insP c arg1 arg2 arg3 f1 f2 f3 ⊢
    iprop((insP c arg1 arg2 arg3 f1 f2 f3 -∗ wp frame (wpE defs₀ 𝒱 (c : Thread nD τ) bd) Set.univ (K (fun y => arg3.view.read (Elt F) f3 ((scR h j).emb y))) Q)
      -∗ wp frame (wpE defs₀ 𝒱 (c : Thread nD τ) bd) Set.univ
        (.op (.load arg3 (Rect.unit (s := S1x1x9472) o S1x1x128.size hi).toLoadRect l) K) Q) := by
  subst e
  unfold insP
  iintro ⟨H1, H2, H3⟩ HK
  iapply (wp_load_rect 𝒱 (c : Thread nD τ) bd Set.univ (m := arg3) (r := scR h j) (S := arg3.view.set) (f := f3) (arg3.view.set_slice_subset _)) $$ H3
  iintro H3
  iapply HK
  isplitl [H1]; · iexact H1
  isplitl [H2]; · iexact H2
  iexact H3

/-- A tile's two stores: its activations, and the running maxima raised. -/
theorem wp_acc {α : Type} {Q : α → sProp 𝕄} (k : Fin 2) (j : Fin 37) {o : Fin 2 → Nat} (e : o = colOff j)
    {hi hi' l8 x8 m8 l9 l9' x9 m9} {K : PUnit → Prog (TpuEff nD τ sig (Elt F) Λ₀ .tc) α} :
    accP c w arg1 arg2 arg3 arg8 arg9 f1 f2 f3 k j.val ⊢
    iprop((accP c w arg1 arg2 arg3 arg8 arg9 f1 f2 f3 k (j.val + 1) -∗ wp frame (wpE defs₀ 𝒱 (c : Thread nD τ) bd) Set.univ (K ⟨⟩) Q)
      -∗ wp frame (wpE defs₀ 𝒱 (c : Thread nD τ) bd) Set.univ
        (.op (.load arg8 (Rect.unit (s := S576x4736) o S576x128.size hi).toLoadRect l8) fun _ =>
         .op (.store arg8 (Rect.unit (s := S576x4736) o S576x128.size hi') (k0_pay2 (k0_pay30 (fun y => arg1.view.read (Elt F) f1 (fullR1.emb y)) (wcat c w k j) (fun y => arg2.view.read (Elt F) f2 (fullR2.emb y)) (fun y => arg3.view.read (Elt F) f3 ((scR 0 j).emb y)))
           (k0_pay31 (fun y => arg1.view.read (Elt F) f1 (fullR1.emb y)) (wcat c w k j) (fun y => arg2.view.read (Elt F) f2 (fullR2.emb y))) (k0_pay32 (fun y => arg3.view.read (Elt F) f3 ((scR 1 j).emb y)))) Finset.univ x8 m8) fun _ =>
         .op (.load arg9 (Rect.unit (s := S576x128) ![0, 0] S576x128.size inb_S576x128_S576x128_0_0).toLoadRect l9) fun v =>
         .op (.load arg9 (Rect.unit (s := S576x128) ![0, 0] S576x128.size inb_S576x128_S576x128_0_0).toLoadRect l9') fun v' =>
         .op (.store arg9 (Rect.unit (s := S576x128) ![0, 0] S576x128.size inb_S576x128_S576x128_0_0) (k0_pay3 (k0_pay30 (fun y => arg1.view.read (Elt F) f1 (fullR1.emb y)) (wcat c w k j) (fun y => arg2.view.read (Elt F) f2 (fullR2.emb y)) (fun y => arg3.view.read (Elt F) f3 ((scR 0 j).emb y)))
           (k0_pay31 (fun y => arg1.view.read (Elt F) f1 (fullR1.emb y)) (wcat c w k j) (fun y => arg2.view.read (Elt F) f2 (fullR2.emb y))) (k0_pay32 (fun y => arg3.view.read (Elt F) f3 ((scR 1 j).emb y))) v) Finset.univ x9 m9) K) Q) := by
  subst e
  unfold accP
  iintro ⟨⟨%f, H8, %hf⟩, ⟨%g, H9, %hg⟩⟩ HK
  iapply (wp_load_rect 𝒱 (c : Thread nD τ) bd Set.univ (m := arg8) (r := colR j) (S := arg8.view.set) (f := f) (arg8.view.set_slice_subset _)) $$ H8
  iintro H8
  iapply (wp_store 𝒱 (c : Thread nD τ) bd Set.univ (m := arg8) (r := colR j) (S := arg8.view.set) (f := f) (arg8.view.set_slice_subset _)) $$ H8
  iintro H8
  iapply (wp_load_rect 𝒱 (c : Thread nD τ) bd Set.univ (m := arg9) (r := fullR9) (S := arg9.view.set) (f := g) (arg9.view.set_slice_subset _)) $$ H9
  iintro H9
  iapply (wp_load_rect 𝒱 (c : Thread nD τ) bd Set.univ (m := arg9) (r := fullR9) (S := arg9.view.set) (f := g) (arg9.view.set_slice_subset _)) $$ H9
  iintro H9
  iapply (wp_store 𝒱 (c : Thread nD τ) bd Set.univ (m := arg9) (r := fullR9) (S := arg9.view.set) (f := g) (arg9.view.set_slice_subset _)) $$ H9
  iintro H9
  iapply HK
  isplitl [H8]
  · iexists _
    isplitl [H8]; · iexact H8
    ipureintro
    intro j' hj'
    by_cases hjj : j' = j
    · subst hjj
      exact View.read_write_univ _ _
    · refine (View.read_slice_write_slice_of_disjoint (v := arg8.view) (colR j') (colR j) _ _ _ (col_disjoint arg8.view j' j hjj)).trans ?_
      refine hf j' ?_
      have : j'.val ≠ j.val := fun e => hjj (Fin.ext e)
      omega
  · iexists _
    isplitl [H9]; · iexact H9
    ipureintro
    refine (View.read_write_univ _ _).trans ?_
    unfold maxN at hg ⊢
    conv_rhs => unfold maxV
    rw [dif_pos j.isLt]
    rw [← hg]
    rfl

/-! ## The conditional wait and refill -/

/-- The weight used at grid point `n`. -/
def wk (n : ℕ) : Fin 2 := if n = 0 then 0 else 1

/-- A slot before its tile of grid point `n`, -/
def stA : ℕ → St
  | 0 => .fl 0
  | 1 => .fl 1
  | _ => .ld 1
theorem stA_ge {n : ℕ} (h0 : n ≠ 0) (h1 : n ≠ 1) : stA n = .ld 1 := by
  obtain ⟨m, rfl⟩ : ∃ m, n = m + 2 := ⟨n - 2, by omega⟩
  rfl
/-- and after. -/
def stB (n : ℕ) : St := stA (n + 1)

/-- Before a tile its slot is waited for, at the two grid points at which a copy is under way. -/
theorem wp_awaitIf {α : Type} {Q : α → sProp 𝕄} {K : Prog (TpuEff nD τ sig (Elt F) Λ₀ .tc) α} {C : Prop} [Decidable C] (n : ℕ) (j : Fin 37) (hC : C ↔ n < 2)
    {o1 o1' : Fin 1 → Nat} {o2 o3 o2' o3' : Fin 3 → Nat} (e1 : o1 = semOff j) (e2 : o2 = halfOff j 0) (e1' : o1' = semOff j) (e2' : o2' = halfOff j 1)
    {h1 : C → _} {h2 : C → _} {h3 : C → _} {hsrc : (h : C) → _} {hdst : (h : C) → _} {h1' : C → _} {h2' : C → _} {h3' : C → _} {hsrc' : (h : C) → _} {hdst' : (h : C) → _} :
    iprop(slotSt c w j (stA n) ∗ ∃ W, owes (c : Thread nD τ) 0 W) ⊢ iprop((iprop(slotSt c w j (.ld (wk n)) ∗ ∃ W, owes (c : Thread nD τ) 0 W) -∗ wp frame (wpE defs₀ 𝒱 (c : Thread nD τ) bd) Set.univ K Q)
      -∗ wp frame (wpE defs₀ 𝒱 (c : Thread nD τ) bd) Set.univ (dite C (fun h => .op (.waitDma2
          ((sems.slice (Rect.unit (s := S37) o1 S1.size (h1 h))).squeeze S_ squeezes_S1_S_).sem
          ((wM.slice (Rect.unit (s := S2x3584x9472) o3 S1x3584x128.size (h3 h)) (fun _ => rfl)).squeeze S3584x128 squeezes_S1x3584x128_S3584x128)
          ((bufM.slice (Rect.unit (s := S37x3584x256) o2 S1x3584x128.size (h2 h)) (fun _ => rfl)).squeeze S3584x128 squeezes_S1x3584x128_S3584x128)
           (hsrc h) (hdst h)) fun _ => .op (.waitDma2
          ((sems.slice (Rect.unit (s := S37) o1' S1.size (h1' h))).squeeze S_ squeezes_S1_S_).sem
          ((wM.slice (Rect.unit (s := S2x3584x9472) o3' S1x3584x128.size (h3' h)) (fun _ => rfl)).squeeze S3584x128 squeezes_S1x3584x128_S3584x128)
          ((bufM.slice (Rect.unit (s := S37x3584x256) o2' S1x3584x128.size (h2' h)) (fun _ => rfl)).squeeze S3584x128 squeezes_S1x3584x128_S3584x128)
           (hsrc' h) (hdst' h)) fun _ => K) (fun _ => K)) Q) := by
  by_cases h : n < 2
  · obtain ⟨k, hk, hw⟩ : ∃ k, stA n = .fl k ∧ wk n = k := by
      rcases (by omega : n = 0 ∨ n = 1) with h | h
      · exact ⟨0, by rw [h]; rfl, by rw [h]; rfl⟩
      · exact ⟨1, by rw [h]; rfl, by rw [h]; rfl⟩
    rw [dif_pos (hC.2 h), hk, hw]
    iintro ⟨Hs, ⟨%W, HW⟩⟩ HK
    iapply (wp_await c w 𝒱 bd k j e1 e2 e1' e2') $$ [Hs HW]
    · isplitl [Hs]; · iexact Hs
      iexact HW
    iintro H
    iapply HK
    iexact H
  · rw [dif_neg (fun e => h (hC.1 e)), stA_ge (by omega) (by omega), show wk n = 1 from by unfold wk; rw [if_neg (by omega)]]
    iintro H HK
    iapply HK
    iexact H

/-- After its tile of the first grid point a slot is filled again with the second weight's tile. -/
theorem wp_refillIf {α : Type} {Q : α → sProp 𝕄} {K : Prog (TpuEff nD τ sig (Elt F) Λ₀ .tc) α} {C : Prop} [Decidable C] (n : ℕ) (j : Fin 37) (hC : C ↔ n = 0)
    {o1 o1' : Fin 1 → Nat} {o2 o3 o2' o3' : Fin 3 → Nat} (e1 : o1 = semOff j) (e2 : o2 = halfOff j 0) (e3 : o3 = blkOff 1 j 0)
    (e1' : o1' = semOff j) (e2' : o2' = halfOff j 1) (e3' : o3' = blkOff 1 j 1)
    {h1 : C → _} {h2 : C → _} {h3 : C → _} {hsrc : (h : C) → _} {hdst : (h : C) → _} {hsem : (h : C) → _}
    {h1' : C → _} {h2' : C → _} {h3' : C → _} {hsrc' : (h : C) → _} {hdst' : (h : C) → _} {hsem' : (h : C) → _} :
    slotSt c w j (.ld (wk n)) ⊢ iprop((slotSt c w j (stB n) -∗ wp frame (wpE defs₀ 𝒱 (c : Thread nD τ) bd) Set.univ K Q)
      -∗ wp frame (wpE defs₀ 𝒱 (c : Thread nD τ) bd) Set.univ (dite C (fun h => .op (.enqueueDma
          ((wM.slice (Rect.unit (s := S2x3584x9472) o3 S1x3584x128.size (h3 h)) (fun _ => rfl)).squeeze S3584x128 squeezes_S1x3584x128_S3584x128)
          (.here ((bufM.slice (Rect.unit (s := S37x3584x256) o2 S1x3584x128.size (h2 h)) (fun _ => rfl)).squeeze S3584x128 squeezes_S1x3584x128_S3584x128))
          (.dma ((sems.slice (Rect.unit (s := S37) o1 S1.size (h1 h))).squeeze S_ squeezes_S1_S_).sem) (hsrc h) (hdst h) (hsem h)) fun _ => .op (.enqueueDma
          ((wM.slice (Rect.unit (s := S2x3584x9472) o3' S1x3584x128.size (h3' h)) (fun _ => rfl)).squeeze S3584x128 squeezes_S1x3584x128_S3584x128)
          (.here ((bufM.slice (Rect.unit (s := S37x3584x256) o2' S1x3584x128.size (h2' h)) (fun _ => rfl)).squeeze S3584x128 squeezes_S1x3584x128_S3584x128))
          (.dma ((sems.slice (Rect.unit (s := S37) o1' S1.size (h1' h))).squeeze S_ squeezes_S1_S_).sem) (hsrc' h) (hdst' h) (hsem' h)) fun _ => K)
          (fun _ => K)) Q) := by
  by_cases h : n = 0
  · rw [dif_pos (hC.2 h), show stB n = .fl 1 from by rw [h]; rfl]
    iintro Hs HK
    ihave Hs := (ld_free c w _ _) $$ Hs
    iapply (wp_start c w 𝒱 bd 1 j e1 e2 e3 e1' e2' e3') $$ Hs
    iintro Hs
    iapply HK
    iexact Hs
  · rw [dif_neg (fun e => h (hC.1 e)), show stB n = .ld 1 from stA_ge (by omega) (by omega), show wk n = 1 from by unfold wk; rw [if_neg h]]
    iintro Hs HK
    iapply HK
    iexact Hs

end Tile

end Cert.GateUp.Hand
-- ==== Proof.GateUpTrip2.lean ====
/-
  The main loop of the gate and up projections, four tiles a trip, for the program `GateUp`: the offsets and conditions its body
  computes, the slots' states as the tiles go by, and the loop by its invariant.
-/
module

public import proofs.«01_k».proof.Proof.GateUpTrip
public import proofs.«01_k».proof.Proof.Gen.GateUp.Loops

@[expose] public section

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the main loop computes -/

theorem trips2 : k0_t2_loop.trips = 9 := by decide

/-- The four tiles a trip of the main loop treats. -/
abbrev j0 (g : Fin k0_t2_loop.trips) : Fin 37 := ⟨4 * g.val, by have := g.isLt.trans_eq trips2; omega⟩
abbrev j1 (g : Fin k0_t2_loop.trips) : Fin 37 := ⟨4 * g.val + 1, by have := g.isLt.trans_eq trips2; omega⟩
abbrev j2 (g : Fin k0_t2_loop.trips) : Fin 37 := ⟨4 * g.val + 2, by have := g.isLt.trans_eq trips2; omega⟩
abbrev j3 (g : Fin k0_t2_loop.trips) : Fin 37 := ⟨4 * g.val + 3, by have := g.isLt.trans_eq trips2; omega⟩

theorem off5_eq : ∀ g, k0_off5 g = semOff (j0 g) := by decide
theorem off6_eq : ∀ g, k0_off6 g = halfOff (j0 g) 0 := by decide
theorem off8_eq : ∀ g, k0_off8 g = halfOff (j0 g) 1 := by decide
theorem off13_eq : ∀ g, k0_off13 g = semOff (j0 g) := by decide
theorem off14_eq : ∀ g, k0_off14 g = halfOff (j0 g) 0 := by decide
theorem off16_eq : ∀ g, k0_off16 g = halfOff (j0 g) 1 := by decide
theorem off15_eq0 : ∀ g, k0_off15 g 0#32 = blkOff 1 (j0 g) 0 := by decide
theorem off15_eq1 : ∀ g, k0_off15 g 4736#32 = blkOff 1 (j0 g) 1 := by decide
theorem off9_eq0 : ∀ g, k0_off9 g 0#32 = slotOff (j0 g) := by decide
theorem off10_eq0 : ∀ g, k0_off10 g 0#32 = scOff 0 (j0 g) := by decide
theorem off11_eq0 : ∀ g, k0_off11 g 0#32 = scOff 1 (j0 g) := by decide
theorem off12_eq0 : ∀ g, k0_off12 g 0#32 = colOff (j0 g) := by decide
theorem off17_eq : ∀ g, k0_off17 g = semOff (j1 g) := by decide
theorem off18_eq : ∀ g, k0_off18 g = halfOff (j1 g) 0 := by decide
theorem off20_eq : ∀ g, k0_off20 g = halfOff (j1 g) 1 := by decide
theorem off21_eq : ∀ g, k0_off21 g = semOff (j1 g) := by decide
theorem off22_eq : ∀ g, k0_off22 g = halfOff (j1 g) 0 := by decide
theorem off24_eq : ∀ g, k0_off24 g = halfOff (j1 g) 1 := by decide
theorem off23_eq0 : ∀ g, k0_off23 g 0#32 = blkOff 1 (j1 g) 0 := by decide
theorem off23_eq1 : ∀ g, k0_off23 g 4736#32 = blkOff 1 (j1 g) 1 := by decide
theorem off9_eq1 : ∀ g, k0_off9 g 1#32 = slotOff (j1 g) := by decide
theorem off10_eq1 : ∀ g, k0_off10 g 1#32 = scOff 0 (j1 g) := by decide
theorem off11_eq1 : ∀ g, k0_off11 g 1#32 = scOff 1 (j1 g) := by decide
theorem off12_eq1 : ∀ g, k0_off12 g 1#32 = colOff (j1 g) := by decide
theorem off25_eq : ∀ g, k0_off25 g = semOff (j2 g) := by decide
theorem off26_eq : ∀ g, k0_off26 g = halfOff (j2 g) 0 := by decide
theorem off28_eq : ∀ g, k0_off28 g = halfOff (j2 g) 1 := by decide
theorem off29_eq : ∀ g, k0_off29 g = semOff (j2 g) := by decide
theorem off30_eq : ∀ g, k0_off30 g = halfOff (j2 g) 0 := by decide
theorem off32_eq : ∀ g, k0_off32 g = halfOff (j2 g) 1 := by decide
theorem off31_eq0 : ∀ g, k0_off31 g 0#32 = blkOff 1 (j2 g) 0 := by decide
theorem off31_eq1 : ∀ g, k0_off31 g 4736#32 = blkOff 1 (j2 g) 1 := by decide
theorem off9_eq2 : ∀ g, k0_off9 g 2#32 = slotOff (j2 g) := by decide
theorem off10_eq2 : ∀ g, k0_off10 g 2#32 = scOff 0 (j2 g) := by decide
theorem off11_eq2 : ∀ g, k0_off11 g 2#32 = scOff 1 (j2 g) := by decide
theorem off12_eq2 : ∀ g, k0_off12 g 2#32 = colOff (j2 g) := by decide
theorem off33_eq : ∀ g, k0_off33 g = semOff (j3 g) := by decide
theorem off34_eq : ∀ g, k0_off34 g = halfOff (j3 g) 0 := by decide
theorem off36_eq : ∀ g, k0_off36 g = halfOff (j3 g) 1 := by decide
theorem off37_eq : ∀ g, k0_off37 g = semOff (j3 g) := by decide
theorem off38_eq : ∀ g, k0_off38 g = halfOff (j3 g) 0 := by decide
theorem off40_eq : ∀ g, k0_off40 g = halfOff (j3 g) 1 := by decide
theorem off39_eq0 : ∀ g, k0_off39 g 0#32 = blkOff 1 (j3 g) 0 := by decide
theorem off39_eq1 : ∀ g, k0_off39 g 4736#32 = blkOff 1 (j3 g) 1 := by decide
theorem off9_eq3 : ∀ g, k0_off9 g 3#32 = slotOff (j3 g) := by decide
theorem off10_eq3 : ∀ g, k0_off10 g 3#32 = scOff 0 (j3 g) := by decide
theorem off11_eq3 : ∀ g, k0_off11 g 3#32 = scOff 1 (j3 g) := by decide
theorem off12_eq3 : ∀ g, k0_off12 g 3#32 = colOff (j3 g) := by decide

/-! ## The conditions the body tests -/

theorem i_lt (i : grid0.Coords) : (i 0).val < 8 := (i 0).isLt
theorem cond1_iff (i : grid0.Coords) : k0_cond1 i = 1#1 ↔ (i 0).val = 0 := by
  have h := i_lt i; unfold k0_cond1; generalize (i 0).val = n at h ⊢; revert n; decide
theorem cond2_iff (i : grid0.Coords) : k0_cond2 i = 1#1 ↔ (i 0).val < 2 := by
  have h := i_lt i; unfold k0_cond2; generalize (i 0).val = n at h ⊢; revert n; decide
theorem cond3_iff (i : grid0.Coords) : k0_cond3 i = 1#1 ↔ (i 0).val = 0 := by
  have h := i_lt i; unfold k0_cond3; generalize (i 0).val = n at h ⊢; revert n; decide
theorem cond4_iff (i : grid0.Coords) : k0_cond4 i = 1#1 ↔ (i 0).val < 2 := by
  have h := i_lt i; unfold k0_cond4; generalize (i 0).val = n at h ⊢; revert n; decide
theorem cond5_iff (i : grid0.Coords) : k0_cond5 i = 1#1 ↔ (i 0).val = 0 := by
  have h := i_lt i; unfold k0_cond5; generalize (i 0).val = n at h ⊢; revert n; decide
theorem cond6_iff (i : grid0.Coords) : k0_cond6 i = 1#1 ↔ (i 0).val < 2 := by
  have h := i_lt i; unfold k0_cond6; generalize (i 0).val = n at h ⊢; revert n; decide
theorem cond7_iff (i : grid0.Coords) : k0_cond7 i = 1#1 ↔ (i 0).val = 0 := by
  have h := i_lt i; unfold k0_cond7; generalize (i 0).val = n at h ⊢; revert n; decide
theorem cond8_iff (i : grid0.Coords) : k0_cond8 i = 1#1 ↔ (i 0).val < 2 := by
  have h := i_lt i; unfold k0_cond8; generalize (i 0).val = n at h ⊢; revert n; decide
theorem cond9_iff (i : grid0.Coords) : k0_cond9 i = 1#1 ↔ (i 0).val = 0 := by
  have h := i_lt i; unfold k0_cond9; generalize (i 0).val = n at h ⊢; revert n; decide
theorem cond10_iff (i : grid0.Coords) : k0_cond10 i = 1#1 ↔ (i 0).val < 2 := by
  have h := i_lt i; unfold k0_cond10; generalize (i 0).val = n at h ⊢; revert n; decide
theorem cond11_iff (i : grid0.Coords) : k0_cond11 i = 1#1 ↔ (i 0).val = 0 := by
  have h := i_lt i; unfold k0_cond11; generalize (i 0).val = n at h ⊢; revert n; decide

/-! ## The slots' states -/

/-- The slots of grid point `n` when its first `m` tiles are done. -/
def stN (n m : ℕ) (j : Fin 37) : St := if j.val < m then stB n else stA n
theorem stN_zero (n : ℕ) : stN n 0 = fun _ => stA n := by funext j; simp [stN]
theorem stN_end (n : ℕ) : stN n 37 = fun _ => stA (n + 1) := by funext j; have := j.isLt; unfold stN stB; rw [if_pos (by omega)]
theorem stN_at (n : ℕ) (j : Fin 37) : stN n j.val j = stA n := by unfold stN; simp
theorem stN_succ (n : ℕ) (j : Fin 37) : Function.update (stN n j.val) j (stB n) = stN n (j.val + 1) := by
  funext j'
  by_cases h1 : j' = j
  · subst h1; rw [Function.update_self]; unfold stN; simp
  · rw [Function.update_of_ne h1]
    have h1' : j'.val ≠ j.val := fun e => h1 (Fin.ext e)
    unfold stN
    by_cases h : j'.val < j.val
    · rw [if_pos h, if_pos (by omega)]
    · rw [if_neg h, if_neg (by omega)]

section Loops
variable (c : Dev nD) (w : Buf (Elt F) (wM.view.loc (c : Thread nD τ)))

/-- All the slots. -/
abbrev slots (st : Fin 37 → St) : sProp 𝕄 := Ring.AtW (slotSt c w) st
/-- All the slots but `j`. -/
def slotsBut (n : ℕ) (j : Fin 37) : sProp 𝕄 := Ring.restW (slotSt c w) (stN n j.val) j

theorem slots_take (n : ℕ) (j : Fin 37) : (slots c w (stN n j.val) : sProp 𝕄) ⊢ iprop(slotSt c w j (stA n) ∗ slotsBut c w n j) := by
  refine (BIBase.Entails.of_eq (Ring.AtW_focus (slotSt c w) (stN n j.val) j)).trans ?_
  rw [stN_at]
  exact .rfl
theorem slots_put (n : ℕ) (j : Fin 37) : iprop(slotSt c w j (stB n) ∗ slotsBut c w n j) ⊢ (slots c w (stN n (j.val + 1)) : sProp 𝕄) := by
  rw [← stN_succ]
  exact Ring.AtW_update (slotSt c w) (stN n j.val) j (stB n)

variable (i : grid0.Coords) (arg1 : Memref sig .tc .vmem S576x3584 .fp8e4m3) (harg1 : arg1.IsWhole) (arg2 : Memref sig .tc .vmem S576x1 .f32) (harg2 : arg2.IsWhole)
variable (arg3 : Memref sig .tc .vmem S1x1x9472 .f32) (harg3 : arg3.IsWhole) (harg4 : wM.IsWhole) (arg5 : Memref sig .tc .vmem S576x4736 .fp8e4m3) (harg5 : arg5.IsWhole)
variable (arg6 : Memref sig .tc .vmem S576x1 .f32) (harg6 : arg6.IsWhole) (harg7 : bufM.IsWhole)
variable (arg8 : Memref sig .tc .vmem S576x4736 .f32) (harg8 : arg8.IsWhole) (arg9 : Memref sig .tc .vmem S576x128 .f32) (harg9 : arg9.IsWhole)
variable (f1 : Buf (Elt F) (arg1.view.loc (c : Thread nD τ))) (f2 : Buf (Elt F) (arg2.view.loc (c : Thread nD τ)))
variable (f3 : Buf (Elt F) (arg3.view.loc (c : Thread nD τ)))
variable (𝒱 : Variants)

set_option maxHeartbeats 1000000 in
/-- The main loop: before trip `g` the first `4 g` tiles are done. -/
@[instance_reducible, sl_loop] def loop2 (arg0 : BitVec 32) :
    Gen.LoopInvTy_k0_t2 (F := F) Unit ℕ (Pipeline.UD sig nD τ) ℕ 𝒱 c none Set.univ i arg1 harg1 arg2 harg2 arg3 harg3 wM harg4 arg5 harg5 arg6 harg6 bufM harg7 arg8 harg8 arg9 harg9 sems arg0 where
  inv := fun g _ => iprop(insP c arg1 arg2 arg3 f1 f2 f3 ∗ accP c w arg1 arg2 arg3 arg8 arg9 f1 f2 f3 (wk (i 0).val) (4 * g)
    ∗ (∃ W, owes (c : Thread nD τ) 0 W) ∗ slots c w (stN (i 0).val (4 * g)))
  step := by
    intro g acc
    unfold k0_t2_body
    rw [k0_part1_eq_skeleton, k0_part2_eq_skeleton, k0_part3_eq_skeleton, k0_part4_eq_skeleton, k0_part5_eq_skeleton]
    iintro ⟨HI, HA, HO, HS⟩
    rw [wp_bind]
    unfold k0_part1_skel
    simp only [Prog.bind_lift]
    ihave ⟨Hs, HS⟩ := (slots_take c w (i 0).val (j0 g)) $$ HS
    iapply (wp_awaitIf c w 𝒱 none (i 0).val (j0 g) (cond2_iff i) (off5_eq g) (off6_eq g) (off5_eq g) (off8_eq g)) $$ [Hs HO]
    · isplitl [Hs]; · iexact Hs
      iexact HO
    iintro ⟨Hs, HO⟩
    iapply (wp_ld3 c w arg1 arg2 arg3 f1 f2 f3 𝒱 none (wk (i 0).val) (j0 g) (off9_eq0 g)) $$ [HI Hs]
    · isplitl [HI]; · iexact HI
      iexact Hs
    iintro ⟨HI, Hs⟩
    iapply (wp_ldsc c arg1 arg2 arg3 f1 f2 f3 𝒱 none 0 (j0 g) (off10_eq0 g)) $$ HI
    iintro HI
    iapply (wp_ldsc c arg1 arg2 arg3 f1 f2 f3 𝒱 none 1 (j0 g) (off11_eq0 g)) $$ HI
    iintro HI
    rw [wp_pure]
    imodintro
    rw [wp_bind]
    unfold k0_part2_skel
    simp only [Prog.bind_lift]
    simp only [act0_eq, max0_eq]
    iapply (wp_acc c w arg1 arg2 arg3 arg8 arg9 f1 f2 f3 𝒱 none (wk (i 0).val) (j0 g) (off12_eq0 g) ) $$ HA
    iintro HA
    iapply (wp_refillIf c w 𝒱 none (i 0).val (j0 g) (cond3_iff i) (off13_eq g) (off14_eq g) (off15_eq0 g) (off13_eq g) (off16_eq g) (off15_eq1 g)) $$ Hs
    iintro Hs
    ihave HS := (slots_put c w (i 0).val (j0 g)) $$ [Hs HS]
    · isplitl [Hs]; · iexact Hs
      iexact HS
    ihave ⟨Hs, HS⟩ := (slots_take c w (i 0).val (j1 g)) $$ HS
    iapply (wp_awaitIf c w 𝒱 none (i 0).val (j1 g) (cond4_iff i) (off17_eq g) (off18_eq g) (off17_eq g) (off20_eq g)) $$ [Hs HO]
    · isplitl [Hs]; · iexact Hs
      iexact HO
    iintro ⟨Hs, HO⟩
    iapply (wp_ld3 c w arg1 arg2 arg3 f1 f2 f3 𝒱 none (wk (i 0).val) (j1 g) (off9_eq1 g)) $$ [HI Hs]
    · isplitl [HI]; · iexact HI
      iexact Hs
    iintro ⟨HI, Hs⟩
    rw [wp_pure]
    imodintro
    rw [wp_bind]
    unfold k0_part3_skel
    simp only [Prog.bind_lift]
    iapply (wp_ldsc c arg1 arg2 arg3 f1 f2 f3 𝒱 none 0 (j1 g) (off10_eq1 g)) $$ HI
    iintro HI
    iapply (wp_ldsc c arg1 arg2 arg3 f1 f2 f3 𝒱 none 1 (j1 g) (off11_eq1 g)) $$ HI
    iintro HI
    simp only [act1_eq, max1_eq]
    iapply (wp_acc c w arg1 arg2 arg3 arg8 arg9 f1 f2 f3 𝒱 none (wk (i 0).val) (j1 g) (off12_eq1 g) ) $$ HA
    iintro HA
    iapply (wp_refillIf c w 𝒱 none (i 0).val (j1 g) (cond5_iff i) (off21_eq g) (off22_eq g) (off23_eq0 g) (off21_eq g) (off24_eq g) (off23_eq1 g)) $$ Hs
    iintro Hs
    ihave HS := (slots_put c w (i 0).val (j1 g)) $$ [Hs HS]
    · isplitl [Hs]; · iexact Hs
      iexact HS
    rw [wp_pure]
    imodintro
    rw [wp_bind]
    unfold k0_part4_skel
    simp only [Prog.bind_lift]
    ihave ⟨Hs, HS⟩ := (slots_take c w (i 0).val (j2 g)) $$ HS
    iapply (wp_awaitIf c w 𝒱 none (i 0).val (j2 g) (cond6_iff i) (off25_eq g) (off26_eq g) (off25_eq g) (off28_eq g)) $$ [Hs HO]
    · isplitl [Hs]; · iexact Hs
      iexact HO
    iintro ⟨Hs, HO⟩
    iapply (wp_ld3 c w arg1 arg2 arg3 f1 f2 f3 𝒱 none (wk (i 0).val) (j2 g) (off9_eq2 g)) $$ [HI Hs]
    · isplitl [HI]; · iexact HI
      iexact Hs
    iintro ⟨HI, Hs⟩
    iapply (wp_ldsc c arg1 arg2 arg3 f1 f2 f3 𝒱 none 0 (j2 g) (off10_eq2 g)) $$ HI
    iintro HI
    iapply (wp_ldsc c arg1 arg2 arg3 f1 f2 f3 𝒱 none 1 (j2 g) (off11_eq2 g)) $$ HI
    iintro HI
    rw [wp_pure]
    imodintro
    rw [wp_bind]
    unfold k0_part5_skel
    simp only [Prog.bind_lift]
    simp only [act2_eq, max2_eq]
    iapply (wp_acc c w arg1 arg2 arg3 arg8 arg9 f1 f2 f3 𝒱 none (wk (i 0).val) (j2 g) (off12_eq2 g) ) $$ HA
    iintro HA
    iapply (wp_refillIf c w 𝒱 none (i 0).val (j2 g) (cond7_iff i) (off29_eq g) (off30_eq g) (off31_eq0 g) (off29_eq g) (off32_eq g) (off31_eq1 g)) $$ Hs
    iintro Hs
    ihave HS := (slots_put c w (i 0).val (j2 g)) $$ [Hs HS]
    · isplitl [Hs]; · iexact Hs
      iexact HS
    ihave ⟨Hs, HS⟩ := (slots_take c w (i 0).val (j3 g)) $$ HS
    iapply (wp_awaitIf c w 𝒱 none (i 0).val (j3 g) (cond8_iff i) (off33_eq g) (off34_eq g) (off33_eq g) (off36_eq g)) $$ [Hs HO]
    · isplitl [Hs]; · iexact Hs
      iexact HO
    iintro ⟨Hs, HO⟩
    iapply (wp_ld3 c w arg1 arg2 arg3 f1 f2 f3 𝒱 none (wk (i 0).val) (j3 g) (off9_eq3 g)) $$ [HI Hs]
    · isplitl [HI]; · iexact HI
      iexact Hs
    iintro ⟨HI, Hs⟩
    iapply (wp_ldsc c arg1 arg2 arg3 f1 f2 f3 𝒱 none 0 (j3 g) (off10_eq3 g)) $$ HI
    iintro HI
    rw [wp_pure]
    imodintro
    simp only [Prog.bind_lift]
    iapply (wp_ldsc c arg1 arg2 arg3 f1 f2 f3 𝒱 none 1 (j3 g) (off11_eq3 g)) $$ HI
    iintro HI
    simp only [act3_eq, max3_eq]
    iapply (wp_acc c w arg1 arg2 arg3 arg8 arg9 f1 f2 f3 𝒱 none (wk (i 0).val) (j3 g) (off12_eq3 g) ) $$ HA
    iintro HA
    iapply (wp_refillIf c w 𝒱 none (i 0).val (j3 g) (cond9_iff i) (off37_eq g) (off38_eq g) (off39_eq0 g) (off37_eq g) (off40_eq g) (off39_eq1 g)) $$ Hs
    iintro Hs
    ihave HS := (slots_put c w (i 0).val (j3 g)) $$ [Hs HS]
    · isplitl [Hs]; · iexact Hs
      iexact HS
    rw [wp_pure]
    imodintro
    isplitl [HI]; · iexact HI
    isplitl [HA]; · iexact HA
    isplitl [HO]; · iexact HO
    iexact HS

end Loops

end Cert.GateUp.Hand
-- ==== Proof.GateUpBody.lean ====
/-
  The body of the gate and up projections at one grid point, for the program `GateUp`: the loop that starts all the copies at the first
  grid point, the main loop, the last tile, and the loop that quantises the activations thirty-two rows a trip.
-/
module

public import proofs.«01_k».proof.Proof.GateUpTrip2
public import Idealize.ShloMosaic.Lib.VecWindow

@[expose] public section

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the two other loops compute -/

theorem trips1 : k0_t1_loop.trips = 37 := by decide
theorem trips3 : k0_t3_loop.trips = 18 := by decide

/-- The tile a trip of the first loop starts. -/
abbrev pj (g : Fin k0_t1_loop.trips) : Fin 37 := ⟨g.val, g.isLt.trans_eq trips1⟩
/-- The rows a trip of the last loop quantises. -/
abbrev rj (g : Fin k0_t3_loop.trips) : Fin 18 := ⟨g.val, g.isLt.trans_eq trips3⟩

theorem off1_eq : ∀ g, k0_off1 g = semOff (pj g) := by decide
theorem off2_eq : ∀ g, k0_off2 g = halfOff (pj g) 0 := by decide
theorem off4_eq : ∀ g, k0_off4 g = halfOff (pj g) 1 := by decide
theorem off3_eq0 : ∀ g, k0_off3 g 0#32 = blkOff 0 (pj g) 0 := by decide
theorem off3_eq1 : ∀ g, k0_off3 g 4736#32 = blkOff 0 (pj g) 1 := by decide

abbrev rowOff (r : Fin 18) : Fin 2 → Nat := ![32 * r.val, 0]
theorem off43_eq : ∀ g, k0_off43 g = rowOff (rj g) := by decide
theorem off44_eq : ∀ g, k0_off44 g = rowOff (rj g) := by decide
theorem off45_eq : ∀ g, k0_off45 g = rowOff (rj g) := by decide

theorem rowOff_inb9 (r : Fin 18) : ∀ a, rowOff r a + S32x128.size a ≤ S576x128.size a := by
  have := r.isLt; intro a; fin_cases a
  · show 32 * r.val + 32 ≤ 576; omega
  · show 0 + 128 ≤ 128; omega
theorem rowOff_inb8 (r : Fin 18) : ∀ a, rowOff r a + S32x4736.size a ≤ S576x4736.size a := by
  have := r.isLt; intro a; fin_cases a
  · show 32 * r.val + 32 ≤ 576; omega
  · show 0 + 4736 ≤ 4736; omega
theorem rowOff_inb6 (r : Fin 18) : ∀ a, rowOff r a + S32x1.size a ≤ S576x1.size a := by
  have := r.isLt; intro a; fin_cases a
  · show 32 * r.val + 32 ≤ 576; omega
  · show 0 + 1 ≤ 1; omega

/-- Row block `r` of the running maxima, of the activations, of the scales. -/
abbrev rowR9 (r : Fin 18) : Rect S576x128 := Rect.unit (s := S576x128) (rowOff r) S32x128.size (rowOff_inb9 r)
abbrev rowR8 (r : Fin 18) : Rect S576x4736 := Rect.unit (s := S576x4736) (rowOff r) S32x4736.size (rowOff_inb8 r)
abbrev rowR6 (r : Fin 18) : Rect S576x1 := Rect.unit (s := S576x1) (rowOff r) S32x1.size (rowOff_inb6 r)

theorem row8_disjoint (v : View sig .tc .vmem S576x4736 .fp8e4m3) (r r' : Fin 18) (h : r ≠ r') :
    Disjoint (v.slice (rowR8 r)).set ((v.slice (rowR8 r')).setOn Finset.univ) := by
  refine View.disjoint_slice_of_sep v (rowR8 r) (rowR8 r') (0 : Fin 2) rfl rfl ?_
  have : r.val ≠ r'.val := fun e => h (Fin.ext e)
  show 32 * r.val + 32 ≤ 32 * r'.val ∨ 32 * r'.val + 32 ≤ 32 * r.val
  omega
theorem row6_disjoint (v : View sig .tc .vmem S576x1 .f32) (r r' : Fin 18) (h : r ≠ r') :
    Disjoint (v.slice (rowR6 r)).set ((v.slice (rowR6 r')).setOn Finset.univ) := by
  refine View.disjoint_slice_of_sep v (rowR6 r) (rowR6 r') (0 : Fin 2) rfl rfl ?_
  have : r.val ≠ r'.val := fun e => h (Fin.ext e)
  show 32 * r.val + 32 ≤ 32 * r'.val ∨ 32 * r'.val + 32 ≤ 32 * r.val
  omega

/-- The column block of an element of the activations, and its place inside that block. -/
def colj (y : S576x4736.Idx) : Fin 37 := ⟨(y 1).val / 128, by have h : (y 1).val < 4736 := (y 1).isLt; omega⟩
def inCol (y : S576x4736.Idx) : S576x128.Idx := fun a => match a with
  | ⟨0, _⟩ => ⟨(y 0).val, (y 0).isLt⟩
  | ⟨1, _⟩ => ⟨(y 1).val % 128, Nat.mod_lt _ (by decide)⟩
theorem emb_inCol (y : S576x4736.Idx) : (colR (colj y)).emb (inCol y) = y := by
  funext a
  apply Fin.ext
  rw [Rect.emb_apply]
  fin_cases a
  · show 0 + 1 * (y 0).val = (y 0).val; omega
  · show 128 * ((y 1).val / 128) + 1 * ((y 1).val % 128) = (y 1).val; omega

/-- The activations of a row block, of the inputs and the weight's tiles. -/
def actV (x1 : Vec F S576x3584 .fp8e4m3) (x2 : Vec F S576x1 .f32) (x3 : Vec F S1x1x9472 .f32) (wb : Fin 37 → Vec F S1x3584x256 .fp8e4m3) : Vec F S576x4736 .f32 :=
  fun y => actT x1 x2 x3 (wb (colj y)) (colj y) (inCol y)

/-- Thirty-two rows quantised, and their scales. -/
def quantR (a : Vec F S576x4736 .f32) (mx : Vec F S576x128 .f32) (r : Fin 18) : FVec F S32x4736 .fp8e4m3 :=
  k0_pay5 (fun y => mx ((rowR9 r).emb y)) (fun y => a ((rowR8 r).emb y))
def scaleR (mx : Vec F S576x128 .f32) (r : Fin 18) : FVec F S32x1 .f32 := k0_pay4 (fun y => mx ((rowR9 r).emb y))

/-- The row block of an element of an output window, and its place inside that block. -/
def rowj (a : Fin 576) : Fin 18 := ⟨a.val / 32, by have := a.isLt; omega⟩
def inRow5 (y : S576x4736.Idx) : S32x4736.Idx := fun a => match a with
  | ⟨0, _⟩ => ⟨(y 0).val % 32, Nat.mod_lt _ (by decide)⟩
  | ⟨1, _⟩ => ⟨(y 1).val, (y 1).isLt⟩
def inRow6 (y : S576x1.Idx) : S32x1.Idx := fun a => match a with
  | ⟨0, _⟩ => ⟨(y 0).val % 32, Nat.mod_lt _ (by decide)⟩
  | ⟨1, _⟩ => ⟨(y 1).val, (y 1).isLt⟩
theorem emb_inRow5 (y : S576x4736.Idx) : (rowR8 (rowj (y 0))).emb (inRow5 y) = y := by
  funext a
  apply Fin.ext
  rw [Rect.emb_apply]
  fin_cases a
  · show 32 * ((y 0).val / 32) + 1 * ((y 0).val % 32) = (y 0).val; omega
  · show 0 + 1 * (y 1).val = (y 1).val; omega
theorem emb_inRow6 (y : S576x1.Idx) : (rowR6 (rowj (y 0))).emb (inRow6 y) = y := by
  funext a
  apply Fin.ext
  rw [Rect.emb_apply]
  fin_cases a
  · show 32 * ((y 0).val / 32) + 1 * ((y 0).val % 32) = (y 0).val; omega
  · show 0 + 1 * (y 1).val = (y 1).val; omega
/-- The two output windows whole. -/
def quantV (a : Vec F S576x4736 .f32) (mx : Vec F S576x128 .f32) : Vec F S576x4736 .fp8e4m3 := fun y => quantR a mx (rowj (y 0)) (inRow5 y)
def scaleV (mx : Vec F S576x128 .f32) : Vec F S576x1 .f32 := fun y => scaleR mx (rowj (y 0)) (inRow6 y)

/-! ## The slots between grid points -/

/-- The slots in the first loop, before trip `g`. -/
def stP (g : ℕ) (j : Fin 37) : St := if j.val < g then .fl 0 else .free
theorem stP_zero : stP 0 = fun _ => St.free := by funext j; simp [stP]
theorem stP_end : stP 37 = fun _ => St.fl 0 := by funext j; have := j.isLt; unfold stP; rw [if_pos (by omega)]
theorem stP_at (g : Fin k0_t1_loop.trips) : stP g.val (pj g) = .free := by unfold stP; simp
theorem stP_succ (g : Fin k0_t1_loop.trips) : Function.update (stP g.val) (pj g) (.fl 0) = stP (g.val + 1) := by
  funext j
  by_cases h1 : j = pj g
  · subst h1; rw [Function.update_self]; unfold stP; simp
  · rw [Function.update_of_ne h1]
    have h1' : j.val ≠ g.val := fun e => h1 (Fin.ext e)
    unfold stP
    by_cases h : j.val < g.val
    · rw [if_pos h, if_pos (by omega)]
    · rw [if_neg h, if_neg (by omega)]
/-- A slot between grid points, before point `n`. -/
def stF (n : ℕ) : Fin 37 → St := fun _ => if n = 0 then .free else stA n

section Run
variable (c : Dev nD) (w : Buf (Elt F) (wM.view.loc (c : Thread nD τ)))
variable (i : grid0.Coords) (arg1 : Memref sig .tc .vmem S576x3584 .fp8e4m3) (harg1 : arg1.IsWhole) (arg2 : Memref sig .tc .vmem S576x1 .f32) (harg2 : arg2.IsWhole)
variable (arg3 : Memref sig .tc .vmem S1x1x9472 .f32) (harg3 : arg3.IsWhole) (harg4 : wM.IsWhole) (arg5 : Memref sig .tc .vmem S576x4736 .fp8e4m3) (harg5 : arg5.IsWhole)
variable (arg6 : Memref sig .tc .vmem S576x1 .f32) (harg6 : arg6.IsWhole) (harg7 : bufM.IsWhole)
variable (arg8 : Memref sig .tc .vmem S576x4736 .f32) (harg8 : arg8.IsWhole) (arg9 : Memref sig .tc .vmem S576x128 .f32) (harg9 : arg9.IsWhole)
variable (f1 : Buf (Elt F) (arg1.view.loc (c : Thread nD τ))) (f2 : Buf (Elt F) (arg2.view.loc (c : Thread nD τ)))
variable (f3 : Buf (Elt F) (arg3.view.loc (c : Thread nD τ)))
variable (𝒱 : Variants)

set_option maxHeartbeats 1000000 in

/-! ## The first loop -/

/-- The first loop: every slot filled by copies of its tile of the first weight. -/
@[instance_reducible, sl_loop] def loop1 (h1 : k0_cond1 i = 1#1) :
    Gen.LoopInvTy_k0_t1 (F := F) Unit ℕ (Pipeline.UD sig nD τ) ℕ 𝒱 c none Set.univ i arg1 harg1 arg2 harg2 arg3 harg3 wM harg4 arg5 harg5 arg6 harg6 bufM harg7 arg8 harg8 arg9 harg9 sems h1 where
  inv := fun g _ => slots c w (stP g)
  step := by
    intro g acc
    unfold k0_t1_body slots
    simp only [Prog.bind_lift]
    rw [Ring.AtW_focus _ _ (pj g), stP_at g]
    iintro ⟨Hs, Hrest⟩
    iapply (wp_start c w 𝒱 none 0 (pj g) (off1_eq g) (off2_eq g) (off3_eq0 g) (off1_eq g) (off4_eq g) (off3_eq1 g)) $$ Hs
    iintro Hs
    rw [← stP_succ g]
    rw [wp_pure]
    imodintro
    iapply (Ring.AtW_update (slotSt c w) (stP g.val) (pj g) (.fl 0))
    isplitl [Hs]; · iexact Hs
    iexact Hrest

theorem loop1_inv (c1 : k0_cond1 i = 1#1) (n : ℕ) (a : Unit) : (loop1 c w i arg1 harg1 arg2 harg2 arg3 harg3 harg4 arg5 harg5 arg6 harg6 harg7 arg8 harg8 arg9 harg9 𝒱 c1).inv n a = slots c w (stP n) := rfl
theorem loop1_end (c1 : k0_cond1 i = 1#1) (a : Unit) (h : (i 0).val = 0) :
    (loop1 c w i arg1 harg1 arg2 harg2 arg3 harg3 harg4 arg5 harg5 arg6 harg6 harg7 arg8 harg8 arg9 harg9 𝒱 c1).inv (Scf.trips k0_t1_loop.lb k0_t1_loop.ub k0_t1_loop.st) a ⊢ slots c w (stN (i 0).val 0) := by
  rw [show Scf.trips k0_t1_loop.lb k0_t1_loop.ub k0_t1_loop.st = 37 from trips1, loop1_inv, stP_end, stN_zero, h]
  exact .rfl

/-- At the first grid point all the copies are started. -/
theorem wp_fillIf {α : Type} {Q : α → sProp 𝕄} {K : Prog (TpuEff nD τ sig (Elt F) Λ₀ .tc) α} :
    slots c w (stF (i 0).val) ⊢ iprop((slots c w (stN (i 0).val 0) -∗ wp frame (wpE defs₀ 𝒱 (c : Thread nD τ) none) Set.univ K Q)
      -∗ wp frame (wpE defs₀ 𝒱 (c : Thread nD τ) none) Set.univ
        (if h : k0_cond1 i = 1#1 then Scf.Loop.for k0_t1_loop (k0_t1_ok i h) ⟨⟩ (k0_t1_body (F := F) i arg1 harg1 arg2 harg2 arg3 harg3 wM harg4 arg5 harg5 arg6 harg6 bufM harg7 arg8 harg8 arg9 harg9 sems h) >>= fun _ => K else K) Q) := by
  by_cases h0 : (i 0).val = 0
  · have c1 : k0_cond1 i = 1#1 := (cond1_iff i).2 h0
    rw [dif_pos c1, show stF (i 0).val = fun _ => St.free from by funext j; unfold stF; rw [if_pos h0]]
    iintro Hs HK
    iapply (exec_loop frame (wpE defs₀ 𝒱 (c : Thread nD τ) none) Set.univ k0_t1_loop.lb k0_t1_loop.ub k0_t1_loop.st (k0_t1_ok i c1) ()
      (k0_t1_body (F := F) i arg1 harg1 arg2 harg2 arg3 harg3 wM harg4 arg5 harg5 arg6 harg6 bufM harg7 arg8 harg8 arg9 harg9 sems c1)
      (loop1 c w i arg1 harg1 arg2 harg2 arg3 harg3 harg4 arg5 harg5 arg6 harg6 harg7 arg8 harg8 arg9 harg9 𝒱 c1)) $$ [Hs]
    · rw [loop1_inv, stP_zero]
      iexact Hs
    iintro %acc HL
    iapply HK
    iapply (loop1_end c w i arg1 harg1 arg2 harg2 arg3 harg3 harg4 arg5 harg5 arg6 harg6 harg7 arg8 harg8 arg9 harg9 𝒱 c1 acc h0) $$ HL
  · have c1 : ¬ k0_cond1 i = 1#1 := fun e => h0 ((cond1_iff i).1 e)
    rw [dif_neg c1, show stF (i 0).val = stN (i 0).val 0 from by rw [stN_zero]; funext j; unfold stF; rw [if_neg h0]]
    iintro Hs HK
    iapply HK
    iexact Hs

/-! ## The last loop -/

/-- The activations of the row block when weight `k` is the one used: their tiles side by side. -/
def actW (k : Fin 2) : Vec F S576x4736 .f32 := actV (arg1.view.read (Elt F) f1) (arg2.view.read (Elt F) f2) (arg3.view.read (Elt F) f3) (wcat c w k)
/-- The running maxima after every tile. -/
def maxW (k : Fin 2) : Vec F S576x128 .f32 := maxV (arg1.view.read (Elt F) f1) (arg2.view.read (Elt F) f2) (arg3.view.read (Elt F) f3) (wcat c w k) 37

/-- The two output windows with their first `n` row blocks stored. -/
def outP (a : Vec F S576x4736 .f32) (mx : Vec F S576x128 .f32) (n : ℕ) : sProp 𝕄 :=
  iprop((∃ f, (arg5.view.loc (c : Thread nD τ) ↦[arg5.view.set]{fullShare} f) ∗ ⌜∀ r : Fin 18, r.val < n → (arg5.access (rowR8 r)).read (Elt F) f = quantR a mx r⌝)
    ∗ (∃ f, (arg6.view.loc (c : Thread nD τ) ↦[arg6.view.set]{fullShare} f) ∗ ⌜∀ r : Fin 18, r.val < n → (arg6.access (rowR6 r)).read (Elt F) f = scaleR mx r⌝))

/-- One trip of the last loop: thirty-two rows of the maxima and of the activations read, quantised, and stored. -/
theorem wp_rows {α : Type} {Q : α → sProp 𝕄} (f8 : Buf (Elt F) (arg8.view.loc (c : Thread nD τ))) (f9 : Buf (Elt F) (arg9.view.loc (c : Thread nD τ)))
    (r : Fin 18) {o9 o8 o6 : Fin 2 → Nat} (e9 : o9 = rowOff r) (e8 : o8 = rowOff r) (e6 : o6 = rowOff r)
    {h9 h8 h8' h8'' h6 h6' l9 l8 l5 x5 m5 l6 x6 m6} {K : PUnit → Prog (TpuEff nD τ sig (Elt F) Λ₀ .tc) α} :
    iprop((arg8.view.loc (c : Thread nD τ) ↦[arg8.view.set]{fullShare} f8) ∗ (arg9.view.loc (c : Thread nD τ) ↦[arg9.view.set]{fullShare} f9)
      ∗ outP c arg5 arg6 (arg8.view.read (Elt F) f8) (arg9.view.read (Elt F) f9) r.val) ⊢
    iprop((iprop((arg8.view.loc (c : Thread nD τ) ↦[arg8.view.set]{fullShare} f8) ∗ (arg9.view.loc (c : Thread nD τ) ↦[arg9.view.set]{fullShare} f9)
      ∗ outP c arg5 arg6 (arg8.view.read (Elt F) f8) (arg9.view.read (Elt F) f9) (r.val + 1)) -∗ wp frame (wpE defs₀ 𝒱 (c : Thread nD τ) none) Set.univ (K ⟨⟩) Q)
      -∗ wp frame (wpE defs₀ 𝒱 (c : Thread nD τ) none) Set.univ
        (.op (.load arg9 (Rect.unit (s := S576x128) o9 S32x128.size h9).toLoadRect l9) fun v61 =>
         .op (.load arg8 (Rect.unit (s := S576x4736) o8 S32x4736.size h8).toLoadRect l8) fun v71 =>
         .op (.load arg5 (Rect.unit (s := S576x4736) o8 S32x4736.size h8').toLoadRect l5) fun _ =>
         .op (.store arg5 (Rect.unit (s := S576x4736) o8 S32x4736.size h8'') (k0_pay5 v61 v71) Finset.univ x5 m5) fun _ =>
         .op (.load arg6 (Rect.unit (s := S576x1) o6 S32x1.size h6).toLoadRect l6) fun _ =>
         .op (.store arg6 (Rect.unit (s := S576x1) o6 S32x1.size h6') (k0_pay4 v61) Finset.univ x6 m6) K) Q) := by
  subst e9 e8 e6
  unfold outP
  iintro ⟨H8, H9, ⟨%f5, H5, %h5⟩, ⟨%f6, H6, %h6⟩⟩ HK
  iapply (wp_load_rect 𝒱 (c : Thread nD τ) none Set.univ (m := arg9) (r := rowR9 r) (S := arg9.view.set) (f := f9) (arg9.view.set_slice_subset _)) $$ H9
  iintro H9
  iapply (wp_load_rect 𝒱 (c : Thread nD τ) none Set.univ (m := arg8) (r := rowR8 r) (S := arg8.view.set) (f := f8) (arg8.view.set_slice_subset _)) $$ H8
  iintro H8
  iapply (wp_load_rect 𝒱 (c : Thread nD τ) none Set.univ (m := arg5) (r := rowR8 r) (S := arg5.view.set) (f := f5) (arg5.view.set_slice_subset _)) $$ H5
  iintro H5
  iapply (wp_store 𝒱 (c : Thread nD τ) none Set.univ (m := arg5) (r := rowR8 r) (S := arg5.view.set) (f := f5) (arg5.view.set_slice_subset _)) $$ H5
  iintro H5
  iapply (wp_load_rect 𝒱 (c : Thread nD τ) none Set.univ (m := arg6) (r := rowR6 r) (S := arg6.view.set) (f := f6) (arg6.view.set_slice_subset _)) $$ H6
  iintro H6
  iapply (wp_store 𝒱 (c : Thread nD τ) none Set.univ (m := arg6) (r := rowR6 r) (S := arg6.view.set) (f := f6) (arg6.view.set_slice_subset _)) $$ H6
  iintro H6
  iapply HK
  isplitl [H8]; · iexact H8
  isplitl [H9]; · iexact H9
  isplitl [H5]
  · iexists _
    isplitl [H5]; · iexact H5
    ipureintro
    intro r' hr'
    by_cases hrr : r' = r
    · subst hrr
      exact View.read_write_univ _ _
    · refine (View.read_slice_write_slice_of_disjoint (v := arg5.view) (rowR8 r') (rowR8 r) _ _ _ (row8_disjoint arg5.view r' r hrr)).trans ?_
      refine h5 r' ?_
      have : r'.val ≠ r.val := fun e => hrr (Fin.ext e)
      omega
  · iexists _
    isplitl [H6]; · iexact H6
    ipureintro
    intro r' hr'
    by_cases hrr : r' = r
    · subst hrr
      exact View.read_write_univ _ _
    · refine (View.read_slice_write_slice_of_disjoint (v := arg6.view) (rowR6 r') (rowR6 r) _ _ _ (row6_disjoint arg6.view r' r hrr)).trans ?_
      refine h6 r' ?_
      have : r'.val ≠ r.val := fun e => hrr (Fin.ext e)
      omega

/-- The last loop: before trip `g` the first `g` row blocks are stored. -/
@[instance_reducible, sl_loop] def loop3 (f8 : Buf (Elt F) (arg8.view.loc (c : Thread nD τ))) (f9 : Buf (Elt F) (arg9.view.loc (c : Thread nD τ))) :
    Gen.LoopInvTy_k0_t3 (F := F) Unit ℕ (Pipeline.UD sig nD τ) ℕ 𝒱 c none Set.univ i arg1 harg1 arg2 harg2 arg3 harg3 wM harg4 arg5 harg5 arg6 harg6 bufM harg7 arg8 harg8 arg9 harg9 sems where
  inv := fun g _ => iprop((arg8.view.loc (c : Thread nD τ) ↦[arg8.view.set]{fullShare} f8) ∗ (arg9.view.loc (c : Thread nD τ) ↦[arg9.view.set]{fullShare} f9)
    ∗ outP c arg5 arg6 (arg8.view.read (Elt F) f8) (arg9.view.read (Elt F) f9) g)
  step := by
    intro g acc
    unfold k0_t3_body
    simp only [Prog.bind_lift]
    iintro H
    iapply (wp_rows c arg5 arg6 arg8 arg9 𝒱 f8 f9 (rj g) (off43_eq g) (off44_eq g) (off45_eq g)) $$ H
    iintro H
    rw [wp_pure]
    imodintro
    iexact H

theorem loop3_inv (f8 : Buf (Elt F) (arg8.view.loc (c : Thread nD τ))) (f9 : Buf (Elt F) (arg9.view.loc (c : Thread nD τ))) (n : ℕ) (a : Unit) :
    (loop3 c i arg1 harg1 arg2 harg2 arg3 harg3 harg4 arg5 harg5 arg6 harg6 harg7 arg8 harg8 arg9 harg9 𝒱 f8 f9).inv n a
      = iprop((arg8.view.loc (c : Thread nD τ) ↦[arg8.view.set]{fullShare} f8) ∗ (arg9.view.loc (c : Thread nD τ) ↦[arg9.view.set]{fullShare} f9)
        ∗ outP c arg5 arg6 (arg8.view.read (Elt F) f8) (arg9.view.read (Elt F) f9) n) := rfl
theorem loop3_end (f8 : Buf (Elt F) (arg8.view.loc (c : Thread nD τ))) (f9 : Buf (Elt F) (arg9.view.loc (c : Thread nD τ))) (a : Unit) :
    (loop3 c i arg1 harg1 arg2 harg2 arg3 harg3 harg4 arg5 harg5 arg6 harg6 harg7 arg8 harg8 arg9 harg9 𝒱 f8 f9).inv (Scf.trips k0_t3_loop.lb k0_t3_loop.ub k0_t3_loop.st) a
      ⊢ iprop((arg8.view.loc (c : Thread nD τ) ↦[arg8.view.set]{fullShare} f8) ∗ (arg9.view.loc (c : Thread nD τ) ↦[arg9.view.set]{fullShare} f9)
        ∗ outP c arg5 arg6 (arg8.view.read (Elt F) f8) (arg9.view.read (Elt F) f9) 18) := by
  rw [show Scf.trips k0_t3_loop.lb k0_t3_loop.ub k0_t3_loop.st = 18 from trips3, loop3_inv]

/-- The accumulators whole. -/
theorem acc_done (k : Fin 2) (f8 : Buf (Elt F) (arg8.view.loc (c : Thread nD τ))) (f9 : Buf (Elt F) (arg9.view.loc (c : Thread nD τ)))
    (h8 : ∀ j : Fin 37, j.val < 37 → (arg8.access (colR j)).read (Elt F) f8 = actJ c w arg1 arg2 arg3 f1 f2 f3 k j)
    (h9 : (arg9.access fullR9).read (Elt F) f9 = maxN c w arg1 arg2 arg3 f1 f2 f3 k 37) :
    arg8.view.read (Elt F) f8 = actW c w arg1 arg2 arg3 f1 f2 f3 k ∧ arg9.view.read (Elt F) f9 = maxW c w arg1 arg2 arg3 f1 f2 f3 k := by
  constructor
  · funext y
    have hy := congrFun (h8 (colj y) (colj y).isLt) (inCol y)
    refine Eq.trans ?_ hy
    show _ = arg8.view.read (Elt F) f8 ((colR (colj y)).emb (inCol y))
    rw [emb_inCol]
  · funext y
    refine Eq.trans ?_ (congrFun h9 y)
    show _ = arg9.view.read (Elt F) f9 (fullR9.emb y)
    rw [show fullR9.emb y = y from Rect.emb_unit_full _ _]

/-! ## The body -/

theorem loop2_inv (arg0 : BitVec 32) (n : ℕ) (a : Unit) :
    (loop2 c w i arg1 harg1 arg2 harg2 arg3 harg3 harg4 arg5 harg5 arg6 harg6 harg7 arg8 harg8 arg9 harg9 f1 f2 f3 𝒱 arg0).inv n a
      = iprop(insP c arg1 arg2 arg3 f1 f2 f3 ∗ accP c w arg1 arg2 arg3 arg8 arg9 f1 f2 f3 (wk (i 0).val) (4 * n)
        ∗ (∃ W, owes (c : Thread nD τ) 0 W) ∗ slots c w (stN (i 0).val (4 * n))) := rfl
theorem loop2_end (arg0 : BitVec 32) (a : Unit) :
    (loop2 c w i arg1 harg1 arg2 harg2 arg3 harg3 harg4 arg5 harg5 arg6 harg6 harg7 arg8 harg8 arg9 harg9 f1 f2 f3 𝒱 arg0).inv (Scf.trips k0_t2_loop.lb k0_t2_loop.ub k0_t2_loop.st) a
      ⊢ iprop(insP c arg1 arg2 arg3 f1 f2 f3 ∗ accP c w arg1 arg2 arg3 arg8 arg9 f1 f2 f3 (wk (i 0).val) 36
        ∗ (∃ W, owes (c : Thread nD τ) 0 W) ∗ slots c w (stN (i 0).val 36)) := by
  rw [show Scf.trips k0_t2_loop.lb k0_t2_loop.ub k0_t2_loop.st = 9 from trips2, loop2_inv]

/-- The accumulators before the first tile. -/
theorem acc_zero (k : Fin 2) (f8 : Buf (Elt F) (arg8.view.loc (c : Thread nD τ))) (f9 : Buf (Elt F) (arg9.view.loc (c : Thread nD τ)))
    (h9 : (arg9.access fullR9).read (Elt F) f9 = k0_pay25 (F := F)) :
    iprop((arg8.view.loc (c : Thread nD τ) ↦[arg8.view.set]{fullShare} f8) ∗ (arg9.view.loc (c : Thread nD τ) ↦[arg9.view.set]{fullShare} f9))
      ⊢ accP c w arg1 arg2 arg3 arg8 arg9 f1 f2 f3 k 0 := by
  unfold accP
  iintro ⟨H8, H9⟩
  isplitl [H8]
  · iexists f8
    isplitl [H8]; · iexact H8
    ipureintro; intro j hj; omega
  · iexists f9
    isplitl [H9]; · iexact H9
    ipureintro; exact h9

/-- The output windows before the last loop. -/
theorem out_zero (a : Vec F S576x4736 .f32) (mx : Vec F S576x128 .f32) :
    iprop((∃ f, arg5.view.loc (c : Thread nD τ) ↦[arg5.view.set]{fullShare} f) ∗ (∃ f, arg6.view.loc (c : Thread nD τ) ↦[arg6.view.set]{fullShare} f))
      ⊢ outP c arg5 arg6 a mx 0 := by
  unfold outP
  iintro ⟨⟨%f5, H5⟩, ⟨%f6, H6⟩⟩
  isplitl [H5]
  · iexists f5
    isplitl [H5]; · iexact H5
    ipureintro; intro j hj; omega
  · iexists f6
    isplitl [H6]; · iexact H6
    ipureintro; intro j hj; omega

/-- The last tile. -/
abbrev jl : Fin 37 := ⟨36, by decide⟩

set_option maxHeartbeats 1000000 in
/-- THE BODY at one grid point. -/
theorem body_run (Q : PUnit → sProp 𝕄) :
    iprop((insP c arg1 arg2 arg3 f1 f2 f3 ∗ ((∃ f, arg5.view.loc (c : Thread nD τ) ↦[arg5.view.set]{fullShare} f) ∗ (∃ f, arg6.view.loc (c : Thread nD τ) ↦[arg6.view.set]{fullShare} f))
        ∗ ((∃ f, arg8.view.loc (c : Thread nD τ) ↦[arg8.view.set]{fullShare} f) ∗ (∃ f, arg9.view.loc (c : Thread nD τ) ↦[arg9.view.set]{fullShare} f))
        ∗ (∃ W, owes (c : Thread nD τ) 0 W) ∗ slots c w (stF (i 0).val))
      ∗ (iprop(insP c arg1 arg2 arg3 f1 f2 f3 ∗ outP c arg5 arg6 (actW c w arg1 arg2 arg3 f1 f2 f3 (wk (i 0).val)) (maxW c w arg1 arg2 arg3 f1 f2 f3 (wk (i 0).val)) 18
        ∗ ((∃ f, arg8.view.loc (c : Thread nD τ) ↦[arg8.view.set]{fullShare} f) ∗ (∃ f, arg9.view.loc (c : Thread nD τ) ↦[arg9.view.set]{fullShare} f))
        ∗ (∃ W, owes (c : Thread nD τ) 0 W) ∗ slots c w (stF ((i 0).val + 1))) -∗ Q ⟨⟩))
    ⊢ wp frame (wpE defs₀ 𝒱 (c : Thread nD τ) none) Set.univ (cc0_gate_up (F := F) i arg1 harg1 arg2 harg2 arg3 harg3 wM harg4 arg5 harg5 arg6 harg6 bufM harg7 arg8 harg8 arg9 harg9 sems) Q := by
  rw [cc0_gate_up_eq_skeleton]
  unfold cc0_gate_up_skel
  rw [show stF ((i 0).val + 1) = stN (i 0).val 37 from by rw [stN_end]; funext j; unfold stF; rw [if_neg (by omega)]]
  rw [k0_part6_eq_skeleton]
  iintro ⟨⟨HI, HOut, ⟨⟨%f8, H8⟩, ⟨%f9, H9⟩⟩, HO, HS⟩, HK⟩
  rw [wp_bind]
  unfold k0_part6_skel
  simp only [Prog.bind_lift]
  iapply (wp_fillIf c w i arg1 harg1 arg2 harg2 arg3 harg3 harg4 arg5 harg5 arg6 harg6 harg7 arg8 harg8 arg9 harg9 𝒱) $$ HS
  iintro HS
  iapply (wp_load_rect 𝒱 (c : Thread nD τ) none Set.univ (m := arg9) (r := fullR9) (S := arg9.view.set) (f := f9) (arg9.view.set_slice_subset _)) $$ H9
  iintro H9
  iapply (wp_store 𝒱 (c : Thread nD τ) none Set.univ (m := arg9) (r := fullR9) (S := arg9.view.set) (f := f9) (arg9.view.set_slice_subset _)) $$ H9
  iintro H9
  ihave HA := (acc_zero c w arg1 arg2 arg3 arg8 arg9 f1 f2 f3 (wk (i 0).val) f8 _ (View.read_write_univ _ _)) $$ [H8 H9]
  · isplitl [H8]; · iexact H8
    iexact H9
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 wM harg4 arg5 harg5 arg6 harg6 bufM harg7 arg8 harg8 arg9 harg9 sems (BitVec.ofNat 32 (i 0).val))
    (loop2 c w i arg1 harg1 arg2 harg2 arg3 harg3 harg4 arg5 harg5 arg6 harg6 harg7 arg8 harg8 arg9 harg9 f1 f2 f3 𝒱 (BitVec.ofNat 32 (i 0).val))) $$ [HI HA HO HS]
  · rw [loop2_inv]
    isplitl [HI]; · iexact HI
    isplitl [HA]; · iexact HA
    isplitl [HO]; · iexact HO
    iexact HS
  iintro %acc HL
  ihave ⟨HI, HA, HO, HS⟩ := (loop2_end c w i arg1 harg1 arg2 harg2 arg3 harg3 harg4 arg5 harg5 arg6 harg6 harg7 arg8 harg8 arg9 harg9 f1 f2 f3 𝒱 (BitVec.ofNat 32 (i 0).val) acc) $$ HL
  ihave ⟨Hs, HS⟩ := (slots_take c w (i 0).val jl) $$ HS
  iapply (wp_awaitIf c w 𝒱 none (i 0).val jl (cond10_iff i) rfl rfl rfl rfl) $$ [Hs HO]
  · isplitl [Hs]; · iexact Hs
    iexact HO
  iintro ⟨Hs, HO⟩
  iapply (wp_ld3 c w arg1 arg2 arg3 f1 f2 f3 𝒱 none (wk (i 0).val) jl rfl) $$ [HI Hs]
  · isplitl [HI]; · iexact HI
    iexact Hs
  iintro ⟨HI, Hs⟩
  iapply (wp_ldsc c arg1 arg2 arg3 f1 f2 f3 𝒱 none 0 jl rfl) $$ HI
  iintro HI
  iapply (wp_ldsc c arg1 arg2 arg3 f1 f2 f3 𝒱 none 1 jl rfl) $$ HI
  iintro HI
  rw [wp_pure]
  imodintro
  iapply (wp_acc c w arg1 arg2 arg3 arg8 arg9 f1 f2 f3 𝒱 none (wk (i 0).val) jl rfl) $$ HA
  iintro HA
  iapply (wp_refillIf c w 𝒱 none (i 0).val jl (cond11_iff i) rfl rfl rfl rfl rfl rfl) $$ Hs
  iintro Hs
  ihave HS := (slots_put c w (i 0).val jl) $$ [Hs HS]
  · isplitl [Hs]; · iexact Hs
    iexact HS
  unfold accP
  icases HA with ⟨⟨%f8, H8, %e8⟩, ⟨%f9, H9, %e9⟩⟩
  obtain ⟨r8, r9⟩ := acc_done c w arg1 arg2 arg3 arg8 arg9 f1 f2 f3 (wk (i 0).val) f8 f9 e8 e9
  ihave HOut := (out_zero c arg5 arg6 (arg8.view.read (Elt F) f8) (arg9.view.read (Elt F) f9)) $$ HOut
  iapply (exec_loop frame (wpE defs₀ 𝒱 (c : Thread nD τ) none) Set.univ k0_t3_loop.lb k0_t3_loop.ub k0_t3_loop.st k0_t3_ok ()
    (k0_t3_body (F := F) i arg1 harg1 arg2 harg2 arg3 harg3 wM harg4 arg5 harg5 arg6 harg6 bufM harg7 arg8 harg8 arg9 harg9 sems)
    (loop3 c i arg1 harg1 arg2 harg2 arg3 harg3 harg4 arg5 harg5 arg6 harg6 harg7 arg8 harg8 arg9 harg9 𝒱 f8 f9)) $$ [H8 H9 HOut]
  · rw [loop3_inv]
    isplitl [H8]; · iexact H8
    isplitl [H9]; · iexact H9
    iexact HOut
  iintro %acc' HL
  ihave ⟨H8, H9, HOut⟩ := (loop3_end c i arg1 harg1 arg2 harg2 arg3 harg3 harg4 arg5 harg5 arg6 harg6 harg7 arg8 harg8 arg9 harg9 𝒱 f8 f9 acc') $$ HL
  rw [wp_pure]
  imodintro
  iapply HK
  isplitl [HI]; · iexact HI
  isplitl [HOut]
  · rw [← r8, ← r9]
    iexact HOut
  isplitl [H8 H9]
  · isplitl [H8]; · iexists f8; iexact H8
    iexists f9; iexact H9
  isplitl [HO]; · iexact HO
  iexact HS

end Run

/-! ## The slots at rest -/

theorem slot_disjoint : ∀ j j' : Fin 37, j ≠ j' → Disjoint (slotR j).set (slotR j').set := by
  intro j j' hne; rw [Finset.disjoint_left]; intro y hy hy'; rw [mem_slot] at hy hy'; exact hne (Fin.ext (hy.symm.trans hy'))
theorem slot_cover : (Finset.univ : Finset (Fin 37)).biUnion (fun j => (slotR j).set) = Finset.univ := by
  ext y; simp only [Finset.mem_biUnion, Finset.mem_univ, true_and, iff_true]; exact ⟨(y 0).cast (by decide), by rw [mem_slot]; rfl⟩

/-- The weight scratch whole is its slots; -/
theorem scratch_split (c : Dev nD) :
    iprop(∃ f : Buf (Elt F) ((c : Thread nD τ).loc cc0_scratch0), ((c : Thread nD τ).loc cc0_scratch0) ↦{fullShare} f)
      ⊢ (bigSep Finset.univ (fun j : Fin 37 => iprop(∃ f, slotP c j f)) : sProp 𝕄) := by
  refine exists_elim fun f => ?_
  rw [Ring.pointsTo_blocks (ℓ := (c : Thread nD τ).loc cc0_scratch0) (fun j : Fin 37 => (slotR j).set) slot_disjoint slot_cover]
  exact bigSep_mono fun j _ => exists_intro (Φ := fun f => (slotP c j f : sProp 𝕄)) f
/-- and its slots are it whole. -/
theorem scratch_join (c : Dev nD) :
    (bigSep Finset.univ (fun j : Fin 37 => iprop(∃ f, slotP c j f)) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) (fun j : Fin 37 => (slotR j).set) slot_disjoint slot_cover (fun _ => default)

/-- The slots at rest, one kind of resource at a time. -/
theorem slots_free (c : Dev nD) (w : Buf (Elt F) (wM.view.loc (c : Thread nD τ))) :
    (slots c w (fun _ => St.free) : sProp 𝕄) = iprop(bigSep Finset.univ (fun j : Fin 37 => (cellP c j : sProp 𝕄))
      ∗ bigSep Finset.univ (fun j : Fin 37 => (iprop(∃ f, slotP c j f) : sProp 𝕄)) ∗ bigSep Finset.univ (fun j : Fin 37 => (tokP c w j : sProp 𝕄))) := by
  unfold slots Ring.AtW
  exact (bigSep_sep ..).trans (congrArg (fun P => iprop(_ ∗ P)) (bigSep_sep ..))

/-- Filled slots are slots at rest. -/
theorem slots_ld (c : Dev nD) (w : Buf (Elt F) (wM.view.loc (c : Thread nD τ))) (k : Fin 2) :
    (slots c w (fun _ => St.ld k) : sProp 𝕄) ⊢ slots c w (fun _ => St.free) :=
  bigSep_mono fun j _ => ld_free c w k j

end Cert.GateUp.Hand
-- ==== Proof.GateUpFrame.lean ====
/-
  The launch of the program `GateUp`: what each window holds after the body at each grid point, the invariant between points,
  the body obligation, the run of @main and the frame. At any float interpretation.
-/
module

public import proofs.«01_k».proof.Proof.GateUpBody

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- What the body leaves in the two output windows at point `t`. -/
def outW3 (c : Dev nD) (t : Fin cfg0.N) : Vec F S576x4736 .fp8e4m3 :=
  quantV (actV (iblk m c 0 t) (iblk m c 1 t) (iblk m c 2 t) (wcat c (V m c main_arg2) (wk t.val)))
    (maxV (iblk m c 0 t) (iblk m c 1 t) (iblk m c 2 t) (wcat c (V m c main_arg2) (wk t.val)) 37)
def outW4 (c : Dev nD) (t : Fin cfg0.N) : Vec F S576x1 .f32 :=
  scaleV (maxV (iblk m c 0 t) (iblk m c 1 t) (iblk m c 2 t) (wcat c (V m c main_arg2) (wk t.val)) 37)

/-- The two accumulators, at any contents. -/
abbrev accs (c : Dev nD) : sProp 𝕄 :=
  iprop((∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f))

/-- What is left of the weight array beside the tokens of the slots. -/
abbrev wRest (c : Dev nD) : sProp 𝕄 := wM.view.loc (c : Thread nD τ) ↦[Finset.univ]{Transfers.shareDrop fullShare 37} (V m c main_arg2)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outW3 m c t
    | ⟨4, _⟩ => outW4 m c t
  Φ t := iprop((∃ r, prngReg c r) ∗ slots c (V m c main_arg2) (stF t.val) ∗ wRest m c ∗ accs c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outW3 m c t := by dsimp only [dats]
theorem after0_4 (c : Dev nD) (t : Fin cfg0.N) : (dats m 0 c).after 4 t = outW4 m c t := by dsimp only [dats]

theorem coord_t (t : Fin cfg0.N) : ((grid0.coords t) 0).val = t.val := by
  rcases fin_N0 t with h | h | h | h | h | h | h | h <;> rw [h] <;> decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ r, prngReg c r) ∗ slots c (V m c main_arg2) (stF (t.val + 1)) ∗ wRest m c ∗ accs c) from rfl,
    show (dats m 0 c).Φ t.castSucc = iprop((∃ r, prngReg c r) ∗ slots c (V m c main_arg2) (stF t.val) ∗ wRest m c ∗ accs c) from rfl,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c)]
  unfold Dat.owesAt Pipeline.owesWithin
  rw [show (dats m 0 c).owed t.castSucc = 0 from rfl, show (dats m 0 c).owed t.succ = 0 from rfl]
  unfold owns
  iintro ⟨⟨Hg, Hs, Hw, Ha⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩⟩
  iapply (body_run c (V m c main_arg2) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.isWhole_whole _) (st0_3 t) (hstage0_3 ((cfg0.slots t 3).cast nbuf0_3)) (st0_4 t)
    (hstage0_4 ((cfg0.slots t 4).cast nbuf0_4)) (Memref.isWhole_whole _) (Memref.whole cc0_scratch1) (Memref.isWhole_whole _) (Memref.whole cc0_scratch2)
    (Memref.isWhole_whole _) f1 f2 f3 Variants.none _)
  rw [coord_t t]
  isplitr [Hg Hw]
  · isplitl [H1 H2 H3]
    · unfold insP
      isplitl [H1]; · iexact H1
      isplitl [H2]; · iexact H2
      iexact H3
    isplitl [H5 H6]
    · isplitl [H5]; · iexists f5; iexact H5
      iexists f6; iexact H6
    isplitl [Ha]; · iexact Ha
    isplitl [HW]; · iexists W; iexact HW
    iexact Hs
  · unfold insP outP
    iintro ⟨⟨H1, H2, H3⟩, ⟨⟨%f5', H5, %h5⟩, ⟨%f6', H6, %h6⟩⟩, Ha, ⟨%W', HW'⟩, Hs⟩
    isplitl [Hg Hs Hw Ha]
    · isplitl [Hg]; · iexact Hg
      isplitl [Hs]; · iexact Hs
      isplitl [Hw]; · iexact Hw
      iexact Ha
    isplitl [HW']
    · iexists W'; isplitr; · ipureintro; exact fun _ _ => Or.inl trivial
      iexact HW'
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H5]
    · iexists f5'; isplitr
      · ipureintro
        funext y
        have hy := congrFun (h5 (rowj (y 0)) (rowj (y 0)).isLt) (inRow5 y)
        unfold outW3 quantV
        rw [← e1, ← e2, ← e3]
        refine Eq.trans ?_ hy
        show _ = (st0_3 t).view.read (Elt F) f5' ((rowR8 (rowj (y 0))).emb (inRow5 y))
        rw [emb_inRow5]
      · iexact H5
    iexists f6'; isplitr
    · ipureintro
      funext y
      have hy := congrFun (h6 (rowj (y 0)) (rowj (y 0)).isLt) (inRow6 y)
      unfold outW4 scaleV
      rw [← e1, ← e2, ← e3]
      refine Eq.trans ?_ hy
      show _ = (st0_4 t).view.read (Elt F) f6' ((rowR6 (rowj (y 0))).emb (inRow6 y))
      rw [emb_inRow6]
    · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 37 → SemLoc sig := fun j => SemLoc.dma (cellM j)
theorem ownSemFacts0 : Pipeline.OwnSemFacts spec0 osem0 := by decide
/-- The one array in HBM the body's transfers read. -/
def H0 : Finset (Ref sig .tc) := {main_arg2}
theorem H0_sub : H0 ⊆ Pipeline.restRefs sig spec0 := by decide

theorem PhiD_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) ∗ (∃ r, prngReg c r)
          ∗ bigSep Finset.univ (fun j : Fin 37 => (cellP c j : sProp 𝕄)) ∗ wM.view.loc (c : Thread nD τ) ↦{fullShare} V m c main_arg2) := by
  rw [Pipeline.ΦD_eq, scopedRest0_eq, show H0 = {main_arg2} from rfl, bigSep_singleton]
  rfl

theorem acc_whole (c : Dev nD) : (accs c : sProp 𝕄) = iprop((∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) := by
  unfold accs
  rw [show (Memref.whole cc0_scratch1).view.set = Finset.univ from View.set_whole _, show (Memref.whole cc0_scratch2).view.set = Finset.univ from View.set_whole _]

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ slots c (V m c main_arg2) (fun _ => St.free) ∗ wRest m c ∗ accs c) from rfl, slots_free, acc_whole]
  iintro ⟨⟨Hs, Ha⟩, Hg, Hc, Hw⟩
  isplitl [Hg]; · iexact Hg
  ihave ⟨Hd, Ht⟩ := (Transfers.pointsTo_toks_split fullShare 37) $$ Hw
  isplitr [Hd Ha]
  · isplitl [Hc]; · iexact Hc
    isplitl [Hs]
    · iapply (scratch_split c) $$ Hs
    · iexact Ht
  · isplitl [Hd]; · iexact Hd
    iexact Ha

theorem hout (c : Dev nD) : (dats m 0 c).Φ (Fin.last _) ⊢ (Pipeline.ΦD osem0 spec0 H0 (V m) c : sProp 𝕄) := by
  rw [PhiD_eq, show (dats m 0 c).Φ (Fin.last _) = iprop((∃ r, prngReg c r) ∗ slots c (V m c main_arg2) (fun _ => St.ld 1) ∗ wRest m c ∗ accs c) from rfl, acc_whole]
  iintro ⟨Hg, Hs, Hd, Ha⟩
  ihave Hs' := ((slots_ld c (V m c main_arg2) 1).trans (BIBase.Entails.of_eq (slots_free c (V m c main_arg2)))) $$ Hs
  icases Hs' with ⟨Hc, Hs, Ht⟩
  isplitl [Hs Ha]
  · isplitl [Hs]; · iapply (scratch_join c) $$ Hs
    iexact Ha
  isplitl [Hg]; · iexact Hg
  isplitl [Hc]; · iexact Hc
  iapply (Transfers.pointsTo_toks_join fullShare 37)
  isplitl [Hd]; · iexact Hd
  iexact Ht

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => hin m c) (hout := fun c => hout m c)

/-- What the launch of the pipeline leaves, as the claims read it: the arguments as they were, the results assembled from
    the output windows point by point, every semaphore at rest. -/
theorem run_post : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc (Pipeline.arrRef spec0 3)) = (dats m 0 c).arrAt 3 cfg0.N
        ∧ r.2.mem ((c.tc : Thread nD τ).loc (Pipeline.arrRef spec0 4)) = (dats m 0 c).arrAt 4 cfg0.N) :=
  (θ_run defs _ _).mono (fun _ h => ⟨⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩, fun c => ⟨(h.1 c).1 3, (h.1 c).1 4⟩⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1) (run_post m ρ)

end Cert.GateUp.Hand
-- ==== Proof.GateUpIdealSlots.lean ====
/-
  The weight ring of the gate and up projections, for the program `GateUpIdeal`: the thirty-seven weight slots of its scratch, each of two
  halves, the blocks of the weight array that the kernel's own copies bring into them, and the thirty-seven semaphores the copies
  are counted on, two copies to a semaphore. A slot is free, filled by two copies under way, or filled. Starting a slot's two copies
  and waiting for them are the two rules of this file.
-/
module

public import proofs.«01_k».proof.Proof.GateUpFrame
public import proofs.«01_k».proof.Proof.Gen.GateUpIdeal.Launch
public import proofs.«01_k».proof.Proof.Gen.GateUpIdeal.Skeleton
public import proofs.«01_k».proof.Proof.Gen.GateUpIdeal.Points
public import proofs.«01_k».proof.Proof.Gen.GateUpIdeal.Frame
public import Idealize.ShloMosaic.Lib.Pipeline.FrameBody
public import Idealize.ShloMosaic.Lib.Ring
public import Idealize.ShloMosaic.Lib.Batch
public import Idealize.ShloMosaic.Lib.Tactic

@[expose] public section

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The weight array, as the body names it. -/
abbrev wM : Memref sig .tc .hbm S2x3584x9472 .fp8e4m3 := Memref.whole main_arg2
/-- The weight scratch. -/
abbrev bufM : Memref sig .tc .vmem S37x3584x256 .fp8e4m3 := Memref.whole cc0_scratch0

abbrev semOff (j : Fin 37) : Fin 1 → Nat := ![j.val]
abbrev slotOff (j : Fin 37) : Fin 3 → Nat := ![j.val, 0, 0]
abbrev halfOff (j : Fin 37) (h : Fin 2) : Fin 3 → Nat := ![j.val, 0, 128 * h.val]
abbrev blkOff (k : Fin 2) (j : Fin 37) (h : Fin 2) : Fin 3 → Nat := ![k.val, 0, 4736 * h.val + 128 * j.val]

theorem semOff_inb (j : Fin 37) : ∀ a, semOff j a + S1.size a ≤ S37.size a := by
  have := j.isLt; intro a; fin_cases a; show j.val + 1 ≤ 37; omega
theorem slotOff_inb (j : Fin 37) : ∀ a, slotOff j a + S1x3584x256.size a ≤ S37x3584x256.size a := by
  have := j.isLt; intro a; fin_cases a
  · show j.val + 1 ≤ 37; omega
  · show 0 + 3584 ≤ 3584; omega
  · show 0 + 256 ≤ 256; omega
theorem halfOff_inb (j : Fin 37) (h : Fin 2) : ∀ a, halfOff j h a + S1x3584x128.size a ≤ S37x3584x256.size a := by
  have := j.isLt; have := h.isLt; intro a; fin_cases a
  · show j.val + 1 ≤ 37; omega
  · show 0 + 3584 ≤ 3584; omega
  · show 128 * h.val + 128 ≤ 256; omega
theorem blkOff_inb (k : Fin 2) (j : Fin 37) (h : Fin 2) : ∀ a, blkOff k j h a + S1x3584x128.size a ≤ S2x3584x9472.size a := by
  have := j.isLt; have := k.isLt; have := h.isLt; intro a; fin_cases a
  · show k.val + 1 ≤ 2; omega
  · show 0 + 3584 ≤ 3584; omega
  · show 4736 * h.val + 128 * j.val + 128 ≤ 9472; omega

/-- The copies' semaphores, as one array. -/
abbrev sems : DmaSems sig S37 := cc0_scratch3

/-- Slot `j`, its half `h` and block `h` of tile `j` of weight `k`, as rectangles. -/
abbrev slotR (j : Fin 37) : Rect S37x3584x256 := Rect.unit (s := S37x3584x256) (slotOff j) S1x3584x256.size (slotOff_inb j)
abbrev halfR (j : Fin 37) (h : Fin 2) : Rect S37x3584x256 := Rect.unit (s := S37x3584x256) (halfOff j h) S1x3584x128.size (halfOff_inb j h)
abbrev blkR (k : Fin 2) (j : Fin 37) (h : Fin 2) : Rect S2x3584x9472 := Rect.unit (s := S2x3584x9472) (blkOff k j h) S1x3584x128.size (blkOff_inb k j h)

/-- Semaphore `j`. -/
def cellM (j : Fin 37) : DmaSem sig := ((sems.slice (Rect.unit (s := S37) (semOff j) S1.size (semOff_inb j))).squeeze S_ squeezes_S1_S_).sem
/-- Half `h` of slot `j` of the scratch. -/
def halfM (j : Fin 37) (h : Fin 2) : Memref sig .tc .vmem S3584x128 .fp8e4m3 :=
  (bufM.slice (halfR j h) (fun _ => rfl)).squeeze S3584x128 squeezes_S1x3584x128_S3584x128
/-- Column block `j` of half `h` of weight `k`. -/
def blkM (k : Fin 2) (j : Fin 37) (h : Fin 2) : Memref sig .tc .hbm S3584x128 .fp8e4m3 :=
  (wM.slice (blkR k j h) (fun _ => rfl)).squeeze S3584x128 squeezes_S1x3584x128_S3584x128

/-! ## The sets of elements -/

theorem half_set (j : Fin 37) (h : Fin 2) : (halfM j h).view.set = (halfR j h).set := (View.set_reshape _ _).trans (View.set_slice_whole _ _)
theorem blk_set (k : Fin 2) (j : Fin 37) (h : Fin 2) : (blkM k j h).view.set = (blkR k j h).set := (View.set_reshape _ _).trans (View.set_slice_whole _ _)

theorem mem_slot (j : Fin 37) (y : S37x3584x256.Idx) : y ∈ (slotR j).set ↔ (y 0).val = j.val := by
  rw [Rect.mem_set_unit]
  have h1 : (y 1).val < 3584 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 3584; omega
    · show 0 ≤ (y 2).val ∧ (y 2).val < 0 + 256; omega
theorem mem_half (j : Fin 37) (h : Fin 2) (y : S37x3584x256.Idx) : y ∈ (halfR j h).set ↔ (y 0).val = j.val ∧ (y 2).val / 128 = h.val := by
  rw [Rect.mem_set_unit]
  have h1 : (y 1).val < 3584 := (y 1).isLt
  have h2 : (y 2).val < 256 := (y 2).isLt
  constructor
  · intro H
    have a0 : j.val ≤ (y 0).val ∧ (y 0).val < j.val + 1 := H 0
    have a2 : 128 * h.val ≤ (y 2).val ∧ (y 2).val < 128 * h.val + 128 := H 2
    omega
  · intro H i; fin_cases i
    · show j.val ≤ (y 0).val ∧ (y 0).val < j.val + 1; omega
    · show 0 ≤ (y 1).val ∧ (y 1).val < 0 + 3584; omega
    · show 128 * h.val ≤ (y 2).val ∧ (y 2).val < 128 * h.val + 128; omega
theorem half_sub (j : Fin 37) (h : Fin 2) : (halfR j h).set ⊆ (slotR j).set := fun y hy => (mem_slot j y).2 ((mem_half j h y).1 hy).1
theorem half_rest (j : Fin 37) : (slotR j).set \ (halfR j 0).set = (halfR j 1).set := by
  ext y
  rw [Finset.mem_sdiff, mem_slot, mem_half, mem_half]
  have h2 : (y 2).val < 256 := (y 2).isLt
  show _ ∧ ¬ (_ ∧ _ = 0) ↔ _ ∧ _ = 1
  omega
theorem half_disj (j : Fin 37) : Disjoint (halfR j 0).set (halfR j 1).set := by rw [← half_rest]; exact Finset.disjoint_sdiff
theorem half_union (j : Fin 37) : (halfR j 0).set ∪ (halfR j 1).set = (slotR j).set := by
  rw [← half_rest]; exact Finset.union_sdiff_of_subset (half_sub j 0)
theorem blk_sub (k : Fin 2) (j : Fin 37) : (blkR k j 1).set ⊆ Finset.univ \ (blkR k j 0).set := by
  intro y hy
  rw [Finset.mem_sdiff]
  refine ⟨Finset.mem_univ _, fun hy' => ?_⟩
  rw [Rect.mem_set_unit] at hy hy'
  have a : 4736 * 1 + 128 * j.val ≤ (y 2).val ∧ _ := hy 2
  have b : _ ∧ (y 2).val < 4736 * 0 + 128 * j.val + 128 := hy' 2
  have := j.isLt
  omega

section State
variable (c : Dev nD) (w : Buf (Elt F) (wM.view.loc (c : Thread nD τ)))

/-- What column block `j` of half `h` of weight `k` reads. -/
def wblk (k : Fin 2) (j : Fin 37) (h : Fin 2) : S3584x128.Idx → Elt F .fp8e4m3 := (blkM k j h).view.read (Elt F) w

/-- The share of the weight array that slot `j`'s copies read under. -/
abbrev tokS (j : Fin 37) : PosShare TreeShare := Transfers.shareTok fullShare 37 j

/-- The semaphore at rest. -/
abbrev cellP (j : Fin 37) : sProp 𝕄 := semVal ((c : Thread nD τ), SemLoc.dma (cellM j)) 0
/-- Slot `j` at contents `f`. -/
abbrev slotP (j : Fin 37) (f : Buf (Elt F) (bufM.view.loc (c : Thread nD τ))) : sProp 𝕄 :=
  bufM.view.loc (c : Thread nD τ) ↦[(slotR j).set]{fullShare} f
/-- Half `h` of slot `j` at contents `f`. -/
abbrev halfP (j : Fin 37) (h : Fin 2) (f : Buf (Elt F) (bufM.view.loc (c : Thread nD τ))) : sProp 𝕄 :=
  (halfM j h).view.loc (c : Thread nD τ) ↦[(halfM j h).view.set]{fullShare} f
/-- The slot's read share of the whole weight array. -/
abbrev tokP (j : Fin 37) : sProp 𝕄 := wM.view.loc (c : Thread nD τ) ↦[Finset.univ]{tokS j} w
/-- Half `h` of slot `j`'s contents once its copy has landed on contents `f`. -/
abbrev landed (k : Fin 2) (j : Fin 37) (f : Buf (Elt F) (bufM.view.loc (c : Thread nD τ))) (h : Fin 2) : Buf (Elt F) (bufM.view.loc (c : Thread nD τ)) :=
  (halfM j h).view.write (Elt F) f (wblk c w k j h) Finset.univ
/-- Slot `j` filled with tile `j` of weight `k`. -/
def fullP (k : Fin 2) (j : Fin 37) : sProp 𝕄 := iprop(∃ f, slotP c j f ∗ ⌜∀ h, (halfM j h).view.read (Elt F) f = wblk c w k j h⌝)
/-- A block's elements under the slot's share, and what is left beside the two blocks. -/
abbrev srcP (k : Fin 2) (j : Fin 37) (h : Fin 2) : sProp 𝕄 :=
  (blkM k j h).view.loc (c : Thread nD τ) ↦[(blkM k j h).view.set]{tokS j} w
abbrev srcRestP (k : Fin 2) (j : Fin 37) : sProp 𝕄 :=
  wM.view.loc (c : Thread nD τ) ↦[(Finset.univ \ (blkR k j 0).set) \ (blkR k j 1).set]{tokS j} w

/-- What the two copies into slot `j` deliver. -/
def deliv (k : Fin 2) (j : Fin 37) (f : Buf (Elt F) (bufM.view.loc (c : Thread nD τ))) (h : Fin 2) : sProp 𝕄 :=
  iprop(halfP c j h (landed c w k j f h) ∗ srcP c w k j h)

theorem halfP_eq (j : Fin 37) (h : Fin 2) (f : Buf (Elt F) (bufM.view.loc (c : Thread nD τ))) :
    (halfP c j h f : sProp 𝕄) = (bufM.view.loc (c : Thread nD τ) ↦[(halfR j h).set]{fullShare} f : sProp 𝕄) :=
  congrArg (fun S => (_ ↦[S]{fullShare} f : sProp 𝕄)) (half_set j h)

theorem srcP_eq (k : Fin 2) (j : Fin 37) (h : Fin 2) :
    (srcP c w k j h : sProp 𝕄) = (wM.view.loc (c : Thread nD τ) ↦[(blkR k j h).set]{tokS j} w : sProp 𝕄) :=
  congrArg (fun S => (_ ↦[S]{tokS j} w : sProp 𝕄)) (blk_set k j h)

instance deliv_storable (k : Fin 2) (j : Fin 37) (f : Buf (Elt F) (bufM.view.loc (c : Thread nD τ))) (h : Fin 2) :
    Storable (upEmb : UEmb _ 𝕄) (deliv c w k j f h) := by
  unfold deliv; rw [halfP_eq, srcP_eq]; infer_instance

/-- One copy's credit. -/
abbrev credN (j : Fin 37) : ℕ := (halfM j 0).view.dmaCredit

/-- What a slot is doing. -/
inductive St
  | free
  | fl (k : Fin 2)
  | ld (k : Fin 2)

/-- What is held of slot `j` in each state. -/
def slotSt (j : Fin 37) : St → sProp 𝕄
  | .free => iprop(cellP c j ∗ (∃ f, slotP c j f) ∗ tokP c w j)
  | .fl k => iprop(∃ f, Transfers.Batch (countersEmb) (c : Thread nD τ) (SemLoc.dma (cellM j)) () (credN j) (deliv c w k j f) 2 0 ∗ srcRestP c w k j)
  | .ld k => iprop(cellP c j ∗ fullP c w k j ∗ tokP c w j)

theorem tok_split (k : Fin 2) (j : Fin 37) : (tokP c w j : sProp 𝕄) ⊣⊢ iprop(srcP c w k j 0 ∗ srcP c w k j 1 ∗ srcRestP c w k j) := by
  rw [srcP_eq, srcP_eq]
  exact (pointsTo_split_subset (Finset.subset_univ _)).trans
    ⟨sep_mono_right (pointsTo_split_subset (blk_sub k j)).1, sep_mono_right (pointsTo_split_subset (blk_sub k j)).2⟩

theorem slot_split (j : Fin 37) (f : Buf (Elt F) (bufM.view.loc (c : Thread nD τ))) :
    (slotP c j f : sProp 𝕄) ⊢ iprop(halfP c j 0 f ∗ halfP c j 1 f) := by
  rw [halfP_eq, halfP_eq, ← half_rest]
  exact (pointsTo_split_subset (half_sub j 0)).1

/-- The two halves landed are the slot filled. -/
theorem slot_join (k : Fin 2) (j : Fin 37) (f : Buf (Elt F) (bufM.view.loc (c : Thread nD τ))) :
    iprop(halfP c j 0 (landed c w k j f 0) ∗ halfP c j 1 (landed c w k j f 1)) ⊢ (fullP c w k j : sProp 𝕄) := by
  have e0 : (halfP c j 0 (landed c w k j f 0) : sProp 𝕄) = halfP c j 0 (landed c w k j (landed c w k j f 0) 1) := by
    rw [halfP_eq, halfP_eq]
    refine pointsTo_congr fun y hy => (View.write_of_not_mem (v := (halfM j 1).view) _ _ Finset.univ fun hy' => ?_).symm
    rw [View.setOn_univ, half_set] at hy'
    exact Finset.disjoint_left.1 (half_disj j) hy hy'
  have e1 : (halfP c j 1 (landed c w k j f 1) : sProp 𝕄) = halfP c j 1 (landed c w k j (landed c w k j f 0) 1) := by
    refine pointsTo_congr fun y hy => ?_
    obtain ⟨x, -, rfl⟩ := Finset.mem_map.1 hy
    have a := congrFun (View.read_write_univ (v := (halfM j 1).view) (Val := Elt F) f (wblk c w k j 1)) x
    have b := congrFun (View.read_write_univ (v := (halfM j 1).view) (Val := Elt F) (landed c w k j f 0) (wblk c w k j 1)) x
    exact a.trans b.symm
  rw [e0, e1, halfP_eq, halfP_eq]
  unfold fullP
  have hr : ∀ h, (halfM j h).view.read (Elt F) (landed c w k j (landed c w k j f 0) 1) = wblk c w k j h := by
    intro h
    rcases (by omega : h.val = 0 ∨ h.val = 1) with h' | h'
    · obtain rfl : h = 0 := Fin.ext h'
      refine Eq.trans ?_ (View.read_write_univ (v := (halfM j 0).view) (Val := Elt F) f (wblk c w k j 0))
      funext x
      refine View.write_of_not_mem (v := (halfM j 1).view) _ _ Finset.univ fun hy' => ?_
      rw [View.setOn_univ, half_set] at hy'
      refine Finset.disjoint_left.1 (half_disj j) ?_ hy'
      rw [← half_set]
      exact Finset.mem_map_of_mem _ (Finset.mem_univ _)
    · obtain rfl : h = 1 := Fin.ext h'
      exact View.read_write_univ _ _
  iintro ⟨H0, H1⟩
  iexists (landed c w k j (landed c w k j f 0) 1)
  isplitl [H0 H1]
  · rw [slotP, ← half_union]
    iapply (pointsTo_union (half_disj j)).2
    isplitl [H0]; · iexact H0
    iexact H1
  · ipureintro; exact hr

/-- A filled slot may be filled again. -/
theorem ld_free (k : Fin 2) (j : Fin 37) : (slotSt c w j (.ld k) : sProp 𝕄) ⊢ slotSt c w j .free := by
  unfold slotSt fullP
  iintro ⟨Hc, ⟨%f, Hs, -⟩, Ht⟩
  isplitl [Hc]; · iexact Hc
  isplitl [Hs]; · iexists f; iexact Hs
  iexact Ht

theorem deliv_split (k : Fin 2) (j : Fin 37) (f : Buf (Elt F) (bufM.view.loc (c : Thread nD τ))) :
    bigSep Finset.univ (deliv c w k j f)
      ⊢ iprop((halfP c j 0 (landed c w k j f 0) ∗ srcP c w k j 0) ∗ (halfP c j 1 (landed c w k j f 1) ∗ srcP c w k j 1)) := by
  rw [Idealize.SL.BI.bigSep_univ_eq_bigSepL [0, 1] (by decide) (by decide) _]
  exact .rfl

theorem credN_pos (j : Fin 37) : 0 < credN j := (halfM j 0).view.dmaCredit_pos (by decide)

variable (𝒱 : Variants) (bd : Option 𝒱.V)

/-- Starting the two copies of tile `j` of weight `k` into slot `j`. -/
theorem wp_start {α : Type} {Q : α → sProp 𝕄} (k : Fin 2) (j : Fin 37) {o1 o1' : Fin 1 → Nat} {o2 o3 o2' o3' : Fin 3 → Nat} (e1 : o1 = semOff j) (e2 : o2 = halfOff j 0)
    (e3 : o3 = blkOff k j 0) (e1' : o1' = semOff j) (e2' : o2' = halfOff j 1) (e3' : o3' = blkOff k j 1)
    {h1 h2 h3 hsrc hdst hsem h1' h2' h3' hsrc' hdst' hsem'} {K : PUnit → Prog (TpuEff nD τ sig (Elt F) Λ₀ .tc) α} :
    slotSt c w j .free ⊢ iprop((slotSt c w j (.fl k) -∗ wp frame (wpE defs₀ 𝒱 (c : Thread nD τ) bd) Set.univ (K ⟨⟩) Q)
      -∗ wp frame (wpE defs₀ 𝒱 (c : Thread nD τ) bd) Set.univ (.op (.enqueueDma
          ((wM.slice (Rect.unit (s := S2x3584x9472) o3 S1x3584x128.size h3) (fun _ => rfl)).squeeze S3584x128 squeezes_S1x3584x128_S3584x128)
          (.here ((bufM.slice (Rect.unit (s := S37x3584x256) o2 S1x3584x128.size h2) (fun _ => rfl)).squeeze S3584x128 squeezes_S1x3584x128_S3584x128))
          (.dma ((sems.slice (Rect.unit (s := S37) o1 S1.size h1)).squeeze S_ squeezes_S1_S_).sem) hsrc hdst hsem) fun _ => .op (.enqueueDma
          ((wM.slice (Rect.unit (s := S2x3584x9472) o3' S1x3584x128.size h3') (fun _ => rfl)).squeeze S3584x128 squeezes_S1x3584x128_S3584x128)
          (.here ((bufM.slice (Rect.unit (s := S37x3584x256) o2' S1x3584x128.size h2') (fun _ => rfl)).squeeze S3584x128 squeezes_S1x3584x128_S3584x128))
          (.dma ((sems.slice (Rect.unit (s := S37) o1' S1.size h1')).squeeze S_ squeezes_S1_S_).sem) hsrc' hdst' hsem') K) Q) := by
  subst e1 e2 e3 e1' e2' e3'
  show _ ⊢ iprop(_ -∗ wp frame (wpE defs₀ 𝒱 (c : Thread nD τ) bd) Set.univ (.op (.enqueueDmaAs (blkM k j 0) (.here (halfM j 0)) .same (.dma (cellM j)) hsrc hdst hsem) fun _ =>
    .op (.enqueueDmaAs (blkM k j 1) (.here (halfM j 1)) .same (.dma (cellM j)) hsrc' hdst' hsem') K) Q)
  unfold slotSt
  iintro ⟨Hc, ⟨%f, Hs⟩, Ht⟩ HK
  ihave ⟨Hsrc0, Hsrc1, Hrest⟩ := (tok_split c w k j).1 $$ Ht
  ihave ⟨Hs0, Hs1⟩ := (slot_split c j f) $$ Hs
  imod (Transfers.batch_alloc' (Lvl := ℕ) countersEmb (c : Thread nD τ) () (credN j) (deliv c w k j f) (sm := .dma (cellM j)) (E := Set.univ)) $$ Hc with HB
  iapply (Transfers.wp_dmaBatch countersEmb 𝒱 (c : Thread nD τ) bd (src := blkM k j 0) (dst := halfM j 0) () (credN j) rfl (Finset.Subset.refl _)
    (D := deliv c w k j f) (j := 0) (u := 0) (fs := w) (fd := f) (q := tokS j) (by decide) (Nat.zero_le _) (by exact .rfl)) $$ [Hsrc0 Hs0 HB]
  · isplitl [Hsrc0]; · iexact Hsrc0
    isplitl [Hs0]; · iexact Hs0
    iexact HB
  iintro HB
  iapply (Transfers.wp_dmaBatch countersEmb 𝒱 (c : Thread nD τ) bd (src := blkM k j 1) (dst := halfM j 1) () (credN j) rfl (Finset.Subset.refl _)
    (D := deliv c w k j f) (j := 1) (u := 0) (fs := w) (fd := f) (q := tokS j) (by decide) (Nat.zero_le _) (by exact .rfl)) $$ [Hsrc1 Hs1 HB]
  · isplitl [Hsrc1]; · iexact Hsrc1
    isplitl [Hs1]; · iexact Hs1
    iexact HB
  iintro HB
  iapply HK
  iexists f
  isplitl [HB]; · iexact HB
  iexact Hrest

/-- Waiting for the two copies into slot `j`. -/
theorem wp_await {α : Type} {Q : α → sProp 𝕄} (k : Fin 2) (j : Fin 37) {o1 o1' : Fin 1 → Nat} {o2 o3 o2' o3' : Fin 3 → Nat} (e1 : o1 = semOff j) (e2 : o2 = halfOff j 0)
    (e1' : o1' = semOff j) (e2' : o2' = halfOff j 1)
    {h1 h2 h3 hsrc hdst h1' h2' h3' hsrc' hdst'} {K : PUnit → Prog (TpuEff nD τ sig (Elt F) Λ₀ .tc) α} {W : Waits sig Unit} :
    iprop(slotSt c w j (.fl k) ∗ owes (c : Thread nD τ) 0 W) ⊢ iprop((iprop(slotSt c w j (.ld k) ∗ ∃ W', owes (c : Thread nD τ) 0 W') -∗ wp frame (wpE defs₀ 𝒱 (c : Thread nD τ) bd) Set.univ (K ⟨⟩) Q)
      -∗ wp frame (wpE defs₀ 𝒱 (c : Thread nD τ) bd) Set.univ (.op (.waitDma2
          ((sems.slice (Rect.unit (s := S37) o1 S1.size h1)).squeeze S_ squeezes_S1_S_).sem
          ((wM.slice (Rect.unit (s := S2x3584x9472) o3 S1x3584x128.size h3) (fun _ => rfl)).squeeze S3584x128 squeezes_S1x3584x128_S3584x128)
          ((bufM.slice (Rect.unit (s := S37x3584x256) o2 S1x3584x128.size h2) (fun _ => rfl)).squeeze S3584x128 squeezes_S1x3584x128_S3584x128)
           hsrc hdst) fun _ => .op (.waitDma2
          ((sems.slice (Rect.unit (s := S37) o1' S1.size h1')).squeeze S_ squeezes_S1_S_).sem
          ((wM.slice (Rect.unit (s := S2x3584x9472) o3' S1x3584x128.size h3') (fun _ => rfl)).squeeze S3584x128 squeezes_S1x3584x128_S3584x128)
          ((bufM.slice (Rect.unit (s := S37x3584x256) o2' S1x3584x128.size h2') (fun _ => rfl)).squeeze S3584x128 squeezes_S1x3584x128_S3584x128)
           hsrc' hdst') K) Q) := by
  subst e1 e2 e1' e2'
  have hp := credN_pos j
  unfold slotSt
  iintro ⟨⟨%f, HB, Hrest⟩, HO⟩ HK
  iapply (Transfers.wp_waitBatch countersEmb 𝒱 (c : Thread nD τ) bd (sem := cellM j) (dstw := halfM j 0) () (N := credN j) rfl (D := deliv c w k j f) (u := 0) (by omega)) $$ [HB HO]
  · isplitl [HB]; · iexact HB
    iexact HO
  iintro ⟨HB, HO⟩
  iapply (Transfers.wp_waitBatchLast countersEmb 𝒱 (c : Thread nD τ) bd (sem := cellM j) (dstw := halfM j 1) () (N := credN j) rfl hp (D := deliv c w k j f) (u := 0 + credN j) (by omega)) $$ [HB HO]
  · isplitl [HB]; · iexact HB
    iexact HO
  iintro ⟨HD, Hc, HO⟩
  ihave ⟨⟨H0, Hs0⟩, H1, Hs1⟩ := (deliv_split c w k j f) $$ HD
  iapply HK
  isplitr [HO]
  · isplitl [Hc]; · iexact Hc
    isplitl [H0 H1]
    · iapply (slot_join c w k j f)
      isplitl [H0]; · iexact H0
      iexact H1
    iapply (tok_split c w k j).2
    isplitl [Hs0]; · iexact Hs0
    isplitl [Hs1]; · iexact Hs1
    iexact Hrest
  · iexists _; iexact HO

end State

end Cert.GateUpIdeal.Hand
-- ==== Proof.GateUpIdealTrip.lean ====
/-
  One tile of the gate and up projections, for the program `GateUpIdeal`: what a tile computes, what of the accumulators is known after the
  first tiles, and the rules for the pieces of a tile's program: its loads, its two stores, and the conditional wait and refill of its
  weight slot.
-/
module

public import proofs.«01_k».proof.Proof.GateUpIdealSlots
public import Idealize.ShloMosaic.Lib.Pointwise
public import Idealize.ShloMosaic.Lib.ValueLayout

@[expose] public section

noncomputable section

namespace Cert.GateUpIdeal.Hand

open Cert.GateUpIdeal Cert.GateUpIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev colOff (j : Fin 37) : Fin 2 → Nat := ![0, 128 * j.val]
abbrev scOff (h : Fin 2) (j : Fin 37) : Fin 3 → Nat := ![0, 0, 4736 * h.val + 128 * j.val]
theorem colOff_inb (j : Fin 37) : ∀ a, colOff j a + S576x128.size a ≤ S576x4736.size a := by
  have := j.isLt; intro a; fin_cases a
  · show 0 + 576 ≤ 576; omega
  · show 128 * j.val + 128 ≤ 4736; omega
theorem scOff_inb (h : Fin 2) (j : Fin 37) : ∀ a, scOff h j a + S1x1x128.size a ≤ S1x1x9472.size a := by
  have := j.isLt; have := h.isLt; intro a; fin_cases a
  · show 0 + 1 ≤ 1; omega
  · show 0 + 1 ≤ 1; omega
  · show 4736 * h.val + 128 * j.val + 128 ≤ 9472; omega

/-- Column block `j` of the activations. -/
abbrev colR (j : Fin 37) : Rect S576x4736 := Rect.unit (s := S576x4736) (colOff j) S576x128.size (colOff_inb j)
/-- Column block `j` of half `h` of the weight's scale row. -/
abbrev scR (h : Fin 2) (j : Fin 37) : Rect S1x1x9472 := Rect.unit (s := S1x1x9472) (scOff h j) S1x1x128.size (scOff_inb h j)
/-- The whole of the row block's inputs, its scales and the running maxima. -/
abbrev fullR1 : Rect S576x3584 := Rect.unit (s := S576x3584) ![0, 0] S576x3584.size inb_S576x3584_S576x3584_0_0
abbrev fullR2 : Rect S576x1 := Rect.unit (s := S576x1) ![0, 0] S576x1.size inb_S576x1_S576x1_0_0
abbrev fullR9 : Rect S576x128 := Rect.unit (s := S576x128) ![0, 0] S576x128.size inb_S576x128_S576x128_0_0

/-- Tile `j` of the activations, of what the three input windows hold and the weight tile. -/
def actT (x1 : Vec F S576x3584 .fp8e4m3) (x2 : Vec F S576x1 .f32) (x3 : Vec F S1x1x9472 .f32) (wb : Vec F S1x3584x256 .fp8e4m3) (j : Fin 37) : FVec F S576x128 .f32 :=
  k0_pay2 (k0_pay30 (fun y => x1 (fullR1.emb y)) wb (fun y => x2 (fullR2.emb y)) (fun y => x3 ((scR 0 j).emb y)))
    (k0_pay31 (fun y => x1 (fullR1.emb y)) wb (fun y => x2 (fullR2.emb y))) (k0_pay32 (fun y => x3 ((scR 1 j).emb y)))
/-- The running maxima `mx` raised by tile `j`. -/
def maxT (x1 : Vec F S576x3584 .fp8e4m3) (x2 : Vec F S576x1 .f32) (x3 : Vec F S1x1x9472 .f32) (wb : Vec F S1x3584x256 .fp8e4m3) (j : Fin 37) (mx : Vec F S576x128 .f32) : FVec F S576x128 .f32 :=
  k0_pay3 (k0_pay30 (fun y => x1 (fullR1.emb y)) wb (fun y => x2 (fullR2.emb y)) (fun y => x3 ((scR 0 j).emb y)))
    (k0_pay31 (fun y => x1 (fullR1.emb y)) wb (fun y => x2 (fullR2.emb y))) (k0_pay32 (fun y => x3 ((scR 1 j).emb y))) mx

/-- The running maxima after the first `n` tiles, of the inputs and the weight's tiles. -/
def maxV (x1 : Vec F S576x3584 .fp8e4m3) (x2 : Vec F S576x1 .f32) (x3 : Vec F S1x1x9472 .f32) (wb : Fin 37 → Vec F S1x3584x256 .fp8e4m3) : ℕ → FVec F S576x128 .f32
  | 0 => k0_pay25 (F := F)
  | n + 1 => if h : n < 37 then maxT x1 x2 x3 (wb ⟨n, h⟩) ⟨n, h⟩ (maxV x1 x2 x3 wb n) else maxV x1 x2 x3 wb n

theorem col_disjoint (v : View sig .tc .vmem S576x4736 .f32) (j j' : Fin 37) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 128 * j.val + 128 ≤ 128 * j'.val ∨ 128 * j'.val + 128 ≤ 128 * j.val
  omega

/-! ## The tiles' payloads

Each of a trip's four tiles is printed with its arithmetic cut at different places; all are the last tile's. -/

section Payloads
variable (a : Vec F S576x3584 .fp8e4m3) (b : Vec F S1x3584x256 .fp8e4m3) (d : Vec F S576x1 .f32) (s u : Vec F S1x1x128 .f32) (v : Vec F S576x128 .f32)
theorem act0_eq : k0_pay12 (k0_pay7 a b d s) (k0_pay8 a b d u) (k0_pay9 a b d s) (k0_pay10 (F := F)) = k0_pay2 (k0_pay30 a b d s) (k0_pay31 a b d) (k0_pay32 u) := rfl
theorem max0_eq : k0_pay13 (k0_pay7 a b d s) (k0_pay8 a b d u) (k0_pay9 a b d s) (k0_pay10 (F := F)) v = k0_pay3 (k0_pay30 a b d s) (k0_pay31 a b d) (k0_pay32 u) v := rfl
theorem act1_eq : k0_pay17 (k0_pay14 a b d) (k0_pay15 a b d) s u = k0_pay2 (k0_pay30 a b d s) (k0_pay31 a b d) (k0_pay32 u) := rfl
theorem max1_eq : k0_pay18 (k0_pay14 a b d) (k0_pay15 a b d) s u v = k0_pay3 (k0_pay30 a b d s) (k0_pay31 a b d) (k0_pay32 u) v := rfl
theorem act2_eq : k0_pay20 (k0_pay19 a b d s u) = k0_pay2 (k0_pay30 a b d s) (k0_pay31 a b d) (k0_pay32 u) := rfl
theorem max2_eq : k0_pay21 (k0_pay19 a b d s u) v = k0_pay3 (k0_pay30 a b d s) (k0_pay31 a b d) (k0_pay32 u) v := rfl
theorem act3_eq : k0_pay27 (k0_pay22 a b d) (k0_pay23 a b d) (k0_pay24 s) u = k0_pay2 (k0_pay30 a b d s) (k0_pay31 a b d) (k0_pay32 u) := rfl
theorem max3_eq : k0_pay28 (k0_pay22 a b d) (k0_pay23 a b d) (k0_pay24 s) u v = k0_pay3 (k0_pay30 a b d s) (k0_pay31 a b d) (k0_pay32 u) v := rfl
end Payloads

section Tile
variable (c : Dev nD) (w : Buf (Elt F) (wM.view.loc (c : Thread nD τ)))

/-- Tile `j` of weight `k`: its two column blocks side by side. -/
def wcat (k : Fin 2) (j : Fin 37) : Vec F S1x3584x256 .fp8e4m3 := fun y =>
  if h : (y 2).val < 128 then wblk c w k j 0 (ix2 (n0 := 3584) (n1 := 128) (y 1) ⟨(y 2).val, h⟩)
  else wblk c w k j 1 (ix2 (n0 := 3584) (n1 := 128) (y 1) ⟨(y 2).val - 128, by have h2 : (y 2).val < 256 := (y 2).isLt; omega⟩)

theorem half_at (j : Fin 37) (h : Fin 2) (g : Buf (Elt F) (bufM.view.loc (c : Thread nD τ))) (a : Fin 3584) (b : Fin 128) (y : S1x3584x256.Idx)
    (h0 : (y 0).val = 0) (h1 : (y 1).val = a.val) (h2 : (y 2).val = 128 * h.val + b.val) :
    (bufM.access (slotR j)).read (Elt F) g y = (halfM j h).view.read (Elt F) g (ix2 a b) := by
  unfold halfM
  refine congrArg g ?_
  rw [View.emb_reshape]
  show _ = (bufM.view.slice (halfR j h)).emb (Shape.reshapeEquiv _ (ix2 a b))
  rw [show Shape.reshapeEquiv _ (ix2 a b) = (ix3 (0 : Fin 1) a b : S1x3584x128.Idx) from ValueIdx.reshapeEquiv_ix2_1ab _ a b]
  funext i; apply Fin.ext; fin_cases i
  · show j.val + 1 * (y 0).val = j.val + 1 * 0; omega
  · show 0 + 1 * (y 1).val = 0 + 1 * a.val; omega
  · show 0 + 1 * (y 2).val = 128 * h.val + 1 * b.val; omega

/-- A filled slot reads its weight tile. -/
theorem slot_read (k : Fin 2) (j : Fin 37) (g : Buf (Elt F) (bufM.view.loc (c : Thread nD τ))) (hg : ∀ h, (halfM j h).view.read (Elt F) g = wblk c w k j h) :
    (bufM.access (slotR j)).read (Elt F) g = wcat c w k j := by
  funext y
  have h0 : (y 0).val < 1 := (y 0).isLt
  unfold wcat
  by_cases h : (y 2).val < 128
  · rw [dif_pos h, ← hg 0]
    exact half_at c j 0 g _ _ y (by omega) rfl (by show _ = 128 * 0 + _; simp)
  · rw [dif_neg h, ← hg 1]
    exact half_at c j 1 g _ _ y (by omega) rfl (by show _ = 128 * 1 + ((y 2).val - 128); omega)

theorem slot_respell (j : Fin 37) (g : Buf (Elt F) (bufM.view.loc (c : Thread nD τ))) :
    (slotP c j g : sProp 𝕄) = ((bufM.access (slotR j)).loc (c : Thread nD τ) ↦[(bufM.view.slice (slotR j)).set]{fullShare} g : sProp 𝕄) :=
  congrArg (fun S => (bufM.view.loc (c : Thread nD τ) ↦[S]{fullShare} g : sProp 𝕄)) (View.set_slice_whole _ _).symm

variable (arg1 : Memref sig .tc .vmem S576x3584 .fp8e4m3) (arg2 : Memref sig .tc .vmem S576x1 .f32) (arg3 : Memref sig .tc .vmem S1x1x9472 .f32)
variable (arg8 : Memref sig .tc .vmem S576x4736 .f32) (arg9 : Memref sig .tc .vmem S576x128 .f32)
variable (f1 : Buf (Elt F) (arg1.view.loc (c : Thread nD τ))) (f2 : Buf (Elt F) (arg2.view.loc (c : Thread nD τ)))
variable (f3 : Buf (Elt F) (arg3.view.loc (c : Thread nD τ)))

/-- The three input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3))

/-- Tile `j` of the activations when weight `k` is the one used. -/
def actJ (k : Fin 2) (j : Fin 37) : FVec F S576x128 .f32 :=
  actT (arg1.view.read (Elt F) f1) (arg2.view.read (Elt F) f2) (arg3.view.read (Elt F) f3) (wcat c w k j) j
/-- The running maxima after the first `n` tiles. -/
def maxN (k : Fin 2) (n : ℕ) : FVec F S576x128 .f32 :=
  maxV (arg1.view.read (Elt F) f1) (arg2.view.read (Elt F) f2) (arg3.view.read (Elt F) f3) (wcat c w k) n

/-- The accumulators with their first `n` tiles done. -/
def accP (k : Fin 2) (n : ℕ) : sProp 𝕄 :=
  iprop((∃ f, (arg8.view.loc (c : Thread nD τ) ↦[arg8.view.set]{fullShare} f)
      ∗ ⌜∀ j : Fin 37, j.val < n → (arg8.access (colR j)).read (Elt F) f = actJ c w arg1 arg2 arg3 f1 f2 f3 k j⌝)
    ∗ (∃ f, (arg9.view.loc (c : Thread nD τ) ↦[arg9.view.set]{fullShare} f)
      ∗ ⌜(arg9.access fullR9).read (Elt F) f = maxN c w arg1 arg2 arg3 f1 f2 f3 k n⌝))

variable (𝒱 : Variants) (bd : Option 𝒱.V)

/-- A tile's first three loads: the row block, the weight tile, the row block's scales. -/
theorem wp_ld3 {α : Type} {Q : α → sProp 𝕄} (k : Fin 2) (j : Fin 37) {o8 : Fin 3 → Nat} (e8 : o8 = slotOff j)
    {h8 l1 l2 l5} {K : Vec F S576x3584 .fp8e4m3 → Vec F S1x3584x256 .fp8e4m3 → Vec F S576x1 .f32 → Prog (TpuEff nD τ sig (Elt F) Λ₀ .tc) α} :
    iprop(insP c arg1 arg2 arg3 f1 f2 f3 ∗ slotSt c w j (.ld k)) ⊢
    iprop((iprop(insP c arg1 arg2 arg3 f1 f2 f3 ∗ slotSt c w j (.ld k))
        -∗ wp frame (wpE defs₀ 𝒱 (c : Thread nD τ) bd) Set.univ (K (fun y => arg1.view.read (Elt F) f1 (fullR1.emb y)) (wcat c w k j) (fun y => arg2.view.read (Elt F) f2 (fullR2.emb y))) Q)
      -∗ wp frame (wpE defs₀ 𝒱 (c : Thread nD τ) bd) Set.univ
        (.op (.load arg1 (Rect.unit (s := S576x3584) ![0, 0] S576x3584.size inb_S576x3584_S576x3584_0_0).toLoadRect l1) fun v1 =>
         .op (.load bufM (Rect.unit (s := S37x3584x256) o8 S1x3584x256.size h8).toLoadRect l5) fun v2 =>
         .op (.load arg2 (Rect.unit (s := S576x1) ![0, 0] S576x1.size inb_S576x1_S576x1_0_0).toLoadRect l2) fun v3 => K v1 v2 v3) Q) := by
  subst e8
  unfold insP slotSt fullP
  iintro ⟨⟨H1, H2, H3⟩, Hc, ⟨%g, Hs, %hg⟩, Ht⟩ HK
  iapply (wp_load_rect 𝒱 (c : Thread nD τ) bd Set.univ (m := arg1) (r := fullR1) (S := arg1.view.set) (f := f1) (arg1.view.set_slice_subset _)) $$ H1
  iintro H1
  ihave Hs := (BIBase.Entails.of_eq (slot_respell c j g)) $$ Hs
  iapply (wp_load_rect 𝒱 (c : Thread nD τ) bd Set.univ (m := bufM) (r := slotR j) (S := (bufM.view.slice (slotR j)).set) (f := g) (q := fullShare) (Finset.Subset.refl _)) $$ Hs
  iintro Hs
  iapply (wp_load_rect 𝒱 (c : Thread nD τ) bd Set.univ (m := arg2) (r := fullR2) (S := arg2.view.set) (f := f2) (arg2.view.set_slice_subset _)) $$ H2
  iintro H2
  rw [slot_read c w k j g hg]
  iapply HK
  isplitl [H1 H2 H3]
  · isplitl [H1]; · iexact H1
    isplitl [H2]; · iexact H2
    iexact H3
  · isplitl [Hc]; · iexact Hc
    isplitl [Hs]
    · iexists g
      isplitl [Hs]
      · iapply (BIBase.Entails.of_eq (slot_respell c j g).symm) $$ Hs
      · ipureintro; exact hg
    iexact Ht

/-- Loading the scales of half `h` of a tile. -/
theorem wp_ldsc {α : Type} {Q : α → sProp 𝕄} (h : Fin 2) (j : Fin 37) {o : Fin 3 → Nat} (e : o = scOff h j)
    {hi l} {K : Vec F S1x1x128 .f32 → Prog (TpuEff nD τ sig (Elt F) Λ₀ .tc) α} :
    insP c arg1 arg2 arg3 f1 f2 f3 ⊢
    iprop((insP c arg1 arg2 arg3 f1 f2 f3 -∗ wp frame (wpE defs₀ 𝒱 (c : Thread nD τ) bd) Set.univ (K (fun y => arg3.view.read (Elt F) f3 ((scR h j).emb y))) Q)
      -∗ wp frame (wpE defs₀ 𝒱 (c : Thread nD τ) bd) Set.univ
        (.op (.load arg3 (Rect.unit (s := S1x1x9472) o S1x1x128.size hi).toLoadRect l) K) Q) := by
  subst e
  unfold insP
  iintro ⟨H1, H2, H3⟩ HK
  iapply (wp_load_rect 𝒱 (c : Thread nD τ) bd Set.univ (m := arg3) (r := scR h j) (S := arg3.view.set) (f := f3) (arg3.view.set_slice_subset _)) $$ H3
  iintro H3
  iapply HK
  isplitl [H1]; · iexact H1
  isplitl [H2]; · iexact H2
  iexact H3

/-- A tile's two stores: its activations, and the running maxima raised. -/
theorem wp_acc {α : Type} {Q : α → sProp 𝕄} (k : Fin 2) (j : Fin 37) {o : Fin 2 → Nat} (e : o = colOff j)
    {hi hi' l8 x8 m8 l9 l9' x9 m9} {K : PUnit → Prog (TpuEff nD τ sig (Elt F) Λ₀ .tc) α} :
    accP c w arg1 arg2 arg3 arg8 arg9 f1 f2 f3 k j.val ⊢
    iprop((accP c w arg1 arg2 arg3 arg8 arg9 f1 f2 f3 k (j.val + 1) -∗ wp frame (wpE defs₀ 𝒱 (c : Thread nD τ) bd) Set.univ (K ⟨⟩) Q)
      -∗ wp frame (wpE defs₀ 𝒱 (c : Thread nD τ) bd) Set.univ
        (.op (.load arg8 (Rect.unit (s := S576x4736) o S576x128.size hi).toLoadRect l8) fun _ =>
         .op (.store arg8 (Rect.unit (s := S576x4736) o S576x128.size hi') (k0_pay2 (k0_pay30 (fun y => arg1.view.read (Elt F) f1 (fullR1.emb y)) (wcat c w k j) (fun y => arg2.view.read (Elt F) f2 (fullR2.emb y)) (fun y => arg3.view.read (Elt F) f3 ((scR 0 j).emb y)))
           (k0_pay31 (fun y => arg1.view.read (Elt F) f1 (fullR1.emb y)) (wcat c w k j) (fun y => arg2.view.read (Elt F) f2 (fullR2.emb y))) (k0_pay32 (fun y => arg3.view.read (Elt F) f3 ((scR 1 j).emb y)))) Finset.univ x8 m8) fun _ =>
         .op (.load arg9 (Rect.unit (s := S576x128) ![0, 0] S576x128.size inb_S576x128_S576x128_0_0).toLoadRect l9) fun v =>
         .op (.load arg9 (Rect.unit (s := S576x128) ![0, 0] S576x128.size inb_S576x128_S576x128_0_0).toLoadRect l9') fun v' =>
         .op (.store arg9 (Rect.unit (s := S576x128) ![0, 0] S576x128.size inb_S576x128_S576x128_0_0) (k0_pay3 (k0_pay30 (fun y => arg1.view.read (Elt F) f1 (fullR1.emb y)) (wcat c w k j) (fun y => arg2.view.read (Elt F) f2 (fullR2.emb y)) (fun y => arg3.view.read (Elt F) f3 ((scR 0 j).emb y)))
           (k0_pay31 (fun y => arg1.view.read (Elt F) f1 (fullR1.emb y)) (wcat c w k j) (fun y => arg2.view.read (Elt F) f2 (fullR2.emb y))) (k0_pay32 (fun y => arg3.view.read (Elt F) f3 ((scR 1 j).emb y))) v) Finset.univ x9 m9) K) Q) := by
  subst e
  unfold accP
  iintro ⟨⟨%f, H8, %hf⟩, ⟨%g, H9, %hg⟩⟩ HK
  iapply (wp_load_rect 𝒱 (c : Thread nD τ) bd Set.univ (m := arg8) (r := colR j) (S := arg8.view.set) (f := f) (arg8.view.set_slice_subset _)) $$ H8
  iintro H8
  iapply (wp_store 𝒱 (c : Thread nD τ) bd Set.univ (m := arg8) (r := colR j) (S := arg8.view.set) (f := f) (arg8.view.set_slice_subset _)) $$ H8
  iintro H8
  iapply (wp_load_rect 𝒱 (c : Thread nD τ) bd Set.univ (m := arg9) (r := fullR9) (S := arg9.view.set) (f := g) (arg9.view.set_slice_subset _)) $$ H9
  iintro H9
  iapply (wp_load_rect 𝒱 (c : Thread nD τ) bd Set.univ (m := arg9) (r := fullR9) (S := arg9.view.set) (f := g) (arg9.view.set_slice_subset _)) $$ H9
  iintro H9
  iapply (wp_store 𝒱 (c : Thread nD τ) bd Set.univ (m := arg9) (r := fullR9) (S := arg9.view.set) (f := g) (arg9.view.set_slice_subset _)) $$ H9
  iintro H9
  iapply HK
  isplitl [H8]
  · iexists _
    isplitl [H8]; · iexact H8
    ipureintro
    intro j' hj'
    by_cases hjj : j' = j
    · subst hjj
      exact View.read_write_univ _ _
    · refine (View.read_slice_write_slice_of_disjoint (v := arg8.view) (colR j') (colR j) _ _ _ (col_disjoint arg8.view j' j hjj)).trans ?_
      refine hf j' ?_
      have : j'.val ≠ j.val := fun e => hjj (Fin.ext e)
      omega
  · iexists _
    isplitl [H9]; · iexact H9
    ipureintro
    refine (View.read_write_univ _ _).trans ?_
    unfold maxN at hg ⊢
    conv_rhs => unfold maxV
    rw [dif_pos j.isLt]
    rw [← hg]
    rfl

/-! ## The conditional wait and refill -/

/-- The weight used at grid point `n`. -/
def wk (n : ℕ) : Fin 2 := if n = 0 then 0 else 1

/-- A slot before its tile of grid point `n`, -/
def stA : ℕ → St
  | 0 => .fl 0
  | 1 => .fl 1
  | _ => .ld 1
theorem stA_ge {n : ℕ} (h0 : n ≠ 0) (h1 : n ≠ 1) : stA n = .ld 1 := by
  obtain ⟨m, rfl⟩ : ∃ m, n = m + 2 := ⟨n - 2, by omega⟩
  rfl
/-- and after. -/
def stB (n : ℕ) : St := stA (n + 1)

/-- Before a tile its slot is waited for, at the two grid points at which a copy is under way. -/
theorem wp_awaitIf {α : Type} {Q : α → sProp 𝕄} {K : Prog (TpuEff nD τ sig (Elt F) Λ₀ .tc) α} {C : Prop} [Decidable C] (n : ℕ) (j : Fin 37) (hC : C ↔ n < 2)
    {o1 o1' : Fin 1 → Nat} {o2 o3 o2' o3' : Fin 3 → Nat} (e1 : o1 = semOff j) (e2 : o2 = halfOff j 0) (e1' : o1' = semOff j) (e2' : o2' = halfOff j 1)
    {h1 : C → _} {h2 : C → _} {h3 : C → _} {hsrc : (h : C) → _} {hdst : (h : C) → _} {h1' : C → _} {h2' : C → _} {h3' : C → _} {hsrc' : (h : C) → _} {hdst' : (h : C) → _} :
    iprop(slotSt c w j (stA n) ∗ ∃ W, owes (c : Thread nD τ) 0 W) ⊢ iprop((iprop(slotSt c w j (.ld (wk n)) ∗ ∃ W, owes (c : Thread nD τ) 0 W) -∗ wp frame (wpE defs₀ 𝒱 (c : Thread nD τ) bd) Set.univ K Q)
      -∗ wp frame (wpE defs₀ 𝒱 (c : Thread nD τ) bd) Set.univ (dite C (fun h => .op (.waitDma2
          ((sems.slice (Rect.unit (s := S37) o1 S1.size (h1 h))).squeeze S_ squeezes_S1_S_).sem
          ((wM.slice (Rect.unit (s := S2x3584x9472) o3 S1x3584x128.size (h3 h)) (fun _ => rfl)).squeeze S3584x128 squeezes_S1x3584x128_S3584x128)
          ((bufM.slice (Rect.unit (s := S37x3584x256) o2 S1x3584x128.size (h2 h)) (fun _ => rfl)).squeeze S3584x128 squeezes_S1x3584x128_S3584x128)
           (hsrc h) (hdst h)) fun _ => .op (.waitDma2
          ((sems.slice (Rect.unit (s := S37) o1' S1.size (h1' h))).squeeze S_ squeezes_S1_S_).sem
          ((wM.slice (Rect.unit (s := S2x3584x9472) o3' S1x3584x128.size (h3' h)) (fun _ => rfl)).squeeze S3584x128 squeezes_S1x3584x128_S3584x128)
          ((bufM.slice (Rect.unit (s := S37x3584x256) o2' S1x3584x128.size (h2' h)) (fun _ => rfl)).squeeze S3584x128 squeezes_S1x3584x128_S3584x128)
           (hsrc' h) (hdst' h)) fun _ => K) (fun _ => K)) Q) := by
  by_cases h : n < 2
  · obtain ⟨k, hk, hw⟩ : ∃ k, stA n = .fl k ∧ wk n = k := by
      rcases (by omega : n = 0 ∨ n = 1) with h | h
      · exact ⟨0, by rw [h]; rfl, by rw [h]; rfl⟩
      · exact ⟨1, by rw [h]; rfl, by rw [h]; rfl⟩
    rw [dif_pos (hC.2 h), hk, hw]
    iintro ⟨Hs, ⟨%W, HW⟩⟩ HK
    iapply (wp_await c w 𝒱 bd k j e1 e2 e1' e2') $$ [Hs HW]
    · isplitl [Hs]; · iexact Hs
      iexact HW
    iintro H
    iapply HK
    iexact H
  · rw [dif_neg (fun e => h (hC.1 e)), stA_ge (by omega) (by omega), show wk n = 1 from by unfold wk; rw [if_neg (by omega)]]
    iintro H HK
    iapply HK
    iexact H

/-- After its tile of the first grid point a slot is filled again with the second weight's tile. -/
theorem wp_refillIf {α : Type} {Q : α → sProp 𝕄} {K : Prog (TpuEff nD τ sig (Elt F) Λ₀ .tc) α} {C : Prop} [Decidable C] (n : ℕ) (j : Fin 37) (hC : C ↔ n = 0)
    {o1 o1' : Fin 1 → Nat} {o2 o3 o2' o3' : Fin 3 → Nat} (e1 : o1 = semOff j) (e2 : o2 = halfOff j 0) (e3 : o3 = blkOff 1 j 0)
    (e1' : o1' = semOff j) (e2' : o2' = halfOff j 1) (e3' : o3' = blkOff 1 j 1)
    {h1 : C → _} {h2 : C → _} {h3 : C → _} {hsrc : (h : C) → _} {hdst : (h : C) → _} {hsem : (h : C) → _}
    {h1' : C → _} {h2' : C → _} {h3' : C → _} {hsrc' : (h : C) → _} {hdst' : (h : C) → _} {hsem' : (h : C) → _} :
    slotSt c w j (.ld (wk n)) ⊢ iprop((slotSt c w j (stB n) -∗ wp frame (wpE defs₀ 𝒱 (c : Thread nD τ) bd) Set.univ K Q)
      -∗ wp frame (wpE defs₀ 𝒱 (c : Thread nD τ) bd) Set.univ (dite C (fun h => .op (.enqueueDma
          ((wM.slice (Rect.unit (s := S2x3584x9472) o3 S1x3584x128.size (h3 h)) (fun _ => rfl)).squeeze S3584x128 squeezes_S1x3584x128_S3584x128)
          (.here ((bufM.slice (Rect.unit (s := S37x3584x256) o2 S1x3584x128.size (h2 h)) (fun _ => rfl)).squeeze S3584x128 squeezes_S1x3584x128_S3584x128))
          (.dma ((sems.slice (Rect.unit (s := S37) o1 S1.size (h1 h))).squeeze S_ squeezes_S1_S_).sem) (hsrc h) (hdst h) (hsem h)) fun _ => .op (.enqueueDma
          ((wM.slice (Rect.unit (s := S2x3584x9472) o3' S1x3584x128.size (h3' h)) (fun _ => rfl)).squeeze S3584x128 squeezes_S1x3584x128_S3584x128)
          (.here ((bufM.slice (Rect.unit (s := S37x3584x256) o2' S1x3584x128.size (h2' h)) (fun _ => rfl)).squeeze S3584x128 squeezes_S1x3584x128_S3584x128))
          (.dma ((sems.slice (Rect.unit (s := S37) o1' S1.size (h1' h))).squeeze S_ squeezes_S1_S_).sem) (hsrc' h) (hdst' h) (hsem' h)) fun _ => K)
          (fun _ => K)) Q) := by
  by_cases h : n = 0
  · rw [dif_pos (hC.2 h), show stB n = .fl 1 from by rw [h]; rfl]
    iintro Hs HK
    ihave Hs := (ld_free c w _ _) $$ Hs
    iapply (wp_start c w 𝒱 bd 1 j e1 e2 e3 e1' e2' e3') $$ Hs
    iintro Hs
    iapply HK
    iexact Hs
  · rw [dif_neg (fun e => h (hC.1 e)), show stB n = .ld 1 from stA_ge (by omega) (by omega), show wk n = 1 from by unfold wk; rw [if_neg h]]
    iintro Hs HK
    iapply HK
    iexact Hs

end Tile

end Cert.GateUpIdeal.Hand
-- ==== Proof.GateUpIdealTrip2.lean ====
/-
  The main loop of the gate and up projections, four tiles a trip, for the program `GateUpIdeal`: the offsets and conditions its body
  computes, the slots' states as the tiles go by, and the loop by its invariant.
-/
module

public import proofs.«01_k».proof.Proof.GateUpIdealTrip
public import proofs.«01_k».proof.Proof.Gen.GateUpIdeal.Loops

@[expose] public section

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the main loop computes -/

theorem trips2 : k0_t2_loop.trips = 9 := by decide

/-- The four tiles a trip of the main loop treats. -/
abbrev j0 (g : Fin k0_t2_loop.trips) : Fin 37 := ⟨4 * g.val, by have := g.isLt.trans_eq trips2; omega⟩
abbrev j1 (g : Fin k0_t2_loop.trips) : Fin 37 := ⟨4 * g.val + 1, by have := g.isLt.trans_eq trips2; omega⟩
abbrev j2 (g : Fin k0_t2_loop.trips) : Fin 37 := ⟨4 * g.val + 2, by have := g.isLt.trans_eq trips2; omega⟩
abbrev j3 (g : Fin k0_t2_loop.trips) : Fin 37 := ⟨4 * g.val + 3, by have := g.isLt.trans_eq trips2; omega⟩

theorem off5_eq : ∀ g, k0_off5 g = semOff (j0 g) := by decide
theorem off6_eq : ∀ g, k0_off6 g = halfOff (j0 g) 0 := by decide
theorem off8_eq : ∀ g, k0_off8 g = halfOff (j0 g) 1 := by decide
theorem off13_eq : ∀ g, k0_off13 g = semOff (j0 g) := by decide
theorem off14_eq : ∀ g, k0_off14 g = halfOff (j0 g) 0 := by decide
theorem off16_eq : ∀ g, k0_off16 g = halfOff (j0 g) 1 := by decide
theorem off15_eq0 : ∀ g, k0_off15 g 0#32 = blkOff 1 (j0 g) 0 := by decide
theorem off15_eq1 : ∀ g, k0_off15 g 4736#32 = blkOff 1 (j0 g) 1 := by decide
theorem off9_eq0 : ∀ g, k0_off9 g 0#32 = slotOff (j0 g) := by decide
theorem off10_eq0 : ∀ g, k0_off10 g 0#32 = scOff 0 (j0 g) := by decide
theorem off11_eq0 : ∀ g, k0_off11 g 0#32 = scOff 1 (j0 g) := by decide
theorem off12_eq0 : ∀ g, k0_off12 g 0#32 = colOff (j0 g) := by decide
theorem off17_eq : ∀ g, k0_off17 g = semOff (j1 g) := by decide
theorem off18_eq : ∀ g, k0_off18 g = halfOff (j1 g) 0 := by decide
theorem off20_eq : ∀ g, k0_off20 g = halfOff (j1 g) 1 := by decide
theorem off21_eq : ∀ g, k0_off21 g = semOff (j1 g) := by decide
theorem off22_eq : ∀ g, k0_off22 g = halfOff (j1 g) 0 := by decide
theorem off24_eq : ∀ g, k0_off24 g = halfOff (j1 g) 1 := by decide
theorem off23_eq0 : ∀ g, k0_off23 g 0#32 = blkOff 1 (j1 g) 0 := by decide
theorem off23_eq1 : ∀ g, k0_off23 g 4736#32 = blkOff 1 (j1 g) 1 := by decide
theorem off9_eq1 : ∀ g, k0_off9 g 1#32 = slotOff (j1 g) := by decide
theorem off10_eq1 : ∀ g, k0_off10 g 1#32 = scOff 0 (j1 g) := by decide
theorem off11_eq1 : ∀ g, k0_off11 g 1#32 = scOff 1 (j1 g) := by decide
theorem off12_eq1 : ∀ g, k0_off12 g 1#32 = colOff (j1 g) := by decide
theorem off25_eq : ∀ g, k0_off25 g = semOff (j2 g) := by decide
theorem off26_eq : ∀ g, k0_off26 g = halfOff (j2 g) 0 := by decide
theorem off28_eq : ∀ g, k0_off28 g = halfOff (j2 g) 1 := by decide
theorem off29_eq : ∀ g, k0_off29 g = semOff (j2 g) := by decide
theorem off30_eq : ∀ g, k0_off30 g = halfOff (j2 g) 0 := by decide
theorem off32_eq : ∀ g, k0_off32 g = halfOff (j2 g) 1 := by decide
theorem off31_eq0 : ∀ g, k0_off31 g 0#32 = blkOff 1 (j2 g) 0 := by decide
theorem off31_eq1 : ∀ g, k0_off31 g 4736#32 = blkOff 1 (j2 g) 1 := by decide
theorem off9_eq2 : ∀ g, k0_off9 g 2#32 = slotOff (j2 g) := by decide
theorem off10_eq2 : ∀ g, k0_off10 g 2#32 = scOff 0 (j2 g) := by decide
theorem off11_eq2 : ∀ g, k0_off11 g 2#32 = scOff 1 (j2 g) := by decide
theorem off12_eq2 : ∀ g, k0_off12 g 2#32 = colOff (j2 g) := by decide
theorem off33_eq : ∀ g, k0_off33 g = semOff (j3 g) := by decide
theorem off34_eq : ∀ g, k0_off34 g = halfOff (j3 g) 0 := by decide
theorem off36_eq : ∀ g, k0_off36 g = halfOff (j3 g) 1 := by decide
theorem off37_eq : ∀ g, k0_off37 g = semOff (j3 g) := by decide
theorem off38_eq : ∀ g, k0_off38 g = halfOff (j3 g) 0 := by decide
theorem off40_eq : ∀ g, k0_off40 g = halfOff (j3 g) 1 := by decide
theorem off39_eq0 : ∀ g, k0_off39 g 0#32 = blkOff 1 (j3 g) 0 := by decide
theorem off39_eq1 : ∀ g, k0_off39 g 4736#32 = blkOff 1 (j3 g) 1 := by decide
theorem off9_eq3 : ∀ g, k0_off9 g 3#32 = slotOff (j3 g) := by decide
theorem off10_eq3 : ∀ g, k0_off10 g 3#32 = scOff 0 (j3 g) := by decide
theorem off11_eq3 : ∀ g, k0_off11 g 3#32 = scOff 1 (j3 g) := by decide
theorem off12_eq3 : ∀ g, k0_off12 g 3#32 = colOff (j3 g) := by decide

/-! ## The conditions the body tests -/

theorem i_lt (i : grid0.Coords) : (i 0).val < 8 := (i 0).isLt
theorem cond1_iff (i : grid0.Coords) : k0_cond1 i = 1#1 ↔ (i 0).val = 0 := by
  have h := i_lt i; unfold k0_cond1; generalize (i 0).val = n at h ⊢; revert n; decide
theorem cond2_iff (i : grid0.Coords) : k0_cond2 i = 1#1 ↔ (i 0).val < 2 := by
  have h := i_lt i; unfold k0_cond2; generalize (i 0).val = n at h ⊢; revert n; decide
theorem cond3_iff (i : grid0.Coords) : k0_cond3 i = 1#1 ↔ (i 0).val = 0 := by
  have h := i_lt i; unfold k0_cond3; generalize (i 0).val = n at h ⊢; revert n; decide
theorem cond4_iff (i : grid0.Coords) : k0_cond4 i = 1#1 ↔ (i 0).val < 2 := by
  have h := i_lt i; unfold k0_cond4; generalize (i 0).val = n at h ⊢; revert n; decide
theorem cond5_iff (i : grid0.Coords) : k0_cond5 i = 1#1 ↔ (i 0).val = 0 := by
  have h := i_lt i; unfold k0_cond5; generalize (i 0).val = n at h ⊢; revert n; decide
theorem cond6_iff (i : grid0.Coords) : k0_cond6 i = 1#1 ↔ (i 0).val < 2 := by
  have h := i_lt i; unfold k0_cond6; generalize (i 0).val = n at h ⊢; revert n; decide
theorem cond7_iff (i : grid0.Coords) : k0_cond7 i = 1#1 ↔ (i 0).val = 0 := by
  have h := i_lt i; unfold k0_cond7; generalize (i 0).val = n at h ⊢; revert n; decide
theorem cond8_iff (i : grid0.Coords) : k0_cond8 i = 1#1 ↔ (i 0).val < 2 := by
  have h := i_lt i; unfold k0_cond8; generalize (i 0).val = n at h ⊢; revert n; decide
theorem cond9_iff (i : grid0.Coords) : k0_cond9 i = 1#1 ↔ (i 0).val = 0 := by
  have h := i_lt i; unfold k0_cond9; generalize (i 0).val = n at h ⊢; revert n; decide
theorem cond10_iff (i : grid0.Coords) : k0_cond10 i = 1#1 ↔ (i 0).val < 2 := by
  have h := i_lt i; unfold k0_cond10; generalize (i 0).val = n at h ⊢; revert n; decide
theorem cond11_iff (i : grid0.Coords) : k0_cond11 i = 1#1 ↔ (i 0).val = 0 := by
  have h := i_lt i; unfold k0_cond11; generalize (i 0).val = n at h ⊢; revert n; decide

/-! ## The slots' states -/

/-- The slots of grid point `n` when its first `m` tiles are done. -/
def stN (n m : ℕ) (j : Fin 37) : St := if j.val < m then stB n else stA n
theorem stN_zero (n : ℕ) : stN n 0 = fun _ => stA n := by funext j; simp [stN]
theorem stN_end (n : ℕ) : stN n 37 = fun _ => stA (n + 1) := by funext j; have := j.isLt; unfold stN stB; rw [if_pos (by omega)]
theorem stN_at (n : ℕ) (j : Fin 37) : stN n j.val j = stA n := by unfold stN; simp
theorem stN_succ (n : ℕ) (j : Fin 37) : Function.update (stN n j.val) j (stB n) = stN n (j.val + 1) := by
  funext j'
  by_cases h1 : j' = j
  · subst h1; rw [Function.update_self]; unfold stN; simp
  · rw [Function.update_of_ne h1]
    have h1' : j'.val ≠ j.val := fun e => h1 (Fin.ext e)
    unfold stN
    by_cases h : j'.val < j.val
    · rw [if_pos h, if_pos (by omega)]
    · rw [if_neg h, if_neg (by omega)]

section Loops
variable (c : Dev nD) (w : Buf (Elt F) (wM.view.loc (c : Thread nD τ)))

/-- All the slots. -/
abbrev slots (st : Fin 37 → St) : sProp 𝕄 := Ring.AtW (slotSt c w) st
/-- All the slots but `j`. -/
def slotsBut (n : ℕ) (j : Fin 37) : sProp 𝕄 := Ring.restW (slotSt c w) (stN n j.val) j

theorem slots_take (n : ℕ) (j : Fin 37) : (slots c w (stN n j.val) : sProp 𝕄) ⊢ iprop(slotSt c w j (stA n) ∗ slotsBut c w n j) := by
  refine (BIBase.Entails.of_eq (Ring.AtW_focus (slotSt c w) (stN n j.val) j)).trans ?_
  rw [stN_at]
  exact .rfl
theorem slots_put (n : ℕ) (j : Fin 37) : iprop(slotSt c w j (stB n) ∗ slotsBut c w n j) ⊢ (slots c w (stN n (j.val + 1)) : sProp 𝕄) := by
  rw [← stN_succ]
  exact Ring.AtW_update (slotSt c w) (stN n j.val) j (stB n)

variable (i : grid0.Coords) (arg1 : Memref sig .tc .vmem S576x3584 .fp8e4m3) (harg1 : arg1.IsWhole) (arg2 : Memref sig .tc .vmem S576x1 .f32) (harg2 : arg2.IsWhole)
variable (arg3 : Memref sig .tc .vmem S1x1x9472 .f32) (harg3 : arg3.IsWhole) (harg4 : wM.IsWhole) (arg5 : Memref sig .tc .vmem S576x4736 .fp8e4m3) (harg5 : arg5.IsWhole)
variable (arg6 : Memref sig .tc .vmem S576x1 .f32) (harg6 : arg6.IsWhole) (harg7 : bufM.IsWhole)
variable (arg8 : Memref sig .tc .vmem S576x4736 .f32) (harg8 : arg8.IsWhole) (arg9 : Memref sig .tc .vmem S576x128 .f32) (harg9 : arg9.IsWhole)
variable (f1 : Buf (Elt F) (arg1.view.loc (c : Thread nD τ))) (f2 : Buf (Elt F) (arg2.view.loc (c : Thread nD τ)))
variable (f3 : Buf (Elt F) (arg3.view.loc (c : Thread nD τ)))
variable (𝒱 : Variants)

set_option maxHeartbeats 1000000 in
/-- The main loop: before trip `g` the first `4 g` tiles are done. -/
@[instance_reducible, sl_loop] def loop2 (arg0 : BitVec 32) :
    Gen.LoopInvTy_k0_t2 (F := F) Unit ℕ (Pipeline.UD sig nD τ) ℕ 𝒱 c none Set.univ i arg1 harg1 arg2 harg2 arg3 harg3 wM harg4 arg5 harg5 arg6 harg6 bufM harg7 arg8 harg8 arg9 harg9 sems arg0 where
  inv := fun g _ => iprop(insP c arg1 arg2 arg3 f1 f2 f3 ∗ accP c w arg1 arg2 arg3 arg8 arg9 f1 f2 f3 (wk (i 0).val) (4 * g)
    ∗ (∃ W, owes (c : Thread nD τ) 0 W) ∗ slots c w (stN (i 0).val (4 * g)))
  step := by
    intro g acc
    unfold k0_t2_body
    rw [k0_part1_eq_skeleton, k0_part2_eq_skeleton, k0_part3_eq_skeleton, k0_part4_eq_skeleton, k0_part5_eq_skeleton]
    iintro ⟨HI, HA, HO, HS⟩
    rw [wp_bind]
    unfold k0_part1_skel
    simp only [Prog.bind_lift]
    ihave ⟨Hs, HS⟩ := (slots_take c w (i 0).val (j0 g)) $$ HS
    iapply (wp_awaitIf c w 𝒱 none (i 0).val (j0 g) (cond2_iff i) (off5_eq g) (off6_eq g) (off5_eq g) (off8_eq g)) $$ [Hs HO]
    · isplitl [Hs]; · iexact Hs
      iexact HO
    iintro ⟨Hs, HO⟩
    iapply (wp_ld3 c w arg1 arg2 arg3 f1 f2 f3 𝒱 none (wk (i 0).val) (j0 g) (off9_eq0 g)) $$ [HI Hs]
    · isplitl [HI]; · iexact HI
      iexact Hs
    iintro ⟨HI, Hs⟩
    iapply (wp_ldsc c arg1 arg2 arg3 f1 f2 f3 𝒱 none 0 (j0 g) (off10_eq0 g)) $$ HI
    iintro HI
    iapply (wp_ldsc c arg1 arg2 arg3 f1 f2 f3 𝒱 none 1 (j0 g) (off11_eq0 g)) $$ HI
    iintro HI
    rw [wp_pure]
    imodintro
    rw [wp_bind]
    unfold k0_part2_skel
    simp only [Prog.bind_lift]
    simp only [act0_eq, max0_eq]
    iapply (wp_acc c w arg1 arg2 arg3 arg8 arg9 f1 f2 f3 𝒱 none (wk (i 0).val) (j0 g) (off12_eq0 g) ) $$ HA
    iintro HA
    iapply (wp_refillIf c w 𝒱 none (i 0).val (j0 g) (cond3_iff i) (off13_eq g) (off14_eq g) (off15_eq0 g) (off13_eq g) (off16_eq g) (off15_eq1 g)) $$ Hs
    iintro Hs
    ihave HS := (slots_put c w (i 0).val (j0 g)) $$ [Hs HS]
    · isplitl [Hs]; · iexact Hs
      iexact HS
    ihave ⟨Hs, HS⟩ := (slots_take c w (i 0).val (j1 g)) $$ HS
    iapply (wp_awaitIf c w 𝒱 none (i 0).val (j1 g) (cond4_iff i) (off17_eq g) (off18_eq g) (off17_eq g) (off20_eq g)) $$ [Hs HO]
    · isplitl [Hs]; · iexact Hs
      iexact HO
    iintro ⟨Hs, HO⟩
    iapply (wp_ld3 c w arg1 arg2 arg3 f1 f2 f3 𝒱 none (wk (i 0).val) (j1 g) (off9_eq1 g)) $$ [HI Hs]
    · isplitl [HI]; · iexact HI
      iexact Hs
    iintro ⟨HI, Hs⟩
    rw [wp_pure]
    imodintro
    rw [wp_bind]
    unfold k0_part3_skel
    simp only [Prog.bind_lift]
    iapply (wp_ldsc c arg1 arg2 arg3 f1 f2 f3 𝒱 none 0 (j1 g) (off10_eq1 g)) $$ HI
    iintro HI
    iapply (wp_ldsc c arg1 arg2 arg3 f1 f2 f3 𝒱 none 1 (j1 g) (off11_eq1 g)) $$ HI
    iintro HI
    simp only [act1_eq, max1_eq]
    iapply (wp_acc c w arg1 arg2 arg3 arg8 arg9 f1 f2 f3 𝒱 none (wk (i 0).val) (j1 g) (off12_eq1 g) ) $$ HA
    iintro HA
    iapply (wp_refillIf c w 𝒱 none (i 0).val (j1 g) (cond5_iff i) (off21_eq g) (off22_eq g) (off23_eq0 g) (off21_eq g) (off24_eq g) (off23_eq1 g)) $$ Hs
    iintro Hs
    ihave HS := (slots_put c w (i 0).val (j1 g)) $$ [Hs HS]
    · isplitl [Hs]; · iexact Hs
      iexact HS
    rw [wp_pure]
    imodintro
    rw [wp_bind]
    unfold k0_part4_skel
    simp only [Prog.bind_lift]
    ihave ⟨Hs, HS⟩ := (slots_take c w (i 0).val (j2 g)) $$ HS
    iapply (wp_awaitIf c w 𝒱 none (i 0).val (j2 g) (cond6_iff i) (off25_eq g) (off26_eq g) (off25_eq g) (off28_eq g)) $$ [Hs HO]
    · isplitl [Hs]; · iexact Hs
      iexact HO
    iintro ⟨Hs, HO⟩
    iapply (wp_ld3 c w arg1 arg2 arg3 f1 f2 f3 𝒱 none (wk (i 0).val) (j2 g) (off9_eq2 g)) $$ [HI Hs]
    · isplitl [HI]; · iexact HI
      iexact Hs
    iintro ⟨HI, Hs⟩
    iapply (wp_ldsc c arg1 arg2 arg3 f1 f2 f3 𝒱 none 0 (j2 g) (off10_eq2 g)) $$ HI
    iintro HI
    iapply (wp_ldsc c arg1 arg2 arg3 f1 f2 f3 𝒱 none 1 (j2 g) (off11_eq2 g)) $$ HI
    iintro HI
    rw [wp_pure]
    imodintro
    rw [wp_bind]
    unfold k0_part5_skel
    simp only [Prog.bind_lift]
    simp only [act2_eq, max2_eq]
    iapply (wp_acc c w arg1 arg2 arg3 arg8 arg9 f1 f2 f3 𝒱 none (wk (i 0).val) (j2 g) (off12_eq2 g) ) $$ HA
    iintro HA
    iapply (wp_refillIf c w 𝒱 none (i 0).val (j2 g) (cond7_iff i) (off29_eq g) (off30_eq g) (off31_eq0 g) (off29_eq g) (off32_eq g) (off31_eq1 g)) $$ Hs
    iintro Hs
    ihave HS := (slots_put c w (i 0).val (j2 g)) $$ [Hs HS]
    · isplitl [Hs]; · iexact Hs
      iexact HS
    ihave ⟨Hs, HS⟩ := (slots_take c w (i 0).val (j3 g)) $$ HS
    iapply (wp_awaitIf c w 𝒱 none (i 0).val (j3 g) (cond8_iff i) (off33_eq g) (off34_eq g) (off33_eq g) (off36_eq g)) $$ [Hs HO]
    · isplitl [Hs]; · iexact Hs
      iexact HO
    iintro ⟨Hs, HO⟩
    iapply (wp_ld3 c w arg1 arg2 arg3 f1 f2 f3 𝒱 none (wk (i 0).val) (j3 g) (off9_eq3 g)) $$ [HI Hs]
    · isplitl [HI]; · iexact HI
      iexact Hs
    iintro ⟨HI, Hs⟩
    iapply (wp_ldsc c arg1 arg2 arg3 f1 f2 f3 𝒱 none 0 (j3 g) (off10_eq3 g)) $$ HI
    iintro HI
    rw [wp_pure]
    imodintro
    simp only [Prog.bind_lift]
    iapply (wp_ldsc c arg1 arg2 arg3 f1 f2 f3 𝒱 none 1 (j3 g) (off11_eq3 g)) $$ HI
    iintro HI
    simp only [act3_eq, max3_eq]
    iapply (wp_acc c w arg1 arg2 arg3 arg8 arg9 f1 f2 f3 𝒱 none (wk (i 0).val) (j3 g) (off12_eq3 g) ) $$ HA
    iintro HA
    iapply (wp_refillIf c w 𝒱 none (i 0).val (j3 g) (cond9_iff i) (off37_eq g) (off38_eq g) (off39_eq0 g) (off37_eq g) (off40_eq g) (off39_eq1 g)) $$ Hs
    iintro Hs
    ihave HS := (slots_put c w (i 0).val (j3 g)) $$ [Hs HS]
    · isplitl [Hs]; · iexact Hs
      iexact HS
    rw [wp_pure]
    imodintro
    isplitl [HI]; · iexact HI
    isplitl [HA]; · iexact HA
    isplitl [HO]; · iexact HO
    iexact HS

end Loops

end Cert.GateUpIdeal.Hand
-- ==== Proof.GateUpIdealBody.lean ====
/-
  The body of the gate and up projections at one grid point, for the program `GateUpIdeal`: the loop that starts all the copies at the first
  grid point, the main loop, the last tile, and the loop that quantises the activations thirty-two rows a trip.
-/
module

public import proofs.«01_k».proof.Proof.GateUpIdealTrip2
public import Idealize.ShloMosaic.Lib.VecWindow

@[expose] public section

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets the two other loops compute -/

theorem trips1 : k0_t1_loop.trips = 37 := by decide
theorem trips3 : k0_t3_loop.trips = 18 := by decide

/-- The tile a trip of the first loop starts. -/
abbrev pj (g : Fin k0_t1_loop.trips) : Fin 37 := ⟨g.val, g.isLt.trans_eq trips1⟩
/-- The rows a trip of the last loop quantises. -/
abbrev rj (g : Fin k0_t3_loop.trips) : Fin 18 := ⟨g.val, g.isLt.trans_eq trips3⟩

theorem off1_eq : ∀ g, k0_off1 g = semOff (pj g) := by decide
theorem off2_eq : ∀ g, k0_off2 g = halfOff (pj g) 0 := by decide
theorem off4_eq : ∀ g, k0_off4 g = halfOff (pj g) 1 := by decide
theorem off3_eq0 : ∀ g, k0_off3 g 0#32 = blkOff 0 (pj g) 0 := by decide
theorem off3_eq1 : ∀ g, k0_off3 g 4736#32 = blkOff 0 (pj g) 1 := by decide

abbrev rowOff (r : Fin 18) : Fin 2 → Nat := ![32 * r.val, 0]
theorem off43_eq : ∀ g, k0_off43 g = rowOff (rj g) := by decide
theorem off44_eq : ∀ g, k0_off44 g = rowOff (rj g) := by decide
theorem off45_eq : ∀ g, k0_off45 g = rowOff (rj g) := by decide

theorem rowOff_inb9 (r : Fin 18) : ∀ a, rowOff r a + S32x128.size a ≤ S576x128.size a := by
  have := r.isLt; intro a; fin_cases a
  · show 32 * r.val + 32 ≤ 576; omega
  · show 0 + 128 ≤ 128; omega
theorem rowOff_inb8 (r : Fin 18) : ∀ a, rowOff r a + S32x4736.size a ≤ S576x4736.size a := by
  have := r.isLt; intro a; fin_cases a
  · show 32 * r.val + 32 ≤ 576; omega
  · show 0 + 4736 ≤ 4736; omega
theorem rowOff_inb6 (r : Fin 18) : ∀ a, rowOff r a + S32x1.size a ≤ S576x1.size a := by
  have := r.isLt; intro a; fin_cases a
  · show 32 * r.val + 32 ≤ 576; omega
  · show 0 + 1 ≤ 1; omega

/-- Row block `r` of the running maxima, of the activations, of the scales. -/
abbrev rowR9 (r : Fin 18) : Rect S576x128 := Rect.unit (s := S576x128) (rowOff r) S32x128.size (rowOff_inb9 r)
abbrev rowR8 (r : Fin 18) : Rect S576x4736 := Rect.unit (s := S576x4736) (rowOff r) S32x4736.size (rowOff_inb8 r)
abbrev rowR6 (r : Fin 18) : Rect S576x1 := Rect.unit (s := S576x1) (rowOff r) S32x1.size (rowOff_inb6 r)

theorem row8_disjoint (v : View sig .tc .vmem S576x4736 .fp8e4m3) (r r' : Fin 18) (h : r ≠ r') :
    Disjoint (v.slice (rowR8 r)).set ((v.slice (rowR8 r')).setOn Finset.univ) := by
  refine View.disjoint_slice_of_sep v (rowR8 r) (rowR8 r') (0 : Fin 2) rfl rfl ?_
  have : r.val ≠ r'.val := fun e => h (Fin.ext e)
  show 32 * r.val + 32 ≤ 32 * r'.val ∨ 32 * r'.val + 32 ≤ 32 * r.val
  omega
theorem row6_disjoint (v : View sig .tc .vmem S576x1 .f32) (r r' : Fin 18) (h : r ≠ r') :
    Disjoint (v.slice (rowR6 r)).set ((v.slice (rowR6 r')).setOn Finset.univ) := by
  refine View.disjoint_slice_of_sep v (rowR6 r) (rowR6 r') (0 : Fin 2) rfl rfl ?_
  have : r.val ≠ r'.val := fun e => h (Fin.ext e)
  show 32 * r.val + 32 ≤ 32 * r'.val ∨ 32 * r'.val + 32 ≤ 32 * r.val
  omega

/-- The column block of an element of the activations, and its place inside that block. -/
def colj (y : S576x4736.Idx) : Fin 37 := ⟨(y 1).val / 128, by have h : (y 1).val < 4736 := (y 1).isLt; omega⟩
def inCol (y : S576x4736.Idx) : S576x128.Idx := fun a => match a with
  | ⟨0, _⟩ => ⟨(y 0).val, (y 0).isLt⟩
  | ⟨1, _⟩ => ⟨(y 1).val % 128, Nat.mod_lt _ (by decide)⟩
theorem emb_inCol (y : S576x4736.Idx) : (colR (colj y)).emb (inCol y) = y := by
  funext a
  apply Fin.ext
  rw [Rect.emb_apply]
  fin_cases a
  · show 0 + 1 * (y 0).val = (y 0).val; omega
  · show 128 * ((y 1).val / 128) + 1 * ((y 1).val % 128) = (y 1).val; omega

/-- The activations of a row block, of the inputs and the weight's tiles. -/
def actV (x1 : Vec F S576x3584 .fp8e4m3) (x2 : Vec F S576x1 .f32) (x3 : Vec F S1x1x9472 .f32) (wb : Fin 37 → Vec F S1x3584x256 .fp8e4m3) : Vec F S576x4736 .f32 :=
  fun y => actT x1 x2 x3 (wb (colj y)) (colj y) (inCol y)

/-- Thirty-two rows quantised, and their scales. -/
def quantR (a : Vec F S576x4736 .f32) (mx : Vec F S576x128 .f32) (r : Fin 18) : FVec F S32x4736 .fp8e4m3 :=
  k0_pay5 (fun y => mx ((rowR9 r).emb y)) (fun y => a ((rowR8 r).emb y))
def scaleR (mx : Vec F S576x128 .f32) (r : Fin 18) : FVec F S32x1 .f32 := k0_pay4 (fun y => mx ((rowR9 r).emb y))

/-- The row block of an element of an output window, and its place inside that block. -/
def rowj (a : Fin 576) : Fin 18 := ⟨a.val / 32, by have := a.isLt; omega⟩
def inRow5 (y : S576x4736.Idx) : S32x4736.Idx := fun a => match a with
  | ⟨0, _⟩ => ⟨(y 0).val % 32, Nat.mod_lt _ (by decide)⟩
  | ⟨1, _⟩ => ⟨(y 1).val, (y 1).isLt⟩
def inRow6 (y : S576x1.Idx) : S32x1.Idx := fun a => match a with
  | ⟨0, _⟩ => ⟨(y 0).val % 32, Nat.mod_lt _ (by decide)⟩
  | ⟨1, _⟩ => ⟨(y 1).val, (y 1).isLt⟩
theorem emb_inRow5 (y : S576x4736.Idx) : (rowR8 (rowj (y 0))).emb (inRow5 y) = y := by
  funext a
  apply Fin.ext
  rw [Rect.emb_apply]
  fin_cases a
  · show 32 * ((y 0).val / 32) + 1 * ((y 0).val % 32) = (y 0).val; omega
  · show 0 + 1 * (y 1).val = (y 1).val; omega
theorem emb_inRow6 (y : S576x1.Idx) : (rowR6 (rowj (y 0))).emb (inRow6 y) = y := by
  funext a
  apply Fin.ext
  rw [Rect.emb_apply]
  fin_cases a
  · show 32 * ((y 0).val / 32) + 1 * ((y 0).val % 32) = (y 0).val; omega
  · show 0 + 1 * (y 1).val = (y 1).val; omega
/-- The two output windows whole. -/
def quantV (a : Vec F S576x4736 .f32) (mx : Vec F S576x128 .f32) : Vec F S576x4736 .fp8e4m3 := fun y => quantR a mx (rowj (y 0)) (inRow5 y)
def scaleV (mx : Vec F S576x128 .f32) : Vec F S576x1 .f32 := fun y => scaleR mx (rowj (y 0)) (inRow6 y)

/-! ## The slots between grid points -/

/-- The slots in the first loop, before trip `g`. -/
def stP (g : ℕ) (j : Fin 37) : St := if j.val < g then .fl 0 else .free
theorem stP_zero : stP 0 = fun _ => St.free := by funext j; simp [stP]
theorem stP_end : stP 37 = fun _ => St.fl 0 := by funext j; have := j.isLt; unfold stP; rw [if_pos (by omega)]
theorem stP_at (g : Fin k0_t1_loop.trips) : stP g.val (pj g) = .free := by unfold stP; simp
theorem stP_succ (g : Fin k0_t1_loop.trips) : Function.update (stP g.val) (pj g) (.fl 0) = stP (g.val + 1) := by
  funext j
  by_cases h1 : j = pj g
  · subst h1; rw [Function.update_self]; unfold stP; simp
  · rw [Function.update_of_ne h1]
    have h1' : j.val ≠ g.val := fun e => h1 (Fin.ext e)
    unfold stP
    by_cases h : j.val < g.val
    · rw [if_pos h, if_pos (by omega)]
    · rw [if_neg h, if_neg (by omega)]
/-- A slot between grid points, before point `n`. -/
def stF (n : ℕ) : Fin 37 → St := fun _ => if n = 0 then .free else stA n

section Run
variable (c : Dev nD) (w : Buf (Elt F) (wM.view.loc (c : Thread nD τ)))
variable (i : grid0.Coords) (arg1 : Memref sig .tc .vmem S576x3584 .fp8e4m3) (harg1 : arg1.IsWhole) (arg2 : Memref sig .tc .vmem S576x1 .f32) (harg2 : arg2.IsWhole)
variable (arg3 : Memref sig .tc .vmem S1x1x9472 .f32) (harg3 : arg3.IsWhole) (harg4 : wM.IsWhole) (arg5 : Memref sig .tc .vmem S576x4736 .fp8e4m3) (harg5 : arg5.IsWhole)
variable (arg6 : Memref sig .tc .vmem S576x1 .f32) (harg6 : arg6.IsWhole) (harg7 : bufM.IsWhole)
variable (arg8 : Memref sig .tc .vmem S576x4736 .f32) (harg8 : arg8.IsWhole) (arg9 : Memref sig .tc .vmem S576x128 .f32) (harg9 : arg9.IsWhole)
variable (f1 : Buf (Elt F) (arg1.view.loc (c : Thread nD τ))) (f2 : Buf (Elt F) (arg2.view.loc (c : Thread nD τ)))
variable (f3 : Buf (Elt F) (arg3.view.loc (c : Thread nD τ)))
variable (𝒱 : Variants)

set_option maxHeartbeats 1000000 in

/-! ## The first loop -/

/-- The first loop: every slot filled by copies of its tile of the first weight. -/
@[instance_reducible, sl_loop] def loop1 (h1 : k0_cond1 i = 1#1) :
    Gen.LoopInvTy_k0_t1 (F := F) Unit ℕ (Pipeline.UD sig nD τ) ℕ 𝒱 c none Set.univ i arg1 harg1 arg2 harg2 arg3 harg3 wM harg4 arg5 harg5 arg6 harg6 bufM harg7 arg8 harg8 arg9 harg9 sems h1 where
  inv := fun g _ => slots c w (stP g)
  step := by
    intro g acc
    unfold k0_t1_body slots
    simp only [Prog.bind_lift]
    rw [Ring.AtW_focus _ _ (pj g), stP_at g]
    iintro ⟨Hs, Hrest⟩
    iapply (wp_start c w 𝒱 none 0 (pj g) (off1_eq g) (off2_eq g) (off3_eq0 g) (off1_eq g) (off4_eq g) (off3_eq1 g)) $$ Hs
    iintro Hs
    rw [← stP_succ g]
    rw [wp_pure]
    imodintro
    iapply (Ring.AtW_update (slotSt c w) (stP g.val) (pj g) (.fl 0))
    isplitl [Hs]; · iexact Hs
    iexact Hrest

theorem loop1_inv (c1 : k0_cond1 i = 1#1) (n : ℕ) (a : Unit) : (loop1 c w i arg1 harg1 arg2 harg2 arg3 harg3 harg4 arg5 harg5 arg6 harg6 harg7 arg8 harg8 arg9 harg9 𝒱 c1).inv n a = slots c w (stP n) := rfl
theorem loop1_end (c1 : k0_cond1 i = 1#1) (a : Unit) (h : (i 0).val = 0) :
    (loop1 c w i arg1 harg1 arg2 harg2 arg3 harg3 harg4 arg5 harg5 arg6 harg6 harg7 arg8 harg8 arg9 harg9 𝒱 c1).inv (Scf.trips k0_t1_loop.lb k0_t1_loop.ub k0_t1_loop.st) a ⊢ slots c w (stN (i 0).val 0) := by
  rw [show Scf.trips k0_t1_loop.lb k0_t1_loop.ub k0_t1_loop.st = 37 from trips1, loop1_inv, stP_end, stN_zero, h]
  exact .rfl

/-- At the first grid point all the copies are started. -/
theorem wp_fillIf {α : Type} {Q : α → sProp 𝕄} {K : Prog (TpuEff nD τ sig (Elt F) Λ₀ .tc) α} :
    slots c w (stF (i 0).val) ⊢ iprop((slots c w (stN (i 0).val 0) -∗ wp frame (wpE defs₀ 𝒱 (c : Thread nD τ) none) Set.univ K Q)
      -∗ wp frame (wpE defs₀ 𝒱 (c : Thread nD τ) none) Set.univ
        (if h : k0_cond1 i = 1#1 then Scf.Loop.for k0_t1_loop (k0_t1_ok i h) ⟨⟩ (k0_t1_body (F := F) i arg1 harg1 arg2 harg2 arg3 harg3 wM harg4 arg5 harg5 arg6 harg6 bufM harg7 arg8 harg8 arg9 harg9 sems h) >>= fun _ => K else K) Q) := by
  by_cases h0 : (i 0).val = 0
  · have c1 : k0_cond1 i = 1#1 := (cond1_iff i).2 h0
    rw [dif_pos c1, show stF (i 0).val = fun _ => St.free from by funext j; unfold stF; rw [if_pos h0]]
    iintro Hs HK
    iapply (exec_loop frame (wpE defs₀ 𝒱 (c : Thread nD τ) none) Set.univ k0_t1_loop.lb k0_t1_loop.ub k0_t1_loop.st (k0_t1_ok i c1) ()
      (k0_t1_body (F := F) i arg1 harg1 arg2 harg2 arg3 harg3 wM harg4 arg5 harg5 arg6 harg6 bufM harg7 arg8 harg8 arg9 harg9 sems c1)
      (loop1 c w i arg1 harg1 arg2 harg2 arg3 harg3 harg4 arg5 harg5 arg6 harg6 harg7 arg8 harg8 arg9 harg9 𝒱 c1)) $$ [Hs]
    · rw [loop1_inv, stP_zero]
      iexact Hs
    iintro %acc HL
    iapply HK
    iapply (loop1_end c w i arg1 harg1 arg2 harg2 arg3 harg3 harg4 arg5 harg5 arg6 harg6 harg7 arg8 harg8 arg9 harg9 𝒱 c1 acc h0) $$ HL
  · have c1 : ¬ k0_cond1 i = 1#1 := fun e => h0 ((cond1_iff i).1 e)
    rw [dif_neg c1, show stF (i 0).val = stN (i 0).val 0 from by rw [stN_zero]; funext j; unfold stF; rw [if_neg h0]]
    iintro Hs HK
    iapply HK
    iexact Hs

/-! ## The last loop -/

/-- The activations of the row block when weight `k` is the one used: their tiles side by side. -/
def actW (k : Fin 2) : Vec F S576x4736 .f32 := actV (arg1.view.read (Elt F) f1) (arg2.view.read (Elt F) f2) (arg3.view.read (Elt F) f3) (wcat c w k)
/-- The running maxima after every tile. -/
def maxW (k : Fin 2) : Vec F S576x128 .f32 := maxV (arg1.view.read (Elt F) f1) (arg2.view.read (Elt F) f2) (arg3.view.read (Elt F) f3) (wcat c w k) 37

/-- The two output windows with their first `n` row blocks stored. -/
def outP (a : Vec F S576x4736 .f32) (mx : Vec F S576x128 .f32) (n : ℕ) : sProp 𝕄 :=
  iprop((∃ f, (arg5.view.loc (c : Thread nD τ) ↦[arg5.view.set]{fullShare} f) ∗ ⌜∀ r : Fin 18, r.val < n → (arg5.access (rowR8 r)).read (Elt F) f = quantR a mx r⌝)
    ∗ (∃ f, (arg6.view.loc (c : Thread nD τ) ↦[arg6.view.set]{fullShare} f) ∗ ⌜∀ r : Fin 18, r.val < n → (arg6.access (rowR6 r)).read (Elt F) f = scaleR mx r⌝))

/-- One trip of the last loop: thirty-two rows of the maxima and of the activations read, quantised, and stored. -/
theorem wp_rows {α : Type} {Q : α → sProp 𝕄} (f8 : Buf (Elt F) (arg8.view.loc (c : Thread nD τ))) (f9 : Buf (Elt F) (arg9.view.loc (c : Thread nD τ)))
    (r : Fin 18) {o9 o8 o6 : Fin 2 → Nat} (e9 : o9 = rowOff r) (e8 : o8 = rowOff r) (e6 : o6 = rowOff r)
    {h9 h8 h8' h8'' h6 h6' l9 l8 l5 x5 m5 l6 x6 m6} {K : PUnit → Prog (TpuEff nD τ sig (Elt F) Λ₀ .tc) α} :
    iprop((arg8.view.loc (c : Thread nD τ) ↦[arg8.view.set]{fullShare} f8) ∗ (arg9.view.loc (c : Thread nD τ) ↦[arg9.view.set]{fullShare} f9)
      ∗ outP c arg5 arg6 (arg8.view.read (Elt F) f8) (arg9.view.read (Elt F) f9) r.val) ⊢
    iprop((iprop((arg8.view.loc (c : Thread nD τ) ↦[arg8.view.set]{fullShare} f8) ∗ (arg9.view.loc (c : Thread nD τ) ↦[arg9.view.set]{fullShare} f9)
      ∗ outP c arg5 arg6 (arg8.view.read (Elt F) f8) (arg9.view.read (Elt F) f9) (r.val + 1)) -∗ wp frame (wpE defs₀ 𝒱 (c : Thread nD τ) none) Set.univ (K ⟨⟩) Q)
      -∗ wp frame (wpE defs₀ 𝒱 (c : Thread nD τ) none) Set.univ
        (.op (.load arg9 (Rect.unit (s := S576x128) o9 S32x128.size h9).toLoadRect l9) fun v61 =>
         .op (.load arg8 (Rect.unit (s := S576x4736) o8 S32x4736.size h8).toLoadRect l8) fun v71 =>
         .op (.load arg5 (Rect.unit (s := S576x4736) o8 S32x4736.size h8').toLoadRect l5) fun _ =>
         .op (.store arg5 (Rect.unit (s := S576x4736) o8 S32x4736.size h8'') (k0_pay5 v61 v71) Finset.univ x5 m5) fun _ =>
         .op (.load arg6 (Rect.unit (s := S576x1) o6 S32x1.size h6).toLoadRect l6) fun _ =>
         .op (.store arg6 (Rect.unit (s := S576x1) o6 S32x1.size h6') (k0_pay4 v61) Finset.univ x6 m6) K) Q) := by
  subst e9 e8 e6
  unfold outP
  iintro ⟨H8, H9, ⟨%f5, H5, %h5⟩, ⟨%f6, H6, %h6⟩⟩ HK
  iapply (wp_load_rect 𝒱 (c : Thread nD τ) none Set.univ (m := arg9) (r := rowR9 r) (S := arg9.view.set) (f := f9) (arg9.view.set_slice_subset _)) $$ H9
  iintro H9
  iapply (wp_load_rect 𝒱 (c : Thread nD τ) none Set.univ (m := arg8) (r := rowR8 r) (S := arg8.view.set) (f := f8) (arg8.view.set_slice_subset _)) $$ H8
  iintro H8
  iapply (wp_load_rect 𝒱 (c : Thread nD τ) none Set.univ (m := arg5) (r := rowR8 r) (S := arg5.view.set) (f := f5) (arg5.view.set_slice_subset _)) $$ H5
  iintro H5
  iapply (wp_store 𝒱 (c : Thread nD τ) none Set.univ (m := arg5) (r := rowR8 r) (S := arg5.view.set) (f := f5) (arg5.view.set_slice_subset _)) $$ H5
  iintro H5
  iapply (wp_load_rect 𝒱 (c : Thread nD τ) none Set.univ (m := arg6) (r := rowR6 r) (S := arg6.view.set) (f := f6) (arg6.view.set_slice_subset _)) $$ H6
  iintro H6
  iapply (wp_store 𝒱 (c : Thread nD τ) none Set.univ (m := arg6) (r := rowR6 r) (S := arg6.view.set) (f := f6) (arg6.view.set_slice_subset _)) $$ H6
  iintro H6
  iapply HK
  isplitl [H8]; · iexact H8
  isplitl [H9]; · iexact H9
  isplitl [H5]
  · iexists _
    isplitl [H5]; · iexact H5
    ipureintro
    intro r' hr'
    by_cases hrr : r' = r
    · subst hrr
      exact View.read_write_univ _ _
    · refine (View.read_slice_write_slice_of_disjoint (v := arg5.view) (rowR8 r') (rowR8 r) _ _ _ (row8_disjoint arg5.view r' r hrr)).trans ?_
      refine h5 r' ?_
      have : r'.val ≠ r.val := fun e => hrr (Fin.ext e)
      omega
  · iexists _
    isplitl [H6]; · iexact H6
    ipureintro
    intro r' hr'
    by_cases hrr : r' = r
    · subst hrr
      exact View.read_write_univ _ _
    · refine (View.read_slice_write_slice_of_disjoint (v := arg6.view) (rowR6 r') (rowR6 r) _ _ _ (row6_disjoint arg6.view r' r hrr)).trans ?_
      refine h6 r' ?_
      have : r'.val ≠ r.val := fun e => hrr (Fin.ext e)
      omega

/-- The last loop: before trip `g` the first `g` row blocks are stored. -/
@[instance_reducible, sl_loop] def loop3 (f8 : Buf (Elt F) (arg8.view.loc (c : Thread nD τ))) (f9 : Buf (Elt F) (arg9.view.loc (c : Thread nD τ))) :
    Gen.LoopInvTy_k0_t3 (F := F) Unit ℕ (Pipeline.UD sig nD τ) ℕ 𝒱 c none Set.univ i arg1 harg1 arg2 harg2 arg3 harg3 wM harg4 arg5 harg5 arg6 harg6 bufM harg7 arg8 harg8 arg9 harg9 sems where
  inv := fun g _ => iprop((arg8.view.loc (c : Thread nD τ) ↦[arg8.view.set]{fullShare} f8) ∗ (arg9.view.loc (c : Thread nD τ) ↦[arg9.view.set]{fullShare} f9)
    ∗ outP c arg5 arg6 (arg8.view.read (Elt F) f8) (arg9.view.read (Elt F) f9) g)
  step := by
    intro g acc
    unfold k0_t3_body
    simp only [Prog.bind_lift]
    iintro H
    iapply (wp_rows c arg5 arg6 arg8 arg9 𝒱 f8 f9 (rj g) (off43_eq g) (off44_eq g) (off45_eq g)) $$ H
    iintro H
    rw [wp_pure]
    imodintro
    iexact H

theorem loop3_inv (f8 : Buf (Elt F) (arg8.view.loc (c : Thread nD τ))) (f9 : Buf (Elt F) (arg9.view.loc (c : Thread nD τ))) (n : ℕ) (a : Unit) :
    (loop3 c i arg1 harg1 arg2 harg2 arg3 harg3 harg4 arg5 harg5 arg6 harg6 harg7 arg8 harg8 arg9 harg9 𝒱 f8 f9).inv n a
      = iprop((arg8.view.loc (c : Thread nD τ) ↦[arg8.view.set]{fullShare} f8) ∗ (arg9.view.loc (c : Thread nD τ) ↦[arg9.view.set]{fullShare} f9)
        ∗ outP c arg5 arg6 (arg8.view.read (Elt F) f8) (arg9.view.read (Elt F) f9) n) := rfl
theorem loop3_end (f8 : Buf (Elt F) (arg8.view.loc (c : Thread nD τ))) (f9 : Buf (Elt F) (arg9.view.loc (c : Thread nD τ))) (a : Unit) :
    (loop3 c i arg1 harg1 arg2 harg2 arg3 harg3 harg4 arg5 harg5 arg6 harg6 harg7 arg8 harg8 arg9 harg9 𝒱 f8 f9).inv (Scf.trips k0_t3_loop.lb k0_t3_loop.ub k0_t3_loop.st) a
      ⊢ iprop((arg8.view.loc (c : Thread nD τ) ↦[arg8.view.set]{fullShare} f8) ∗ (arg9.view.loc (c : Thread nD τ) ↦[arg9.view.set]{fullShare} f9)
        ∗ outP c arg5 arg6 (arg8.view.read (Elt F) f8) (arg9.view.read (Elt F) f9) 18) := by
  rw [show Scf.trips k0_t3_loop.lb k0_t3_loop.ub k0_t3_loop.st = 18 from trips3, loop3_inv]

/-- The accumulators whole. -/
theorem acc_done (k : Fin 2) (f8 : Buf (Elt F) (arg8.view.loc (c : Thread nD τ))) (f9 : Buf (Elt F) (arg9.view.loc (c : Thread nD τ)))
    (h8 : ∀ j : Fin 37, j.val < 37 → (arg8.access (colR j)).read (Elt F) f8 = actJ c w arg1 arg2 arg3 f1 f2 f3 k j)
    (h9 : (arg9.access fullR9).read (Elt F) f9 = maxN c w arg1 arg2 arg3 f1 f2 f3 k 37) :
    arg8.view.read (Elt F) f8 = actW c w arg1 arg2 arg3 f1 f2 f3 k ∧ arg9.view.read (Elt F) f9 = maxW c w arg1 arg2 arg3 f1 f2 f3 k := by
  constructor
  · funext y
    have hy := congrFun (h8 (colj y) (colj y).isLt) (inCol y)
    refine Eq.trans ?_ hy
    show _ = arg8.view.read (Elt F) f8 ((colR (colj y)).emb (inCol y))
    rw [emb_inCol]
  · funext y
    refine Eq.trans ?_ (congrFun h9 y)
    show _ = arg9.view.read (Elt F) f9 (fullR9.emb y)
    rw [show fullR9.emb y = y from Rect.emb_unit_full _ _]

/-! ## The body -/

theorem loop2_inv (arg0 : BitVec 32) (n : ℕ) (a : Unit) :
    (loop2 c w i arg1 harg1 arg2 harg2 arg3 harg3 harg4 arg5 harg5 arg6 harg6 harg7 arg8 harg8 arg9 harg9 f1 f2 f3 𝒱 arg0).inv n a
      = iprop(insP c arg1 arg2 arg3 f1 f2 f3 ∗ accP c w arg1 arg2 arg3 arg8 arg9 f1 f2 f3 (wk (i 0).val) (4 * n)
        ∗ (∃ W, owes (c : Thread nD τ) 0 W) ∗ slots c w (stN (i 0).val (4 * n))) := rfl
theorem loop2_end (arg0 : BitVec 32) (a : Unit) :
    (loop2 c w i arg1 harg1 arg2 harg2 arg3 harg3 harg4 arg5 harg5 arg6 harg6 harg7 arg8 harg8 arg9 harg9 f1 f2 f3 𝒱 arg0).inv (Scf.trips k0_t2_loop.lb k0_t2_loop.ub k0_t2_loop.st) a
      ⊢ iprop(insP c arg1 arg2 arg3 f1 f2 f3 ∗ accP c w arg1 arg2 arg3 arg8 arg9 f1 f2 f3 (wk (i 0).val) 36
        ∗ (∃ W, owes (c : Thread nD τ) 0 W) ∗ slots c w (stN (i 0).val 36)) := by
  rw [show Scf.trips k0_t2_loop.lb k0_t2_loop.ub k0_t2_loop.st = 9 from trips2, loop2_inv]

/-- The accumulators before the first tile. -/
theorem acc_zero (k : Fin 2) (f8 : Buf (Elt F) (arg8.view.loc (c : Thread nD τ))) (f9 : Buf (Elt F) (arg9.view.loc (c : Thread nD τ)))
    (h9 : (arg9.access fullR9).read (Elt F) f9 = k0_pay25 (F := F)) :
    iprop((arg8.view.loc (c : Thread nD τ) ↦[arg8.view.set]{fullShare} f8) ∗ (arg9.view.loc (c : Thread nD τ) ↦[arg9.view.set]{fullShare} f9))
      ⊢ accP c w arg1 arg2 arg3 arg8 arg9 f1 f2 f3 k 0 := by
  unfold accP
  iintro ⟨H8, H9⟩
  isplitl [H8]
  · iexists f8
    isplitl [H8]; · iexact H8
    ipureintro; intro j hj; omega
  · iexists f9
    isplitl [H9]; · iexact H9
    ipureintro; exact h9

/-- The output windows before the last loop. -/
theorem out_zero (a : Vec F S576x4736 .f32) (mx : Vec F S576x128 .f32) :
    iprop((∃ f, arg5.view.loc (c : Thread nD τ) ↦[arg5.view.set]{fullShare} f) ∗ (∃ f, arg6.view.loc (c : Thread nD τ) ↦[arg6.view.set]{fullShare} f))
      ⊢ outP c arg5 arg6 a mx 0 := by
  unfold outP
  iintro ⟨⟨%f5, H5⟩, ⟨%f6, H6⟩⟩
  isplitl [H5]
  · iexists f5
    isplitl [H5]; · iexact H5
    ipureintro; intro j hj; omega
  · iexists f6
    isplitl [H6]; · iexact H6
    ipureintro; intro j hj; omega

/-- The last tile. -/
abbrev jl : Fin 37 := ⟨36, by decide⟩

set_option maxHeartbeats 1000000 in
/-- THE BODY at one grid point. -/
theorem body_run (Q : PUnit → sProp 𝕄) :
    iprop((insP c arg1 arg2 arg3 f1 f2 f3 ∗ ((∃ f, arg5.view.loc (c : Thread nD τ) ↦[arg5.view.set]{fullShare} f) ∗ (∃ f, arg6.view.loc (c : Thread nD τ) ↦[arg6.view.set]{fullShare} f))
        ∗ ((∃ f, arg8.view.loc (c : Thread nD τ) ↦[arg8.view.set]{fullShare} f) ∗ (∃ f, arg9.view.loc (c : Thread nD τ) ↦[arg9.view.set]{fullShare} f))
        ∗ (∃ W, owes (c : Thread nD τ) 0 W) ∗ slots c w (stF (i 0).val))
      ∗ (iprop(insP c arg1 arg2 arg3 f1 f2 f3 ∗ outP c arg5 arg6 (actW c w arg1 arg2 arg3 f1 f2 f3 (wk (i 0).val)) (maxW c w arg1 arg2 arg3 f1 f2 f3 (wk (i 0).val)) 18
        ∗ ((∃ f, arg8.view.loc (c : Thread nD τ) ↦[arg8.view.set]{fullShare} f) ∗ (∃ f, arg9.view.loc (c : Thread nD τ) ↦[arg9.view.set]{fullShare} f))
        ∗ (∃ W, owes (c : Thread nD τ) 0 W) ∗ slots c w (stF ((i 0).val + 1))) -∗ Q ⟨⟩))
    ⊢ wp frame (wpE defs₀ 𝒱 (c : Thread nD τ) none) Set.univ (cc0_gate_up (F := F) i arg1 harg1 arg2 harg2 arg3 harg3 wM harg4 arg5 harg5 arg6 harg6 bufM harg7 arg8 harg8 arg9 harg9 sems) Q := by
  rw [cc0_gate_up_eq_skeleton]
  unfold cc0_gate_up_skel
  rw [show stF ((i 0).val + 1) = stN (i 0).val 37 from by rw [stN_end]; funext j; unfold stF; rw [if_neg (by omega)]]
  rw [k0_part6_eq_skeleton]
  iintro ⟨⟨HI, HOut, ⟨⟨%f8, H8⟩, ⟨%f9, H9⟩⟩, HO, HS⟩, HK⟩
  rw [wp_bind]
  unfold k0_part6_skel
  simp only [Prog.bind_lift]
  iapply (wp_fillIf c w i arg1 harg1 arg2 harg2 arg3 harg3 harg4 arg5 harg5 arg6 harg6 harg7 arg8 harg8 arg9 harg9 𝒱) $$ HS
  iintro HS
  iapply (wp_load_rect 𝒱 (c : Thread nD τ) none Set.univ (m := arg9) (r := fullR9) (S := arg9.view.set) (f := f9) (arg9.view.set_slice_subset _)) $$ H9
  iintro H9
  iapply (wp_store 𝒱 (c : Thread nD τ) none Set.univ (m := arg9) (r := fullR9) (S := arg9.view.set) (f := f9) (arg9.view.set_slice_subset _)) $$ H9
  iintro H9
  ihave HA := (acc_zero c w arg1 arg2 arg3 arg8 arg9 f1 f2 f3 (wk (i 0).val) f8 _ (View.read_write_univ _ _)) $$ [H8 H9]
  · isplitl [H8]; · iexact H8
    iexact H9
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 wM harg4 arg5 harg5 arg6 harg6 bufM harg7 arg8 harg8 arg9 harg9 sems (BitVec.ofNat 32 (i 0).val))
    (loop2 c w i arg1 harg1 arg2 harg2 arg3 harg3 harg4 arg5 harg5 arg6 harg6 harg7 arg8 harg8 arg9 harg9 f1 f2 f3 𝒱 (BitVec.ofNat 32 (i 0).val))) $$ [HI HA HO HS]
  · rw [loop2_inv]
    isplitl [HI]; · iexact HI
    isplitl [HA]; · iexact HA
    isplitl [HO]; · iexact HO
    iexact HS
  iintro %acc HL
  ihave ⟨HI, HA, HO, HS⟩ := (loop2_end c w i arg1 harg1 arg2 harg2 arg3 harg3 harg4 arg5 harg5 arg6 harg6 harg7 arg8 harg8 arg9 harg9 f1 f2 f3 𝒱 (BitVec.ofNat 32 (i 0).val) acc) $$ HL
  ihave ⟨Hs, HS⟩ := (slots_take c w (i 0).val jl) $$ HS
  iapply (wp_awaitIf c w 𝒱 none (i 0).val jl (cond10_iff i) rfl rfl rfl rfl) $$ [Hs HO]
  · isplitl [Hs]; · iexact Hs
    iexact HO
  iintro ⟨Hs, HO⟩
  iapply (wp_ld3 c w arg1 arg2 arg3 f1 f2 f3 𝒱 none (wk (i 0).val) jl rfl) $$ [HI Hs]
  · isplitl [HI]; · iexact HI
    iexact Hs
  iintro ⟨HI, Hs⟩
  iapply (wp_ldsc c arg1 arg2 arg3 f1 f2 f3 𝒱 none 0 jl rfl) $$ HI
  iintro HI
  iapply (wp_ldsc c arg1 arg2 arg3 f1 f2 f3 𝒱 none 1 jl rfl) $$ HI
  iintro HI
  rw [wp_pure]
  imodintro
  iapply (wp_acc c w arg1 arg2 arg3 arg8 arg9 f1 f2 f3 𝒱 none (wk (i 0).val) jl rfl) $$ HA
  iintro HA
  iapply (wp_refillIf c w 𝒱 none (i 0).val jl (cond11_iff i) rfl rfl rfl rfl rfl rfl) $$ Hs
  iintro Hs
  ihave HS := (slots_put c w (i 0).val jl) $$ [Hs HS]
  · isplitl [Hs]; · iexact Hs
    iexact HS
  unfold accP
  icases HA with ⟨⟨%f8, H8, %e8⟩, ⟨%f9, H9, %e9⟩⟩
  obtain ⟨r8, r9⟩ := acc_done c w arg1 arg2 arg3 arg8 arg9 f1 f2 f3 (wk (i 0).val) f8 f9 e8 e9
  ihave HOut := (out_zero c arg5 arg6 (arg8.view.read (Elt F) f8) (arg9.view.read (Elt F) f9)) $$ HOut
  iapply (exec_loop frame (wpE defs₀ 𝒱 (c : Thread nD τ) none) Set.univ k0_t3_loop.lb k0_t3_loop.ub k0_t3_loop.st k0_t3_ok ()
    (k0_t3_body (F := F) i arg1 harg1 arg2 harg2 arg3 harg3 wM harg4 arg5 harg5 arg6 harg6 bufM harg7 arg8 harg8 arg9 harg9 sems)
    (loop3 c i arg1 harg1 arg2 harg2 arg3 harg3 harg4 arg5 harg5 arg6 harg6 harg7 arg8 harg8 arg9 harg9 𝒱 f8 f9)) $$ [H8 H9 HOut]
  · rw [loop3_inv]
    isplitl [H8]; · iexact H8
    isplitl [H9]; · iexact H9
    iexact HOut
  iintro %acc' HL
  ihave ⟨H8, H9, HOut⟩ := (loop3_end c i arg1 harg1 arg2 harg2 arg3 harg3 harg4 arg5 harg5 arg6 harg6 harg7 arg8 harg8 arg9 harg9 𝒱 f8 f9 acc') $$ HL
  rw [wp_pure]
  imodintro
  iapply HK
  isplitl [HI]; · iexact HI
  isplitl [HOut]
  · rw [← r8, ← r9]
    iexact HOut
  isplitl [H8 H9]
  · isplitl [H8]; · iexists f8; iexact H8
    iexists f9; iexact H9
  isplitl [HO]; · iexact HO
  iexact HS

end Run

/-! ## The slots at rest -/

theorem slot_disjoint : ∀ j j' : Fin 37, j ≠ j' → Disjoint (slotR j).set (slotR j').set := by
  intro j j' hne; rw [Finset.disjoint_left]; intro y hy hy'; rw [mem_slot] at hy hy'; exact hne (Fin.ext (hy.symm.trans hy'))
theorem slot_cover : (Finset.univ : Finset (Fin 37)).biUnion (fun j => (slotR j).set) = Finset.univ := by
  ext y; simp only [Finset.mem_biUnion, Finset.mem_univ, true_and, iff_true]; exact ⟨(y 0).cast (by decide), by rw [mem_slot]; rfl⟩

/-- The weight scratch whole is its slots; -/
theorem scratch_split (c : Dev nD) :
    iprop(∃ f : Buf (Elt F) ((c : Thread nD τ).loc cc0_scratch0), ((c : Thread nD τ).loc cc0_scratch0) ↦{fullShare} f)
      ⊢ (bigSep Finset.univ (fun j : Fin 37 => iprop(∃ f, slotP c j f)) : sProp 𝕄) := by
  refine exists_elim fun f => ?_
  rw [Ring.pointsTo_blocks (ℓ := (c : Thread nD τ).loc cc0_scratch0) (fun j : Fin 37 => (slotR j).set) slot_disjoint slot_cover]
  exact bigSep_mono fun j _ => exists_intro (Φ := fun f => (slotP c j f : sProp 𝕄)) f
/-- and its slots are it whole. -/
theorem scratch_join (c : Dev nD) :
    (bigSep Finset.univ (fun j : Fin 37 => iprop(∃ f, slotP c j f)) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) (fun j : Fin 37 => (slotR j).set) slot_disjoint slot_cover (fun _ => default)

/-- The slots at rest, one kind of resource at a time. -/
theorem slots_free (c : Dev nD) (w : Buf (Elt F) (wM.view.loc (c : Thread nD τ))) :
    (slots c w (fun _ => St.free) : sProp 𝕄) = iprop(bigSep Finset.univ (fun j : Fin 37 => (cellP c j : sProp 𝕄))
      ∗ bigSep Finset.univ (fun j : Fin 37 => (iprop(∃ f, slotP c j f) : sProp 𝕄)) ∗ bigSep Finset.univ (fun j : Fin 37 => (tokP c w j : sProp 𝕄))) := by
  unfold slots Ring.AtW
  exact (bigSep_sep ..).trans (congrArg (fun P => iprop(_ ∗ P)) (bigSep_sep ..))

/-- Filled slots are slots at rest. -/
theorem slots_ld (c : Dev nD) (w : Buf (Elt F) (wM.view.loc (c : Thread nD τ))) (k : Fin 2) :
    (slots c w (fun _ => St.ld k) : sProp 𝕄) ⊢ slots c w (fun _ => St.free) :=
  bigSep_mono fun j _ => ld_free c w k j

end Cert.GateUpIdeal.Hand
-- ==== Proof.GateUpIdealFrame.lean ====
/-
  The launch of the program `GateUpIdeal`: what each window holds after the body at each grid point, the invariant between points,
  the body obligation, the run of @main and the frame. At any float interpretation.
-/
module

public import proofs.«01_k».proof.Proof.GateUpIdealBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- What the body leaves in the two output windows at point `t`. -/
def outW3 (c : Dev nD) (t : Fin cfg0.N) : Vec F S576x4736 .fp8e4m3 :=
  quantV (actV (iblk m c 0 t) (iblk m c 1 t) (iblk m c 2 t) (wcat c (V m c main_arg2) (wk t.val)))
    (maxV (iblk m c 0 t) (iblk m c 1 t) (iblk m c 2 t) (wcat c (V m c main_arg2) (wk t.val)) 37)
def outW4 (c : Dev nD) (t : Fin cfg0.N) : Vec F S576x1 .f32 :=
  scaleV (maxV (iblk m c 0 t) (iblk m c 1 t) (iblk m c 2 t) (wcat c (V m c main_arg2) (wk t.val)) 37)

/-- The two accumulators, at any contents. -/
abbrev accs (c : Dev nD) : sProp 𝕄 :=
  iprop((∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f))

/-- What is left of the weight array beside the tokens of the slots. -/
abbrev wRest (c : Dev nD) : sProp 𝕄 := wM.view.loc (c : Thread nD τ) ↦[Finset.univ]{Transfers.shareDrop fullShare 37} (V m c main_arg2)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outW3 m c t
    | ⟨4, _⟩ => outW4 m c t
  Φ t := iprop((∃ r, prngReg c r) ∗ slots c (V m c main_arg2) (stF t.val) ∗ wRest m c ∗ accs c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outW3 m c t := by dsimp only [dats]
theorem after0_4 (c : Dev nD) (t : Fin cfg0.N) : (dats m 0 c).after 4 t = outW4 m c t := by dsimp only [dats]

theorem coord_t (t : Fin cfg0.N) : ((grid0.coords t) 0).val = t.val := by
  rcases fin_N0 t with h | h | h | h | h | h | h | h <;> rw [h] <;> decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = iprop((∃ r, prngReg c r) ∗ slots c (V m c main_arg2) (stF (t.val + 1)) ∗ wRest m c ∗ accs c) from rfl,
    show (dats m 0 c).Φ t.castSucc = iprop((∃ r, prngReg c r) ∗ slots c (V m c main_arg2) (stF t.val) ∗ wRest m c ∗ accs c) from rfl,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c)]
  unfold Dat.owesAt Pipeline.owesWithin
  rw [show (dats m 0 c).owed t.castSucc = 0 from rfl, show (dats m 0 c).owed t.succ = 0 from rfl]
  unfold owns
  iintro ⟨⟨Hg, Hs, Hw, Ha⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩⟩
  iapply (body_run c (V m c main_arg2) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.isWhole_whole _) (st0_3 t) (hstage0_3 ((cfg0.slots t 3).cast nbuf0_3)) (st0_4 t)
    (hstage0_4 ((cfg0.slots t 4).cast nbuf0_4)) (Memref.isWhole_whole _) (Memref.whole cc0_scratch1) (Memref.isWhole_whole _) (Memref.whole cc0_scratch2)
    (Memref.isWhole_whole _) f1 f2 f3 Variants.none _)
  rw [coord_t t]
  isplitr [Hg Hw]
  · isplitl [H1 H2 H3]
    · unfold insP
      isplitl [H1]; · iexact H1
      isplitl [H2]; · iexact H2
      iexact H3
    isplitl [H5 H6]
    · isplitl [H5]; · iexists f5; iexact H5
      iexists f6; iexact H6
    isplitl [Ha]; · iexact Ha
    isplitl [HW]; · iexists W; iexact HW
    iexact Hs
  · unfold insP outP
    iintro ⟨⟨H1, H2, H3⟩, ⟨⟨%f5', H5, %h5⟩, ⟨%f6', H6, %h6⟩⟩, Ha, ⟨%W', HW'⟩, Hs⟩
    isplitl [Hg Hs Hw Ha]
    · isplitl [Hg]; · iexact Hg
      isplitl [Hs]; · iexact Hs
      isplitl [Hw]; · iexact Hw
      iexact Ha
    isplitl [HW']
    · iexists W'; isplitr; · ipureintro; exact fun _ _ => Or.inl trivial
      iexact HW'
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H5]
    · iexists f5'; isplitr
      · ipureintro
        funext y
        have hy := congrFun (h5 (rowj (y 0)) (rowj (y 0)).isLt) (inRow5 y)
        unfold outW3 quantV
        rw [← e1, ← e2, ← e3]
        refine Eq.trans ?_ hy
        show _ = (st0_3 t).view.read (Elt F) f5' ((rowR8 (rowj (y 0))).emb (inRow5 y))
        rw [emb_inRow5]
      · iexact H5
    iexists f6'; isplitr
    · ipureintro
      funext y
      have hy := congrFun (h6 (rowj (y 0)) (rowj (y 0)).isLt) (inRow6 y)
      unfold outW4 scaleV
      rw [← e1, ← e2, ← e3]
      refine Eq.trans ?_ hy
      show _ = (st0_4 t).view.read (Elt F) f6' ((rowR6 (rowj (y 0))).emb (inRow6 y))
      rw [emb_inRow6]
    · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 37 → SemLoc sig := fun j => SemLoc.dma (cellM j)
theorem ownSemFacts0 : Pipeline.OwnSemFacts spec0 osem0 := by decide
/-- The one array in HBM the body's transfers read. -/
def H0 : Finset (Ref sig .tc) := {main_arg2}
theorem H0_sub : H0 ⊆ Pipeline.restRefs sig spec0 := by decide

theorem PhiD_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) ∗ (∃ r, prngReg c r)
          ∗ bigSep Finset.univ (fun j : Fin 37 => (cellP c j : sProp 𝕄)) ∗ wM.view.loc (c : Thread nD τ) ↦{fullShare} V m c main_arg2) := by
  rw [Pipeline.ΦD_eq, scopedRest0_eq, show H0 = {main_arg2} from rfl, bigSep_singleton]
  rfl

theorem acc_whole (c : Dev nD) : (accs c : sProp 𝕄) = iprop((∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) := by
  unfold accs
  rw [show (Memref.whole cc0_scratch1).view.set = Finset.univ from View.set_whole _, show (Memref.whole cc0_scratch2).view.set = Finset.univ from View.set_whole _]

theorem hin (c : Dev nD) : (Pipeline.ΦD osem0 spec0 H0 (V m) c : sProp 𝕄) ⊢ (dats m 0 c).Φ 0 := by
  rw [PhiD_eq, show (dats m 0 c).Φ 0 = iprop((∃ r, prngReg c r) ∗ slots c (V m c main_arg2) (fun _ => St.free) ∗ wRest m c ∗ accs c) from rfl, slots_free, acc_whole]
  iintro ⟨⟨Hs, Ha⟩, Hg, Hc, Hw⟩
  isplitl [Hg]; · iexact Hg
  ihave ⟨Hd, Ht⟩ := (Transfers.pointsTo_toks_split fullShare 37) $$ Hw
  isplitr [Hd Ha]
  · isplitl [Hc]; · iexact Hc
    isplitl [Hs]
    · iapply (scratch_split c) $$ Hs
    · iexact Ht
  · isplitl [Hd]; · iexact Hd
    iexact Ha

theorem hout (c : Dev nD) : (dats m 0 c).Φ (Fin.last _) ⊢ (Pipeline.ΦD osem0 spec0 H0 (V m) c : sProp 𝕄) := by
  rw [PhiD_eq, show (dats m 0 c).Φ (Fin.last _) = iprop((∃ r, prngReg c r) ∗ slots c (V m c main_arg2) (fun _ => St.ld 1) ∗ wRest m c ∗ accs c) from rfl, acc_whole]
  iintro ⟨Hg, Hs, Hd, Ha⟩
  ihave Hs' := ((slots_ld c (V m c main_arg2) 1).trans (BIBase.Entails.of_eq (slots_free c (V m c main_arg2)))) $$ Hs
  icases Hs' with ⟨Hc, Hs, Ht⟩
  isplitl [Hs Ha]
  · isplitl [Hs]; · iapply (scratch_join c) $$ Hs
    iexact Ha
  isplitl [Hg]; · iexact Hg
  isplitl [Hc]; · iexact Hc
  iapply (Transfers.pointsTo_toks_join fullShare 37)
  isplitl [Hd]; · iexact Hd
  iexact Ht

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => hin m c) (hout := fun c => hout m c)

/-- What the launch of the pipeline leaves, as the claims read it: the arguments as they were, the results assembled from
    the output windows point by point, every semaphore at rest. -/
theorem run_post : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc (Pipeline.arrRef spec0 3)) = (dats m 0 c).arrAt 3 cfg0.N
        ∧ r.2.mem ((c.tc : Thread nD τ).loc (Pipeline.arrRef spec0 4)) = (dats m 0 c).arrAt 4 cfg0.N) :=
  (θ_run defs _ _).mono (fun _ h => ⟨⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩, fun c => ⟨(h.1 c).1 3, (h.1 c).1 4⟩⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1) (run_post m ρ)

end Cert.GateUpIdeal.Hand
-- ==== Proof.GateUpIdealValue.lean ====
/-
  What the program `GateUpIdeal` leaves in its two results, at the exact instance: the gated products quantised row by row, and the
  rows' scales, element by element.
-/
module

public import proofs.«01_k».proof.Proof.GateUpIdealFrame
public import Idealize.ShloMosaic.Lib.Pointwise
public import Idealize.ShloMosaic.Lib.Pipeline.ValueKit
public import Idealize.ShloMosaic.Lib.VecWindow
public import Idealize.ShloMosaic.Lib.StableHlo.ReadAt
public import Idealize.ShloMosaic.Lib.ValueLayout
public import Idealize.ShloMosaic.Lib.IdealHost

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.ShloMosaic.Pointwise
open Idealize.ShloMosaic.Pipeline (Dat Cfg Window BodyObligation cellOf)

/-! ## The results -/

/-- The weight a row takes: the first for rows below 576, the second after. -/
def kof (r : Fin 4608) : Fin 2 := if r.val < 576 then 0 else 1
/-- Gate `g` through SiLU, times `u`. -/
def swi (g u : EReal) : EReal := g * Ideal.div 1 (1 + Ideal.exp (0 - g)) * u
/-- The magnitude. -/
def mag (a : EReal) : EReal := max a (-a)
/-- The greatest magnitude of a row. -/
def amaxOf {n : ℕ} (f : Fin n → EReal) : EReal := Finset.univ.fold max ⊥ fun x => mag (f x)
/-- The format's greatest value, 448. -/
abbrev f448 : EReal := Ideal.ofBits .f32 0x43E00000#32
/-- The scale of a row whose greatest magnitude is `x`. -/
def scaleOf (x : EReal) : EReal := if x = 0 then 1 else Ideal.div x f448
/-- `a` over the scale `s`, clipped to the format's range. -/
def quantOf (a s : EReal) : EReal := min f448 (max (Ideal.ofBits .f32 0xC3E00000#32) (Ideal.div a s))

section Results
variable (a0 : Vec Ideal S4608x3584 .fp8e4m3) (a1 : Vec Ideal S4608x1 .f32) (a2 : Vec Ideal S2x3584x9472 .fp8e4m3) (a3 : Vec Ideal S2x9472 .f32)
/-- One element of the scaled product. -/
def projAt (r : Fin 4608) (x : Fin 9472) : EReal := (∑ k : Fin 3584, a0 (ix2 r k) * a2 (ix3 (kof r) k x)) * a1 (ix2 r 0) * a3 (ix2 (kof r) x)
/-- Column `x` of the gates and of the factors. -/
def gcol (x : Fin 4736) : Fin 9472 := ⟨x.val, by omega⟩
def ucol (x : Fin 4736) : Fin 9472 := ⟨4736 + x.val, by omega⟩
/-- One activation. -/
def actAt (r : Fin 4608) (x : Fin 4736) : EReal := swi (projAt a0 a1 a2 a3 r (gcol x)) (projAt a0 a1 a2 a3 r (ucol x))
/-- One scale, and one quantised activation. -/
def s4At (r : Fin 4608) : EReal := scaleOf (amaxOf (actAt a0 a1 a2 a3 r))
def c4At (r : Fin 4608) (x : Fin 4736) : EReal := quantOf (actAt a0 a1 a2 a3 r x) (s4At a0 a1 a2 a3 r)
end Results

/-! ## Maxima -/

theorem mag_nonneg (a : EReal) : 0 ≤ mag a := by
  unfold mag
  rcases le_total 0 a with h | h
  · exact le_max_of_le_left h
  · exact le_max_of_le_right (EReal.neg_nonneg.mpr h)
theorem amaxOf_le {n : ℕ} (f : Fin n → EReal) (b : EReal) : amaxOf f ≤ b ↔ ∀ x, mag (f x) ≤ b := by
  unfold amaxOf; rw [Finset.fold_max_le]; simp
theorem scaleOf_ne_zero (x : EReal) : scaleOf x ≠ 0 := by
  unfold scaleOf
  split_ifs with h
  · exact one_ne_zero
  · unfold Ideal.div
    have e : f448 = ((448 : ℝ) : EReal) := by
      unfold f448; simp [Ideal.ofBits, Ideal.ieee, -EReal.coe_mul, -EReal.coe_neg]; norm_num
    rw [e, if_neg (EReal.coe_ne_zero.mpr (by norm_num)), ← EReal.coe_inv]
    exact mul_ne_zero h (EReal.coe_ne_zero.mpr (by norm_num))
/-- The words of minus infinity are it. -/
theorem ofBits_bot : Ideal.ofBits .f32 0xFF800000#32 = (⊥ : EReal) := by
  simp [Ideal.ofBits, Ideal.ieee]

/-! ## The payloads at an element -/

theorem actT_apply (x1 : Vec Ideal S576x3584 .fp8e4m3) (x2 : Vec Ideal S576x1 .f32) (x3 : Vec Ideal S1x1x9472 .f32) (wb : Vec Ideal S1x3584x256 .fp8e4m3)
    (j : Fin 37) (p : Fin 576) (q : Fin 128) :
    actT x1 x2 x3 wb j (ix2 p q)
      = swi ((∑ k : Fin 3584, x1 (ix2 p k) * wb (ix3 0 k ⟨q.val, by omega⟩)) * x2 (ix2 p 0) * x3 ((scR 0 j).emb (ix3 0 0 q)))
          ((∑ k : Fin 3584, x1 (ix2 p k) * wb (ix3 0 k ⟨128 + q.val, by omega⟩)) * x2 (ix2 p 0) * x3 ((scR 1 j).emb (ix3 0 0 q))) := by
  have e1 : ∀ k, fullR1.emb (ix2 p k) = ix2 p k := fun k => Rect.emb_unit_full _ _
  have e2 : fullR2.emb (ix2 p 0) = ix2 p 0 := Rect.emb_unit_full _ _
  unfold actT k0_pay2 k0_pay1 k0_pay30 k0_pay31 k0_pay32 k0_pay29 swi
  pointwise
  simp only [e1, e2]

theorem maxT_apply (x1 : Vec Ideal S576x3584 .fp8e4m3) (x2 : Vec Ideal S576x1 .f32) (x3 : Vec Ideal S1x1x9472 .f32) (wb : Vec Ideal S1x3584x256 .fp8e4m3)
    (j : Fin 37) (mx : Vec Ideal S576x128 .f32) (p : Fin 576) (q : Fin 128) :
    maxT x1 x2 x3 wb j mx (ix2 p q) = max (mx (ix2 p q)) (mag (actT x1 x2 x3 wb j (ix2 p q))) := by
  unfold maxT actT k0_pay3 k0_pay2 mag
  pointwise
  rfl

/-- What bounds a lane of the running maxima. -/
theorem maxV_le (x1 : Vec Ideal S576x3584 .fp8e4m3) (x2 : Vec Ideal S576x1 .f32) (x3 : Vec Ideal S1x1x9472 .f32) (wb : Fin 37 → Vec Ideal S1x3584x256 .fp8e4m3)
    (p : Fin 576) (q : Fin 128) (b : EReal) : ∀ n, n ≤ 37 →
    (maxV x1 x2 x3 wb n (ix2 p q) ≤ b ↔ 0 ≤ b ∧ ∀ j : Fin 37, j.val < n → mag (actT x1 x2 x3 (wb j) j (ix2 p q)) ≤ b) := by
  intro n
  induction n with
  | zero =>
    intro _
    have e : maxV x1 x2 x3 wb 0 (ix2 p q) = (0 : EReal) := by unfold maxV k0_pay25; pointwise
    rw [e]
    exact ⟨fun h => ⟨h, fun j hj => by omega⟩, fun h => h.1⟩
  | succ n ih =>
    intro hn
    have e : maxV x1 x2 x3 wb (n + 1) (ix2 p q) = max (maxV x1 x2 x3 wb n (ix2 p q)) (mag (actT x1 x2 x3 (wb ⟨n, hn⟩) ⟨n, hn⟩ (ix2 p q))) := by
      conv_lhs => unfold maxV
      rw [dif_pos (show n < 37 from hn), maxT_apply]
    rw [e, max_le_iff, ih (by omega)]
    constructor
    · rintro ⟨⟨h0, h1⟩, h2⟩
      refine ⟨h0, fun j hj => ?_⟩
      by_cases hjn : j.val < n
      · exact h1 j hjn
      · have : j = ⟨n, hn⟩ := Fin.ext (by show j.val = n; omega)
        rw [this]; exact h2
    · rintro ⟨h0, h1⟩
      exact ⟨⟨h0, fun j hj => h1 j (by omega)⟩, h1 ⟨n, hn⟩ (by show n < n + 1; omega)⟩

/-- The greatest magnitude of a row, gathered lane by lane and tile by tile. -/
theorem amax_eq (x1 : Vec Ideal S576x3584 .fp8e4m3) (x2 : Vec Ideal S576x1 .f32) (x3 : Vec Ideal S1x1x9472 .f32) (wb : Fin 37 → Vec Ideal S1x3584x256 .fp8e4m3)
    (p : Fin 576) :
    (Finset.univ : Finset (Fin 128)).fold max ⊥ (fun q => maxV x1 x2 x3 wb 37 (ix2 p q)) = amaxOf fun x : Fin 4736 => actV x1 x2 x3 wb (ix2 p x) := by
  refine eq_of_forall_ge_iff fun b => ?_
  rw [Finset.fold_max_le, amaxOf_le]
  have e1 : ∀ x : Fin 4736, inCol (ix2 p x) = ix2 p ⟨x.val % 128, Nat.mod_lt _ (by decide)⟩ := fun x => by funext a; fin_cases a <;> rfl
  constructor
  · rintro ⟨-, h⟩ x
    have hx := ((maxV_le x1 x2 x3 wb p ⟨x.val % 128, Nat.mod_lt _ (by decide)⟩ b 37 (le_refl _)).mp (h _ (Finset.mem_univ _))).2 (colj (ix2 p x)) (colj (ix2 p x)).isLt
    unfold actV; rw [e1]; exact hx
  · intro h
    refine ⟨bot_le, fun q _ => (maxV_le x1 x2 x3 wb p q b 37 (le_refl _)).mpr ⟨(mag_nonneg _).trans (h 0), fun j _ => ?_⟩⟩
    have hx := h ⟨128 * j.val + q.val, by omega⟩
    unfold actV at hx
    rw [e1] at hx
    have e2 : colj (ix2 p (⟨128 * j.val + q.val, by omega⟩ : Fin 4736)) = j := Fin.ext (by show (128 * j.val + q.val) / 128 = j.val; omega)
    have e3 : (⟨(128 * j.val + q.val) % 128, Nat.mod_lt _ (by decide)⟩ : Fin 128) = q := Fin.ext (by show (128 * j.val + q.val) % 128 = q.val; omega)
    rw [e2] at hx
    rw [← e3]; exact hx

theorem scaleR_apply (mx : Vec Ideal S576x128 .f32) (r : Fin 18) (p : Fin 32) :
    scaleR mx r (ix2 p 0) = scaleOf ((Finset.univ : Finset (Fin 128)).fold max ⊥ fun q => mx ((rowR9 r).emb (ix2 p q))) := by
  rw [← ofBits_bot]
  unfold scaleR k0_pay4 scaleOf
  pointwise

theorem quantR_apply (a : Vec Ideal S576x4736 .f32) (mx : Vec Ideal S576x128 .f32) (r : Fin 18) (p : Fin 32) (x : Fin 4736) :
    quantR a mx r (ix2 p x) = quantOf (a ((rowR8 r).emb (ix2 p x))) (scaleOf ((Finset.univ : Finset (Fin 128)).fold max ⊥ fun q => mx ((rowR9 r).emb (ix2 p q)))) := by
  unfold quantOf
  rw [← Ideal.mul_one_div (scaleOf_ne_zero _), ← ofBits_bot]
  unfold quantR k0_pay5 k0_pay4 scaleOf
  pointwise

theorem rowR9_emb (p : Fin 576) (q : Fin 128) : (rowR9 (rowj p)).emb (ix2 (⟨p.val % 32, Nat.mod_lt _ (by decide)⟩ : Fin 32) q) = ix2 p q := by
  funext a; apply Fin.ext; rw [Rect.emb_apply]; fin_cases a
  · show 32 * (p.val / 32) + 1 * (p.val % 32) = p.val; omega
  · show 0 + 1 * q.val = q.val; omega

theorem scaleV_apply (mx : Vec Ideal S576x128 .f32) (p : Fin 576) :
    scaleV mx (ix2 p 0) = scaleOf ((Finset.univ : Finset (Fin 128)).fold max ⊥ fun q => mx (ix2 p q)) := by
  have e : inRow6 (ix2 p 0) = ix2 (⟨p.val % 32, Nat.mod_lt _ (by decide)⟩ : Fin 32) 0 := by funext a; fin_cases a <;> rfl
  show scaleR mx (rowj p) (inRow6 (ix2 p 0)) = _
  rw [e, scaleR_apply]
  exact congrArg scaleOf (congrArg (fun f => (Finset.univ : Finset (Fin 128)).fold max ⊥ f) (funext fun q => congrArg mx (rowR9_emb p q)))

theorem quantV_apply (a : Vec Ideal S576x4736 .f32) (mx : Vec Ideal S576x128 .f32) (p : Fin 576) (x : Fin 4736) :
    quantV a mx (ix2 p x) = quantOf (a (ix2 p x)) (scaleOf ((Finset.univ : Finset (Fin 128)).fold max ⊥ fun q => mx (ix2 p q))) := by
  have e : inRow5 (ix2 p x) = ix2 (⟨p.val % 32, Nat.mod_lt _ (by decide)⟩ : Fin 32) x := by funext a; fin_cases a <;> rfl
  have e2 : (rowR8 (rowj p)).emb (ix2 (⟨p.val % 32, Nat.mod_lt _ (by decide)⟩ : Fin 32) x) = ix2 p x := by rw [← e]; exact emb_inRow5 (ix2 p x)
  show quantR a mx (rowj p) (inRow5 (ix2 p x)) = _
  rw [e, quantR_apply, e2]
  exact congrArg (fun z => quantOf (a (ix2 p x)) (scaleOf z))
    (congrArg (fun f => (Finset.univ : Finset (Fin 128)).fold max ⊥ f) (funext fun q => congrArg mx (rowR9_emb p q)))

/-! ## The windows -/

section Index
theorem idx0 (t : Fin cfg0.N) : win0_0.index t = ![t.val, 0] := by rcases fin_N0 t with h | h | h | h | h | h | h | h <;> rw [h] <;> decide
theorem idx1 (t : Fin cfg0.N) : win0_1.index t = ![t.val, 0] := by rcases fin_N0 t with h | h | h | h | h | h | h | h <;> rw [h] <;> decide
theorem idx2 (t : Fin cfg0.N) : win0_2.index t = ![(wk t.val).val, 0, 0] := by rcases fin_N0 t with h | h | h | h | h | h | h | h <;> rw [h] <;> decide
theorem idx3 (t : Fin cfg0.N) : win0_3.index t = ![t.val, 0] := by rcases fin_N0 t with h | h | h | h | h | h | h | h <;> rw [h] <;> decide
theorem idx4 (t : Fin cfg0.N) : win0_4.index t = ![t.val, 0] := by rcases fin_N0 t with h | h | h | h | h | h | h | h <;> rw [h] <;> decide
end Index

/-- Row `p` of row block `t`. -/
def rowOf (t : Fin cfg0.N) (p : Fin 576) : Fin 4608 := ⟨576 * t.val + p.val, by have := t.isLt; have h : cfg0.N = 8 := N_0; omega⟩
theorem kof_rowOf (t : Fin cfg0.N) (p : Fin 576) : kof (rowOf t p) = wk t.val := by
  unfold kof rowOf
  rcases fin_N0 t with h | h | h | h | h | h | h | h <;> rw [h] <;> clear h <;> revert p <;> decide

/-- Column `q` of tile `j` of half `h`. -/
def hcol (h : Fin 2) (j : Fin 37) (q : Fin 128) : Fin 9472 := ⟨4736 * h.val + 128 * j.val + q.val, by omega⟩
theorem scR_emb (h : Fin 2) (j : Fin 37) (q : Fin 128) : (scR h j).emb (ix3 0 0 q) = ix3 0 0 (hcol h j q) := by
  funext a; apply Fin.ext; rw [Rect.emb_apply]; fin_cases a
  · rfl
  · rfl
  · show 4736 * h.val + 128 * j.val + 1 * q.val = 4736 * h.val + 128 * j.val + q.val; omega

variable (m : (ℓ : Loc nD τ sig) → Buf (Elt Ideal) ℓ)

theorem iblk0_apply (c : Dev nD) (t : Fin cfg0.N) (p : Fin 576) (q : Fin 3584) : iblk m c 0 t (ix2 p q) = m (c.tc.loc main_arg0) (ix2 (rowOf t p) q) := by
  unfold iblk
  blk_simp
  refine (congrFun (V_main_arg0 m c) _).trans (congrArg _ ?_)
  funext a; apply Fin.ext; fin_cases a <;> blk_simp [idx0] <;> try rfl
  · show t.val * 576 + p.val = 576 * t.val + p.val; omega
theorem iblk1_apply (c : Dev nD) (t : Fin cfg0.N) (p : Fin 576) : iblk m c 1 t (ix2 p 0) = m (c.tc.loc main_arg1) (ix2 (rowOf t p) 0) := by
  unfold iblk
  blk_simp
  refine (congrFun (V_main_arg1 m c) _).trans (congrArg _ ?_)
  funext a; apply Fin.ext; fin_cases a <;> blk_simp [idx1] <;> try rfl
  · show t.val * 576 + p.val = 576 * t.val + p.val; omega
theorem V_v0 (c : Dev nD) (k : Fin 2) (q : Fin 9472) : V m c main_v0 (ix3 k 0 q) = m (c.tc.loc main_arg3) (ix2 k q) := by
  unfold V
  after_reads_at
theorem iblk2_apply (c : Dev nD) (t : Fin cfg0.N) (q : Fin 9472) : iblk m c 2 t (ix3 0 0 q) = m (c.tc.loc main_arg3) (ix2 (wk t.val) q) := by
  unfold iblk
  blk_simp
  refine Eq.trans (congrArg _ ?_) (V_v0 m c (wk t.val) q)
  funext a; apply Fin.ext; fin_cases a <;> blk_simp [idx2] <;> rfl
theorem wblk_apply (c : Dev nD) (w : Buf (Elt Ideal) (wM.view.loc (c.tc : Thread nD τ))) (k : Fin 2) (j : Fin 37) (h : Fin 2) (kk : Fin 3584) (q : Fin 128) :
    wblk c w k j h (ix2 kk q) = w (ix3 k kk (hcol h j q)) := by
  unfold wblk blkM
  refine congrArg w ?_
  rw [View.emb_reshape]
  show (wM.view.slice (blkR k j h)).emb (Shape.reshapeEquiv _ (ix2 kk q)) = _
  rw [show Shape.reshapeEquiv _ (ix2 kk q) = (ix3 (0 : Fin 1) kk q : S1x3584x128.Idx) from ValueIdx.reshapeEquiv_ix2_1ab _ kk q]
  funext a; apply Fin.ext; fin_cases a
  · show k.val + 1 * 0 = k.val; omega
  · show 0 + 1 * kk.val = kk.val; omega
  · show 4736 * h.val + 128 * j.val + 1 * q.val = 4736 * h.val + 128 * j.val + q.val; omega
theorem wcat_left (c : Dev nD) (w : Buf (Elt Ideal) (wM.view.loc (c.tc : Thread nD τ))) (k : Fin 2) (j : Fin 37) (kk : Fin 3584) (q : Fin 128) :
    wcat c w k j (ix3 0 kk ⟨q.val, by omega⟩) = w (ix3 k kk (hcol 0 j q)) := by
  exact (dif_pos q.isLt).trans (wblk_apply c w k j 0 kk q)
theorem wcat_right (c : Dev nD) (w : Buf (Elt Ideal) (wM.view.loc (c.tc : Thread nD τ))) (k : Fin 2) (j : Fin 37) (kk : Fin 3584) (q : Fin 128) :
    wcat c w k j (ix3 0 kk ⟨128 + q.val, by omega⟩) = w (ix3 k kk (hcol 1 j q)) := by
  refine Eq.trans ?_ (wblk_apply c w k j 1 kk q)
  refine (dif_neg (show ¬ 128 + q.val < 128 by omega)).trans ?_
  have e : ∀ h, (⟨128 + q.val - 128, h⟩ : Fin 128) = q := fun h => Fin.ext (by show 128 + q.val - 128 = q.val; omega)
  exact congrArg (fun z => wblk c w k j 1 (ix2 kk z)) (e _)

/-- The activations of row block `t`. -/
theorem act_eq (c : Dev nD) (t : Fin cfg0.N) (p : Fin 576) (x : Fin 4736) :
    actV (iblk m c 0 t) (iblk m c 1 t) (iblk m c 2 t) (wcat c (V m c main_arg2) (wk t.val)) (ix2 p x)
      = actAt (m (c.tc.loc main_arg0)) (m (c.tc.loc main_arg1)) (m (c.tc.loc main_arg2)) (m (c.tc.loc main_arg3)) (rowOf t p) x := by
  have e1 : inCol (ix2 p x) = ix2 p ⟨x.val % 128, Nat.mod_lt _ (by decide)⟩ := by funext a; fin_cases a <;> rfl
  have eg : hcol 0 (colj (ix2 p x)) ⟨x.val % 128, Nat.mod_lt _ (by decide)⟩ = gcol x := by
    apply Fin.ext; show 4736 * 0 + 128 * (x.val / 128) + x.val % 128 = x.val; omega
  have eu : hcol 1 (colj (ix2 p x)) ⟨x.val % 128, Nat.mod_lt _ (by decide)⟩ = ucol x := by
    apply Fin.ext; show 4736 * 1 + 128 * (x.val / 128) + x.val % 128 = 4736 + x.val; omega
  have ew : V m c main_arg2 = m (c.tc.loc main_arg2) := V_main_arg2 m c
  unfold actV
  rw [e1, actT_apply]
  unfold actAt projAt
  have el := fun kk => wcat_left c (m (c.tc.loc main_arg2)) (wk t.val) (colj (ix2 p x)) kk ⟨x.val % 128, Nat.mod_lt _ (by decide)⟩
  have er := fun kk => wcat_right c (m (c.tc.loc main_arg2)) (wk t.val) (colj (ix2 p x)) kk ⟨x.val % 128, Nat.mod_lt _ (by decide)⟩
  dsimp only at el er
  rw [kof_rowOf]
  simp only [scR_emb, iblk0_apply, iblk1_apply, iblk2_apply, eg, eu, ew]
  simp only [el, er, eg, eu]

/-- The first result of the run, element by element. -/
theorem arrAt3_eq (c : Dev nD) : (dats m 0 c).arrAt 3 cfg0.N = fun y => c4At (m (c.tc.loc main_arg0)) (m (c.tc.loc main_arg1)) (m (c.tc.loc main_arg2)) (m (c.tc.loc main_arg3)) (y 0) (y 1) := by
  refine (dats m 0 c).arrAt_eq_of_covers 3 _ (by decide +kernel) fun t hf y => ?_
  blk_simp
  rw [after0_3]
  obtain ⟨p, q, rfl⟩ : ∃ (p : Fin 576) (q : Fin 4736), y = ix2 p q := ⟨y 0, y 1, by funext a; fin_cases a <;> rfl⟩
  have e0 : (win0_3.blk t).view.emb (ix2 p q) = ix2 (rowOf t p) q := by
    funext a; apply Fin.ext; fin_cases a <;> blk_simp [idx3] <;> try rfl
    · show t.val * 576 + p.val = 576 * t.val + p.val; omega
  rw [e0]
  unfold outW3
  rw [quantV_apply, amax_eq, act_eq]
  exact congrArg (fun f => quantOf (actAt (m (c.tc.loc main_arg0)) (m (c.tc.loc main_arg1)) (m (c.tc.loc main_arg2)) (m (c.tc.loc main_arg3)) (rowOf t p) q) (scaleOf (amaxOf f)))
    (funext fun x => act_eq m c t p x)

/-- The second result of the run, row by row. -/
theorem arrAt4_eq (c : Dev nD) : (dats m 0 c).arrAt 4 cfg0.N = fun y => s4At (m (c.tc.loc main_arg0)) (m (c.tc.loc main_arg1)) (m (c.tc.loc main_arg2)) (m (c.tc.loc main_arg3)) (y 0) := by
  refine (dats m 0 c).arrAt_eq_of_covers 4 _ (by decide +kernel) fun t hf y => ?_
  blk_simp
  rw [after0_4]
  obtain ⟨p, rfl⟩ : ∃ (p : Fin 576), y = ix2 p (0 : Fin 1) := ⟨y 0, by
    funext a; fin_cases a
    · rfl
    · exact Fin.ext (by have h : (y 1).val < 1 := (y 1).isLt; show (y 1).val = 0; omega)⟩
  have e0 : (win0_4.blk t).view.emb (ix2 p (0 : Fin 1)) = ix2 (rowOf t p) 0 := by
    funext a; apply Fin.ext; fin_cases a <;> blk_simp [idx4] <;> try rfl
    · show t.val * 576 + p.val = 576 * t.val + p.val; omega
  rw [e0]
  unfold outW4
  rw [scaleV_apply, amax_eq]
  exact congrArg (fun f => scaleOf (amaxOf f)) (funext fun x => act_eq m c t p x)

end Cert.GateUpIdeal.Hand
-- ==== Proof.GateUpRefIdealValue.lean ====
/-
  What the reference of the gate and up projections leaves in its two results, at the exact instance: the same expressions, element
  by element.
-/
module

public import proofs.«01_k».proof.Proof.GateUpIdealValue
public import proofs.«01_k».proof.Proof.Gen.GateUpRefIdeal.Frame

@[expose] public section

set_option maxRecDepth 16384

noncomputable section

namespace Cert.GateUpRefIdeal.Hand

open Cert.GateUpRefIdeal Cert.GateUpRefIdeal.Gen
open Cert.GateUpIdeal.Hand (kof swi mag amaxOf scaleOf f448 quantOf projAt gcol ucol actAt s4At c4At ofBits_bot)
open Idealize.ShloMosaic Idealize.ShloMosaic.TcCoe Idealize.ShloMosaic.Tactic
open Idealize.ShloMosaic.Pointwise
open Idealize.ShloMosaic.Pipeline (Dat Cfg Window BodyObligation cellOf)

/-- The reference's activations. -/
def actR (x0 : Vec Ideal S4608x3584 .fp8e4m3) (x1 : Vec Ideal S4608x1 .f32) (x2 : Vec Ideal S2x3584x9472 .fp8e4m3) (x3 : Vec Ideal S2x9472 .f32) : FVec Ideal S4608x4736 .f32 :=
  k0_pay3 (View.ld x0 r0_0) (View.ld x1 r0_1) (View.ld x2 r0_2) (View.ld x3 r0_3) (View.ld x0 r0_4) (View.ld x1 r0_5) (View.ld x2 r0_6) (View.ld x3 r0_7)

theorem actR_apply (x0 : Vec Ideal S4608x3584 .fp8e4m3) (x1 : Vec Ideal S4608x1 .f32) (x2 : Vec Ideal S2x3584x9472 .fp8e4m3) (x3 : Vec Ideal S2x9472 .f32)
    (r : Fin 4608) (x : Fin 4736) : actR x0 x1 x2 x3 (ix2 r x) = actAt x0 x1 x2 x3 r x := by
  unfold actR k0_pay3 actAt projAt swi kof gcol ucol
  by_cases h : r.val < 576
  · rw [if_pos h]
    pointwise
    simp only [dif_pos h]
  · rw [if_neg h]
    have e : ∀ h', (⟨576 + (r.val - 576), h'⟩ : Fin 4608) = r := fun h' => Fin.ext (by show 576 + (r.val - 576) = r.val; omega)
    pointwise
    simp only [dif_neg h, e]

/-- The greatest element of a row. -/
theorem red_apply (b : FVec Ideal S4608x4736 .f32) (h1) (h2) (r : Fin 4608) :
    multiReduction (F := Ideal) .maximumf [1] S4608 b 0xFF800000#32 reduces_S4608x4736_S4608 h1 h2 (ix1 r) = (Finset.univ : Finset (Fin 4736)).fold max ⊥ fun x => b (ix2 r x) := by
  rw [multiReduction_maximumf_eq_fold, Shape.Reduces.fold_filter_drop_single, ← ofBits_bot]
  refine congrArg (fun f => (Finset.univ : Finset (Fin 4736)).fold max (Ideal.ofBits .f32 0xFF800000#32) f) (funext fun x => congrArg b ?_)
  funext a; apply Fin.ext
  rw [Shape.Reduces.lift_val]
  fin_cases a <;> rfl

/-- The row maxima, put in a column. -/
theorem col_apply (R : FVec Ideal S4608 .f32) (r : Fin 4608) :
    shapeCast S4608x1 R shapeCasts_S4608_S4608x1 (ix2 r 0) = R (ix1 r) := by
  pointwise

/-- The scale chosen for one row: one where the maximum is zero. -/
theorem sel_apply (v : FVec Ideal S4608x1 .f32) (y : S4608x1.Idx) :
   select (cmpf .oeq v (broadcast S4608x1 (Scalar.ofBits .f32 0x00000000#32))) (broadcast S4608x1 (Scalar.ofBits .f32 0x3F800000#32)) (divf v (broadcast S4608x1 (Scalar.ofBits .f32 0x43E00000#32))) y
     = scaleOf (v y) := by
  unfold scaleOf
  pointwise

/-- The column of scales, spelled out. -/
theorem pay1_eq (b : FVec Ideal S4608x4736 .f32) (h1) (h2) :
    k0_pay1 (F := Ideal) b = (let v := shapeCast S4608x1 (multiReduction (F := Ideal) .maximumf [1] S4608 b 0xFF800000#32 reduces_S4608x4736_S4608 h1 h2) shapeCasts_S4608_S4608x1
      select (cmpf .oeq v (broadcast S4608x1 (Scalar.ofBits .f32 0x00000000#32))) (broadcast S4608x1 (Scalar.ofBits .f32 0x3F800000#32)) (divf v (broadcast S4608x1 (Scalar.ofBits .f32 0x43E00000#32)))) := by
  unfold k0_pay1
  rfl

/-- The reference's scale of a row. -/
theorem scale_apply (a : FVec Ideal S4608x4736 .f32) (r : Fin 4608) :
    k0_pay1 (F := Ideal) (fun y => mag (a y)) (ix2 r 0) = scaleOf (amaxOf fun x : Fin 4736 => a (ix2 r x)) := by
  rw [pay1_eq _ (.inl rfl) rfl]
  refine (sel_apply _ _).trans (congrArg scaleOf ?_)
  exact (col_apply _ r).trans (red_apply _ _ _ r)

/-- The column of scales, repeated along each row. -/
theorem bc_apply (R : FVec Ideal S4608x1 .f32) (r : Fin 4608) (x : Fin 4736) :
    broadcastTo S4608x4736 R broadcasts_S4608x1_S4608x4736 (ix2 r x) = R (ix2 r 0) := by
  pointwise

theorem div_apply (a : FVec Ideal S4608x4736 .f32) (R : FVec Ideal S4608x1 .f32) (r : Fin 4608) (x : Fin 4736) :
    divf a (broadcastTo S4608x4736 R broadcasts_S4608x1_S4608x4736) (ix2 r x) = Ideal.div (a (ix2 r x)) (R (ix2 r 0)) :=
  congrArg (Ideal.div (a (ix2 r x))) (bc_apply R r x)

theorem clip_apply (v : FVec Ideal S4608x4736 .f32) (y : S4608x4736.Idx) :
    truncf .fp8e4m3 (minimumf (broadcast S4608x4736 (Scalar.ofBits .f32 0x43E00000#32)) (maximumf (broadcast S4608x4736 (Scalar.ofBits .f32 0xC3E00000#32)) v)) bitsLt_fp8e4m3_f32 y
      = min f448 (max (Ideal.ofBits .f32 0xC3E00000#32) (v y)) := rfl

/-- The quantised activations, spelled out. -/
theorem pay2_eq (a b : FVec Ideal S4608x4736 .f32) :
    k0_pay2 (F := Ideal) a b = truncf .fp8e4m3 (minimumf (broadcast S4608x4736 (Scalar.ofBits .f32 0x43E00000#32)) (maximumf (broadcast S4608x4736 (Scalar.ofBits .f32 0xC3E00000#32)) (divf a (broadcastTo S4608x4736 (k0_pay1 (F := Ideal) b) broadcasts_S4608x1_S4608x4736)))) bitsLt_fp8e4m3_f32 := by
  unfold k0_pay2
  rfl

/-- A quantised activation, given its row's scale. -/
theorem quant_of (a b : FVec Ideal S4608x4736 .f32) (r : Fin 4608) (x : Fin 4736) (s : EReal) (h : k0_pay1 (F := Ideal) b (ix2 r 0) = s) :
    k0_pay2 (F := Ideal) a b (ix2 r x) = quantOf (a (ix2 r x)) s := by
  rw [pay2_eq, clip_apply, div_apply, h]
  unfold quantOf
  rfl

/-- The reference's quantised activation. -/
theorem quant_apply (a : FVec Ideal S4608x4736 .f32) (r : Fin 4608) (x : Fin 4736) :
    k0_pay2 (F := Ideal) a (fun y => mag (a y)) (ix2 r x) = quantOf (a (ix2 r x)) (scaleOf (amaxOf fun x : Fin 4736 => a (ix2 r x))) :=
  quant_of _ _ r x _ (scale_apply a r)

/-- The magnitudes the reference takes. -/
theorem pay4_eq (x0 : Vec Ideal S4608x3584 .fp8e4m3) (x1 : Vec Ideal S4608x1 .f32) (x2 : Vec Ideal S2x3584x9472 .fp8e4m3) (x3 : Vec Ideal S2x9472 .f32) :
    k0_pay5 x0 x1 x2 x3 = fun y => mag (actR x0 x1 x2 x3 y) := rfl

variable (m : (ℓ : Loc nD τ sig) → Buf (Elt Ideal) ℓ)

theorem point (t : Fin cfg0.N) : t = t0_0 := fin_N0 t
theorem idx0 (t : Fin cfg0.N) : win0_0.index t = ![0, 0] := by rw [point t]; decide
theorem idx1 (t : Fin cfg0.N) : win0_1.index t = ![0, 0] := by rw [point t]; decide
theorem idx2 (t : Fin cfg0.N) : win0_2.index t = ![0, 0, 0] := by rw [point t]; decide
theorem idx3 (t : Fin cfg0.N) : win0_3.index t = ![0, 0] := by rw [point t]; decide
theorem idx4 (t : Fin cfg0.N) : win0_4.index t = ![0, 0] := by rw [point t]; decide
theorem idx5 (t : Fin cfg0.N) : win0_5.index t = ![0, 0] := by rw [point t]; decide
theorem iblk0_eq (c : Dev nD) (t : Fin cfg0.N) : iblk m c 0 t = m (c.tc.loc main_arg0) := by
  funext y; unfold iblk; blk_simp
  refine (congrFun (V_main_arg0 m c) _).trans (congrArg _ ?_)
  funext a; apply Fin.ext; fin_cases a <;> blk_simp [idx0] <;> simp
theorem iblk1_eq (c : Dev nD) (t : Fin cfg0.N) : iblk m c 1 t = m (c.tc.loc main_arg1) := by
  funext y; unfold iblk; blk_simp
  refine (congrFun (V_main_arg1 m c) _).trans (congrArg _ ?_)
  funext a; apply Fin.ext; fin_cases a <;> blk_simp [idx1] <;> simp
theorem iblk2_eq (c : Dev nD) (t : Fin cfg0.N) : iblk m c 2 t = m (c.tc.loc main_arg2) := by
  funext y; unfold iblk; blk_simp
  refine (congrFun (V_main_arg2 m c) _).trans (congrArg _ ?_)
  funext a; apply Fin.ext; fin_cases a <;> blk_simp [idx2] <;> simp
theorem iblk3_eq (c : Dev nD) (t : Fin cfg0.N) : iblk m c 3 t = m (c.tc.loc main_arg3) := by
  funext y; unfold iblk; blk_simp
  refine (congrFun (V_main_arg3 m c) _).trans (congrArg _ ?_)
  funext a; apply Fin.ext; fin_cases a <;> blk_simp [idx3] <;> simp

/-- The first result of the run, element by element. -/
theorem arrAt4_eq (c : Dev nD) : (dats m 0 c).arrAt 4 cfg0.N = fun y => c4At (m (c.tc.loc main_arg0)) (m (c.tc.loc main_arg1)) (m (c.tc.loc main_arg2)) (m (c.tc.loc main_arg3)) (y 0) (y 1) := by
  refine (dats m 0 c).arrAt_eq_of_covers 4 _ (by decide +kernel) fun t hf y => ?_
  blk_simp
  rw [after0_4, iblk0_eq, iblk1_eq, iblk2_eq, iblk3_eq]
  obtain ⟨r, x, rfl⟩ : ∃ (r : Fin 4608) (x : Fin 4736), y = ix2 r x := ⟨y 0, y 1, by funext a; fin_cases a <;> rfl⟩
  have e0 : ((View.whole main_v0_0).slice (win0_4.rect t)).emb (ix2 r x) = ix2 r x := by
    funext a; apply Fin.ext; fin_cases a <;> blk_simp [idx4] <;> simp
  rw [e0]
  refine Eq.trans ?_ ((quant_apply (actR (m (c.tc.loc main_arg0)) (m (c.tc.loc main_arg1)) (m (c.tc.loc main_arg2)) (m (c.tc.loc main_arg3))) r x).trans ?_)
  · unfold out0_4
    rw [pay4_eq]
    exact congrFun (View.canon_unit_zero (by decide) _ _) _
  · rw [actR_apply]
    exact congrArg (fun f => quantOf (actAt (m (c.tc.loc main_arg0)) (m (c.tc.loc main_arg1)) (m (c.tc.loc main_arg2)) (m (c.tc.loc main_arg3)) r x) (scaleOf (amaxOf f)))
      (funext fun x => actR_apply _ _ _ _ r x)

/-- The second result of the run, row by row. -/
theorem arrAt5_eq (c : Dev nD) : (dats m 0 c).arrAt 5 cfg0.N = fun y => s4At (m (c.tc.loc main_arg0)) (m (c.tc.loc main_arg1)) (m (c.tc.loc main_arg2)) (m (c.tc.loc main_arg3)) (y 0) := by
  refine (dats m 0 c).arrAt_eq_of_covers 5 _ (by decide +kernel) fun t hf y => ?_
  blk_simp
  rw [after0_5, iblk0_eq, iblk1_eq, iblk2_eq, iblk3_eq]
  obtain ⟨r, rfl⟩ : ∃ (r : Fin 4608), y = ix2 r (0 : Fin 1) := ⟨y 0, by
    funext a; fin_cases a
    · rfl
    · exact Fin.ext (by have h : (y 1).val < 1 := (y 1).isLt; show (y 1).val = 0; omega)⟩
  have e0 : ((View.whole main_v0_1).slice (win0_5.rect t)).emb (ix2 r (0 : Fin 1)) = ix2 r 0 := by
    funext a; apply Fin.ext; fin_cases a <;> blk_simp [idx5] <;> simp
  rw [e0]
  refine Eq.trans ?_ ((scale_apply (actR (m (c.tc.loc main_arg0)) (m (c.tc.loc main_arg1)) (m (c.tc.loc main_arg2)) (m (c.tc.loc main_arg3))) r).trans ?_)
  · unfold out0_5
    rw [pay4_eq]
    exact congrFun (View.canon_unit_zero (by decide) _ _) _
  · exact congrArg (fun f => scaleOf (amaxOf f)) (funext fun x => actR_apply _ _ _ _ r x)

end Cert.GateUpRefIdeal.Hand
-- ==== Proof.OProjKit.lean ====
/-
  What the hand proof of the output projection's run shares, for the program `OProj`: the arrays as the region finds them, the input
  windows' blocks, the frame claim from a run, and the scratch accumulators as memrefs.
-/
module

public import proofs.«01_k».proof.Proof.Gen.OProj.Launch
public import proofs.«01_k».proof.Proof.Gen.OProj.Skeleton
public import proofs.«01_k».proof.Proof.Gen.OProj.Loops
public import proofs.«01_k».proof.Proof.Gen.OProj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OProj.Hand

open Cert.OProj Cert.OProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_OProj`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c)⟩) h

/-! ## The staging memrefs and the scratch -/

/-- Each window's current staging memref at point `t`, spelled as the pipeline passes it (`bodyAt0`), and its wholeness. -/
abbrev ms0_0 (t : Fin cfg0.N) : Memref sig .tc .vmem S576x896 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S576x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x3584 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x3584 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S576x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S576x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S576x128 .f32 := Memref.whole cc0_scratch0
abbrev scM0_1 : Memref sig .tc .vmem S576x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OProj.Hand

end
-- ==== Proof.OProjTile.lean ====
/-
  What one grid point of the output projection computes, for the program `OProj`: the seven column tiles of the residual stream, the
  lane-wise sums of squares and scaled maxima, the rows' codes and scales; and the rules for a tile's stores.
-/
module

public import proofs.«01_k».proof.Proof.OProjKit

@[expose] public section

noncomputable section

namespace Cert.OProj.Hand

open Cert.OProj Cert.OProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles -/

theorem trips1 : k0_t1_loop.trips = 7 := by decide
theorem trips2 : k0_t2_loop.trips = 18 := by decide
/-- The column tile of a trip of the first loop, the rows of a trip of the second. -/
abbrev tj (g : Fin k0_t1_loop.trips) : Fin 7 := ⟨g.val, g.isLt.trans_eq trips1⟩
abbrev rj (g : Fin k0_t2_loop.trips) : Fin 18 := ⟨g.val, g.isLt.trans_eq trips2⟩

abbrev colOff (j : Fin 7) : Fin 2 → Nat := ![0, 512 * j.val]
abbrev scOff (j : Fin 7) : Fin 3 → Nat := ![0, 0, 512 * j.val]
abbrev rowOff (r : Fin 18) : Fin 2 → Nat := ![32 * r.val, 0]
theorem colOff_inb (j : Fin 7) : ∀ a, colOff j a + S576x512.size a ≤ S576x3584.size a := by
  have := j.isLt; intro a; fin_cases a
  · show 0 + 576 ≤ 576; omega
  · show 512 * j.val + 512 ≤ 3584; omega
theorem wOff_inb (j : Fin 7) : ∀ a, scOff j a + S1x896x512.size a ≤ S1x896x3584.size a := by
  have := j.isLt; intro a; fin_cases a
  · show 0 + 1 ≤ 1; omega
  · show 0 + 896 ≤ 896; omega
  · show 512 * j.val + 512 ≤ 3584; omega
theorem scOff_inb (j : Fin 7) : ∀ a, scOff j a + S1x1x512.size a ≤ S1x1x3584.size a := by
  have := j.isLt; intro a; fin_cases a
  · show 0 + 1 ≤ 1; omega
  · show 0 + 1 ≤ 1; omega
  · show 512 * j.val + 512 ≤ 3584; omega
theorem rowOff_inbA (r : Fin 18) : ∀ a, rowOff r a + S32x128.size a ≤ S576x128.size a := by
  have := r.isLt; intro a; fin_cases a
  · show 32 * r.val + 32 ≤ 576; omega
  · show 0 + 128 ≤ 128; omega
theorem rowOff_inbH (r : Fin 18) : ∀ a, rowOff r a + S32x3584.size a ≤ S576x3584.size a := by
  have := r.isLt; intro a; fin_cases a
  · show 32 * r.val + 32 ≤ 576; omega
  · show 0 + 3584 ≤ 3584; omega
theorem rowOff_inbS (r : Fin 18) : ∀ a, rowOff r a + S32x1.size a ≤ S576x1.size a := by
  have := r.isLt; intro a; fin_cases a
  · show 32 * r.val + 32 ≤ 576; omega
  · show 0 + 1 ≤ 1; omega

/-- Column tile `j` of a row block, of the weight, of a row of scales. -/
abbrev colR (j : Fin 7) : Rect S576x3584 := Rect.unit (s := S576x3584) (colOff j) S576x512.size (colOff_inb j)
abbrev wR (j : Fin 7) : Rect S1x896x3584 := Rect.unit (s := S1x896x3584) (scOff j) S1x896x512.size (wOff_inb j)
abbrev scR (j : Fin 7) : Rect S1x1x3584 := Rect.unit (s := S1x1x3584) (scOff j) S1x1x512.size (scOff_inb j)
/-- Row block `r` of an accumulator, of the residual stream, of the scales. -/
abbrev rowRA (r : Fin 18) : Rect S576x128 := Rect.unit (s := S576x128) (rowOff r) S32x128.size (rowOff_inbA r)
abbrev rowRH (r : Fin 18) : Rect S576x3584 := Rect.unit (s := S576x3584) (rowOff r) S32x3584.size (rowOff_inbH r)
abbrev rowRS (r : Fin 18) : Rect S576x1 := Rect.unit (s := S576x1) (rowOff r) S32x1.size (rowOff_inbS r)
/-- The codes, their scales, an accumulator and the norm's weights whole. -/
abbrev fullC : Rect S576x896 := Rect.unit (s := S576x896) ![0, 0] S576x896.size inb_S576x896_S576x896_0_0
abbrev fullS : Rect S576x1 := Rect.unit (s := S576x1) ![0, 0] S576x1.size inb_S576x1_S576x1_0_0
abbrev fullA : Rect S576x128 := Rect.unit (s := S576x128) ![0, 0] S576x128.size inb_S576x128_S576x128_0_0
abbrev fullL : Rect S1x1x3584 := Rect.unit (s := S1x1x3584) ![0, 0, 0] S1x1x3584.size inb_S1x1x3584_S1x1x3584_0_0_0

theorem col_disjoint (v : View sig .tc .vmem S576x3584 .f32) (j j' : Fin 7) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 512 * j.val + 512 ≤ 512 * j'.val ∨ 512 * j'.val + 512 ≤ 512 * j.val
  omega
theorem rowH_disjoint (v : View sig .tc .vmem S576x3584 .fp8e4m3) (r r' : Fin 18) (h : r ≠ r') :
    Disjoint (v.slice (rowRH r)).set ((v.slice (rowRH r')).setOn Finset.univ) := by
  refine View.disjoint_slice_of_sep v (rowRH r) (rowRH r') (0 : Fin 2) rfl rfl ?_
  have : r.val ≠ r'.val := fun e => h (Fin.ext e)
  show 32 * r.val + 32 ≤ 32 * r'.val ∨ 32 * r'.val + 32 ≤ 32 * r.val
  omega
theorem rowS_disjoint (v : View sig .tc .vmem S576x1 .f32) (r r' : Fin 18) (h : r ≠ r') :
    Disjoint (v.slice (rowRS r)).set ((v.slice (rowRS r')).setOn Finset.univ) := by
  refine View.disjoint_slice_of_sep v (rowRS r) (rowRS r') (0 : Fin 2) rfl rfl ?_
  have : r.val ≠ r'.val := fun e => h (Fin.ext e)
  show 32 * r.val + 32 ≤ 32 * r'.val ∨ 32 * r'.val + 32 ≤ 32 * r.val
  omega

/-! ## What a grid point computes -/

/-- What the six input windows hold. -/
structure Blk (F : FTy → Type) [FloatOps F] where
  x1 : Vec F S576x896 .fp8e4m3
  x2 : Vec F S576x1 .f32
  x3 : Vec F S1x896x3584 .fp8e4m3
  x4 : Vec F S1x1x3584 .f32
  x5 : Vec F S576x3584 .bf16
  x6 : Vec F S1x1x3584 .f32

/-- Tile `j` of the residual stream; -/
def hT (B : Blk F) (j : Fin 7) : FVec F S576x512 .f32 :=
  k0_pay6 (fun y => B.x5 ((colR j).emb y)) (fun y => B.x1 (fullC.emb y)) (fun y => B.x3 ((wR j).emb y)) (fun y => B.x2 (fullS.emb y)) (fun y => B.x4 ((scR j).emb y))
/-- its size scaled by the norm's weights; -/
def absT (B : Blk F) (j : Fin 7) : FVec F S576x512 .f32 :=
  k0_pay7 (fun y => B.x5 ((colR j).emb y)) (fun y => B.x1 (fullC.emb y)) (fun y => B.x3 ((wR j).emb y)) (fun y => B.x2 (fullS.emb y)) (fun y => B.x4 ((scR j).emb y)) (fun y => B.x6 ((scR j).emb y))
/-- its squares. -/
def sqrT (B : Blk F) (j : Fin 7) : FVec F S576x512 .f32 :=
  k0_pay8 (fun y => B.x5 ((colR j).emb y)) (fun y => B.x1 (fullC.emb y)) (fun y => B.x3 ((wR j).emb y)) (fun y => B.x2 (fullS.emb y)) (fun y => B.x4 ((scR j).emb y))
/-- The first lane group's addition. -/
def addT (B : Blk F) (j : Fin 7) (v : Vec F S576x128 .f32) : FVec F S576x128 .f32 :=
  k0_pay9 (fun y => B.x5 ((colR j).emb y)) (fun y => B.x1 (fullC.emb y)) (fun y => B.x3 ((wR j).emb y)) (fun y => B.x2 (fullS.emb y)) (fun y => B.x4 ((scR j).emb y)) v
/-- The sums of squares raised by tile `j`, and the maxima. -/
def sqT (B : Blk F) (j : Fin 7) (v : Vec F S576x128 .f32) : FVec F S576x128 .f32 :=
  k0_pay3 (k0_pay15 (sqrT B j) (k0_pay13 (sqrT B j) (k0_pay11 (sqrT B j) (addT B j v))))
def mxT (B : Blk F) (j : Fin 7) (v : Vec F S576x128 .f32) : FVec F S576x128 .f32 :=
  k0_pay4 (absT B j) (k0_pay14 (absT B j) (k0_pay12 (absT B j) (k0_pay10 (absT B j) v)))
/-- The two accumulators after the first `n` tiles. -/
def sqV (B : Blk F) : ℕ → FVec F S576x128 .f32
  | 0 => k0_pay1 (F := F)
  | n + 1 => if h : n < 7 then sqT B ⟨n, h⟩ (sqV B n) else sqV B n
def mxV (B : Blk F) : ℕ → FVec F S576x128 .f32
  | 0 => k0_pay2 (F := F)
  | n + 1 => if h : n < 7 then mxT B ⟨n, h⟩ (mxV B n) else mxV B n
theorem sqV_succ (B : Blk F) (j : Fin 7) : sqV B (j.val + 1) = sqT B j (sqV B j.val) := by
  conv_lhs => unfold sqV
  rw [dif_pos j.isLt]
theorem mxV_succ (B : Blk F) (j : Fin 7) : mxV B (j.val + 1) = mxT B j (mxV B j.val) := by
  conv_lhs => unfold mxV
  rw [dif_pos j.isLt]

/-- The column tile of an element of the residual stream, and its place inside it. -/
def colj (y : S576x3584.Idx) : Fin 7 := ⟨(y 1).val / 512, by have h : (y 1).val < 3584 := (y 1).isLt; omega⟩
def inCol (y : S576x3584.Idx) : S576x512.Idx := fun a => match a with
  | ⟨0, _⟩ => ⟨(y 0).val, (y 0).isLt⟩
  | ⟨1, _⟩ => ⟨(y 1).val % 512, Nat.mod_lt _ (by decide)⟩
theorem emb_inCol (y : S576x3584.Idx) : (colR (colj y)).emb (inCol y) = y := by
  funext a
  apply Fin.ext
  rw [Rect.emb_apply]
  fin_cases a
  · show 0 + 1 * (y 0).val = (y 0).val; omega
  · show 512 * ((y 1).val / 512) + 1 * ((y 1).val % 512) = (y 1).val; omega
/-- The residual stream's row block. -/
def hV (B : Blk F) : Vec F S576x3584 .f32 := fun y => hT B (colj y) (inCol y)

/-- Thirty-two rows normalised and quantised, and their scales. -/
def quantR (h : Vec F S576x3584 .f32) (sq mx : Vec F S576x128 .f32) (ln : Vec F S1x1x3584 .f32) (r : Fin 18) : FVec F S32x3584 .fp8e4m3 :=
  k0_pay5 (k0_pay18 (fun y => sq ((rowRA r).emb y)) (fun y => mx ((rowRA r).emb y)) (fun y => h ((rowRH r).emb y)) (fun y => ln (fullL.emb y)))
    (Scalar.ofBits .f32 0xC3E00000#32) (Scalar.ofBits .f32 0x43E00000#32)
def scaleR (sq mx : Vec F S576x128 .f32) (r : Fin 18) : FVec F S32x1 .f32 := k0_pay17 (fun y => sq ((rowRA r).emb y)) (fun y => mx ((rowRA r).emb y))
/-- The row block of an element of an output window, and its place inside that block. -/
def rowj (a : Fin 576) : Fin 18 := ⟨a.val / 32, by have := a.isLt; omega⟩
def inRowH (y : S576x3584.Idx) : S32x3584.Idx := fun a => match a with
  | ⟨0, _⟩ => ⟨(y 0).val % 32, Nat.mod_lt _ (by decide)⟩
  | ⟨1, _⟩ => ⟨(y 1).val, (y 1).isLt⟩
def inRowS (y : S576x1.Idx) : S32x1.Idx := fun a => match a with
  | ⟨0, _⟩ => ⟨(y 0).val % 32, Nat.mod_lt _ (by decide)⟩
  | ⟨1, _⟩ => ⟨(y 1).val, (y 1).isLt⟩
theorem emb_inRowH (y : S576x3584.Idx) : (rowRH (rowj (y 0))).emb (inRowH y) = y := by
  funext a
  apply Fin.ext
  rw [Rect.emb_apply]
  fin_cases a
  · show 32 * ((y 0).val / 32) + 1 * ((y 0).val % 32) = (y 0).val; omega
  · show 0 + 1 * (y 1).val = (y 1).val; omega
theorem emb_inRowS (y : S576x1.Idx) : (rowRS (rowj (y 0))).emb (inRowS y) = y := by
  funext a
  apply Fin.ext
  rw [Rect.emb_apply]
  fin_cases a
  · show 32 * ((y 0).val / 32) + 1 * ((y 0).val % 32) = (y 0).val; omega
  · show 0 + 1 * (y 1).val = (y 1).val; omega
def quantV (h : Vec F S576x3584 .f32) (sq mx : Vec F S576x128 .f32) (ln : Vec F S1x1x3584 .f32) : Vec F S576x3584 .fp8e4m3 := fun y => quantR h sq mx ln (rowj (y 0)) (inRowH y)
def scaleV (sq mx : Vec F S576x128 .f32) : Vec F S576x1 .f32 := fun y => scaleR sq mx (rowj (y 0)) (inRowS y)

section Run
variable (c : Dev nD) (i : grid0.Coords)
variable (arg1 : Memref sig .tc .vmem S576x896 .fp8e4m3) (harg1 : arg1.IsWhole) (arg2 : Memref sig .tc .vmem S576x1 .f32) (harg2 : arg2.IsWhole)
variable (arg3 : Memref sig .tc .vmem S1x896x3584 .fp8e4m3) (harg3 : arg3.IsWhole) (arg4 : Memref sig .tc .vmem S1x1x3584 .f32) (harg4 : arg4.IsWhole)
variable (arg5 : Memref sig .tc .vmem S576x3584 .bf16) (harg5 : arg5.IsWhole) (arg6 : Memref sig .tc .vmem S1x1x3584 .f32) (harg6 : arg6.IsWhole)
variable (arg7 : Memref sig .tc .vmem S576x3584 .f32) (harg7 : arg7.IsWhole) (arg8 : Memref sig .tc .vmem S576x3584 .fp8e4m3) (harg8 : arg8.IsWhole)
variable (arg9 : Memref sig .tc .vmem S576x1 .f32) (harg9 : arg9.IsWhole) (arg10 : Memref sig .tc .vmem S576x128 .f32) (harg10 : arg10.IsWhole)
variable (arg11 : Memref sig .tc .vmem S576x128 .f32) (harg11 : arg11.IsWhole)
variable (f1 : Buf (Elt F) (arg1.view.loc (c : Thread nD τ))) (f2 : Buf (Elt F) (arg2.view.loc (c : Thread nD τ))) (f3 : Buf (Elt F) (arg3.view.loc (c : Thread nD τ)))
variable (f4 : Buf (Elt F) (arg4.view.loc (c : Thread nD τ))) (f5 : Buf (Elt F) (arg5.view.loc (c : Thread nD τ))) (f6 : Buf (Elt F) (arg6.view.loc (c : Thread nD τ)))
variable (𝒱 : Variants)

/-- The six input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6))
/-- Those contents. -/
def blk : Blk F := ⟨arg1.view.read (Elt F) f1, arg2.view.read (Elt F) f2, arg3.view.read (Elt F) f3, arg4.view.read (Elt F) f4, arg5.view.read (Elt F) f5, arg6.view.read (Elt F) f6⟩

/-- An accumulator that holds `v`. -/
def accAt (a : Memref sig .tc .vmem S576x128 .f32) (v : Vec F S576x128 .f32) : sProp 𝕄 :=
  iprop(∃ f, (a.view.loc (c : Thread nD τ) ↦[a.view.set]{fullShare} f) ∗ ⌜(a.access fullA).read (Elt F) f = v⌝)

/-- A load of an accumulator. -/
theorem wp_ldA {α : Type} {Q : α → sProp 𝕄} (a : Memref sig .tc .vmem S576x128 .f32) (v : Vec F S576x128 .f32) {l} {K : Vec F S576x128 .f32 → Prog (TpuEff nD τ sig (Elt F) Λ₀ .tc) α} :
    accAt c a v ⊢ iprop((accAt c a v -∗ wp frame (wpE defs₀ 𝒱 (c : Thread nD τ) none) Set.univ (K v) Q)
      -∗ wp frame (wpE defs₀ 𝒱 (c : Thread nD τ) none) Set.univ
        (.op (.load a (Rect.unit (s := S576x128) ![0, 0] S576x128.size inb_S576x128_S576x128_0_0).toLoadRect l) K) Q) := by
  unfold accAt
  iintro ⟨%f, H, %e⟩ HK
  subst e
  iapply (wp_load_rect 𝒱 (c : Thread nD τ) none Set.univ (m := a) (r := fullA) (S := a.view.set) (f := f) (a.view.set_slice_subset _)) $$ H
  iintro H
  iapply HK
  iexists f
  isplitl [H]; · iexact H
  ipureintro; rfl

/-- A store to an accumulator. -/
theorem wp_stA {α : Type} {Q : α → sProp 𝕄} (a : Memref sig .tc .vmem S576x128 .f32) (v w : Vec F S576x128 .f32) {x m} {K : PUnit → Prog (TpuEff nD τ sig (Elt F) Λ₀ .tc) α} :
    accAt c a v ⊢ iprop((accAt c a w -∗ wp frame (wpE defs₀ 𝒱 (c : Thread nD τ) none) Set.univ (K ⟨⟩) Q)
      -∗ wp frame (wpE defs₀ 𝒱 (c : Thread nD τ) none) Set.univ
        (.op (.store a (Rect.unit (s := S576x128) ![0, 0] S576x128.size inb_S576x128_S576x128_0_0) w Finset.univ x m) K) Q) := by
  unfold accAt
  iintro ⟨%f, H, %e⟩ HK
  iapply (wp_store 𝒱 (c : Thread nD τ) none Set.univ (m := a) (r := fullA) (S := a.view.set) (f := f) (a.view.set_slice_subset _)) $$ H
  iintro H
  iapply HK
  iexists _
  isplitl [H]; · iexact H
  ipureintro; exact View.read_write_univ _ _

/-- The residual stream with its first `n` tiles stored. -/
def hP (B : Blk F) (n : ℕ) : sProp 𝕄 :=
  iprop(∃ f, (arg7.view.loc (c : Thread nD τ) ↦[arg7.view.set]{fullShare} f) ∗ ⌜∀ j : Fin 7, j.val < n → (arg7.access (colR j)).read (Elt F) f = hT B j⌝)

theorem wp_hst {α : Type} {Q : α → sProp 𝕄} (B : Blk F) (j : Fin 7) {h h' l x m} {K : PUnit → Prog (TpuEff nD τ sig (Elt F) Λ₀ .tc) α} :
    hP c arg7 B j.val ⊢ iprop((hP c arg7 B (j.val + 1) -∗ wp frame (wpE defs₀ 𝒱 (c : Thread nD τ) none) Set.univ (K ⟨⟩) Q)
      -∗ wp frame (wpE defs₀ 𝒱 (c : Thread nD τ) none) Set.univ
        (.op (.load arg7 (Rect.unit (s := S576x3584) (colOff j) S576x512.size h).toLoadRect l) fun _ =>
         .op (.store arg7 (Rect.unit (s := S576x3584) (colOff j) S576x512.size h') (hT B j) Finset.univ x m) K) Q) := by
  unfold hP
  iintro ⟨%f, H, %hf⟩ HK
  iapply (wp_load_rect 𝒱 (c : Thread nD τ) none Set.univ (m := arg7) (r := colR j) (S := arg7.view.set) (f := f) (arg7.view.set_slice_subset _)) $$ H
  iintro H
  iapply (wp_store 𝒱 (c : Thread nD τ) none Set.univ (m := arg7) (r := colR j) (S := arg7.view.set) (f := f) (arg7.view.set_slice_subset _)) $$ H
  iintro H
  iapply HK
  iexists _
  isplitl [H]; · iexact H
  ipureintro
  intro j' hj'
  by_cases hjj : j' = j
  · subst hjj
    exact View.read_write_univ _ _
  · refine (View.read_slice_write_slice_of_disjoint (v := arg7.view) (colR j') (colR j) _ _ _ (col_disjoint arg7.view j' j hjj)).trans ?_
    refine hf j' ?_
    have : j'.val ≠ j.val := fun e => hjj (Fin.ext e)
    omega

/-- What the first loop has done after `n` tiles. -/
def tileP (n : ℕ) : sProp 𝕄 :=
  iprop(insP c arg1 arg2 arg3 arg4 arg5 arg6 f1 f2 f3 f4 f5 f6 ∗ hP c arg7 (blk c arg1 arg2 arg3 arg4 arg5 arg6 f1 f2 f3 f4 f5 f6) n
    ∗ accAt c arg10 (sqV (blk c arg1 arg2 arg3 arg4 arg5 arg6 f1 f2 f3 f4 f5 f6) n) ∗ accAt c arg11 (mxV (blk c arg1 arg2 arg3 arg4 arg5 arg6 f1 f2 f3 f4 f5 f6) n))

end Run

end Cert.OProj.Hand
-- ==== Proof.OProjBody.lean ====
/-
  The body of the output projection at one grid point, for the program `OProj`: the loop over the seven column tiles, which stores the
  residual stream and accumulates lane by lane its sums of squares and its scaled maxima, and the loop that normalises and quantises
  thirty-two rows a trip.
-/
module

public import proofs.«01_k».proof.Proof.OProjTile
public import Idealize.ShloMosaic.Lib.VecWindow

@[expose] public section

noncomputable section

namespace Cert.OProj.Hand

open Cert.OProj Cert.OProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid0.Coords)
variable (arg1 : Memref sig .tc .vmem S576x896 .fp8e4m3) (harg1 : arg1.IsWhole) (arg2 : Memref sig .tc .vmem S576x1 .f32) (harg2 : arg2.IsWhole)
variable (arg3 : Memref sig .tc .vmem S1x896x3584 .fp8e4m3) (harg3 : arg3.IsWhole) (arg4 : Memref sig .tc .vmem S1x1x3584 .f32) (harg4 : arg4.IsWhole)
variable (arg5 : Memref sig .tc .vmem S576x3584 .bf16) (harg5 : arg5.IsWhole) (arg6 : Memref sig .tc .vmem S1x1x3584 .f32) (harg6 : arg6.IsWhole)
variable (arg7 : Memref sig .tc .vmem S576x3584 .f32) (harg7 : arg7.IsWhole) (arg8 : Memref sig .tc .vmem S576x3584 .fp8e4m3) (harg8 : arg8.IsWhole)
variable (arg9 : Memref sig .tc .vmem S576x1 .f32) (harg9 : arg9.IsWhole) (arg10 : Memref sig .tc .vmem S576x128 .f32) (harg10 : arg10.IsWhole)
variable (arg11 : Memref sig .tc .vmem S576x128 .f32) (harg11 : arg11.IsWhole)
variable (f1 : Buf (Elt F) (arg1.view.loc (c : Thread nD τ))) (f2 : Buf (Elt F) (arg2.view.loc (c : Thread nD τ))) (f3 : Buf (Elt F) (arg3.view.loc (c : Thread nD τ)))
variable (f4 : Buf (Elt F) (arg4.view.loc (c : Thread nD τ))) (f5 : Buf (Elt F) (arg5.view.loc (c : Thread nD τ))) (f6 : Buf (Elt F) (arg6.view.loc (c : Thread nD τ)))
variable (𝒱 : Variants)

/-- The first part of a tile: the tile computed and stored, and the first lane group added. -/
theorem wp_part1 {α : Type} {Q : α → sProp 𝕄} (j : Fin 7) {o1 : Fin 2 → Nat} {o2 o3 : Fin 3 → Nat} (e1 : o1 = colOff j) (e2 : o2 = scOff j) (e3 : o3 = scOff j) (v : Vec F S576x128 .f32)
    {h5 l5 l1 h3 l3 l2 h4 l4 h7 l7 h7' x7 m7 h6 l6 la lb xa ma} {K : FVec F S576x512 .f32 → FVec F S576x512 .f32 → Prog (TpuEff nD τ sig (Elt F) Λ₀ .tc) α} :
    iprop(insP c arg1 arg2 arg3 arg4 arg5 arg6 f1 f2 f3 f4 f5 f6 ∗ hP c arg7 (blk c arg1 arg2 arg3 arg4 arg5 arg6 f1 f2 f3 f4 f5 f6) j.val ∗ accAt c arg10 v) ⊢
    iprop((iprop(insP c arg1 arg2 arg3 arg4 arg5 arg6 f1 f2 f3 f4 f5 f6 ∗ hP c arg7 (blk c arg1 arg2 arg3 arg4 arg5 arg6 f1 f2 f3 f4 f5 f6) (j.val + 1)
        ∗ accAt c arg10 (addT (blk c arg1 arg2 arg3 arg4 arg5 arg6 f1 f2 f3 f4 f5 f6) j v))
        -∗ wp frame (wpE defs₀ 𝒱 (c : Thread nD τ) none) Set.univ (K (absT (blk c arg1 arg2 arg3 arg4 arg5 arg6 f1 f2 f3 f4 f5 f6) j) (sqrT (blk c arg1 arg2 arg3 arg4 arg5 arg6 f1 f2 f3 f4 f5 f6) j)) Q)
      -∗ wp frame (wpE defs₀ 𝒱 (c : Thread nD τ) none) Set.univ
        (.op (.load arg5 (Rect.unit (s := S576x3584) o1 S576x512.size h5).toLoadRect l5) fun v15 =>
         .op (.load arg1 (Rect.unit (s := S576x896) ![0, 0] S576x896.size inb_S576x896_S576x896_0_0).toLoadRect l1) fun v17 =>
         .op (.load arg3 (Rect.unit (s := S1x896x3584) o2 S1x896x512.size h3).toLoadRect l3) fun v19 =>
         .op (.load arg2 (Rect.unit (s := S576x1) ![0, 0] S576x1.size inb_S576x1_S576x1_0_0).toLoadRect l2) fun v22 =>
         .op (.load arg4 (Rect.unit (s := S1x1x3584) o3 S1x1x512.size h4).toLoadRect l4) fun v26 =>
         .op (.load arg7 (Rect.unit (s := S576x3584) o1 S576x512.size h7).toLoadRect l7) fun _ =>
         .op (.store arg7 (Rect.unit (s := S576x3584) o1 S576x512.size h7') (k0_pay6 v15 v17 v19 v22 v26) Finset.univ x7 m7) fun _ =>
         .op (.load arg6 (Rect.unit (s := S1x1x3584) o3 S1x1x512.size h6).toLoadRect l6) fun v34 =>
         .op (.load arg10 (Rect.unit (s := S576x128) ![0, 0] S576x128.size inb_S576x128_S576x128_0_0).toLoadRect la) fun v40 =>
         .op (.load arg10 (Rect.unit (s := S576x128) ![0, 0] S576x128.size inb_S576x128_S576x128_0_0).toLoadRect lb) fun _ =>
         .op (.store arg10 (Rect.unit (s := S576x128) ![0, 0] S576x128.size inb_S576x128_S576x128_0_0) (k0_pay9 v15 v17 v19 v22 v26 v40) Finset.univ xa ma) fun _ =>
         K (k0_pay7 v15 v17 v19 v22 v26 v34) (k0_pay8 v15 v17 v19 v22 v26)) Q) := by
  subst e1 e2 e3
  unfold insP
  iintro ⟨⟨H1, H2, H3, H4, H5, H6⟩, Hh, Ha⟩ HK
  iapply (wp_load_rect 𝒱 (c : Thread nD τ) none Set.univ (m := arg5) (r := colR j) (S := arg5.view.set) (f := f5) (arg5.view.set_slice_subset _)) $$ H5
  iintro H5
  iapply (wp_load_rect 𝒱 (c : Thread nD τ) none Set.univ (m := arg1) (r := fullC) (S := arg1.view.set) (f := f1) (arg1.view.set_slice_subset _)) $$ H1
  iintro H1
  iapply (wp_load_rect 𝒱 (c : Thread nD τ) none Set.univ (m := arg3) (r := wR j) (S := arg3.view.set) (f := f3) (arg3.view.set_slice_subset _)) $$ H3
  iintro H3
  iapply (wp_load_rect 𝒱 (c : Thread nD τ) none Set.univ (m := arg2) (r := fullS) (S := arg2.view.set) (f := f2) (arg2.view.set_slice_subset _)) $$ H2
  iintro H2
  iapply (wp_load_rect 𝒱 (c : Thread nD τ) none Set.univ (m := arg4) (r := scR j) (S := arg4.view.set) (f := f4) (arg4.view.set_slice_subset _)) $$ H4
  iintro H4
  iapply (wp_hst c arg7 𝒱 (blk c arg1 arg2 arg3 arg4 arg5 arg6 f1 f2 f3 f4 f5 f6) j) $$ Hh
  iintro Hh
  iapply (wp_load_rect 𝒱 (c : Thread nD τ) none Set.univ (m := arg6) (r := scR j) (S := arg6.view.set) (f := f6) (arg6.view.set_slice_subset _)) $$ H6
  iintro H6
  iapply (wp_ldA c 𝒱 arg10 _) $$ Ha
  iintro Ha
  iapply (wp_ldA c 𝒱 arg10 _) $$ Ha
  iintro Ha
  iapply (wp_stA c 𝒱 arg10 _ _) $$ Ha
  iintro Ha
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hh]; · iexact Hh
  iexact Ha

/-- The printed first part of a tile. -/
theorem part1_run (g : Fin k0_t1_loop.trips) (v : Vec F S576x128 .f32) (Q : (Σ' (_ : FVec F S576x512 .f32), FVec F S576x512 .f32) → sProp 𝕄) :
    iprop(insP c arg1 arg2 arg3 arg4 arg5 arg6 f1 f2 f3 f4 f5 f6 ∗ hP c arg7 (blk c arg1 arg2 arg3 arg4 arg5 arg6 f1 f2 f3 f4 f5 f6) (tj g).val ∗ accAt c arg10 v) ⊢
    iprop((iprop(insP c arg1 arg2 arg3 arg4 arg5 arg6 f1 f2 f3 f4 f5 f6 ∗ hP c arg7 (blk c arg1 arg2 arg3 arg4 arg5 arg6 f1 f2 f3 f4 f5 f6) ((tj g).val + 1) ∗ accAt c arg10 (addT (blk c arg1 arg2 arg3 arg4 arg5 arg6 f1 f2 f3 f4 f5 f6) (tj g) v)) -∗ Q ⟨absT (blk c arg1 arg2 arg3 arg4 arg5 arg6 f1 f2 f3 f4 f5 f6) (tj g), sqrT (blk c arg1 arg2 arg3 arg4 arg5 arg6 f1 f2 f3 f4 f5 f6) (tj g)⟩)
      -∗ wp frame (wpE defs₀ 𝒱 (c : Thread nD τ) none) Set.univ (k0_part1 (F := F) i arg1 harg1 arg2 harg2 arg3 harg3 arg4 harg4 arg5 harg5 arg6 harg6 arg7 harg7 arg8 harg8 arg9 harg9 arg10 harg10 arg11 harg11 0#32 1#32 g) Q) := by
  rw [k0_part1_eq_skeleton]
  unfold k0_part1_skel
  simp only [Prog.bind_lift]
  iintro H HK
  iapply (wp_part1 c arg1 arg2 arg3 arg4 arg5 arg6 arg7 arg10 f1 f2 f3 f4 f5 f6 𝒱 (tj g) (k0_off1_eq g) (k0_off2_eq g) (k0_off3_eq g) v (Q := Q) (K := fun a b => pure ⟨a, b⟩)) $$ H
  iintro H
  rw [wp_pure]
  imodintro
  iapply HK $$ H

/-- The printed second part of a tile: the lane groups after the first. -/
theorem part2_run (x y : FVec F S576x512 .f32) (v w : Vec F S576x128 .f32) (Q : FVec F S576x128 .f32 → sProp 𝕄) :
    iprop(accAt c arg10 v ∗ accAt c arg11 w) ⊢
    iprop((iprop(accAt c arg10 (k0_pay13 y (k0_pay11 y v)) ∗ accAt c arg11 (k0_pay14 x (k0_pay12 x (k0_pay10 x w)))) -∗ Q (k0_pay15 y (k0_pay13 y (k0_pay11 y v))))
      -∗ wp frame (wpE defs₀ 𝒱 (c : Thread nD τ) none) Set.univ (k0_part2 (F := F) i arg1 harg1 arg2 harg2 arg3 harg3 arg4 harg4 arg5 harg5 arg6 harg6 arg7 harg7 arg8 harg8 arg9 harg9 arg10 harg10 arg11 harg11 x y) Q) := by
  rw [k0_part2_eq_skeleton]
  unfold k0_part2_skel
  simp only [Prog.bind_lift]
  iintro ⟨Hs, Hm⟩ HK
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  rw [wp_pure]
  imodintro
  iapply HK
  isplitl [Hs]; · iexact Hs
  iexact Hm

/-- The end of a tile: its last lane group stored. -/
theorem tile_end {α : Type} {Q : α → sProp 𝕄} (x : FVec F S576x512 .f32) (z v w : Vec F S576x128 .f32) {l1 x1 m1 l2 l3 x2 m2} {K : PUnit → Prog (TpuEff nD τ sig (Elt F) Λ₀ .tc) α} :
    iprop(accAt c arg10 v ∗ accAt c arg11 w) ⊢
    iprop((iprop(accAt c arg10 (k0_pay3 z) ∗ accAt c arg11 (k0_pay4 x w)) -∗ wp frame (wpE defs₀ 𝒱 (c : Thread nD τ) none) Set.univ (K ⟨⟩) Q)
      -∗ wp frame (wpE defs₀ 𝒱 (c : Thread nD τ) none) Set.univ
        (.op (.load arg10 (Rect.unit (s := S576x128) ![0, 0] S576x128.size inb_S576x128_S576x128_0_0).toLoadRect l1) fun _ =>
         .op (.store arg10 (Rect.unit (s := S576x128) ![0, 0] S576x128.size inb_S576x128_S576x128_0_0) (k0_pay3 z) Finset.univ x1 m1) fun _ =>
         .op (.load arg11 (Rect.unit (s := S576x128) ![0, 0] S576x128.size inb_S576x128_S576x128_0_0).toLoadRect l2) fun v82 =>
         .op (.load arg11 (Rect.unit (s := S576x128) ![0, 0] S576x128.size inb_S576x128_S576x128_0_0).toLoadRect l3) fun _ =>
         .op (.store arg11 (Rect.unit (s := S576x128) ![0, 0] S576x128.size inb_S576x128_S576x128_0_0) (k0_pay4 x v82) Finset.univ x2 m2) K) Q) := by
  iintro ⟨Hs, Hm⟩ HK
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply HK
  isplitl [Hs]; · iexact Hs
  iexact Hm

set_option maxHeartbeats 1000000 in
/-- The first loop: before trip `g` the first `g` tiles are done. -/
@[instance_reducible] def loop1 :
    Gen.LoopInvTy_k0_t1 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 where
  inv := fun g _ => tileP c arg1 arg2 arg3 arg4 arg5 arg6 arg7 arg10 arg11 f1 f2 f3 f4 f5 f6 g
  step := by
    intro g acc
    unfold k0_t1_body tileP
    rw [show sqV (blk c arg1 arg2 arg3 arg4 arg5 arg6 f1 f2 f3 f4 f5 f6) (g.val + 1) = _ from sqV_succ _ (tj g), show mxV (blk c arg1 arg2 arg3 arg4 arg5 arg6 f1 f2 f3 f4 f5 f6) (g.val + 1) = _ from mxV_succ _ (tj g)]
    simp only [Prog.bind_lift]
    iintro ⟨HI, Hh, Hs, Hm⟩
    rw [wp_bind]
    iapply (part1_run c i arg1 harg1 arg2 harg2 arg3 harg3 arg4 harg4 arg5 harg5 arg6 harg6 arg7 harg7 arg8 harg8 arg9 harg9 arg10 harg10 arg11 harg11 f1 f2 f3 f4 f5 f6 𝒱 g (sqV (blk c arg1 arg2 arg3 arg4 arg5 arg6 f1 f2 f3 f4 f5 f6) g.val)) $$ [HI Hh Hs]
    · isplitl [HI]; · iexact HI
      isplitl [Hh]; · iexact Hh
      iexact Hs
    iintro ⟨HI, Hh, Hs⟩
    rw [wp_bind]
    iapply (part2_run c i arg1 harg1 arg2 harg2 arg3 harg3 arg4 harg4 arg5 harg5 arg6 harg6 arg7 harg7 arg8 harg8 arg9 harg9 arg10 harg10 arg11 harg11 𝒱 (absT (blk c arg1 arg2 arg3 arg4 arg5 arg6 f1 f2 f3 f4 f5 f6) (tj g)) (sqrT (blk c arg1 arg2 arg3 arg4 arg5 arg6 f1 f2 f3 f4 f5 f6) (tj g)) (addT (blk c arg1 arg2 arg3 arg4 arg5 arg6 f1 f2 f3 f4 f5 f6) (tj g) (sqV (blk c arg1 arg2 arg3 arg4 arg5 arg6 f1 f2 f3 f4 f5 f6) g.val)) (mxV (blk c arg1 arg2 arg3 arg4 arg5 arg6 f1 f2 f3 f4 f5 f6) g.val)) $$ [Hs Hm]
    · isplitl [Hs]; · iexact Hs
      iexact Hm
    iintro ⟨Hs, Hm⟩
    iapply (tile_end c arg10 arg11 𝒱 (absT (blk c arg1 arg2 arg3 arg4 arg5 arg6 f1 f2 f3 f4 f5 f6) (tj g)) _ _ _) $$ [Hs Hm]
    · isplitl [Hs]; · iexact Hs
      iexact Hm
    iintro ⟨Hs, Hm⟩
    rw [wp_pure]
    imodintro
    isplitl [HI]; · iexact HI
    isplitl [Hh]; · iexact Hh
    isplitl [Hs]; · iexact Hs
    iexact Hm

/-! ## The second loop -/

/-- The two quantised output windows with their first `n` row blocks stored. -/
def outP (h : Vec F S576x3584 .f32) (sq mx : Vec F S576x128 .f32) (ln : Vec F S1x1x3584 .f32) (n : ℕ) : sProp 𝕄 :=
  iprop((∃ f, (arg8.view.loc (c : Thread nD τ) ↦[arg8.view.set]{fullShare} f) ∗ ⌜∀ r : Fin 18, r.val < n → (arg8.access (rowRH r)).read (Elt F) f = quantR h sq mx ln r⌝)
    ∗ (∃ f, (arg9.view.loc (c : Thread nD τ) ↦[arg9.view.set]{fullShare} f) ∗ ⌜∀ r : Fin 18, r.val < n → (arg9.access (rowRS r)).read (Elt F) f = scaleR sq mx r⌝))

variable (f7 : Buf (Elt F) (arg7.view.loc (c : Thread nD τ))) (f10 : Buf (Elt F) (arg10.view.loc (c : Thread nD τ))) (f11 : Buf (Elt F) (arg11.view.loc (c : Thread nD τ)))

/-- What the second loop reads. -/
def srcP : sProp 𝕄 :=
  iprop((arg6.view.loc (c : Thread nD τ) ↦[arg6.view.set]{fullShare} f6) ∗ (arg7.view.loc (c : Thread nD τ) ↦[arg7.view.set]{fullShare} f7)
    ∗ (arg10.view.loc (c : Thread nD τ) ↦[arg10.view.set]{fullShare} f10) ∗ (arg11.view.loc (c : Thread nD τ) ↦[arg11.view.set]{fullShare} f11))

/-- What the second loop has done after `n` row blocks. -/
def rowsP (n : ℕ) : sProp 𝕄 :=
  iprop(srcP c arg6 arg7 arg10 arg11 f6 f7 f10 f11
    ∗ outP c arg8 arg9 (arg7.view.read (Elt F) f7) (arg10.view.read (Elt F) f10) (arg11.view.read (Elt F) f11) (arg6.view.read (Elt F) f6) n)

/-- The stores of a trip of the second loop. -/
theorem wp_rowst {α : Type} {Q : α → sProp 𝕄} (h : Vec F S576x3584 .f32) (sq mx : Vec F S576x128 .f32) (ln : Vec F S1x1x3584 .f32) (r : Fin 18)
    {o8 o9 : Fin 2 → Nat} (e8 : o8 = rowOff r) (e9 : o9 = rowOff r) {p : FVec F S32x3584 .fp8e4m3} {q : FVec F S32x1 .f32} (ep : p = quantR h sq mx ln r) (eq : q = scaleR sq mx r)
    {h8 l8 h8' x8 m8 h9 l9 h9' x9 m9} {K : PUnit → Prog (TpuEff nD τ sig (Elt F) Λ₀ .tc) α} :
    outP c arg8 arg9 h sq mx ln r.val ⊢
    iprop((outP c arg8 arg9 h sq mx ln (r.val + 1) -∗ wp frame (wpE defs₀ 𝒱 (c : Thread nD τ) none) Set.univ (K ⟨⟩) Q)
      -∗ wp frame (wpE defs₀ 𝒱 (c : Thread nD τ) none) Set.univ
        (.op (.load arg8 (Rect.unit (s := S576x3584) o8 S32x3584.size h8).toLoadRect l8) fun _ =>
         .op (.store arg8 (Rect.unit (s := S576x3584) o8 S32x3584.size h8') p Finset.univ x8 m8) fun _ =>
         .op (.load arg9 (Rect.unit (s := S576x1) o9 S32x1.size h9).toLoadRect l9) fun _ =>
         .op (.store arg9 (Rect.unit (s := S576x1) o9 S32x1.size h9') q Finset.univ x9 m9) K) Q) := by
  subst e8 e9 ep eq
  unfold outP
  iintro ⟨⟨%f8, H8, %h8⟩, ⟨%f9, H9, %h9⟩⟩ HK
  iapply (wp_load_rect 𝒱 (c : Thread nD τ) none Set.univ (m := arg8) (r := rowRH r) (S := arg8.view.set) (f := f8) (arg8.view.set_slice_subset _)) $$ H8
  iintro H8
  iapply (wp_store 𝒱 (c : Thread nD τ) none Set.univ (m := arg8) (r := rowRH r) (S := arg8.view.set) (f := f8) (arg8.view.set_slice_subset _)) $$ H8
  iintro H8
  iapply (wp_load_rect 𝒱 (c : Thread nD τ) none Set.univ (m := arg9) (r := rowRS r) (S := arg9.view.set) (f := f9) (arg9.view.set_slice_subset _)) $$ H9
  iintro H9
  iapply (wp_store 𝒱 (c : Thread nD τ) none Set.univ (m := arg9) (r := rowRS r) (S := arg9.view.set) (f := f9) (arg9.view.set_slice_subset _)) $$ H9
  iintro H9
  iapply HK
  isplitl [H8]
  · iexists _
    isplitl [H8]; · iexact H8
    ipureintro
    intro r' hr'
    by_cases hrr : r' = r
    · subst hrr
      exact View.read_write_univ _ _
    · refine (View.read_slice_write_slice_of_disjoint (v := arg8.view) (rowRH r') (rowRH r) _ _ _ (rowH_disjoint arg8.view r' r hrr)).trans ?_
      refine h8 r' ?_
      have : r'.val ≠ r.val := fun e => hrr (Fin.ext e)
      omega
  · iexists _
    isplitl [H9]; · iexact H9
    ipureintro
    intro r' hr'
    by_cases hrr : r' = r
    · subst hrr
      exact View.read_write_univ _ _
    · refine (View.read_slice_write_slice_of_disjoint (v := arg9.view) (rowRS r') (rowRS r) _ _ _ (rowS_disjoint arg9.view r' r hrr)).trans ?_
      refine h9 r' ?_
      have : r'.val ≠ r.val := fun e => hrr (Fin.ext e)
      omega

/-- The loads of a trip of the second loop. -/
theorem wp_rowld {α : Type} {Q : α → sProp 𝕄} (r : Fin 18) {o4 o5 : Fin 2 → Nat} (e4 : o4 = rowOff r) (e5 : o5 = rowOff r)
    {ha hb hh la lb lh ll} {K : Vec F S32x128 .f32 → Vec F S32x128 .f32 → Vec F S32x3584 .f32 → Vec F S1x1x3584 .f32 → Prog (TpuEff nD τ sig (Elt F) Λ₀ .tc) α} :
    srcP c arg6 arg7 arg10 arg11 f6 f7 f10 f11 ⊢
    iprop((srcP c arg6 arg7 arg10 arg11 f6 f7 f10 f11 -∗ wp frame (wpE defs₀ 𝒱 (c : Thread nD τ) none) Set.univ
        (K (fun y => arg10.view.read (Elt F) f10 ((rowRA r).emb y)) (fun y => arg11.view.read (Elt F) f11 ((rowRA r).emb y))
          (fun y => arg7.view.read (Elt F) f7 ((rowRH r).emb y)) (fun y => arg6.view.read (Elt F) f6 (fullL.emb y))) Q)
      -∗ wp frame (wpE defs₀ 𝒱 (c : Thread nD τ) none) Set.univ
        (.op (.load arg10 (Rect.unit (s := S576x128) o4 S32x128.size ha).toLoadRect la) fun v15 =>
         .op (.load arg11 (Rect.unit (s := S576x128) o4 S32x128.size hb).toLoadRect lb) fun v26 =>
         .op (.load arg7 (Rect.unit (s := S576x3584) o5 S32x3584.size hh).toLoadRect lh) fun v37 =>
         .op (.load arg6 (Rect.unit (s := S1x1x3584) ![0, 0, 0] S1x1x3584.size inb_S1x1x3584_S1x1x3584_0_0_0).toLoadRect ll) fun v41 => K v15 v26 v37 v41) Q) := by
  subst e4 e5
  unfold srcP
  iintro ⟨H6, H7, H10, H11⟩ HK
  iapply (wp_load_rect 𝒱 (c : Thread nD τ) none Set.univ (m := arg10) (r := rowRA r) (S := arg10.view.set) (f := f10) (arg10.view.set_slice_subset _)) $$ H10
  iintro H10
  iapply (wp_load_rect 𝒱 (c : Thread nD τ) none Set.univ (m := arg11) (r := rowRA r) (S := arg11.view.set) (f := f11) (arg11.view.set_slice_subset _)) $$ H11
  iintro H11
  iapply (wp_load_rect 𝒱 (c : Thread nD τ) none Set.univ (m := arg7) (r := rowRH r) (S := arg7.view.set) (f := f7) (arg7.view.set_slice_subset _)) $$ H7
  iintro H7
  iapply (wp_load_rect 𝒱 (c : Thread nD τ) none Set.univ (m := arg6) (r := fullL) (S := arg6.view.set) (f := f6) (arg6.view.set_slice_subset _)) $$ H6
  iintro H6
  iapply HK
  isplitl [H6]; · iexact H6
  isplitl [H7]; · iexact H7
  isplitl [H10]; · iexact H10
  iexact H11

set_option maxHeartbeats 1000000 in
/-- The second loop: before trip `g` the first `g` row blocks are stored. -/
@[instance_reducible] def loop2 :
    Gen.LoopInvTy_k0_t2 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 where
  inv := fun g _ => rowsP c arg6 arg7 arg8 arg9 arg10 arg11 f6 f7 f10 f11 g
  step := by
    intro g acc
    unfold k0_t2_body rowsP
    rw [k0_part3_eq_skeleton]
    iintro ⟨HS, HO⟩
    rw [wp_bind]
    unfold k0_part3_skel
    simp only [Prog.bind_lift]
    iapply (wp_rowld c arg6 arg7 arg10 arg11 f6 𝒱 f7 f10 f11 (rj g) (k0_off4_eq g) (k0_off5_eq g)) $$ HS
    iintro HS
    rw [wp_pure]
    imodintro
    iapply (wp_rowst c arg8 arg9 𝒱 _ _ _ _ (rj g) (k0_off5_eq g) (k0_off6_eq g) rfl rfl) $$ HO
    iintro HO
    rw [wp_pure]
    imodintro
    isplitl [HS]; · iexact HS
    iexact HO

/-! ## The body -/

theorem loop1_inv (n : ℕ) (a : Unit) :
    (loop1 c i arg1 harg1 arg2 harg2 arg3 harg3 arg4 harg4 arg5 harg5 arg6 harg6 arg7 harg7 arg8 harg8 arg9 harg9 arg10 harg10 arg11 harg11 f1 f2 f3 f4 f5 f6 𝒱).inv n a
      = tileP c arg1 arg2 arg3 arg4 arg5 arg6 arg7 arg10 arg11 f1 f2 f3 f4 f5 f6 n := rfl
theorem loop1_end (a : Unit) :
    (loop1 c i arg1 harg1 arg2 harg2 arg3 harg3 arg4 harg4 arg5 harg5 arg6 harg6 arg7 harg7 arg8 harg8 arg9 harg9 arg10 harg10 arg11 harg11 f1 f2 f3 f4 f5 f6 𝒱).inv (Scf.trips k0_t1_loop.lb k0_t1_loop.ub k0_t1_loop.st) a
      ⊢ tileP c arg1 arg2 arg3 arg4 arg5 arg6 arg7 arg10 arg11 f1 f2 f3 f4 f5 f6 7 := by
  rw [show Scf.trips k0_t1_loop.lb k0_t1_loop.ub k0_t1_loop.st = 7 from trips1, loop1_inv]
theorem loop2_inv (n : ℕ) (a : Unit) :
    (loop2 c i arg1 harg1 arg2 harg2 arg3 harg3 arg4 harg4 arg5 harg5 arg6 harg6 arg7 harg7 arg8 harg8 arg9 harg9 arg10 harg10 arg11 harg11 f6 𝒱 f7 f10 f11).inv n a
      = rowsP c arg6 arg7 arg8 arg9 arg10 arg11 f6 f7 f10 f11 n := rfl
theorem loop2_end (a : Unit) :
    (loop2 c i arg1 harg1 arg2 harg2 arg3 harg3 arg4 harg4 arg5 harg5 arg6 harg6 arg7 harg7 arg8 harg8 arg9 harg9 arg10 harg10 arg11 harg11 f6 𝒱 f7 f10 f11).inv (Scf.trips k0_t2_loop.lb k0_t2_loop.ub k0_t2_loop.st) a
      ⊢ rowsP c arg6 arg7 arg8 arg9 arg10 arg11 f6 f7 f10 f11 18 := by
  rw [show Scf.trips k0_t2_loop.lb k0_t2_loop.ub k0_t2_loop.st = 18 from trips2, loop2_inv]

/-- What the three output windows hold after the body. -/
def outsP (B : Blk F) : sProp 𝕄 :=
  iprop((∃ f, (arg7.view.loc (c : Thread nD τ) ↦[arg7.view.set]{fullShare} f) ∗ ⌜arg7.view.read (Elt F) f = hV B⌝)
    ∗ (∃ f, (arg8.view.loc (c : Thread nD τ) ↦[arg8.view.set]{fullShare} f) ∗ ⌜arg8.view.read (Elt F) f = quantV (hV B) (sqV B 7) (mxV B 7) B.x6⌝)
    ∗ (∃ f, (arg9.view.loc (c : Thread nD τ) ↦[arg9.view.set]{fullShare} f) ∗ ⌜arg9.view.read (Elt F) f = scaleV (sqV B 7) (mxV B 7)⌝))

/-- The first loop's stores whole. -/
theorem h_done (B : Blk F) (h : ∀ j : Fin 7, j.val < 7 → (arg7.access (colR j)).read (Elt F) f7 = hT B j) : arg7.view.read (Elt F) f7 = hV B := by
  funext y
  refine Eq.trans ?_ (congrFun (h (colj y) (colj y).isLt) (inCol y))
  show _ = arg7.view.read (Elt F) f7 ((colR (colj y)).emb (inCol y))
  rw [emb_inCol]
theorem acc_read (a : Memref sig .tc .vmem S576x128 .f32) (f : Buf (Elt F) (a.view.loc (c : Thread nD τ))) (v : Vec F S576x128 .f32)
    (h : (a.access fullA).read (Elt F) f = v) : a.view.read (Elt F) f = v := by
  funext y
  refine Eq.trans ?_ (congrFun h y)
  show _ = a.view.read (Elt F) f (fullA.emb y)
  rw [show fullA.emb y = y from Rect.emb_unit_full _ _]

/-- The second loop's stores whole. -/
theorem rows_done (h : Vec F S576x3584 .f32) (sq mx : Vec F S576x128 .f32) (ln : Vec F S1x1x3584 .f32) :
    outP c arg8 arg9 h sq mx ln 18 ⊢
      iprop((∃ f, (arg8.view.loc (c : Thread nD τ) ↦[arg8.view.set]{fullShare} f) ∗ ⌜arg8.view.read (Elt F) f = quantV h sq mx ln⌝)
    ∗ (∃ f, (arg9.view.loc (c : Thread nD τ) ↦[arg9.view.set]{fullShare} f) ∗ ⌜arg9.view.read (Elt F) f = scaleV sq mx⌝)) := by
  unfold outP
  iintro ⟨⟨%f8, H8, %h8⟩, ⟨%f9, H9, %h9⟩⟩
  isplitl [H8]
  · iexists f8
    isplitl [H8]; · iexact H8
    ipureintro
    funext y
    refine Eq.trans ?_ (congrFun (h8 (rowj (y 0)) (rowj (y 0)).isLt) (inRowH y))
    show _ = arg8.view.read (Elt F) f8 ((rowRH (rowj (y 0))).emb (inRowH y))
    rw [emb_inRowH]
  · iexists f9
    isplitl [H9]; · iexact H9
    ipureintro
    funext y
    refine Eq.trans ?_ (congrFun (h9 (rowj (y 0)) (rowj (y 0)).isLt) (inRowS y))
    show _ = arg9.view.read (Elt F) f9 ((rowRS (rowj (y 0))).emb (inRowS y))
    rw [emb_inRowS]

/-- The output windows before the second loop. -/
theorem out_zero (h : Vec F S576x3584 .f32) (sq mx : Vec F S576x128 .f32) (ln : Vec F S1x1x3584 .f32) :
    iprop((∃ f, arg8.view.loc (c : Thread nD τ) ↦[arg8.view.set]{fullShare} f) ∗ (∃ f, arg9.view.loc (c : Thread nD τ) ↦[arg9.view.set]{fullShare} f))
      ⊢ outP c arg8 arg9 h sq mx ln 0 := by
  unfold outP
  iintro ⟨⟨%f8, H8⟩, ⟨%f9, H9⟩⟩
  isplitl [H8]
  · iexists f8
    isplitl [H8]; · iexact H8
    ipureintro; intro j hj; omega
  · iexists f9
    isplitl [H9]; · iexact H9
    ipureintro; intro j hj; omega

/-- The two accumulators, at any contents. -/
def accs : sProp 𝕄 :=
  iprop((∃ f, arg10.view.loc (c : Thread nD τ) ↦[arg10.view.set]{fullShare} f) ∗ (∃ f, arg11.view.loc (c : Thread nD τ) ↦[arg11.view.set]{fullShare} f))
/-- The three output windows, at any contents. -/
def outs : sProp 𝕄 :=
  iprop((∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 1000000 in
/-- THE BODY at one grid point. -/
theorem body_run (Q : PUnit → sProp 𝕄) :
    iprop((insP c arg1 arg2 arg3 arg4 arg5 arg6 f1 f2 f3 f4 f5 f6 ∗ outs c arg7 arg8 arg9 ∗ accs c arg10 arg11)
      ∗ (iprop(insP c arg1 arg2 arg3 arg4 arg5 arg6 f1 f2 f3 f4 f5 f6 ∗ outsP c arg7 arg8 arg9 (blk c arg1 arg2 arg3 arg4 arg5 arg6 f1 f2 f3 f4 f5 f6) ∗ accs c arg10 arg11) -∗ Q ⟨⟩))
    ⊢ wp frame (wpE defs₀ 𝒱 (c : Thread nD τ) none) Set.univ (cc0_o_proj (F := F) i arg1 harg1 arg2 harg2 arg3 harg3 arg4 harg4 arg5 harg5 arg6 harg6 arg7 harg7 arg8 harg8 arg9 harg9 arg10 harg10 arg11 harg11) Q := by
  rw [cc0_o_proj_eq_skeleton]
  unfold cc0_o_proj_skel outs accs
  simp only [Prog.bind_lift]
  iintro ⟨⟨HI, ⟨⟨%f7, H7⟩, HOut⟩, ⟨⟨%fa, Ha⟩, ⟨%fb, Hb⟩⟩⟩, HK⟩
  iapply (wp_load_rect 𝒱 (c : Thread nD τ) none Set.univ (m := arg10) (r := fullA) (S := arg10.view.set) (f := fa) (arg10.view.set_slice_subset _)) $$ Ha
  iintro Ha
  iapply (wp_store 𝒱 (c : Thread nD τ) none Set.univ (m := arg10) (r := fullA) (S := arg10.view.set) (f := fa) (arg10.view.set_slice_subset _)) $$ Ha
  iintro Ha
  iapply (wp_load_rect 𝒱 (c : Thread nD τ) none Set.univ (m := arg11) (r := fullA) (S := arg11.view.set) (f := fb) (arg11.view.set_slice_subset _)) $$ Hb
  iintro Hb
  iapply (wp_store 𝒱 (c : Thread nD τ) none Set.univ (m := arg11) (r := fullA) (S := arg11.view.set) (f := fb) (arg11.view.set_slice_subset _)) $$ Hb
  iintro Hb
  iapply (exec_loop frame (wpE defs₀ 𝒱 (c : Thread nD τ) none) Set.univ k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11)
    (loop1 c i arg1 harg1 arg2 harg2 arg3 harg3 arg4 harg4 arg5 harg5 arg6 harg6 arg7 harg7 arg8 harg8 arg9 harg9 arg10 harg10 arg11 harg11 f1 f2 f3 f4 f5 f6 𝒱)) $$ [HI H7 Ha Hb]
  · rw [loop1_inv]
    unfold tileP
    isplitl [HI]; · iexact HI
    isplitl [H7]
    · unfold hP
      iexists f7
      isplitl [H7]; · iexact H7
      ipureintro; intro j hj; omega
    unfold accAt
    isplitl [Ha]
    · iexists _
      isplitl [Ha]; · iexact Ha
      ipureintro; exact View.read_write_univ _ _
    · iexists _
      isplitl [Hb]; · iexact Hb
      ipureintro; exact View.read_write_univ _ _
  iintro %acc HL
  ihave HL := (loop1_end c i arg1 harg1 arg2 harg2 arg3 harg3 arg4 harg4 arg5 harg5 arg6 harg6 arg7 harg7 arg8 harg8 arg9 harg9 arg10 harg10 arg11 harg11 f1 f2 f3 f4 f5 f6 𝒱 acc) $$ HL
  unfold tileP hP accAt insP
  icases HL with ⟨⟨H1, H2, H3, H4, H5, H6⟩, ⟨%g7, H7, %e7⟩, ⟨%ga, Ha, %ea⟩, ⟨%gb, Hb, %eb⟩⟩
  ihave HOut := (out_zero c arg8 arg9 (arg7.view.read (Elt F) g7) (arg10.view.read (Elt F) ga) (arg11.view.read (Elt F) gb) (arg6.view.read (Elt F) f6)) $$ HOut
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 arg4 harg4 arg5 harg5 arg6 harg6 arg7 harg7 arg8 harg8 arg9 harg9 arg10 harg10 arg11 harg11)
    (loop2 c i arg1 harg1 arg2 harg2 arg3 harg3 arg4 harg4 arg5 harg5 arg6 harg6 arg7 harg7 arg8 harg8 arg9 harg9 arg10 harg10 arg11 harg11 f6 𝒱 g7 ga gb)) $$ [H6 H7 Ha Hb HOut]
  · rw [loop2_inv]
    unfold rowsP srcP
    isplitl [H6 H7 Ha Hb]
    · isplitl [H6]; · iexact H6
      isplitl [H7]; · iexact H7
      isplitl [Ha]; · iexact Ha
      iexact Hb
    iexact HOut
  iintro %acc' HL
  ihave HL := (loop2_end c i arg1 harg1 arg2 harg2 arg3 harg3 arg4 harg4 arg5 harg5 arg6 harg6 arg7 harg7 arg8 harg8 arg9 harg9 arg10 harg10 arg11 harg11 f6 𝒱 g7 ga gb acc') $$ HL
  unfold rowsP srcP
  icases HL with ⟨⟨H6, H7, Ha, Hb⟩, HOut⟩
  ihave HOut := (rows_done c arg8 arg9 (arg7.view.read (Elt F) g7) (arg10.view.read (Elt F) ga) (arg11.view.read (Elt F) gb) (arg6.view.read (Elt F) f6)) $$ HOut
  rw [h_done c arg7 g7 _ e7, acc_read c arg10 ga _ ea, acc_read c arg11 gb _ eb]
  rw [wp_pure]
  imodintro
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7 HOut]
  · unfold outsP
    isplitl [H7]
    · iexists g7
      isplitl [H7]; · iexact H7
      ipureintro; exact h_done c arg7 g7 _ e7
    iexact HOut
  isplitl [Ha]; · iexists ga; iexact Ha
  iexists gb; iexact Hb

end Run

end Cert.OProj.Hand
-- ==== Proof.OProjFrame.lean ====
/-
  The frame of the output projection, for the program `OProj`: its proof data, the body obligation at every grid point, and the run of
  the whole program.
-/
module

public import proofs.«01_k».proof.Proof.OProjBody
public import Idealize.ShloMosaic.Lib.Claim

@[expose] public section

noncomputable section

namespace Cert.OProj.Hand

open Cert.OProj Cert.OProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the six input windows hold at point `t`. -/
def blkAt (c : Dev nD) (t : Fin cfg0.N) : Blk F := ⟨iblk m c 0 t, iblk m c 1 t, iblk m c 2 t, iblk m c 3 t, iblk m c 4 t, iblk m c 5 t⟩
/-- What the body leaves in the three output windows at point `t`. -/
def outW6 (c : Dev nD) (t : Fin cfg0.N) : Vec F S576x3584 .f32 := hV (blkAt m c t)
def outW7 (c : Dev nD) (t : Fin cfg0.N) : Vec F S576x3584 .fp8e4m3 := quantV (hV (blkAt m c t)) (sqV (blkAt m c t) 7) (mxV (blkAt m c t) 7) (blkAt m c t).x6
def outW8 (c : Dev nD) (t : Fin cfg0.N) : Vec F S576x1 .f32 := scaleV (sqV (blkAt m c t) 7) (mxV (blkAt m c t) 7)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outW6 m c t
    | ⟨7, _⟩ => outW7 m c t
    | ⟨8, _⟩ => outW8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outW6 m c t := by dsimp only [dats]
theorem after0_7 (c : Dev nD) (t : Fin cfg0.N) : (dats m 0 c).after 7 t = outW7 m c t := by dsimp only [dats]
theorem after0_8 (c : Dev nD) (t : Fin cfg0.N) : (dats m 0 c).after 8 t = outW8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold owns
  iintro ⟨⟨⟨⟨%da, %fa, -, Ha⟩, ⟨%db, %fb, -, Hb⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  have eB : blk c (ms0_0 t) (ms0_1 t) (ms0_2 t) (ms0_3 t) (ms0_4 t) (ms0_5 t) f0 f1 f2 f3 f4 f5 = blkAt m c t := by
    unfold blk blkAt
    rw [e0, e1, e2, e3, e4, e5]
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) f0 f1 f2 f3 f4 f5 Variants.none _)
  rw [eB]
  isplitr [Hg Ho]
  · isplitl [H0 H1 H2 H3 H4 H5]
    · unfold insP
      isplitl [H0]; · iexact H0
      isplitl [H1]; · iexact H1
      isplitl [H2]; · iexact H2
      isplitl [H3]; · iexact H3
      isplitl [H4]; · iexact H4
      iexact H5
    unfold outs accs
    isplitl [H6 H7 H8]
    · isplitl [H6]; · iexists f6; iexact H6
      isplitl [H7]; · iexists f7; iexact H7
      iexists f8; iexact H8
    isplitl [Ha]; · iexists fa; iexact Ha
    iexists fb; iexact Hb
  · unfold insP outsP accs
    iintro ⟨⟨H0, H1, H2, H3, H4, H5⟩, ⟨⟨%g6, H6, %h6⟩, ⟨%g7, H7, %h7⟩, ⟨%g8, H8, %h8⟩⟩, ⟨⟨%ga, Ha⟩, ⟨%gb, Hb⟩⟩⟩
    isplitl [Ha Hb Hg]
    · isplitl [Ha Hb]
      · isplitl [Ha]
        · iexists _; iexists ga; isplitr; · ipureintro; rfl
          iexact Ha
        iexists _; iexists gb; isplitr; · ipureintro; rfl
        iexact Hb
      iexact Hg
    isplitl [Ho]; · iexact Ho
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists g6; isplitr; · ipureintro; exact h6
                    iexact H6
    isplitl [H7]; · iexists g7; isplitr; · ipureintro; exact h7
                    iexact H7
    iexists g8; isplitr; · ipureintro; exact h8
    iexact H8

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN: every execution terminates with the arrays at what the proof data says, and no semaphore held. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OProj.Hand

end
-- ==== Proof.OProjIdealKit.lean ====
/-
  What the hand proof of the output projection's run shares, for the program `OProjIdeal`: the arrays as the region finds them, the input
  windows' blocks, the frame claim from a run, and the scratch accumulators as memrefs.
-/
module

public import proofs.«01_k».proof.Proof.Gen.OProjIdeal.Launch
public import proofs.«01_k».proof.Proof.Gen.OProjIdeal.Skeleton
public import proofs.«01_k».proof.Proof.Gen.OProjIdeal.Loops
public import proofs.«01_k».proof.Proof.Gen.OProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_OProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c)⟩) h

/-! ## The staging memrefs and the scratch -/

/-- Each window's current staging memref at point `t`, spelled as the pipeline passes it (`bodyAt0`), and its wholeness. -/
abbrev ms0_0 (t : Fin cfg0.N) : Memref sig .tc .vmem S576x896 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S576x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x3584 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S576x3584 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S576x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S576x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S576x128 .f32 := Memref.whole cc0_scratch0
abbrev scM0_1 : Memref sig .tc .vmem S576x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OProjIdeal.Hand

end
-- ==== Proof.OProjIdealTile.lean ====
/-
  What one grid point of the output projection computes, for the program `OProjIdeal`: the seven column tiles of the residual stream, the
  lane-wise sums of squares and scaled maxima, the rows' codes and scales; and the rules for a tile's stores.
-/
module

public import proofs.«01_k».proof.Proof.OProjIdealKit

@[expose] public section

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles -/

theorem trips1 : k0_t1_loop.trips = 7 := by decide
theorem trips2 : k0_t2_loop.trips = 18 := by decide
/-- The column tile of a trip of the first loop, the rows of a trip of the second. -/
abbrev tj (g : Fin k0_t1_loop.trips) : Fin 7 := ⟨g.val, g.isLt.trans_eq trips1⟩
abbrev rj (g : Fin k0_t2_loop.trips) : Fin 18 := ⟨g.val, g.isLt.trans_eq trips2⟩

abbrev colOff (j : Fin 7) : Fin 2 → Nat := ![0, 512 * j.val]
abbrev scOff (j : Fin 7) : Fin 3 → Nat := ![0, 0, 512 * j.val]
abbrev rowOff (r : Fin 18) : Fin 2 → Nat := ![32 * r.val, 0]
theorem colOff_inb (j : Fin 7) : ∀ a, colOff j a + S576x512.size a ≤ S576x3584.size a := by
  have := j.isLt; intro a; fin_cases a
  · show 0 + 576 ≤ 576; omega
  · show 512 * j.val + 512 ≤ 3584; omega
theorem wOff_inb (j : Fin 7) : ∀ a, scOff j a + S1x896x512.size a ≤ S1x896x3584.size a := by
  have := j.isLt; intro a; fin_cases a
  · show 0 + 1 ≤ 1; omega
  · show 0 + 896 ≤ 896; omega
  · show 512 * j.val + 512 ≤ 3584; omega
theorem scOff_inb (j : Fin 7) : ∀ a, scOff j a + S1x1x512.size a ≤ S1x1x3584.size a := by
  have := j.isLt; intro a; fin_cases a
  · show 0 + 1 ≤ 1; omega
  · show 0 + 1 ≤ 1; omega
  · show 512 * j.val + 512 ≤ 3584; omega
theorem rowOff_inbA (r : Fin 18) : ∀ a, rowOff r a + S32x128.size a ≤ S576x128.size a := by
  have := r.isLt; intro a; fin_cases a
  · show 32 * r.val + 32 ≤ 576; omega
  · show 0 + 128 ≤ 128; omega
theorem rowOff_inbH (r : Fin 18) : ∀ a, rowOff r a + S32x3584.size a ≤ S576x3584.size a := by
  have := r.isLt; intro a; fin_cases a
  · show 32 * r.val + 32 ≤ 576; omega
  · show 0 + 3584 ≤ 3584; omega
theorem rowOff_inbS (r : Fin 18) : ∀ a, rowOff r a + S32x1.size a ≤ S576x1.size a := by
  have := r.isLt; intro a; fin_cases a
  · show 32 * r.val + 32 ≤ 576; omega
  · show 0 + 1 ≤ 1; omega

/-- Column tile `j` of a row block, of the weight, of a row of scales. -/
abbrev colR (j : Fin 7) : Rect S576x3584 := Rect.unit (s := S576x3584) (colOff j) S576x512.size (colOff_inb j)
abbrev wR (j : Fin 7) : Rect S1x896x3584 := Rect.unit (s := S1x896x3584) (scOff j) S1x896x512.size (wOff_inb j)
abbrev scR (j : Fin 7) : Rect S1x1x3584 := Rect.unit (s := S1x1x3584) (scOff j) S1x1x512.size (scOff_inb j)
/-- Row block `r` of an accumulator, of the residual stream, of the scales. -/
abbrev rowRA (r : Fin 18) : Rect S576x128 := Rect.unit (s := S576x128) (rowOff r) S32x128.size (rowOff_inbA r)
abbrev rowRH (r : Fin 18) : Rect S576x3584 := Rect.unit (s := S576x3584) (rowOff r) S32x3584.size (rowOff_inbH r)
abbrev rowRS (r : Fin 18) : Rect S576x1 := Rect.unit (s := S576x1) (rowOff r) S32x1.size (rowOff_inbS r)
/-- The codes, their scales, an accumulator and the norm's weights whole. -/
abbrev fullC : Rect S576x896 := Rect.unit (s := S576x896) ![0, 0] S576x896.size inb_S576x896_S576x896_0_0
abbrev fullS : Rect S576x1 := Rect.unit (s := S576x1) ![0, 0] S576x1.size inb_S576x1_S576x1_0_0
abbrev fullA : Rect S576x128 := Rect.unit (s := S576x128) ![0, 0] S576x128.size inb_S576x128_S576x128_0_0
abbrev fullL : Rect S1x1x3584 := Rect.unit (s := S1x1x3584) ![0, 0, 0] S1x1x3584.size inb_S1x1x3584_S1x1x3584_0_0_0

theorem col_disjoint (v : View sig .tc .vmem S576x3584 .f32) (j j' : Fin 7) (h : j ≠ j') :
    Disjoint (v.slice (colR j)).set ((v.slice (colR j')).setOn Finset.univ) := by
  refine View.disjoint_slice_of_sep v (colR j) (colR j') (1 : Fin 2) rfl rfl ?_
  have : j.val ≠ j'.val := fun e => h (Fin.ext e)
  show 512 * j.val + 512 ≤ 512 * j'.val ∨ 512 * j'.val + 512 ≤ 512 * j.val
  omega
theorem rowH_disjoint (v : View sig .tc .vmem S576x3584 .fp8e4m3) (r r' : Fin 18) (h : r ≠ r') :
    Disjoint (v.slice (rowRH r)).set ((v.slice (rowRH r')).setOn Finset.univ) := by
  refine View.disjoint_slice_of_sep v (rowRH r) (rowRH r') (0 : Fin 2) rfl rfl ?_
  have : r.val ≠ r'.val := fun e => h (Fin.ext e)
  show 32 * r.val + 32 ≤ 32 * r'.val ∨ 32 * r'.val + 32 ≤ 32 * r.val
  omega
theorem rowS_disjoint (v : View sig .tc .vmem S576x1 .f32) (r r' : Fin 18) (h : r ≠ r') :
    Disjoint (v.slice (rowRS r)).set ((v.slice (rowRS r')).setOn Finset.univ) := by
  refine View.disjoint_slice_of_sep v (rowRS r) (rowRS r') (0 : Fin 2) rfl rfl ?_
  have : r.val ≠ r'.val := fun e => h (Fin.ext e)
  show 32 * r.val + 32 ≤ 32 * r'.val ∨ 32 * r'.val + 32 ≤ 32 * r.val
  omega

/-! ## What a grid point computes -/

/-- What the six input windows hold. -/
structure Blk (F : FTy → Type) [FloatOps F] where
  x1 : Vec F S576x896 .fp8e4m3
  x2 : Vec F S576x1 .f32
  x3 : Vec F S1x896x3584 .fp8e4m3
  x4 : Vec F S1x1x3584 .f32
  x5 : Vec F S576x3584 .bf16
  x6 : Vec F S1x1x3584 .f32

/-- Tile `j` of the residual stream; -/
def hT (B : Blk F) (j : Fin 7) : FVec F S576x512 .f32 :=
  k0_pay6 (fun y => B.x5 ((colR j).emb y)) (fun y => B.x1 (fullC.emb y)) (fun y => B.x3 ((wR j).emb y)) (fun y => B.x2 (fullS.emb y)) (fun y => B.x4 ((scR j).emb y))
/-- its size scaled by the norm's weights; -/
def absT (B : Blk F) (j : Fin 7) : FVec F S576x512 .f32 :=
  k0_pay7 (fun y => B.x5 ((colR j).emb y)) (fun y => B.x1 (fullC.emb y)) (fun y => B.x3 ((wR j).emb y)) (fun y => B.x2 (fullS.emb y)) (fun y => B.x4 ((scR j).emb y)) (fun y => B.x6 ((scR j).emb y))
/-- its squares. -/
def sqrT (B : Blk F) (j : Fin 7) : FVec F S576x512 .f32 :=
  k0_pay8 (fun y => B.x5 ((colR j).emb y)) (fun y => B.x1 (fullC.emb y)) (fun y => B.x3 ((wR j).emb y)) (fun y => B.x2 (fullS.emb y)) (fun y => B.x4 ((scR j).emb y))
/-- The first lane group's addition. -/
def addT (B : Blk F) (j : Fin 7) (v : Vec F S576x128 .f32) : FVec F S576x128 .f32 :=
  k0_pay9 (fun y => B.x5 ((colR j).emb y)) (fun y => B.x1 (fullC.emb y)) (fun y => B.x3 ((wR j).emb y)) (fun y => B.x2 (fullS.emb y)) (fun y => B.x4 ((scR j).emb y)) v
/-- The sums of squares raised by tile `j`, and the maxima. -/
def sqT (B : Blk F) (j : Fin 7) (v : Vec F S576x128 .f32) : FVec F S576x128 .f32 :=
  k0_pay3 (k0_pay15 (sqrT B j) (k0_pay13 (sqrT B j) (k0_pay11 (sqrT B j) (addT B j v))))
def mxT (B : Blk F) (j : Fin 7) (v : Vec F S576x128 .f32) : FVec F S576x128 .f32 :=
  k0_pay4 (absT B j) (k0_pay14 (absT B j) (k0_pay12 (absT B j) (k0_pay10 (absT B j) v)))
/-- The two accumulators after the first `n` tiles. -/
def sqV (B : Blk F) : ℕ → FVec F S576x128 .f32
  | 0 => k0_pay1 (F := F)
  | n + 1 => if h : n < 7 then sqT B ⟨n, h⟩ (sqV B n) else sqV B n
def mxV (B : Blk F) : ℕ → FVec F S576x128 .f32
  | 0 => k0_pay2 (F := F)
  | n + 1 => if h : n < 7 then mxT B ⟨n, h⟩ (mxV B n) else mxV B n
theorem sqV_succ (B : Blk F) (j : Fin 7) : sqV B (j.val + 1) = sqT B j (sqV B j.val) := by
  conv_lhs => unfold sqV
  rw [dif_pos j.isLt]
theorem mxV_succ (B : Blk F) (j : Fin 7) : mxV B (j.val + 1) = mxT B j (mxV B j.val) := by
  conv_lhs => unfold mxV
  rw [dif_pos j.isLt]

/-- The column tile of an element of the residual stream, and its place inside it. -/
def colj (y : S576x3584.Idx) : Fin 7 := ⟨(y 1).val / 512, by have h : (y 1).val < 3584 := (y 1).isLt; omega⟩
def inCol (y : S576x3584.Idx) : S576x512.Idx := fun a => match a with
  | ⟨0, _⟩ => ⟨(y 0).val, (y 0).isLt⟩
  | ⟨1, _⟩ => ⟨(y 1).val % 512, Nat.mod_lt _ (by decide)⟩
theorem emb_inCol (y : S576x3584.Idx) : (colR (colj y)).emb (inCol y) = y := by
  funext a
  apply Fin.ext
  rw [Rect.emb_apply]
  fin_cases a
  · show 0 + 1 * (y 0).val = (y 0).val; omega
  · show 512 * ((y 1).val / 512) + 1 * ((y 1).val % 512) = (y 1).val; omega
/-- The residual stream's row block. -/
def hV (B : Blk F) : Vec F S576x3584 .f32 := fun y => hT B (colj y) (inCol y)

/-- Thirty-two rows normalised and quantised, and their scales. -/
def quantR (h : Vec F S576x3584 .f32) (sq mx : Vec F S576x128 .f32) (ln : Vec F S1x1x3584 .f32) (r : Fin 18) : FVec F S32x3584 .fp8e4m3 :=
  k0_pay5 (k0_pay18 (fun y => sq ((rowRA r).emb y)) (fun y => mx ((rowRA r).emb y)) (fun y => h ((rowRH r).emb y)) (fun y => ln (fullL.emb y)))
    (Scalar.ofBits .f32 0xC3E00000#32) (Scalar.ofBits .f32 0x43E00000#32)
def scaleR (sq mx : Vec F S576x128 .f32) (r : Fin 18) : FVec F S32x1 .f32 := k0_pay17 (fun y => sq ((rowRA r).emb y)) (fun y => mx ((rowRA r).emb y))
/-- The row block of an element of an output window, and its place inside that block. -/
def rowj (a : Fin 576) : Fin 18 := ⟨a.val / 32, by have := a.isLt; omega⟩
def inRowH (y : S576x3584.Idx) : S32x3584.Idx := fun a => match a with
  | ⟨0, _⟩ => ⟨(y 0).val % 32, Nat.mod_lt _ (by decide)⟩
  | ⟨1, _⟩ => ⟨(y 1).val, (y 1).isLt⟩
def inRowS (y : S576x1.Idx) : S32x1.Idx := fun a => match a with
  | ⟨0, _⟩ => ⟨(y 0).val % 32, Nat.mod_lt _ (by decide)⟩
  | ⟨1, _⟩ => ⟨(y 1).val, (y 1).isLt⟩
theorem emb_inRowH (y : S576x3584.Idx) : (rowRH (rowj (y 0))).emb (inRowH y) = y := by
  funext a
  apply Fin.ext
  rw [Rect.emb_apply]
  fin_cases a
  · show 32 * ((y 0).val / 32) + 1 * ((y 0).val % 32) = (y 0).val; omega
  · show 0 + 1 * (y 1).val = (y 1).val; omega
theorem emb_inRowS (y : S576x1.Idx) : (rowRS (rowj (y 0))).emb (inRowS y) = y := by
  funext a
  apply Fin.ext
  rw [Rect.emb_apply]
  fin_cases a
  · show 32 * ((y 0).val / 32) + 1 * ((y 0).val % 32) = (y 0).val; omega
  · show 0 + 1 * (y 1).val = (y 1).val; omega
def quantV (h : Vec F S576x3584 .f32) (sq mx : Vec F S576x128 .f32) (ln : Vec F S1x1x3584 .f32) : Vec F S576x3584 .fp8e4m3 := fun y => quantR h sq mx ln (rowj (y 0)) (inRowH y)
def scaleV (sq mx : Vec F S576x128 .f32) : Vec F S576x1 .f32 := fun y => scaleR sq mx (rowj (y 0)) (inRowS y)

section Run
variable (c : Dev nD) (i : grid0.Coords)
variable (arg1 : Memref sig .tc .vmem S576x896 .fp8e4m3) (harg1 : arg1.IsWhole) (arg2 : Memref sig .tc .vmem S576x1 .f32) (harg2 : arg2.IsWhole)
variable (arg3 : Memref sig .tc .vmem S1x896x3584 .fp8e4m3) (harg3 : arg3.IsWhole) (arg4 : Memref sig .tc .vmem S1x1x3584 .f32) (harg4 : arg4.IsWhole)
variable (arg5 : Memref sig .tc .vmem S576x3584 .bf16) (harg5 : arg5.IsWhole) (arg6 : Memref sig .tc .vmem S1x1x3584 .f32) (harg6 : arg6.IsWhole)
variable (arg7 : Memref sig .tc .vmem S576x3584 .f32) (harg7 : arg7.IsWhole) (arg8 : Memref sig .tc .vmem S576x3584 .fp8e4m3) (harg8 : arg8.IsWhole)
variable (arg9 : Memref sig .tc .vmem S576x1 .f32) (harg9 : arg9.IsWhole) (arg10 : Memref sig .tc .vmem S576x128 .f32) (harg10 : arg10.IsWhole)
variable (arg11 : Memref sig .tc .vmem S576x128 .f32) (harg11 : arg11.IsWhole)
variable (f1 : Buf (Elt F) (arg1.view.loc (c : Thread nD τ))) (f2 : Buf (Elt F) (arg2.view.loc (c : Thread nD τ))) (f3 : Buf (Elt F) (arg3.view.loc (c : Thread nD τ)))
variable (f4 : Buf (Elt F) (arg4.view.loc (c : Thread nD τ))) (f5 : Buf (Elt F) (arg5.view.loc (c : Thread nD τ))) (f6 : Buf (Elt F) (arg6.view.loc (c : Thread nD τ)))
variable (𝒱 : Variants)

/-- The six input windows at their contents. -/
def insP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6))
/-- Those contents. -/
def blk : Blk F := ⟨arg1.view.read (Elt F) f1, arg2.view.read (Elt F) f2, arg3.view.read (Elt F) f3, arg4.view.read (Elt F) f4, arg5.view.read (Elt F) f5, arg6.view.read (Elt F) f6⟩

/-- An accumulator that holds `v`. -/
def accAt (a : Memref sig .tc .vmem S576x128 .f32) (v : Vec F S576x128 .f32) : sProp 𝕄 :=
  iprop(∃ f, (a.view.loc (c : Thread nD τ) ↦[a.view.set]{fullShare} f) ∗ ⌜(a.access fullA).read (Elt F) f = v⌝)

/-- A load of an accumulator. -/
theorem wp_ldA {α : Type} {Q : α → sProp 𝕄} (a : Memref sig .tc .vmem S576x128 .f32) (v : Vec F S576x128 .f32) {l} {K : Vec F S576x128 .f32 → Prog (TpuEff nD τ sig (Elt F) Λ₀ .tc) α} :
    accAt c a v ⊢ iprop((accAt c a v -∗ wp frame (wpE defs₀ 𝒱 (c : Thread nD τ) none) Set.univ (K v) Q)
      -∗ wp frame (wpE defs₀ 𝒱 (c : Thread nD τ) none) Set.univ
        (.op (.load a (Rect.unit (s := S576x128) ![0, 0] S576x128.size inb_S576x128_S576x128_0_0).toLoadRect l) K) Q) := by
  unfold accAt
  iintro ⟨%f, H, %e⟩ HK
  subst e
  iapply (wp_load_rect 𝒱 (c : Thread nD τ) none Set.univ (m := a) (r := fullA) (S := a.view.set) (f := f) (a.view.set_slice_subset _)) $$ H
  iintro H
  iapply HK
  iexists f
  isplitl [H]; · iexact H
  ipureintro; rfl

/-- A store to an accumulator. -/
theorem wp_stA {α : Type} {Q : α → sProp 𝕄} (a : Memref sig .tc .vmem S576x128 .f32) (v w : Vec F S576x128 .f32) {x m} {K : PUnit → Prog (TpuEff nD τ sig (Elt F) Λ₀ .tc) α} :
    accAt c a v ⊢ iprop((accAt c a w -∗ wp frame (wpE defs₀ 𝒱 (c : Thread nD τ) none) Set.univ (K ⟨⟩) Q)
      -∗ wp frame (wpE defs₀ 𝒱 (c : Thread nD τ) none) Set.univ
        (.op (.store a (Rect.unit (s := S576x128) ![0, 0] S576x128.size inb_S576x128_S576x128_0_0) w Finset.univ x m) K) Q) := by
  unfold accAt
  iintro ⟨%f, H, %e⟩ HK
  iapply (wp_store 𝒱 (c : Thread nD τ) none Set.univ (m := a) (r := fullA) (S := a.view.set) (f := f) (a.view.set_slice_subset _)) $$ H
  iintro H
  iapply HK
  iexists _
  isplitl [H]; · iexact H
  ipureintro; exact View.read_write_univ _ _

/-- The residual stream with its first `n` tiles stored. -/
def hP (B : Blk F) (n : ℕ) : sProp 𝕄 :=
  iprop(∃ f, (arg7.view.loc (c : Thread nD τ) ↦[arg7.view.set]{fullShare} f) ∗ ⌜∀ j : Fin 7, j.val < n → (arg7.access (colR j)).read (Elt F) f = hT B j⌝)

theorem wp_hst {α : Type} {Q : α → sProp 𝕄} (B : Blk F) (j : Fin 7) {h h' l x m} {K : PUnit → Prog (TpuEff nD τ sig (Elt F) Λ₀ .tc) α} :
    hP c arg7 B j.val ⊢ iprop((hP c arg7 B (j.val + 1) -∗ wp frame (wpE defs₀ 𝒱 (c : Thread nD τ) none) Set.univ (K ⟨⟩) Q)
      -∗ wp frame (wpE defs₀ 𝒱 (c : Thread nD τ) none) Set.univ
        (.op (.load arg7 (Rect.unit (s := S576x3584) (colOff j) S576x512.size h).toLoadRect l) fun _ =>
         .op (.store arg7 (Rect.unit (s := S576x3584) (colOff j) S576x512.size h') (hT B j) Finset.univ x m) K) Q) := by
  unfold hP
  iintro ⟨%f, H, %hf⟩ HK
  iapply (wp_load_rect 𝒱 (c : Thread nD τ) none Set.univ (m := arg7) (r := colR j) (S := arg7.view.set) (f := f) (arg7.view.set_slice_subset _)) $$ H
  iintro H
  iapply (wp_store 𝒱 (c : Thread nD τ) none Set.univ (m := arg7) (r := colR j) (S := arg7.view.set) (f := f) (arg7.view.set_slice_subset _)) $$ H
  iintro H
  iapply HK
  iexists _
  isplitl [H]; · iexact H
  ipureintro
  intro j' hj'
  by_cases hjj : j' = j
  · subst hjj
    exact View.read_write_univ _ _
  · refine (View.read_slice_write_slice_of_disjoint (v := arg7.view) (colR j') (colR j) _ _ _ (col_disjoint arg7.view j' j hjj)).trans ?_
    refine hf j' ?_
    have : j'.val ≠ j.val := fun e => hjj (Fin.ext e)
    omega

/-- What the first loop has done after `n` tiles. -/
def tileP (n : ℕ) : sProp 𝕄 :=
  iprop(insP c arg1 arg2 arg3 arg4 arg5 arg6 f1 f2 f3 f4 f5 f6 ∗ hP c arg7 (blk c arg1 arg2 arg3 arg4 arg5 arg6 f1 f2 f3 f4 f5 f6) n
    ∗ accAt c arg10 (sqV (blk c arg1 arg2 arg3 arg4 arg5 arg6 f1 f2 f3 f4 f5 f6) n) ∗ accAt c arg11 (mxV (blk c arg1 arg2 arg3 arg4 arg5 arg6 f1 f2 f3 f4 f5 f6) n))

end Run

end Cert.OProjIdeal.Hand
-- ==== Proof.OProjIdealBody.lean ====
/-
  The body of the output projection at one grid point, for the program `OProjIdeal`: the loop over the seven column tiles, which stores the
  residual stream and accumulates lane by lane its sums of squares and its scaled maxima, and the loop that normalises and quantises
  thirty-two rows a trip.
-/
module

public import proofs.«01_k».proof.Proof.OProjIdealTile
public import Idealize.ShloMosaic.Lib.VecWindow

@[expose] public section

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid0.Coords)
variable (arg1 : Memref sig .tc .vmem S576x896 .fp8e4m3) (harg1 : arg1.IsWhole) (arg2 : Memref sig .tc .vmem S576x1 .f32) (harg2 : arg2.IsWhole)
variable (arg3 : Memref sig .tc .vmem S1x896x3584 .fp8e4m3) (harg3 : arg3.IsWhole) (arg4 : Memref sig .tc .vmem S1x1x3584 .f32) (harg4 : arg4.IsWhole)
variable (arg5 : Memref sig .tc .vmem S576x3584 .bf16) (harg5 : arg5.IsWhole) (arg6 : Memref sig .tc .vmem S1x1x3584 .f32) (harg6 : arg6.IsWhole)
variable (arg7 : Memref sig .tc .vmem S576x3584 .f32) (harg7 : arg7.IsWhole) (arg8 : Memref sig .tc .vmem S576x3584 .fp8e4m3) (harg8 : arg8.IsWhole)
variable (arg9 : Memref sig .tc .vmem S576x1 .f32) (harg9 : arg9.IsWhole) (arg10 : Memref sig .tc .vmem S576x128 .f32) (harg10 : arg10.IsWhole)
variable (arg11 : Memref sig .tc .vmem S576x128 .f32) (harg11 : arg11.IsWhole)
variable (f1 : Buf (Elt F) (arg1.view.loc (c : Thread nD τ))) (f2 : Buf (Elt F) (arg2.view.loc (c : Thread nD τ))) (f3 : Buf (Elt F) (arg3.view.loc (c : Thread nD τ)))
variable (f4 : Buf (Elt F) (arg4.view.loc (c : Thread nD τ))) (f5 : Buf (Elt F) (arg5.view.loc (c : Thread nD τ))) (f6 : Buf (Elt F) (arg6.view.loc (c : Thread nD τ)))
variable (𝒱 : Variants)

/-- The first part of a tile: the tile computed and stored, and the first lane group added. -/
theorem wp_part1 {α : Type} {Q : α → sProp 𝕄} (j : Fin 7) {o1 : Fin 2 → Nat} {o2 o3 : Fin 3 → Nat} (e1 : o1 = colOff j) (e2 : o2 = scOff j) (e3 : o3 = scOff j) (v : Vec F S576x128 .f32)
    {h5 l5 l1 h3 l3 l2 h4 l4 h7 l7 h7' x7 m7 h6 l6 la lb xa ma} {K : FVec F S576x512 .f32 → FVec F S576x512 .f32 → Prog (TpuEff nD τ sig (Elt F) Λ₀ .tc) α} :
    iprop(insP c arg1 arg2 arg3 arg4 arg5 arg6 f1 f2 f3 f4 f5 f6 ∗ hP c arg7 (blk c arg1 arg2 arg3 arg4 arg5 arg6 f1 f2 f3 f4 f5 f6) j.val ∗ accAt c arg10 v) ⊢
    iprop((iprop(insP c arg1 arg2 arg3 arg4 arg5 arg6 f1 f2 f3 f4 f5 f6 ∗ hP c arg7 (blk c arg1 arg2 arg3 arg4 arg5 arg6 f1 f2 f3 f4 f5 f6) (j.val + 1)
        ∗ accAt c arg10 (addT (blk c arg1 arg2 arg3 arg4 arg5 arg6 f1 f2 f3 f4 f5 f6) j v))
        -∗ wp frame (wpE defs₀ 𝒱 (c : Thread nD τ) none) Set.univ (K (absT (blk c arg1 arg2 arg3 arg4 arg5 arg6 f1 f2 f3 f4 f5 f6) j) (sqrT (blk c arg1 arg2 arg3 arg4 arg5 arg6 f1 f2 f3 f4 f5 f6) j)) Q)
      -∗ wp frame (wpE defs₀ 𝒱 (c : Thread nD τ) none) Set.univ
        (.op (.load arg5 (Rect.unit (s := S576x3584) o1 S576x512.size h5).toLoadRect l5) fun v15 =>
         .op (.load arg1 (Rect.unit (s := S576x896) ![0, 0] S576x896.size inb_S576x896_S576x896_0_0).toLoadRect l1) fun v17 =>
         .op (.load arg3 (Rect.unit (s := S1x896x3584) o2 S1x896x512.size h3).toLoadRect l3) fun v19 =>
         .op (.load arg2 (Rect.unit (s := S576x1) ![0, 0] S576x1.size inb_S576x1_S576x1_0_0).toLoadRect l2) fun v22 =>
         .op (.load arg4 (Rect.unit (s := S1x1x3584) o3 S1x1x512.size h4).toLoadRect l4) fun v26 =>
         .op (.load arg7 (Rect.unit (s := S576x3584) o1 S576x512.size h7).toLoadRect l7) fun _ =>
         .op (.store arg7 (Rect.unit (s := S576x3584) o1 S576x512.size h7') (k0_pay6 v15 v17 v19 v22 v26) Finset.univ x7 m7) fun _ =>
         .op (.load arg6 (Rect.unit (s := S1x1x3584) o3 S1x1x512.size h6).toLoadRect l6) fun v34 =>
         .op (.load arg10 (Rect.unit (s := S576x128) ![0, 0] S576x128.size inb_S576x128_S576x128_0_0).toLoadRect la) fun v40 =>
         .op (.load arg10 (Rect.unit (s := S576x128) ![0, 0] S576x128.size inb_S576x128_S576x128_0_0).toLoadRect lb) fun _ =>
         .op (.store arg10 (Rect.unit (s := S576x128) ![0, 0] S576x128.size inb_S576x128_S576x128_0_0) (k0_pay9 v15 v17 v19 v22 v26 v40) Finset.univ xa ma) fun _ =>
         K (k0_pay7 v15 v17 v19 v22 v26 v34) (k0_pay8 v15 v17 v19 v22 v26)) Q) := by
  subst e1 e2 e3
  unfold insP
  iintro ⟨⟨H1, H2, H3, H4, H5, H6⟩, Hh, Ha⟩ HK
  iapply (wp_load_rect 𝒱 (c : Thread nD τ) none Set.univ (m := arg5) (r := colR j) (S := arg5.view.set) (f := f5) (arg5.view.set_slice_subset _)) $$ H5
  iintro H5
  iapply (wp_load_rect 𝒱 (c : Thread nD τ) none Set.univ (m := arg1) (r := fullC) (S := arg1.view.set) (f := f1) (arg1.view.set_slice_subset _)) $$ H1
  iintro H1
  iapply (wp_load_rect 𝒱 (c : Thread nD τ) none Set.univ (m := arg3) (r := wR j) (S := arg3.view.set) (f := f3) (arg3.view.set_slice_subset _)) $$ H3
  iintro H3
  iapply (wp_load_rect 𝒱 (c : Thread nD τ) none Set.univ (m := arg2) (r := fullS) (S := arg2.view.set) (f := f2) (arg2.view.set_slice_subset _)) $$ H2
  iintro H2
  iapply (wp_load_rect 𝒱 (c : Thread nD τ) none Set.univ (m := arg4) (r := scR j) (S := arg4.view.set) (f := f4) (arg4.view.set_slice_subset _)) $$ H4
  iintro H4
  iapply (wp_hst c arg7 𝒱 (blk c arg1 arg2 arg3 arg4 arg5 arg6 f1 f2 f3 f4 f5 f6) j) $$ Hh
  iintro Hh
  iapply (wp_load_rect 𝒱 (c : Thread nD τ) none Set.univ (m := arg6) (r := scR j) (S := arg6.view.set) (f := f6) (arg6.view.set_slice_subset _)) $$ H6
  iintro H6
  iapply (wp_ldA c 𝒱 arg10 _) $$ Ha
  iintro Ha
  iapply (wp_ldA c 𝒱 arg10 _) $$ Ha
  iintro Ha
  iapply (wp_stA c 𝒱 arg10 _ _) $$ Ha
  iintro Ha
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hh]; · iexact Hh
  iexact Ha

/-- The printed first part of a tile. -/
theorem part1_run (g : Fin k0_t1_loop.trips) (v : Vec F S576x128 .f32) (Q : (Σ' (_ : FVec F S576x512 .f32), FVec F S576x512 .f32) → sProp 𝕄) :
    iprop(insP c arg1 arg2 arg3 arg4 arg5 arg6 f1 f2 f3 f4 f5 f6 ∗ hP c arg7 (blk c arg1 arg2 arg3 arg4 arg5 arg6 f1 f2 f3 f4 f5 f6) (tj g).val ∗ accAt c arg10 v) ⊢
    iprop((iprop(insP c arg1 arg2 arg3 arg4 arg5 arg6 f1 f2 f3 f4 f5 f6 ∗ hP c arg7 (blk c arg1 arg2 arg3 arg4 arg5 arg6 f1 f2 f3 f4 f5 f6) ((tj g).val + 1) ∗ accAt c arg10 (addT (blk c arg1 arg2 arg3 arg4 arg5 arg6 f1 f2 f3 f4 f5 f6) (tj g) v)) -∗ Q ⟨absT (blk c arg1 arg2 arg3 arg4 arg5 arg6 f1 f2 f3 f4 f5 f6) (tj g), sqrT (blk c arg1 arg2 arg3 arg4 arg5 arg6 f1 f2 f3 f4 f5 f6) (tj g)⟩)
      -∗ wp frame (wpE defs₀ 𝒱 (c : Thread nD τ) none) Set.univ (k0_part1 (F := F) i arg1 harg1 arg2 harg2 arg3 harg3 arg4 harg4 arg5 harg5 arg6 harg6 arg7 harg7 arg8 harg8 arg9 harg9 arg10 harg10 arg11 harg11 0#32 1#32 g) Q) := by
  rw [k0_part1_eq_skeleton]
  unfold k0_part1_skel
  simp only [Prog.bind_lift]
  iintro H HK
  iapply (wp_part1 c arg1 arg2 arg3 arg4 arg5 arg6 arg7 arg10 f1 f2 f3 f4 f5 f6 𝒱 (tj g) (k0_off1_eq g) (k0_off2_eq g) (k0_off3_eq g) v (Q := Q) (K := fun a b => pure ⟨a, b⟩)) $$ H
  iintro H
  rw [wp_pure]
  imodintro
  iapply HK $$ H

/-- The printed second part of a tile: the lane groups after the first. -/
theorem part2_run (x y : FVec F S576x512 .f32) (v w : Vec F S576x128 .f32) (Q : FVec F S576x128 .f32 → sProp 𝕄) :
    iprop(accAt c arg10 v ∗ accAt c arg11 w) ⊢
    iprop((iprop(accAt c arg10 (k0_pay13 y (k0_pay11 y v)) ∗ accAt c arg11 (k0_pay14 x (k0_pay12 x (k0_pay10 x w)))) -∗ Q (k0_pay15 y (k0_pay13 y (k0_pay11 y v))))
      -∗ wp frame (wpE defs₀ 𝒱 (c : Thread nD τ) none) Set.univ (k0_part2 (F := F) i arg1 harg1 arg2 harg2 arg3 harg3 arg4 harg4 arg5 harg5 arg6 harg6 arg7 harg7 arg8 harg8 arg9 harg9 arg10 harg10 arg11 harg11 x y) Q) := by
  rw [k0_part2_eq_skeleton]
  unfold k0_part2_skel
  simp only [Prog.bind_lift]
  iintro ⟨Hs, Hm⟩ HK
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply (wp_ldA c 𝒱 arg10 _) $$ Hs
  iintro Hs
  rw [wp_pure]
  imodintro
  iapply HK
  isplitl [Hs]; · iexact Hs
  iexact Hm

/-- The end of a tile: its last lane group stored. -/
theorem tile_end {α : Type} {Q : α → sProp 𝕄} (x : FVec F S576x512 .f32) (z v w : Vec F S576x128 .f32) {l1 x1 m1 l2 l3 x2 m2} {K : PUnit → Prog (TpuEff nD τ sig (Elt F) Λ₀ .tc) α} :
    iprop(accAt c arg10 v ∗ accAt c arg11 w) ⊢
    iprop((iprop(accAt c arg10 (k0_pay3 z) ∗ accAt c arg11 (k0_pay4 x w)) -∗ wp frame (wpE defs₀ 𝒱 (c : Thread nD τ) none) Set.univ (K ⟨⟩) Q)
      -∗ wp frame (wpE defs₀ 𝒱 (c : Thread nD τ) none) Set.univ
        (.op (.load arg10 (Rect.unit (s := S576x128) ![0, 0] S576x128.size inb_S576x128_S576x128_0_0).toLoadRect l1) fun _ =>
         .op (.store arg10 (Rect.unit (s := S576x128) ![0, 0] S576x128.size inb_S576x128_S576x128_0_0) (k0_pay3 z) Finset.univ x1 m1) fun _ =>
         .op (.load arg11 (Rect.unit (s := S576x128) ![0, 0] S576x128.size inb_S576x128_S576x128_0_0).toLoadRect l2) fun v82 =>
         .op (.load arg11 (Rect.unit (s := S576x128) ![0, 0] S576x128.size inb_S576x128_S576x128_0_0).toLoadRect l3) fun _ =>
         .op (.store arg11 (Rect.unit (s := S576x128) ![0, 0] S576x128.size inb_S576x128_S576x128_0_0) (k0_pay4 x v82) Finset.univ x2 m2) K) Q) := by
  iintro ⟨Hs, Hm⟩ HK
  iapply (wp_ldA c 𝒱 arg10 _) $$ Hs
  iintro Hs
  iapply (wp_stA c 𝒱 arg10 _ _) $$ Hs
  iintro Hs
  iapply (wp_ldA c 𝒱 arg11 _) $$ Hm
  iintro Hm
  iapply (wp_ldA c 𝒱 arg11 _) $$ Hm
  iintro Hm
  iapply (wp_stA c 𝒱 arg11 _ _) $$ Hm
  iintro Hm
  iapply HK
  isplitl [Hs]; · iexact Hs
  iexact Hm

set_option maxHeartbeats 1000000 in
/-- The first loop: before trip `g` the first `g` tiles are done. -/
@[instance_reducible] def loop1 :
    Gen.LoopInvTy_k0_t1 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 where
  inv := fun g _ => tileP c arg1 arg2 arg3 arg4 arg5 arg6 arg7 arg10 arg11 f1 f2 f3 f4 f5 f6 g
  step := by
    intro g acc
    unfold k0_t1_body tileP
    rw [show sqV (blk c arg1 arg2 arg3 arg4 arg5 arg6 f1 f2 f3 f4 f5 f6) (g.val + 1) = _ from sqV_succ _ (tj g), show mxV (blk c arg1 arg2 arg3 arg4 arg5 arg6 f1 f2 f3 f4 f5 f6) (g.val + 1) = _ from mxV_succ _ (tj g)]
    simp only [Prog.bind_lift]
    iintro ⟨HI, Hh, Hs, Hm⟩
    rw [wp_bind]
    iapply (part1_run c i arg1 harg1 arg2 harg2 arg3 harg3 arg4 harg4 arg5 harg5 arg6 harg6 arg7 harg7 arg8 harg8 arg9 harg9 arg10 harg10 arg11 harg11 f1 f2 f3 f4 f5 f6 𝒱 g (sqV (blk c arg1 arg2 arg3 arg4 arg5 arg6 f1 f2 f3 f4 f5 f6) g.val)) $$ [HI Hh Hs]
    · isplitl [HI]; · iexact HI
      isplitl [Hh]; · iexact Hh
      iexact Hs
    iintro ⟨HI, Hh, Hs⟩
    rw [wp_bind]
    iapply (part2_run c i arg1 harg1 arg2 harg2 arg3 harg3 arg4 harg4 arg5 harg5 arg6 harg6 arg7 harg7 arg8 harg8 arg9 harg9 arg10 harg10 arg11 harg11 𝒱 (absT (blk c arg1 arg2 arg3 arg4 arg5 arg6 f1 f2 f3 f4 f5 f6) (tj g)) (sqrT (blk c arg1 arg2 arg3 arg4 arg5 arg6 f1 f2 f3 f4 f5 f6) (tj g)) (addT (blk c arg1 arg2 arg3 arg4 arg5 arg6 f1 f2 f3 f4 f5 f6) (tj g) (sqV (blk c arg1 arg2 arg3 arg4 arg5 arg6 f1 f2 f3 f4 f5 f6) g.val)) (mxV (blk c arg1 arg2 arg3 arg4 arg5 arg6 f1 f2 f3 f4 f5 f6) g.val)) $$ [Hs Hm]
    · isplitl [Hs]; · iexact Hs
      iexact Hm
    iintro ⟨Hs, Hm⟩
    iapply (tile_end c arg10 arg11 𝒱 (absT (blk c arg1 arg2 arg3 arg4 arg5 arg6 f1 f2 f3 f4 f5 f6) (tj g)) _ _ _) $$ [Hs Hm]
    · isplitl [Hs]; · iexact Hs
      iexact Hm
    iintro ⟨Hs, Hm⟩
    rw [wp_pure]
    imodintro
    isplitl [HI]; · iexact HI
    isplitl [Hh]; · iexact Hh
    isplitl [Hs]; · iexact Hs
    iexact Hm

/-! ## The second loop -/

/-- The two quantised output windows with their first `n` row blocks stored. -/
def outP (h : Vec F S576x3584 .f32) (sq mx : Vec F S576x128 .f32) (ln : Vec F S1x1x3584 .f32) (n : ℕ) : sProp 𝕄 :=
  iprop((∃ f, (arg8.view.loc (c : Thread nD τ) ↦[arg8.view.set]{fullShare} f) ∗ ⌜∀ r : Fin 18, r.val < n → (arg8.access (rowRH r)).read (Elt F) f = quantR h sq mx ln r⌝)
    ∗ (∃ f, (arg9.view.loc (c : Thread nD τ) ↦[arg9.view.set]{fullShare} f) ∗ ⌜∀ r : Fin 18, r.val < n → (arg9.access (rowRS r)).read (Elt F) f = scaleR sq mx r⌝))

variable (f7 : Buf (Elt F) (arg7.view.loc (c : Thread nD τ))) (f10 : Buf (Elt F) (arg10.view.loc (c : Thread nD τ))) (f11 : Buf (Elt F) (arg11.view.loc (c : Thread nD τ)))

/-- What the second loop reads. -/
def srcP : sProp 𝕄 :=
  iprop((arg6.view.loc (c : Thread nD τ) ↦[arg6.view.set]{fullShare} f6) ∗ (arg7.view.loc (c : Thread nD τ) ↦[arg7.view.set]{fullShare} f7)
    ∗ (arg10.view.loc (c : Thread nD τ) ↦[arg10.view.set]{fullShare} f10) ∗ (arg11.view.loc (c : Thread nD τ) ↦[arg11.view.set]{fullShare} f11))

/-- What the second loop has done after `n` row blocks. -/
def rowsP (n : ℕ) : sProp 𝕄 :=
  iprop(srcP c arg6 arg7 arg10 arg11 f6 f7 f10 f11
    ∗ outP c arg8 arg9 (arg7.view.read (Elt F) f7) (arg10.view.read (Elt F) f10) (arg11.view.read (Elt F) f11) (arg6.view.read (Elt F) f6) n)

/-- The stores of a trip of the second loop. -/
theorem wp_rowst {α : Type} {Q : α → sProp 𝕄} (h : Vec F S576x3584 .f32) (sq mx : Vec F S576x128 .f32) (ln : Vec F S1x1x3584 .f32) (r : Fin 18)
    {o8 o9 : Fin 2 → Nat} (e8 : o8 = rowOff r) (e9 : o9 = rowOff r) {p : FVec F S32x3584 .fp8e4m3} {q : FVec F S32x1 .f32} (ep : p = quantR h sq mx ln r) (eq : q = scaleR sq mx r)
    {h8 l8 h8' x8 m8 h9 l9 h9' x9 m9} {K : PUnit → Prog (TpuEff nD τ sig (Elt F) Λ₀ .tc) α} :
    outP c arg8 arg9 h sq mx ln r.val ⊢
    iprop((outP c arg8 arg9 h sq mx ln (r.val + 1) -∗ wp frame (wpE defs₀ 𝒱 (c : Thread nD τ) none) Set.univ (K ⟨⟩) Q)
      -∗ wp frame (wpE defs₀ 𝒱 (c : Thread nD τ) none) Set.univ
        (.op (.load arg8 (Rect.unit (s := S576x3584) o8 S32x3584.size h8).toLoadRect l8) fun _ =>
         .op (.store arg8 (Rect.unit (s := S576x3584) o8 S32x3584.size h8') p Finset.univ x8 m8) fun _ =>
         .op (.load arg9 (Rect.unit (s := S576x1) o9 S32x1.size h9).toLoadRect l9) fun _ =>
         .op (.store arg9 (Rect.unit (s := S576x1) o9 S32x1.size h9') q Finset.univ x9 m9) K) Q) := by
  subst e8 e9 ep eq
  unfold outP
  iintro ⟨⟨%f8, H8, %h8⟩, ⟨%f9, H9, %h9⟩⟩ HK
  iapply (wp_load_rect 𝒱 (c : Thread nD τ) none Set.univ (m := arg8) (r := rowRH r) (S := arg8.view.set) (f := f8) (arg8.view.set_slice_subset _)) $$ H8
  iintro H8
  iapply (wp_store 𝒱 (c : Thread nD τ) none Set.univ (m := arg8) (r := rowRH r) (S := arg8.view.set) (f := f8) (arg8.view.set_slice_subset _)) $$ H8
  iintro H8
  iapply (wp_load_rect 𝒱 (c : Thread nD τ) none Set.univ (m := arg9) (r := rowRS r) (S := arg9.view.set) (f := f9) (arg9.view.set_slice_subset _)) $$ H9
  iintro H9
  iapply (wp_store 𝒱 (c : Thread nD τ) none Set.univ (m := arg9) (r := rowRS r) (S := arg9.view.set) (f := f9) (arg9.view.set_slice_subset _)) $$ H9
  iintro H9
  iapply HK
  isplitl [H8]
  · iexists _
    isplitl [H8]; · iexact H8
    ipureintro
    intro r' hr'
    by_cases hrr : r' = r
    · subst hrr
      exact View.read_write_univ _ _
    · refine (View.read_slice_write_slice_of_disjoint (v := arg8.view) (rowRH r') (rowRH r) _ _ _ (rowH_disjoint arg8.view r' r hrr)).trans ?_
      refine h8 r' ?_
      have : r'.val ≠ r.val := fun e => hrr (Fin.ext e)
      omega
  · iexists _
    isplitl [H9]; · iexact H9
    ipureintro
    intro r' hr'
    by_cases hrr : r' = r
    · subst hrr
      exact View.read_write_univ _ _
    · refine (View.read_slice_write_slice_of_disjoint (v := arg9.view) (rowRS r') (rowRS r) _ _ _ (rowS_disjoint arg9.view r' r hrr)).trans ?_
      refine h9 r' ?_
      have : r'.val ≠ r.val := fun e => hrr (Fin.ext e)
      omega

/-- The loads of a trip of the second loop. -/
theorem wp_rowld {α : Type} {Q : α → sProp 𝕄} (r : Fin 18) {o4 o5 : Fin 2 → Nat} (e4 : o4 = rowOff r) (e5 : o5 = rowOff r)
    {ha hb hh la lb lh ll} {K : Vec F S32x128 .f32 → Vec F S32x128 .f32 → Vec F S32x3584 .f32 → Vec F S1x1x3584 .f32 → Prog (TpuEff nD τ sig (Elt F) Λ₀ .tc) α} :
    srcP c arg6 arg7 arg10 arg11 f6 f7 f10 f11 ⊢
    iprop((srcP c arg6 arg7 arg10 arg11 f6 f7 f10 f11 -∗ wp frame (wpE defs₀ 𝒱 (c : Thread nD τ) none) Set.univ
        (K (fun y => arg10.view.read (Elt F) f10 ((rowRA r).emb y)) (fun y => arg11.view.read (Elt F) f11 ((rowRA r).emb y))
          (fun y => arg7.view.read (Elt F) f7 ((rowRH r).emb y)) (fun y => arg6.view.read (Elt F) f6 (fullL.emb y))) Q)
      -∗ wp frame (wpE defs₀ 𝒱 (c : Thread nD τ) none) Set.univ
        (.op (.load arg10 (Rect.unit (s := S576x128) o4 S32x128.size ha).toLoadRect la) fun v15 =>
         .op (.load arg11 (Rect.unit (s := S576x128) o4 S32x128.size hb).toLoadRect lb) fun v26 =>
         .op (.load arg7 (Rect.unit (s := S576x3584) o5 S32x3584.size hh).toLoadRect lh) fun v37 =>
         .op (.load arg6 (Rect.unit (s := S1x1x3584) ![0, 0, 0] S1x1x3584.size inb_S1x1x3584_S1x1x3584_0_0_0).toLoadRect ll) fun v41 => K v15 v26 v37 v41) Q) := by
  subst e4 e5
  unfold srcP
  iintro ⟨H6, H7, H10, H11⟩ HK
  iapply (wp_load_rect 𝒱 (c : Thread nD τ) none Set.univ (m := arg10) (r := rowRA r) (S := arg10.view.set) (f := f10) (arg10.view.set_slice_subset _)) $$ H10
  iintro H10
  iapply (wp_load_rect 𝒱 (c : Thread nD τ) none Set.univ (m := arg11) (r := rowRA r) (S := arg11.view.set) (f := f11) (arg11.view.set_slice_subset _)) $$ H11
  iintro H11
  iapply (wp_load_rect 𝒱 (c : Thread nD τ) none Set.univ (m := arg7) (r := rowRH r) (S := arg7.view.set) (f := f7) (arg7.view.set_slice_subset _)) $$ H7
  iintro H7
  iapply (wp_load_rect 𝒱 (c : Thread nD τ) none Set.univ (m := arg6) (r := fullL) (S := arg6.view.set) (f := f6) (arg6.view.set_slice_subset _)) $$ H6
  iintro H6
  iapply HK
  isplitl [H6]; · iexact H6
  isplitl [H7]; · iexact H7
  isplitl [H10]; · iexact H10
  iexact H11

set_option maxHeartbeats 1000000 in
/-- The second loop: before trip `g` the first `g` row blocks are stored. -/
@[instance_reducible] def loop2 :
    Gen.LoopInvTy_k0_t2 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 where
  inv := fun g _ => rowsP c arg6 arg7 arg8 arg9 arg10 arg11 f6 f7 f10 f11 g
  step := by
    intro g acc
    unfold k0_t2_body rowsP
    rw [k0_part3_eq_skeleton]
    iintro ⟨HS, HO⟩
    rw [wp_bind]
    unfold k0_part3_skel
    simp only [Prog.bind_lift]
    iapply (wp_rowld c arg6 arg7 arg10 arg11 f6 𝒱 f7 f10 f11 (rj g) (k0_off4_eq g) (k0_off5_eq g)) $$ HS
    iintro HS
    rw [wp_pure]
    imodintro
    iapply (wp_rowst c arg8 arg9 𝒱 _ _ _ _ (rj g) (k0_off5_eq g) (k0_off6_eq g) rfl rfl) $$ HO
    iintro HO
    rw [wp_pure]
    imodintro
    isplitl [HS]; · iexact HS
    iexact HO

/-! ## The body -/

theorem loop1_inv (n : ℕ) (a : Unit) :
    (loop1 c i arg1 harg1 arg2 harg2 arg3 harg3 arg4 harg4 arg5 harg5 arg6 harg6 arg7 harg7 arg8 harg8 arg9 harg9 arg10 harg10 arg11 harg11 f1 f2 f3 f4 f5 f6 𝒱).inv n a
      = tileP c arg1 arg2 arg3 arg4 arg5 arg6 arg7 arg10 arg11 f1 f2 f3 f4 f5 f6 n := rfl
theorem loop1_end (a : Unit) :
    (loop1 c i arg1 harg1 arg2 harg2 arg3 harg3 arg4 harg4 arg5 harg5 arg6 harg6 arg7 harg7 arg8 harg8 arg9 harg9 arg10 harg10 arg11 harg11 f1 f2 f3 f4 f5 f6 𝒱).inv (Scf.trips k0_t1_loop.lb k0_t1_loop.ub k0_t1_loop.st) a
      ⊢ tileP c arg1 arg2 arg3 arg4 arg5 arg6 arg7 arg10 arg11 f1 f2 f3 f4 f5 f6 7 := by
  rw [show Scf.trips k0_t1_loop.lb k0_t1_loop.ub k0_t1_loop.st = 7 from trips1, loop1_inv]
theorem loop2_inv (n : ℕ) (a : Unit) :
    (loop2 c i arg1 harg1 arg2 harg2 arg3 harg3 arg4 harg4 arg5 harg5 arg6 harg6 arg7 harg7 arg8 harg8 arg9 harg9 arg10 harg10 arg11 harg11 f6 𝒱 f7 f10 f11).inv n a
      = rowsP c arg6 arg7 arg8 arg9 arg10 arg11 f6 f7 f10 f11 n := rfl
theorem loop2_end (a : Unit) :
    (loop2 c i arg1 harg1 arg2 harg2 arg3 harg3 arg4 harg4 arg5 harg5 arg6 harg6 arg7 harg7 arg8 harg8 arg9 harg9 arg10 harg10 arg11 harg11 f6 𝒱 f7 f10 f11).inv (Scf.trips k0_t2_loop.lb k0_t2_loop.ub k0_t2_loop.st) a
      ⊢ rowsP c arg6 arg7 arg8 arg9 arg10 arg11 f6 f7 f10 f11 18 := by
  rw [show Scf.trips k0_t2_loop.lb k0_t2_loop.ub k0_t2_loop.st = 18 from trips2, loop2_inv]

/-- What the three output windows hold after the body. -/
def outsP (B : Blk F) : sProp 𝕄 :=
  iprop((∃ f, (arg7.view.loc (c : Thread nD τ) ↦[arg7.view.set]{fullShare} f) ∗ ⌜arg7.view.read (Elt F) f = hV B⌝)
    ∗ (∃ f, (arg8.view.loc (c : Thread nD τ) ↦[arg8.view.set]{fullShare} f) ∗ ⌜arg8.view.read (Elt F) f = quantV (hV B) (sqV B 7) (mxV B 7) B.x6⌝)
    ∗ (∃ f, (arg9.view.loc (c : Thread nD τ) ↦[arg9.view.set]{fullShare} f) ∗ ⌜arg9.view.read (Elt F) f = scaleV (sqV B 7) (mxV B 7)⌝))

/-- The first loop's stores whole. -/
theorem h_done (B : Blk F) (h : ∀ j : Fin 7, j.val < 7 → (arg7.access (colR j)).read (Elt F) f7 = hT B j) : arg7.view.read (Elt F) f7 = hV B := by
  funext y
  refine Eq.trans ?_ (congrFun (h (colj y) (colj y).isLt) (inCol y))
  show _ = arg7.view.read (Elt F) f7 ((colR (colj y)).emb (inCol y))
  rw [emb_inCol]
theorem acc_read (a : Memref sig .tc .vmem S576x128 .f32) (f : Buf (Elt F) (a.view.loc (c : Thread nD τ))) (v : Vec F S576x128 .f32)
    (h : (a.access fullA).read (Elt F) f = v) : a.view.read (Elt F) f = v := by
  funext y
  refine Eq.trans ?_ (congrFun h y)
  show _ = a.view.read (Elt F) f (fullA.emb y)
  rw [show fullA.emb y = y from Rect.emb_unit_full _ _]

/-- The second loop's stores whole. -/
theorem rows_done (h : Vec F S576x3584 .f32) (sq mx : Vec F S576x128 .f32) (ln : Vec F S1x1x3584 .f32) :
    outP c arg8 arg9 h sq mx ln 18 ⊢
      iprop((∃ f, (arg8.view.loc (c : Thread nD τ) ↦[arg8.view.set]{fullShare} f) ∗ ⌜arg8.view.read (Elt F) f = quantV h sq mx ln⌝)
    ∗ (∃ f, (arg9.view.loc (c : Thread nD τ) ↦[arg9.view.set]{fullShare} f) ∗ ⌜arg9.view.read (Elt F) f = scaleV sq mx⌝)) := by
  unfold outP
  iintro ⟨⟨%f8, H8, %h8⟩, ⟨%f9, H9, %h9⟩⟩
  isplitl [H8]
  · iexists f8
    isplitl [H8]; · iexact H8
    ipureintro
    funext y
    refine Eq.trans ?_ (congrFun (h8 (rowj (y 0)) (rowj (y 0)).isLt) (inRowH y))
    show _ = arg8.view.read (Elt F) f8 ((rowRH (rowj (y 0))).emb (inRowH y))
    rw [emb_inRowH]
  · iexists f9
    isplitl [H9]; · iexact H9
    ipureintro
    funext y
    refine Eq.trans ?_ (congrFun (h9 (rowj (y 0)) (rowj (y 0)).isLt) (inRowS y))
    show _ = arg9.view.read (Elt F) f9 ((rowRS (rowj (y 0))).emb (inRowS y))
    rw [emb_inRowS]

/-- The output windows before the second loop. -/
theorem out_zero (h : Vec F S576x3584 .f32) (sq mx : Vec F S576x128 .f32) (ln : Vec F S1x1x3584 .f32) :
    iprop((∃ f, arg8.view.loc (c : Thread nD τ) ↦[arg8.view.set]{fullShare} f) ∗ (∃ f, arg9.view.loc (c : Thread nD τ) ↦[arg9.view.set]{fullShare} f))
      ⊢ outP c arg8 arg9 h sq mx ln 0 := by
  unfold outP
  iintro ⟨⟨%f8, H8⟩, ⟨%f9, H9⟩⟩
  isplitl [H8]
  · iexists f8
    isplitl [H8]; · iexact H8
    ipureintro; intro j hj; omega
  · iexists f9
    isplitl [H9]; · iexact H9
    ipureintro; intro j hj; omega

/-- The two accumulators, at any contents. -/
def accs : sProp 𝕄 :=
  iprop((∃ f, arg10.view.loc (c : Thread nD τ) ↦[arg10.view.set]{fullShare} f) ∗ (∃ f, arg11.view.loc (c : Thread nD τ) ↦[arg11.view.set]{fullShare} f))
/-- The three output windows, at any contents. -/
def outs : sProp 𝕄 :=
  iprop((∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 1000000 in
/-- THE BODY at one grid point. -/
theorem body_run (Q : PUnit → sProp 𝕄) :
    iprop((insP c arg1 arg2 arg3 arg4 arg5 arg6 f1 f2 f3 f4 f5 f6 ∗ outs c arg7 arg8 arg9 ∗ accs c arg10 arg11)
      ∗ (iprop(insP c arg1 arg2 arg3 arg4 arg5 arg6 f1 f2 f3 f4 f5 f6 ∗ outsP c arg7 arg8 arg9 (blk c arg1 arg2 arg3 arg4 arg5 arg6 f1 f2 f3 f4 f5 f6) ∗ accs c arg10 arg11) -∗ Q ⟨⟩))
    ⊢ wp frame (wpE defs₀ 𝒱 (c : Thread nD τ) none) Set.univ (cc0_o_proj (F := F) i arg1 harg1 arg2 harg2 arg3 harg3 arg4 harg4 arg5 harg5 arg6 harg6 arg7 harg7 arg8 harg8 arg9 harg9 arg10 harg10 arg11 harg11) Q := by
  rw [cc0_o_proj_eq_skeleton]
  unfold cc0_o_proj_skel outs accs
  simp only [Prog.bind_lift]
  iintro ⟨⟨HI, ⟨⟨%f7, H7⟩, HOut⟩, ⟨⟨%fa, Ha⟩, ⟨%fb, Hb⟩⟩⟩, HK⟩
  iapply (wp_load_rect 𝒱 (c : Thread nD τ) none Set.univ (m := arg10) (r := fullA) (S := arg10.view.set) (f := fa) (arg10.view.set_slice_subset _)) $$ Ha
  iintro Ha
  iapply (wp_store 𝒱 (c : Thread nD τ) none Set.univ (m := arg10) (r := fullA) (S := arg10.view.set) (f := fa) (arg10.view.set_slice_subset _)) $$ Ha
  iintro Ha
  iapply (wp_load_rect 𝒱 (c : Thread nD τ) none Set.univ (m := arg11) (r := fullA) (S := arg11.view.set) (f := fb) (arg11.view.set_slice_subset _)) $$ Hb
  iintro Hb
  iapply (wp_store 𝒱 (c : Thread nD τ) none Set.univ (m := arg11) (r := fullA) (S := arg11.view.set) (f := fb) (arg11.view.set_slice_subset _)) $$ Hb
  iintro Hb
  iapply (exec_loop frame (wpE defs₀ 𝒱 (c : Thread nD τ) none) Set.univ k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11)
    (loop1 c i arg1 harg1 arg2 harg2 arg3 harg3 arg4 harg4 arg5 harg5 arg6 harg6 arg7 harg7 arg8 harg8 arg9 harg9 arg10 harg10 arg11 harg11 f1 f2 f3 f4 f5 f6 𝒱)) $$ [HI H7 Ha Hb]
  · rw [loop1_inv]
    unfold tileP
    isplitl [HI]; · iexact HI
    isplitl [H7]
    · unfold hP
      iexists f7
      isplitl [H7]; · iexact H7
      ipureintro; intro j hj; omega
    unfold accAt
    isplitl [Ha]
    · iexists _
      isplitl [Ha]; · iexact Ha
      ipureintro; exact View.read_write_univ _ _
    · iexists _
      isplitl [Hb]; · iexact Hb
      ipureintro; exact View.read_write_univ _ _
  iintro %acc HL
  ihave HL := (loop1_end c i arg1 harg1 arg2 harg2 arg3 harg3 arg4 harg4 arg5 harg5 arg6 harg6 arg7 harg7 arg8 harg8 arg9 harg9 arg10 harg10 arg11 harg11 f1 f2 f3 f4 f5 f6 𝒱 acc) $$ HL
  unfold tileP hP accAt insP
  icases HL with ⟨⟨H1, H2, H3, H4, H5, H6⟩, ⟨%g7, H7, %e7⟩, ⟨%ga, Ha, %ea⟩, ⟨%gb, Hb, %eb⟩⟩
  ihave HOut := (out_zero c arg8 arg9 (arg7.view.read (Elt F) g7) (arg10.view.read (Elt F) ga) (arg11.view.read (Elt F) gb) (arg6.view.read (Elt F) f6)) $$ HOut
  iapply (exec_loop frame (wpE defs₀ 𝒱 (c : Thread nD τ) none) Set.univ k0_t2_loop.lb k0_t2_loop.ub k0_t2_loop.st k0_t2_ok ()
    (k0_t2_body (F := F) i arg1 harg1 arg2 harg2 arg3 harg3 arg4 harg4 arg5 harg5 arg6 harg6 arg7 harg7 arg8 harg8 arg9 harg9 arg10 harg10 arg11 harg11)
    (loop2 c i arg1 harg1 arg2 harg2 arg3 harg3 arg4 harg4 arg5 harg5 arg6 harg6 arg7 harg7 arg8 harg8 arg9 harg9 arg10 harg10 arg11 harg11 f6 𝒱 g7 ga gb)) $$ [H6 H7 Ha Hb HOut]
  · rw [loop2_inv]
    unfold rowsP srcP
    isplitl [H6 H7 Ha Hb]
    · isplitl [H6]; · iexact H6
      isplitl [H7]; · iexact H7
      isplitl [Ha]; · iexact Ha
      iexact Hb
    iexact HOut
  iintro %acc' HL
  ihave HL := (loop2_end c i arg1 harg1 arg2 harg2 arg3 harg3 arg4 harg4 arg5 harg5 arg6 harg6 arg7 harg7 arg8 harg8 arg9 harg9 arg10 harg10 arg11 harg11 f6 𝒱 g7 ga gb acc') $$ HL
  unfold rowsP srcP
  icases HL with ⟨⟨H6, H7, Ha, Hb⟩, HOut⟩
  ihave HOut := (rows_done c arg8 arg9 (arg7.view.read (Elt F) g7) (arg10.view.read (Elt F) ga) (arg11.view.read (Elt F) gb) (arg6.view.read (Elt F) f6)) $$ HOut
  rw [h_done c arg7 g7 _ e7, acc_read c arg10 ga _ ea, acc_read c arg11 gb _ eb]
  rw [wp_pure]
  imodintro
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7 HOut]
  · unfold outsP
    isplitl [H7]
    · iexists g7
      isplitl [H7]; · iexact H7
      ipureintro; exact h_done c arg7 g7 _ e7
    iexact HOut
  isplitl [Ha]; · iexists ga; iexact Ha
  iexists gb; iexact Hb

end Run

end Cert.OProjIdeal.Hand
-- ==== Proof.OProjIdealFrame.lean ====
/-
  The frame of the output projection, for the program `OProjIdeal`: its proof data, the body obligation at every grid point, and the run of
  the whole program.
-/
module

public import proofs.«01_k».proof.Proof.OProjIdealBody
public import Idealize.ShloMosaic.Lib.Claim

@[expose] public section

noncomputable section

namespace Cert.OProjIdeal.Hand

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the six input windows hold at point `t`. -/
def blkAt (c : Dev nD) (t : Fin cfg0.N) : Blk F := ⟨iblk m c 0 t, iblk m c 1 t, iblk m c 2 t, iblk m c 3 t, iblk m c 4 t, iblk m c 5 t⟩
/-- What the body leaves in the three output windows at point `t`. -/
def outW6 (c : Dev nD) (t : Fin cfg0.N) : Vec F S576x3584 .f32 := hV (blkAt m c t)
def outW7 (c : Dev nD) (t : Fin cfg0.N) : Vec F S576x3584 .fp8e4m3 := quantV (hV (blkAt m c t)) (sqV (blkAt m c t) 7) (mxV (blkAt m c t) 7) (blkAt m c t).x6
def outW8 (c : Dev nD) (t : Fin cfg0.N) : Vec F S576x1 .f32 := scaleV (sqV (blkAt m c t) 7) (mxV (blkAt m c t) 7)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outW6 m c t
    | ⟨7, _⟩ => outW7 m c t
    | ⟨8, _⟩ => outW8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outW6 m c t := by dsimp only [dats]
theorem after0_7 (c : Dev nD) (t : Fin cfg0.N) : (dats m 0 c).after 7 t = outW7 m c t := by dsimp only [dats]
theorem after0_8 (c : Dev nD) (t : Fin cfg0.N) : (dats m 0 c).after 8 t = outW8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold owns
  iintro ⟨⟨⟨⟨%da, %fa, -, Ha⟩, ⟨%db, %fb, -, Hb⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  have eB : blk c (ms0_0 t) (ms0_1 t) (ms0_2 t) (ms0_3 t) (ms0_4 t) (ms0_5 t) f0 f1 f2 f3 f4 f5 = blkAt m c t := by
    unfold blk blkAt
    rw [e0, e1, e2, e3, e4, e5]
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) f0 f1 f2 f3 f4 f5 Variants.none _)
  rw [eB]
  isplitr [Hg Ho]
  · isplitl [H0 H1 H2 H3 H4 H5]
    · unfold insP
      isplitl [H0]; · iexact H0
      isplitl [H1]; · iexact H1
      isplitl [H2]; · iexact H2
      isplitl [H3]; · iexact H3
      isplitl [H4]; · iexact H4
      iexact H5
    unfold outs accs
    isplitl [H6 H7 H8]
    · isplitl [H6]; · iexists f6; iexact H6
      isplitl [H7]; · iexists f7; iexact H7
      iexists f8; iexact H8
    isplitl [Ha]; · iexists fa; iexact Ha
    iexists fb; iexact Hb
  · unfold insP outsP accs
    iintro ⟨⟨H0, H1, H2, H3, H4, H5⟩, ⟨⟨%g6, H6, %h6⟩, ⟨%g7, H7, %h7⟩, ⟨%g8, H8, %h8⟩⟩, ⟨⟨%ga, Ha⟩, ⟨%gb, Hb⟩⟩⟩
    isplitl [Ha Hb Hg]
    · isplitl [Ha Hb]
      · isplitl [Ha]
        · iexists _; iexists ga; isplitr; · ipureintro; rfl
          iexact Ha
        iexists _; iexists gb; isplitr; · ipureintro; rfl
        iexact Hb
      iexact Hg
    isplitl [Ho]; · iexact Ho
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists g6; isplitr; · ipureintro; exact h6
                    iexact H6
    isplitl [H7]; · iexists g7; isplitr; · ipureintro; exact h7
                    iexact H7
    iexists g8; isplitr; · ipureintro; exact h8
    iexact H8

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN: every execution terminates with the arrays at what the proof data says, and no semaphore held. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OProjIdeal.Hand

end
-- ==== Proof.OProjIdealValue.lean ====
/-
  What the program `OProjIdeal` leaves in its three results, at the exact instance: the residual stream, its normalised rows quantised,
  and the rows' scales, element by element.
-/
module

public import proofs.«01_k».proof.Proof.OProjIdealFrame
public import proofs.«01_k».proof.Proof.GateUpIdealValue
public import Idealize.ShloMosaic.Lib.Pointwise
public import Idealize.ShloMosaic.Lib.Pipeline.ValueKit
public import Idealize.ShloMosaic.Lib.VecWindow
public import Idealize.ShloMosaic.Lib.StableHlo.ReadAt
public import Idealize.ShloMosaic.Lib.ValueLayout
public import Idealize.ShloMosaic.Lib.IdealHost

@[expose] public section

set_option maxRecDepth 16384

noncomputable section

namespace Cert.OProjIdeal.Hand

open Cert.OProjIdeal Cert.OProjIdeal.Gen
open Cert.GateUpIdeal.Hand (kof mag amaxOf scaleOf f448 quantOf amaxOf_le mag_nonneg scaleOf_ne_zero ofBits_bot)
open Idealize.ShloMosaic Idealize.ShloMosaic.TcCoe Idealize.ShloMosaic.Tactic
open Idealize.ShloMosaic.Pointwise
open Idealize.ShloMosaic.Pipeline (Dat Cfg Window BodyObligation cellOf)

/-! ## The results -/

/-- The root of a row's mean square, given the sum of its squares; and its inverse. -/
def rmsOf (s : EReal) : EReal := Ideal.sqrt (Ideal.div s (Ideal.ofBits .f32 0x45600000#32) + Ideal.ofBits .f32 0x358637BD#32)
def invOf (s : EReal) : EReal := Ideal.div 1 (rmsOf s)
/-- The sum of a row's squares. -/
def ssqOf {n : ℕ} (f : Fin n → EReal) : EReal := ∑ x, f x * f x

section Results
variable (a0 : Vec Ideal S4608x896 .fp8e4m3) (a1 : Vec Ideal S4608x1 .f32) (a2 : Vec Ideal S2x896x3584 .fp8e4m3) (a3 : Vec Ideal S2x3584 .f32)
variable (a4 : Vec Ideal S4608x3584 .bf16) (a5 : Vec Ideal S2x3584 .f32)
/-- One element of the residual stream with the projection added. -/
def hAt (r : Fin 4608) (x : Fin 3584) : EReal :=
  a4 (ix2 r x) + (∑ k : Fin 896, a0 (ix2 r k) * a2 (ix3 (kof r) k x)) * a1 (ix2 r 0) * a3 (ix2 (kof r) x)
/-- One normalised element. -/
def nAt (r : Fin 4608) (x : Fin 3584) : EReal :=
  Ideal.div (hAt a0 a1 a2 a3 a4 r x) (rmsOf (ssqOf (hAt a0 a1 a2 a3 a4 r))) * a5 (ix2 (kof r) x)
/-- One scale, and one quantised element. -/
def s3At (r : Fin 4608) : EReal := scaleOf (amaxOf (nAt a0 a1 a2 a3 a4 a5 r))
def c3At (r : Fin 4608) (x : Fin 3584) : EReal := quantOf (nAt a0 a1 a2 a3 a4 a5 r x) (s3At a0 a1 a2 a3 a4 a5 r)
end Results

/-! ## The root mean square is positive -/

theorem sq_nonneg' (a : EReal) : 0 ≤ a * a := by
  rcases le_total 0 a with h | h
  · exact mul_nonneg h h
  · rw [← neg_mul_neg]; exact mul_nonneg (EReal.neg_nonneg.mpr h) (EReal.neg_nonneg.mpr h)
theorem ssqOf_nonneg {n : ℕ} (f : Fin n → EReal) : 0 ≤ ssqOf f := Finset.sum_nonneg fun x _ => sq_nonneg' (f x)
theorem sqrt_pos {x : EReal} (h : 0 < x) : 0 < Ideal.sqrt x := by
  induction x using EReal.rec with
  | bot => exact absurd h (by simp)
  | top => exact EReal.zero_lt_top
  | coe r =>
    have hr : 0 < r := EReal.coe_pos.mp h
    show 0 < (if r < 0 then (⊥ : EReal) else (Real.sqrt r : EReal))
    rw [if_neg (not_lt.mpr hr.le)]
    exact EReal.coe_pos.mpr (Real.sqrt_pos.mpr hr)
theorem f3584 : Ideal.ofBits .f32 0x45600000#32 = ((3584 : ℝ) : EReal) := by
  simp [Ideal.ofBits, Ideal.ieee, -EReal.coe_mul, -EReal.coe_neg]; norm_num
theorem eps_pos : 0 < Ideal.ofBits .f32 0x358637BD#32 := by
  simp [Ideal.ofBits, Ideal.ieee, -EReal.coe_mul, -EReal.coe_neg]
theorem div_nonneg_of {x y : EReal} (hx : 0 ≤ x) (hy : 0 < y) : 0 ≤ Ideal.div x y := by
  unfold Ideal.div
  rw [if_neg hy.ne']
  exact mul_nonneg hx (EReal.inv_nonneg_of_nonneg hy.le)
theorem rmsOf_pos {s : EReal} (h : 0 ≤ s) : 0 < rmsOf s := by
  refine sqrt_pos (lt_of_lt_of_le eps_pos ?_)
  refine le_add_of_nonneg_left (div_nonneg_of h ?_)
  rw [f3584]; exact EReal.coe_pos.mpr (by norm_num)
theorem invOf_nonneg {s : EReal} (h : 0 ≤ s) : 0 ≤ invOf s := div_nonneg_of zero_le_one (rmsOf_pos h)

/-! ## Maxima under a factor -/

theorem mag_mul (a i : EReal) (h : 0 ≤ i) : mag (a * i) = mag a * i := by
  have mono : Monotone fun z : EReal => z * i := fun u v huv => mul_le_mul_of_nonneg_right huv h
  unfold mag
  rw [← EReal.neg_mul]
  exact (mono.map_max).symm
/-- The greatest magnitude of a row, each element under the one factor. -/
theorem amaxOf_mul {n : ℕ} (hn : 0 < n) (f : Fin n → EReal) (i : EReal) (h : 0 ≤ i) : amaxOf (fun x => f x * i) = amaxOf f * i := by
  obtain ⟨x0, -, hx0⟩ := Finset.exists_max_image Finset.univ (fun x => mag (f x)) ⟨(⟨0, hn⟩ : Fin n), Finset.mem_univ _⟩
  have e : amaxOf f = mag (f x0) := le_antisymm ((amaxOf_le _ _).mpr fun x => hx0 x (Finset.mem_univ _)) ((amaxOf_le f _).mp le_rfl x0)
  refine le_antisymm ((amaxOf_le _ _).mpr fun x => ?_) ?_
  · rw [mag_mul _ _ h, e]; exact mul_le_mul_of_nonneg_right (hx0 x (Finset.mem_univ _)) h
  · rw [e, ← mag_mul _ _ h]; exact (amaxOf_le (fun x => f x * i) _).mp le_rfl x0

/-! ## The payloads at an element -/

/-- Column `q` of tile `j`, and lane `q` of lane group `g` of tile `j`. -/
def cc (j : Fin 7) (q : Fin 512) : Fin 3584 := ⟨512 * j.val + q.val, by omega⟩
def lane (j : Fin 7) (g : Fin 4) (q : Fin 128) : Fin 3584 := ⟨512 * j.val + 128 * g.val + q.val, by omega⟩

theorem colR_emb (j : Fin 7) (p : Fin 576) (q : Fin 512) : (colR j).emb (ix2 p q) = ix2 p (cc j q) := by
  funext a; apply Fin.ext; rw [Rect.emb_apply]; fin_cases a
  · show 0 + 1 * p.val = p.val; omega
  · show 512 * j.val + 1 * q.val = 512 * j.val + q.val; omega
theorem wR_emb (j : Fin 7) (k : Fin 896) (q : Fin 512) : (wR j).emb (ix3 0 k q) = ix3 0 k (cc j q) := by
  funext a; apply Fin.ext; rw [Rect.emb_apply]; fin_cases a
  · rfl
  · show 0 + 1 * k.val = k.val; omega
  · show 512 * j.val + 1 * q.val = 512 * j.val + q.val; omega
theorem scR_emb (j : Fin 7) (q : Fin 512) : (scR j).emb (ix3 0 0 q) = ix3 0 0 (cc j q) := by
  funext a; apply Fin.ext; rw [Rect.emb_apply]; fin_cases a
  · rfl
  · rfl
  · show 512 * j.val + 1 * q.val = 512 * j.val + q.val; omega

/-- One element of a row block of the residual stream. -/
def hB (B : Blk Ideal) (p : Fin 576) (x : Fin 3584) : EReal :=
  B.x5 (ix2 p x) + (∑ k : Fin 896, B.x1 (ix2 p k) * B.x3 (ix3 0 k x)) * B.x2 (ix2 p 0) * B.x4 (ix3 0 0 x)

theorem hT_apply (B : Blk Ideal) (j : Fin 7) (p : Fin 576) (q : Fin 512) : hT B j (ix2 p q) = hB B p (cc j q) := by
  have e1 : ∀ k, fullC.emb (ix2 p k) = ix2 p k := fun k => Rect.emb_unit_full _ _
  have e2 : fullS.emb (ix2 p 0) = ix2 p 0 := Rect.emb_unit_full _ _
  unfold hT k0_pay6 hB
  pointwise
  simp only [e1, e2, colR_emb, wR_emb, scR_emb]
theorem hV_apply (B : Blk Ideal) (p : Fin 576) (x : Fin 3584) : hV B (ix2 p x) = hB B p x := by
  have e1 : inCol (ix2 p x) = ix2 p ⟨x.val % 512, Nat.mod_lt _ (by decide)⟩ := by funext a; fin_cases a <;> rfl
  unfold hV
  rw [e1, hT_apply]
  exact congrArg (hB B p) (Fin.ext (by show 512 * (x.val / 512) + x.val % 512 = x.val; omega))
theorem sqrT_apply (B : Blk Ideal) (j : Fin 7) (p : Fin 576) (q : Fin 512) : sqrT B j (ix2 p q) = hB B p (cc j q) * hB B p (cc j q) := by
  rw [← hT_apply]; rfl
theorem absT_apply (B : Blk Ideal) (j : Fin 7) (p : Fin 576) (q : Fin 512) :
    absT B j (ix2 p q) = mag (hB B p (cc j q) * B.x6 (ix3 0 0 (cc j q))) := by
  rw [← hT_apply, ← scR_emb]
  unfold absT k0_pay7 mag hT
  pointwise
  rfl
theorem pay9_eq (B : Blk Ideal) (j : Fin 7) (v : Vec Ideal S576x128 .f32) (p : Fin 576) (q : Fin 128) :
    addT B j v (ix2 p q) = v (ix2 p q) + sqrT B j (ix2 p ⟨q.val, by omega⟩) := by
  unfold addT k0_pay9 sqrT
  generalize k0_pay8 (F := Ideal) _ _ _ _ _ = s
  pointwise
theorem sqT_apply (B : Blk Ideal) (j : Fin 7) (v : Vec Ideal S576x128 .f32) (p : Fin 576) (q : Fin 128) :
    sqT B j v (ix2 p q) = v (ix2 p q) + ∑ g : Fin 4, hB B p (lane j g q) * hB B p (lane j g q) := by
  have e : ∀ (s : FVec Ideal S576x512 .f32) (w : Vec Ideal S576x128 .f32),
      k0_pay3 (k0_pay15 s (k0_pay13 s (k0_pay11 s w))) (ix2 p q)
        = w (ix2 p q) + s (ix2 p ⟨128 + q.val, by omega⟩) + s (ix2 p ⟨256 + q.val, by omega⟩) + s (ix2 p ⟨384 + q.val, by omega⟩) := by
    intro s w
    unfold k0_pay3 k0_pay15 k0_pay13 k0_pay11
    pointwise
  unfold sqT
  rw [e, pay9_eq, Fin.sum_univ_four]
  simp only [sqrT_apply]
  have l0 : cc j ⟨q.val, by omega⟩ = lane j 0 q := Fin.ext (by show 512 * j.val + q.val = 512 * j.val + 128 * 0 + q.val; omega)
  have l1 : cc j ⟨128 + q.val, by omega⟩ = lane j 1 q := Fin.ext (by show 512 * j.val + (128 + q.val) = 512 * j.val + 128 * 1 + q.val; omega)
  have l2 : cc j ⟨256 + q.val, by omega⟩ = lane j 2 q := Fin.ext (by show 512 * j.val + (256 + q.val) = 512 * j.val + 128 * 2 + q.val; omega)
  have l3 : cc j ⟨384 + q.val, by omega⟩ = lane j 3 q := Fin.ext (by show 512 * j.val + (384 + q.val) = 512 * j.val + 128 * 3 + q.val; omega)
  rw [l0, l1, l2, l3]
  simp only [add_assoc]
theorem mxT_le (B : Blk Ideal) (j : Fin 7) (v : Vec Ideal S576x128 .f32) (p : Fin 576) (q : Fin 128) (b : EReal) :
    mxT B j v (ix2 p q) ≤ b ↔ v (ix2 p q) ≤ b ∧ ∀ g : Fin 4, mag (hB B p (lane j g q) * B.x6 (ix3 0 0 (lane j g q))) ≤ b := by
  have e : ∀ (s : FVec Ideal S576x512 .f32) (w : Vec Ideal S576x128 .f32),
      k0_pay4 s (k0_pay14 s (k0_pay12 s (k0_pay10 s w))) (ix2 p q)
        = max (max (max (max (w (ix2 p q)) (s (ix2 p ⟨q.val, by omega⟩))) (s (ix2 p ⟨128 + q.val, by omega⟩))) (s (ix2 p ⟨256 + q.val, by omega⟩))) (s (ix2 p ⟨384 + q.val, by omega⟩)) := by
    intro s w
    unfold k0_pay4 k0_pay14 k0_pay12 k0_pay10
    pointwise
  unfold mxT
  rw [e]
  simp only [absT_apply]
  have l0 : cc j ⟨q.val, by omega⟩ = lane j 0 q := Fin.ext (by show 512 * j.val + q.val = 512 * j.val + 128 * 0 + q.val; omega)
  have l1 : cc j ⟨128 + q.val, by omega⟩ = lane j 1 q := Fin.ext (by show 512 * j.val + (128 + q.val) = 512 * j.val + 128 * 1 + q.val; omega)
  have l2 : cc j ⟨256 + q.val, by omega⟩ = lane j 2 q := Fin.ext (by show 512 * j.val + (256 + q.val) = 512 * j.val + 128 * 2 + q.val; omega)
  have l3 : cc j ⟨384 + q.val, by omega⟩ = lane j 3 q := Fin.ext (by show 512 * j.val + (384 + q.val) = 512 * j.val + 128 * 3 + q.val; omega)
  rw [l0, l1, l2, l3]
  simp only [max_le_iff, Fin.forall_fin_succ, IsEmpty.forall_iff, and_true, and_assoc]
  rfl

/-- A row's lanes, tile by tile and group by group, are its columns. -/
def laneEquiv : (Fin 7 × Fin 4) × Fin 128 ≃ Fin 3584 where
  toFun z := lane z.1.1 z.1.2 z.2
  invFun x := ((⟨x.val / 512, by omega⟩, ⟨x.val % 512 / 128, by omega⟩), ⟨x.val % 128, Nat.mod_lt _ (by decide)⟩)
  left_inv := by
    rintro ⟨⟨j, g⟩, q⟩
    refine Prod.ext (Prod.ext (Fin.ext ?_) (Fin.ext ?_)) (Fin.ext ?_)
    · show (512 * j.val + 128 * g.val + q.val) / 512 = j.val; omega
    · show (512 * j.val + 128 * g.val + q.val) % 512 / 128 = g.val; omega
    · show (512 * j.val + 128 * g.val + q.val) % 128 = q.val; omega
  right_inv := by
    intro x
    apply Fin.ext
    show 512 * (x.val / 512) + 128 * (x.val % 512 / 128) + x.val % 128 = x.val
    omega
theorem exists_lane (x : Fin 3584) : ∃ j g q, lane j g q = x := ⟨_, _, _, laneEquiv.apply_symm_apply x⟩

/-- The sums of squares after the first `n` tiles. -/
theorem sqV_eq (B : Blk Ideal) (p : Fin 576) (q : Fin 128) : ∀ n, n ≤ 7 →
    sqV B n (ix2 p q) = ∑ j ∈ Finset.univ.filter (fun j : Fin 7 => j.val < n), ∑ g : Fin 4, hB B p (lane j g q) * hB B p (lane j g q) := by
  intro n
  induction n with
  | zero =>
    intro _
    have e : sqV B 0 (ix2 p q) = (0 : EReal) := by unfold sqV k0_pay1; pointwise
    rw [e]; simp
  | succ n ih =>
    intro hn
    have e : (Finset.univ.filter fun j : Fin 7 => j.val < n + 1) = insert (⟨n, hn⟩ : Fin 7) (Finset.univ.filter fun j : Fin 7 => j.val < n) := by
      ext j
      simp only [Finset.mem_filter, Finset.mem_univ, true_and, Finset.mem_insert, Fin.ext_iff]
      omega
    have h := sqV_succ B ⟨n, hn⟩
    dsimp only at h
    rw [h, sqT_apply, ih (by omega), e, Finset.sum_insert (by simp), add_comm]
/-- The lanes' sums of squares add up to the row's. -/
theorem ssq_eq (B : Blk Ideal) (p : Fin 576) : (∑ q : Fin 128, sqV B 7 (ix2 p q)) = ssqOf (hB B p) := by
  have e : ∀ q, sqV B 7 (ix2 p q) = ∑ jg : Fin 7 × Fin 4, hB B p (lane jg.1 jg.2 q) * hB B p (lane jg.1 jg.2 q) := by
    intro q
    rw [sqV_eq B p q 7 le_rfl, Fintype.sum_prod_type, Finset.filter_true_of_mem (fun j _ => j.isLt)]
  simp only [e]
  rw [Finset.sum_comm, ← Fintype.sum_prod_type']
  exact Fintype.sum_equiv laneEquiv _ _ fun z => rfl

/-- What bounds a lane of the running maxima. -/
theorem mxV_le (B : Blk Ideal) (p : Fin 576) (q : Fin 128) (b : EReal) : ∀ n, n ≤ 7 →
    (mxV B n (ix2 p q) ≤ b ↔ 0 ≤ b ∧ ∀ j : Fin 7, j.val < n → ∀ g : Fin 4, mag (hB B p (lane j g q) * B.x6 (ix3 0 0 (lane j g q))) ≤ b) := by
  intro n
  induction n with
  | zero =>
    intro _
    have e : mxV B 0 (ix2 p q) = (0 : EReal) := by unfold mxV k0_pay2; pointwise
    rw [e]
    exact ⟨fun h => ⟨h, fun j hj => by omega⟩, fun h => h.1⟩
  | succ n ih =>
    intro hn
    have h := mxV_succ B ⟨n, hn⟩
    dsimp only at h
    rw [h, mxT_le, ih (by omega)]
    constructor
    · rintro ⟨⟨h0, h1⟩, h2⟩
      refine ⟨h0, fun j hj => ?_⟩
      by_cases hjn : j.val < n
      · exact h1 j hjn
      · have : j = ⟨n, hn⟩ := Fin.ext (by show j.val = n; omega)
        rw [this]; exact h2
    · rintro ⟨h0, h1⟩
      exact ⟨⟨h0, fun j hj => h1 j (by omega)⟩, h1 ⟨n, hn⟩ (by show n < n + 1; omega)⟩
/-- The lanes' greatest elements give the row's. -/
theorem amax_eq (B : Blk Ideal) (p : Fin 576) :
    (Finset.univ : Finset (Fin 128)).fold max ⊥ (fun q => mxV B 7 (ix2 p q)) = amaxOf fun x => hB B p x * B.x6 (ix3 0 0 x) := by
  refine eq_of_forall_ge_iff fun b => ?_
  rw [Finset.fold_max_le, amaxOf_le]
  constructor
  · rintro ⟨-, h⟩ x
    obtain ⟨j, g, q, rfl⟩ := exists_lane x
    exact ((mxV_le B p q b 7 le_rfl).mp (h q (Finset.mem_univ _))).2 j j.isLt g
  · intro h
    exact ⟨bot_le, fun q _ => (mxV_le B p q b 7 le_rfl).mpr ⟨(mag_nonneg _).trans (h 0), fun j _ g => h _⟩⟩

/-! ## Rows -/

theorem inv_apply (s : Vec Ideal S32x128 .f32) (p : Fin 32) : k0_pay16 s (ix2 p 0) = invOf (∑ q : Fin 128, s (ix2 p q)) := by
  unfold k0_pay16 invOf rmsOf
  pointwise
theorem scale_apply (s v : Vec Ideal S32x128 .f32) (p : Fin 32) :
    k0_pay17 s v (ix2 p 0) = scaleOf ((Finset.univ : Finset (Fin 128)).fold max ⊥ (fun q => v (ix2 p q)) * invOf (∑ q : Fin 128, s (ix2 p q))) := by
  rw [← inv_apply, ← ofBits_bot]
  unfold k0_pay17 scaleOf
  generalize k0_pay16 (F := Ideal) s = i
  pointwise
theorem norm_apply (s v : Vec Ideal S32x128 .f32) (h : Vec Ideal S32x3584 .f32) (l : Vec Ideal S1x1x3584 .f32) (p : Fin 32) (x : Fin 3584) :
    k0_pay18 s v h l (ix2 p x) = h (ix2 p x) * k0_pay16 s (ix2 p 0) * l (ix3 0 0 x) * Ideal.div 1 (k0_pay17 s v (ix2 p 0)) := by
  unfold k0_pay18
  generalize k0_pay16 (F := Ideal) s = i
  generalize k0_pay17 (F := Ideal) s v = z
  pointwise
theorem clip_apply (z : FVec Ideal S32x3584 .f32) (y : S32x3584.Idx) :
    k0_pay5 z (Scalar.ofBits .f32 0xC3E00000#32) (Scalar.ofBits .f32 0x43E00000#32) y = min f448 (max (Ideal.ofBits .f32 0xC3E00000#32) (z y)) := rfl

theorem rowRA_emb (p : Fin 576) (q : Fin 128) : (rowRA (rowj p)).emb (ix2 (⟨p.val % 32, Nat.mod_lt _ (by decide)⟩ : Fin 32) q) = ix2 p q := by
  funext a; apply Fin.ext; rw [Rect.emb_apply]; fin_cases a
  · show 32 * (p.val / 32) + 1 * (p.val % 32) = p.val; omega
  · show 0 + 1 * q.val = q.val; omega
theorem rowRH_emb (p : Fin 576) (q : Fin 3584) : (rowRH (rowj p)).emb (ix2 (⟨p.val % 32, Nat.mod_lt _ (by decide)⟩ : Fin 32) q) = ix2 p q := by
  funext a; apply Fin.ext; rw [Rect.emb_apply]; fin_cases a
  · show 32 * (p.val / 32) + 1 * (p.val % 32) = p.val; omega
  · show 0 + 1 * q.val = q.val; omega

/-- A normalised element of a row block. -/
def nB (B : Blk Ideal) (p : Fin 576) (x : Fin 3584) : EReal := Ideal.div (hB B p x) (rmsOf (ssqOf (hB B p))) * B.x6 (ix3 0 0 x)
theorem nB_eq (B : Blk Ideal) (p : Fin 576) (x : Fin 3584) : nB B p x = hB B p x * B.x6 (ix3 0 0 x) * invOf (ssqOf (hB B p)) := by
  unfold nB invOf
  rw [← Ideal.mul_one_div (rmsOf_pos (ssqOf_nonneg _)).ne', mul_right_comm]
/-- The greatest magnitude of a normalised row. -/
theorem amax_norm (B : Blk Ideal) (p : Fin 576) :
    (Finset.univ : Finset (Fin 128)).fold max ⊥ (fun q => mxV B 7 (ix2 p q)) * invOf (∑ q : Fin 128, sqV B 7 (ix2 p q)) = amaxOf (nB B p) := by
  rw [amax_eq, ssq_eq, ← amaxOf_mul (by decide) _ _ (invOf_nonneg (ssqOf_nonneg _))]
  exact congrArg amaxOf (funext fun x => (nB_eq B p x).symm)

theorem scaleV_apply (B : Blk Ideal) (p : Fin 576) : scaleV (sqV B 7) (mxV B 7) (ix2 p 0) = scaleOf (amaxOf (nB B p)) := by
  have e : inRowS (ix2 p 0) = ix2 (⟨p.val % 32, Nat.mod_lt _ (by decide)⟩ : Fin 32) 0 := by funext a; fin_cases a <;> rfl
  show scaleR (sqV B 7) (mxV B 7) (rowj p) (inRowS (ix2 p 0)) = _
  rw [e]
  unfold scaleR
  rw [scale_apply]
  simp only [rowRA_emb]
  rw [amax_norm]
theorem quantV_apply (B : Blk Ideal) (p : Fin 576) (x : Fin 3584) :
    quantV (hV B) (sqV B 7) (mxV B 7) B.x6 (ix2 p x) = quantOf (nB B p x) (scaleOf (amaxOf (nB B p))) := by
  have e : inRowH (ix2 p x) = ix2 (⟨p.val % 32, Nat.mod_lt _ (by decide)⟩ : Fin 32) x := by funext a; fin_cases a <;> rfl
  have e1 : fullL.emb (ix3 0 0 x) = ix3 0 0 x := Rect.emb_unit_full _ _
  show quantR (hV B) (sqV B 7) (mxV B 7) B.x6 (rowj p) (inRowH (ix2 p x)) = _
  rw [e]
  unfold quantR quantOf
  rw [clip_apply, norm_apply, scale_apply, inv_apply]
  simp only [rowRA_emb, rowRH_emb, e1, hV_apply]
  rw [amax_norm, Ideal.mul_one_div (scaleOf_ne_zero _), ssq_eq, mul_right_comm, ← nB_eq]

/-! ## The windows -/

/-- The weight a grid point takes: the first at the first row block, the second after. -/
def kt (t : ℕ) : Fin 2 := if t = 0 then 0 else 1

section Index
theorem idx0 (t : Fin cfg0.N) : win0_0.index t = ![t.val, 0] := by rcases fin_N0 t with h | h | h | h | h | h | h | h <;> rw [h] <;> decide
theorem idx1 (t : Fin cfg0.N) : win0_1.index t = ![t.val, 0] := by rcases fin_N0 t with h | h | h | h | h | h | h | h <;> rw [h] <;> decide
theorem idx2 (t : Fin cfg0.N) : win0_2.index t = ![(kt t.val).val, 0, 0] := by rcases fin_N0 t with h | h | h | h | h | h | h | h <;> rw [h] <;> decide
theorem idx3 (t : Fin cfg0.N) : win0_3.index t = ![(kt t.val).val, 0, 0] := by rcases fin_N0 t with h | h | h | h | h | h | h | h <;> rw [h] <;> decide
theorem idx4 (t : Fin cfg0.N) : win0_4.index t = ![t.val, 0] := by rcases fin_N0 t with h | h | h | h | h | h | h | h <;> rw [h] <;> decide
theorem idx5 (t : Fin cfg0.N) : win0_5.index t = ![(kt t.val).val, 0, 0] := by rcases fin_N0 t with h | h | h | h | h | h | h | h <;> rw [h] <;> decide
theorem idx6 (t : Fin cfg0.N) : win0_6.index t = ![t.val, 0] := by rcases fin_N0 t with h | h | h | h | h | h | h | h <;> rw [h] <;> decide
theorem idx7 (t : Fin cfg0.N) : win0_7.index t = ![t.val, 0] := by rcases fin_N0 t with h | h | h | h | h | h | h | h <;> rw [h] <;> decide
theorem idx8 (t : Fin cfg0.N) : win0_8.index t = ![t.val, 0] := by rcases fin_N0 t with h | h | h | h | h | h | h | h <;> rw [h] <;> decide
end Index

/-- Row `p` of row block `t`. -/
def rowOf (t : Fin cfg0.N) (p : Fin 576) : Fin 4608 := ⟨576 * t.val + p.val, by have := t.isLt; have h : cfg0.N = 8 := N_0; omega⟩
theorem kof_rowOf (t : Fin cfg0.N) (p : Fin 576) : kof (rowOf t p) = kt t.val := by
  unfold kof rowOf kt
  by_cases h : t.val = 0
  · rw [if_pos h, if_pos (show 576 * t.val + p.val < 576 by omega)]
  · rw [if_neg h, if_neg (show ¬ 576 * t.val + p.val < 576 by omega)]

variable (m : (ℓ : Loc nD τ sig) → Buf (Elt Ideal) ℓ)

theorem iblk0_apply (c : Dev nD) (t : Fin cfg0.N) (p : Fin 576) (q : Fin 896) : iblk m c 0 t (ix2 p q) = m (c.tc.loc main_arg0) (ix2 (rowOf t p) q) := by
  unfold iblk
  blk_simp
  refine (congrFun (V_main_arg0 m c) _).trans (congrArg _ ?_)
  funext a; apply Fin.ext; fin_cases a <;> blk_simp [idx0] <;> try rfl
  · show t.val * 576 + p.val = 576 * t.val + p.val; omega
theorem iblk1_apply (c : Dev nD) (t : Fin cfg0.N) (p : Fin 576) : iblk m c 1 t (ix2 p 0) = m (c.tc.loc main_arg1) (ix2 (rowOf t p) 0) := by
  unfold iblk
  blk_simp
  refine (congrFun (V_main_arg1 m c) _).trans (congrArg _ ?_)
  funext a; apply Fin.ext; fin_cases a <;> blk_simp [idx1] <;> try rfl
  · show t.val * 576 + p.val = 576 * t.val + p.val; omega
theorem iblk2_apply (c : Dev nD) (t : Fin cfg0.N) (k : Fin 896) (q : Fin 3584) : iblk m c 2 t (ix3 0 k q) = m (c.tc.loc main_arg2) (ix3 (kt t.val) k q) := by
  unfold iblk
  blk_simp
  refine (congrFun (V_main_arg2 m c) _).trans (congrArg _ ?_)
  funext a; apply Fin.ext; fin_cases a <;> blk_simp [idx2] <;> try rfl
theorem V_v0 (c : Dev nD) (k : Fin 2) (q : Fin 3584) : V m c main_v0 (ix3 k 0 q) = m (c.tc.loc main_arg3) (ix2 k q) := by
  unfold V
  after_reads_at
theorem V_v1 (c : Dev nD) (k : Fin 2) (q : Fin 3584) : V m c main_v1 (ix3 k 0 q) = m (c.tc.loc main_arg5) (ix2 k q) := by
  unfold V
  after_reads_at
theorem iblk3_apply (c : Dev nD) (t : Fin cfg0.N) (q : Fin 3584) : iblk m c 3 t (ix3 0 0 q) = m (c.tc.loc main_arg3) (ix2 (kt t.val) q) := by
  unfold iblk
  blk_simp
  refine Eq.trans (congrArg _ ?_) (V_v0 m c (kt t.val) q)
  funext a; apply Fin.ext; fin_cases a <;> blk_simp [idx3] <;> rfl
theorem iblk4_apply (c : Dev nD) (t : Fin cfg0.N) (p : Fin 576) (q : Fin 3584) : iblk m c 4 t (ix2 p q) = m (c.tc.loc main_arg4) (ix2 (rowOf t p) q) := by
  unfold iblk
  blk_simp
  refine (congrFun (V_main_arg4 m c) _).trans (congrArg _ ?_)
  funext a; apply Fin.ext; fin_cases a <;> blk_simp [idx4] <;> try rfl
  · show t.val * 576 + p.val = 576 * t.val + p.val; omega
theorem iblk5_apply (c : Dev nD) (t : Fin cfg0.N) (q : Fin 3584) : iblk m c 5 t (ix3 0 0 q) = m (c.tc.loc main_arg5) (ix2 (kt t.val) q) := by
  unfold iblk
  blk_simp
  refine Eq.trans (congrArg _ ?_) (V_v1 m c (kt t.val) q)
  funext a; apply Fin.ext; fin_cases a <;> blk_simp [idx5] <;> rfl

/-- The residual stream of row block `t`, and its normalised rows. -/
theorem h_eq (c : Dev nD) (t : Fin cfg0.N) (p : Fin 576) :
    hB (blkAt m c t) p = hAt (m (c.tc.loc main_arg0)) (m (c.tc.loc main_arg1)) (m (c.tc.loc main_arg2)) (m (c.tc.loc main_arg3)) (m (c.tc.loc main_arg4)) (rowOf t p) := by
  funext x
  unfold hB hAt blkAt
  rw [kof_rowOf]
  simp only [iblk0_apply, iblk1_apply, iblk2_apply, iblk3_apply, iblk4_apply]
theorem n_eq (c : Dev nD) (t : Fin cfg0.N) (p : Fin 576) :
    nB (blkAt m c t) p = nAt (m (c.tc.loc main_arg0)) (m (c.tc.loc main_arg1)) (m (c.tc.loc main_arg2)) (m (c.tc.loc main_arg3)) (m (c.tc.loc main_arg4)) (m (c.tc.loc main_arg5)) (rowOf t p) := by
  funext x
  unfold nB nAt
  rw [h_eq, kof_rowOf, ← iblk5_apply m c]
  rfl

/-- The first result of the run, element by element. -/
theorem arrAt6_eq (c : Dev nD) : (dats m 0 c).arrAt 6 cfg0.N = fun y => hAt (m (c.tc.loc main_arg0)) (m (c.tc.loc main_arg1)) (m (c.tc.loc main_arg2)) (m (c.tc.loc main_arg3)) (m (c.tc.loc main_arg4)) (y 0) (y 1) := by
  refine (dats m 0 c).arrAt_eq_of_covers 6 _ (by decide +kernel) fun t hf y => ?_
  blk_simp
  rw [after0_6]
  obtain ⟨p, q, rfl⟩ : ∃ (p : Fin 576) (q : Fin 3584), y = ix2 p q := ⟨y 0, y 1, by funext a; fin_cases a <;> rfl⟩
  have e0 : (win0_6.blk t).view.emb (ix2 p q) = ix2 (rowOf t p) q := by
    funext a; apply Fin.ext; fin_cases a <;> blk_simp [idx6] <;> try rfl
    · show t.val * 576 + p.val = 576 * t.val + p.val; omega
  rw [e0]
  unfold outW6
  rw [hV_apply, h_eq]
  rfl

/-- The second result of the run, element by element. -/
theorem arrAt7_eq (c : Dev nD) : (dats m 0 c).arrAt 7 cfg0.N = fun y => c3At (m (c.tc.loc main_arg0)) (m (c.tc.loc main_arg1)) (m (c.tc.loc main_arg2)) (m (c.tc.loc main_arg3)) (m (c.tc.loc main_arg4)) (m (c.tc.loc main_arg5)) (y 0) (y 1) := by
  refine (dats m 0 c).arrAt_eq_of_covers 7 _ (by decide +kernel) fun t hf y => ?_
  blk_simp
  rw [after0_7]
  obtain ⟨p, q, rfl⟩ : ∃ (p : Fin 576) (q : Fin 3584), y = ix2 p q := ⟨y 0, y 1, by funext a; fin_cases a <;> rfl⟩
  have e0 : (win0_7.blk t).view.emb (ix2 p q) = ix2 (rowOf t p) q := by
    funext a; apply Fin.ext; fin_cases a <;> blk_simp [idx7] <;> try rfl
    · show t.val * 576 + p.val = 576 * t.val + p.val; omega
  rw [e0]
  unfold outW7
  rw [quantV_apply, n_eq]
  rfl

/-- The third result of the run, row by row. -/
theorem arrAt8_eq (c : Dev nD) : (dats m 0 c).arrAt 8 cfg0.N = fun y => s3At (m (c.tc.loc main_arg0)) (m (c.tc.loc main_arg1)) (m (c.tc.loc main_arg2)) (m (c.tc.loc main_arg3)) (m (c.tc.loc main_arg4)) (m (c.tc.loc main_arg5)) (y 0) := by
  refine (dats m 0 c).arrAt_eq_of_covers 8 _ (by decide +kernel) fun t hf y => ?_
  blk_simp
  rw [after0_8]
  obtain ⟨p, rfl⟩ : ∃ (p : Fin 576), y = ix2 p (0 : Fin 1) := ⟨y 0, by
    funext a; fin_cases a
    · rfl
    · exact Fin.ext (by have h : (y 1).val < 1 := (y 1).isLt; show (y 1).val = 0; omega)⟩
  have e0 : (win0_8.blk t).view.emb (ix2 p (0 : Fin 1)) = ix2 (rowOf t p) 0 := by
    funext a; apply Fin.ext; fin_cases a <;> blk_simp [idx8] <;> try rfl
    · show t.val * 576 + p.val = 576 * t.val + p.val; omega
  rw [e0]
  unfold outW8
  rw [scaleV_apply, n_eq]
  rfl

end Cert.OProjIdeal.Hand
-- ==== Proof.OProjRefIdealValue.lean ====
/-
  What the reference of the output projection leaves in its three results, at the exact instance: the same expressions, element by
  element.
-/
module

public import proofs.«01_k».proof.Proof.OProjIdealValue
public import proofs.«01_k».proof.Proof.Gen.OProjRefIdeal.Frame

@[expose] public section

set_option maxRecDepth 16384

noncomputable section

namespace Cert.OProjRefIdeal.Hand

open Cert.OProjRefIdeal Cert.OProjRefIdeal.Gen
open Cert.GateUpIdeal.Hand (kof mag amaxOf scaleOf f448 quantOf ofBits_bot)
open Cert.OProjIdeal.Hand (rmsOf ssqOf hAt nAt s3At c3At)
open Idealize.ShloMosaic Idealize.ShloMosaic.TcCoe Idealize.ShloMosaic.Tactic
open Idealize.ShloMosaic.Pointwise
open Idealize.ShloMosaic.Pipeline (Dat Cfg Window BodyObligation cellOf)

/-! ## The residual stream -/

theorem hR_apply (x0 : Vec Ideal S4608x896 .fp8e4m3) (x1 : Vec Ideal S4608x1 .f32) (x2 : Vec Ideal S2x896x3584 .fp8e4m3) (x3 : Vec Ideal S2x3584 .f32)
    (x4 : Vec Ideal S4608x3584 .bf16) (x5 : Vec Ideal S2x3584 .f32) (r : Fin 4608) (x : Fin 3584) :
    k0_pay6 x0 x1 x2 x3 x4 x5 (ix2 r x) = hAt x0 x1 x2 x3 x4 r x := by
  unfold k0_pay6 k0_pay4 hAt kof
  by_cases h : r.val < 576
  · rw [if_pos h]
    pointwise
    simp only [dif_pos h]
  · rw [if_neg h]
    have e : ∀ h', (⟨576 + (r.val - 576), h'⟩ : Fin 4608) = r := fun h' => Fin.ext (by show 576 + (r.val - 576) = r.val; omega)
    pointwise
    simp only [dif_neg h, e]

/-! ## The normalised rows -/

/-- The sum of a row. -/
theorem sum_apply (b : FVec Ideal S4608x3584 .f32) (h1) (h2) (r : Fin 4608) :
    multiReduction (F := Ideal) .add [1] S4608 b 0x00000000#32 reduces_S4608x3584_S4608 h1 h2 (ix1 r) = ∑ x : Fin 3584, b (ix2 r x) := by
  rw [Ideal.multiReduction_add_single]
  refine Finset.sum_congr rfl fun x _ => congrArg b ?_
  funext a; apply Fin.ext
  rw [Shape.Reduces.lift_val]
  fin_cases a <;> rfl
/-- The root mean squares, a column, from the sums of squares. -/
def den (S : FVec Ideal S4608 .f32) : FVec Ideal S4608x1 .f32 :=
  sqrt (addf (shapeCast S4608x1 (divf S (broadcast S4608 (Scalar.ofBits .f32 0x45600000#32))) shapeCasts_S4608_S4608x1) (broadcast S4608x1 (Scalar.ofBits .f32 0x358637BD#32)))
theorem den_apply (S : FVec Ideal S4608 .f32) (r : Fin 4608) : den S (ix2 r 0) = rmsOf (S (ix1 r)) := by
  unfold den rmsOf
  pointwise
/-- The norm's weights, chosen row by row. -/
def gain (c : IVec S4608x1 1) (a b : Vec Ideal S1x3584 .f32) : FVec Ideal S4608x3584 .f32 :=
  select (broadcastTo S4608x3584 (shapeCast S4608x1 c shapeCasts_S4608x1_S4608x1) broadcasts_S4608x1_S4608x3584)
    (broadcastTo S4608x3584 (shapeCast S1x3584 (shapeCast S3584 a shapeCasts_S1x3584_S3584) shapeCasts_S3584_S1x3584) broadcasts_S1x3584_S4608x3584)
    (broadcastTo S4608x3584 (shapeCast S1x3584 (shapeCast S3584 b shapeCasts_S1x3584_S3584) shapeCasts_S3584_S1x3584) broadcasts_S1x3584_S4608x3584)
theorem gain_apply (c : IVec S4608x1 1) (a b : Vec Ideal S1x3584 .f32) (r : Fin 4608) (x : Fin 3584) :
    gain c a b (ix2 r x) = if c (ix2 r 0) = 1#1 then a (ix2 0 x) else b (ix2 0 x) := by
  unfold gain
  pointwise
  rfl
/-- The condition of the choice: the row is not among the first 576. -/
theorem cond_apply (r : Fin 4608) : k0_pay5 (ix2 r 0) = BitVec.ofBool (decide (576 ≤ r.val)) := by
  have h : k0_pay5 (ix2 r 0) = IntOp.cmpi .sge (BitVec.ofNat 32 r.val) (BitVec.ofNat 32 576) := by
    unfold k0_pay5
    pointwise
  rw [h, WordCmp.cmpi_sge_ofNat (by omega) (by omega)]
theorem bc_apply (R : FVec Ideal S4608x1 .f32) (r : Fin 4608) (x : Fin 3584) :
    broadcastTo S4608x3584 R broadcasts_S4608x1_S4608x3584 (ix2 r x) = R (ix2 r 0) := by
  pointwise
theorem div_apply (a : FVec Ideal S4608x3584 .f32) (R : FVec Ideal S4608x1 .f32) (r : Fin 4608) (x : Fin 3584) :
    divf a (broadcastTo S4608x3584 R broadcasts_S4608x1_S4608x3584) (ix2 r x) = Ideal.div (a (ix2 r x)) (R (ix2 r 0)) :=
  congrArg (Ideal.div (a (ix2 r x))) (bc_apply R r x)
theorem pay1_eq (h : FVec Ideal S4608x3584 .f32) (c : IVec S4608x1 1) (a b : Vec Ideal S1x3584 .f32) (h1) (h2) :
    k0_pay1 h c a b = mulf (divf h (broadcastTo S4608x3584 (den (multiReduction (F := Ideal) .add [1] S4608 (mulf h h) 0x00000000#32 reduces_S4608x3584_S4608 h1 h2)) broadcasts_S4608x1_S4608x3584))
      (gain c a b) := by
  unfold k0_pay1 den gain
  rfl
/-- One normalised element, from the residual stream and the weights. -/
theorem norm_apply (h : FVec Ideal S4608x3584 .f32) (c : IVec S4608x1 1) (a b : Vec Ideal S1x3584 .f32) (r : Fin 4608) (x : Fin 3584) :
    k0_pay1 h c a b (ix2 r x) = Ideal.div (h (ix2 r x)) (rmsOf (ssqOf fun x : Fin 3584 => h (ix2 r x))) * (if c (ix2 r 0) = 1#1 then a (ix2 0 x) else b (ix2 0 x)) := by
  rw [pay1_eq _ _ _ _ (.inl rfl) rfl, ← gain_apply]
  refine congrArg (· * gain c a b (ix2 r x)) ((div_apply _ _ r x).trans ?_)
  rw [den_apply]
  exact congrArg (fun z => Ideal.div (h (ix2 r x)) (rmsOf z)) (sum_apply _ _ _ r)

/-! ## Quantised -/

/-- The greatest element of a row. -/
theorem red_apply (b : FVec Ideal S4608x3584 .f32) (h1) (h2) (r : Fin 4608) :
    multiReduction (F := Ideal) .maximumf [1] S4608 b 0xFF800000#32 reduces_S4608x3584_S4608 h1 h2 (ix1 r) = (Finset.univ : Finset (Fin 3584)).fold max ⊥ fun x => b (ix2 r x) := by
  rw [multiReduction_maximumf_eq_fold, Shape.Reduces.fold_filter_drop_single, ← ofBits_bot]
  refine congrArg (fun f => (Finset.univ : Finset (Fin 3584)).fold max (Ideal.ofBits .f32 0xFF800000#32) f) (funext fun x => congrArg b ?_)
  funext a; apply Fin.ext
  rw [Shape.Reduces.lift_val]
  fin_cases a <;> rfl
/-- The row maxima, put in a column. -/
theorem col_apply (R : FVec Ideal S4608 .f32) (r : Fin 4608) :
    shapeCast S4608x1 R shapeCasts_S4608_S4608x1 (ix2 r 0) = R (ix1 r) := by
  pointwise
/-- The scale chosen for one row: one where the maximum is zero. -/
theorem sel_apply (v : FVec Ideal S4608x1 .f32) (y : S4608x1.Idx) :
   select (cmpf .oeq v (broadcast S4608x1 (Scalar.ofBits .f32 0x00000000#32))) (broadcast S4608x1 (Scalar.ofBits .f32 0x3F800000#32)) (divf v (broadcast S4608x1 (Scalar.ofBits .f32 0x43E00000#32))) y
     = scaleOf (v y) := by
  unfold scaleOf
  pointwise
theorem pay2_eq (h : FVec Ideal S4608x3584 .f32) (c : IVec S4608x1 1) (a b : Vec Ideal S1x3584 .f32) (h1) (h2) :
    k0_pay2 h c a b = (let v := shapeCast S4608x1 (multiReduction (F := Ideal) .maximumf [1] S4608 (fun y => mag (k0_pay1 h c a b y)) 0xFF800000#32 reduces_S4608x3584_S4608 h1 h2) shapeCasts_S4608_S4608x1
      select (cmpf .oeq v (broadcast S4608x1 (Scalar.ofBits .f32 0x00000000#32))) (broadcast S4608x1 (Scalar.ofBits .f32 0x3F800000#32)) (divf v (broadcast S4608x1 (Scalar.ofBits .f32 0x43E00000#32)))) := by
  unfold k0_pay2
  rfl
theorem scale_apply (h : FVec Ideal S4608x3584 .f32) (c : IVec S4608x1 1) (a b : Vec Ideal S1x3584 .f32) (r : Fin 4608) :
    k0_pay2 h c a b (ix2 r 0) = scaleOf (amaxOf fun x : Fin 3584 => k0_pay1 h c a b (ix2 r x)) := by
  rw [pay2_eq _ _ _ _ (.inl rfl) rfl]
  refine (sel_apply _ _).trans (congrArg scaleOf ?_)
  exact (col_apply _ r).trans (red_apply _ _ _ r)
theorem clip_apply (v : FVec Ideal S4608x3584 .f32) (y : S4608x3584.Idx) :
    truncf .fp8e4m3 (minimumf (broadcast S4608x3584 (Scalar.ofBits .f32 0x43E00000#32)) (maximumf (broadcast S4608x3584 (Scalar.ofBits .f32 0xC3E00000#32)) v)) bitsLt_fp8e4m3_f32 y
      = min f448 (max (Ideal.ofBits .f32 0xC3E00000#32) (v y)) := rfl
theorem pay3_eq (h : FVec Ideal S4608x3584 .f32) (c : IVec S4608x1 1) (a b : Vec Ideal S1x3584 .f32) :
    k0_pay3 h c a b = truncf .fp8e4m3 (minimumf (broadcast S4608x3584 (Scalar.ofBits .f32 0x43E00000#32)) (maximumf (broadcast S4608x3584 (Scalar.ofBits .f32 0xC3E00000#32))
      (divf (k0_pay1 h c a b) (broadcastTo S4608x3584 (k0_pay2 h c a b) broadcasts_S4608x1_S4608x3584)))) bitsLt_fp8e4m3_f32 := by
  unfold k0_pay3
  rfl
theorem quant_apply (h : FVec Ideal S4608x3584 .f32) (c : IVec S4608x1 1) (a b : Vec Ideal S1x3584 .f32) (r : Fin 4608) (x : Fin 3584) :
    k0_pay3 h c a b (ix2 r x) = quantOf (k0_pay1 h c a b (ix2 r x)) (k0_pay2 h c a b (ix2 r 0)) := by
  rw [pay3_eq, clip_apply, div_apply]
  unfold quantOf
  rfl

/-- The reference's normalised rows. -/
theorem nR_apply (x0 : Vec Ideal S4608x896 .fp8e4m3) (x1 : Vec Ideal S4608x1 .f32) (x2 : Vec Ideal S2x896x3584 .fp8e4m3) (x3 : Vec Ideal S2x3584 .f32)
    (x4 : Vec Ideal S4608x3584 .bf16) (x5 : Vec Ideal S2x3584 .f32) (r : Fin 4608) (x : Fin 3584) :
    k0_pay1 (k0_pay6 x0 x1 x2 x3 x4 x5) (k0_pay7 x0 x1 x2 x3 x4 x5) (View.ld x5 r0_7) (View.ld x5 r0_3) (ix2 r x) = nAt x0 x1 x2 x3 x4 x5 r x := by
  have e7 : View.ld x5 r0_7 (ix2 0 x) = x5 (ix2 1 x) := by
    show x5 (r0_7.emb (ix2 0 x)) = _
    refine congrArg x5 ?_
    funext a; apply Fin.ext; rw [Rect.emb_apply]; fin_cases a
    · rfl
    · show 0 + 1 * x.val = x.val; omega
  have e3 : View.ld x5 r0_3 (ix2 0 x) = x5 (ix2 0 x) := by
    show x5 (r0_3.emb (ix2 0 x)) = _
    refine congrArg x5 ?_
    funext a; apply Fin.ext; rw [Rect.emb_apply]; fin_cases a
    · rfl
    · show 0 + 1 * x.val = x.val; omega
  rw [norm_apply, e7, e3]
  unfold nAt
  simp only [hR_apply]
  refine congrArg (Ideal.div (hAt x0 x1 x2 x3 x4 r x) (rmsOf (ssqOf (hAt x0 x1 x2 x3 x4 r))) * ·) ?_
  unfold k0_pay7 kof
  rw [cond_apply]
  by_cases h : r.val < 576
  · have e : BitVec.ofBool (decide (576 ≤ r.val)) = 0#1 := by rw [decide_eq_false (by omega)]; rfl
    rw [if_pos h, e]
    exact if_neg (by decide)
  · have e : BitVec.ofBool (decide (576 ≤ r.val)) = 1#1 := by rw [decide_eq_true (by omega)]; rfl
    rw [if_neg h, e]
    exact if_pos rfl

/-! ## The results -/

variable (m : (ℓ : Loc nD τ sig) → Buf (Elt Ideal) ℓ)

theorem point (t : Fin cfg0.N) : t = t0_0 := fin_N0 t
theorem idx0 (t : Fin cfg0.N) : win0_0.index t = ![0, 0] := by rw [point t]; decide
theorem idx1 (t : Fin cfg0.N) : win0_1.index t = ![0, 0] := by rw [point t]; decide
theorem idx2 (t : Fin cfg0.N) : win0_2.index t = ![0, 0, 0] := by rw [point t]; decide
theorem idx3 (t : Fin cfg0.N) : win0_3.index t = ![0, 0] := by rw [point t]; decide
theorem idx4 (t : Fin cfg0.N) : win0_4.index t = ![0, 0] := by rw [point t]; decide
theorem idx5 (t : Fin cfg0.N) : win0_5.index t = ![0, 0] := by rw [point t]; decide
theorem idx6 (t : Fin cfg0.N) : win0_6.index t = ![0, 0] := by rw [point t]; decide
theorem idx7 (t : Fin cfg0.N) : win0_7.index t = ![0, 0] := by rw [point t]; decide
theorem idx8 (t : Fin cfg0.N) : win0_8.index t = ![0, 0] := by rw [point t]; decide
theorem iblk0_eq (c : Dev nD) (t : Fin cfg0.N) : iblk m c 0 t = m (c.tc.loc main_arg0) := by
  funext y; unfold iblk; blk_simp
  refine (congrFun (V_main_arg0 m c) _).trans (congrArg _ ?_)
  funext a; apply Fin.ext; fin_cases a <;> blk_simp [idx0] <;> simp
theorem iblk1_eq (c : Dev nD) (t : Fin cfg0.N) : iblk m c 1 t = m (c.tc.loc main_arg1) := by
  funext y; unfold iblk; blk_simp
  refine (congrFun (V_main_arg1 m c) _).trans (congrArg _ ?_)
  funext a; apply Fin.ext; fin_cases a <;> blk_simp [idx1] <;> simp
theorem iblk2_eq (c : Dev nD) (t : Fin cfg0.N) : iblk m c 2 t = m (c.tc.loc main_arg2) := by
  funext y; unfold iblk; blk_simp
  refine (congrFun (V_main_arg2 m c) _).trans (congrArg _ ?_)
  funext a; apply Fin.ext; fin_cases a <;> blk_simp [idx2] <;> simp
theorem iblk3_eq (c : Dev nD) (t : Fin cfg0.N) : iblk m c 3 t = m (c.tc.loc main_arg3) := by
  funext y; unfold iblk; blk_simp
  refine (congrFun (V_main_arg3 m c) _).trans (congrArg _ ?_)
  funext a; apply Fin.ext; fin_cases a <;> blk_simp [idx3] <;> simp
theorem iblk4_eq (c : Dev nD) (t : Fin cfg0.N) : iblk m c 4 t = m (c.tc.loc main_arg4) := by
  funext y; unfold iblk; blk_simp
  refine (congrFun (V_main_arg4 m c) _).trans (congrArg _ ?_)
  funext a; apply Fin.ext; fin_cases a <;> blk_simp [idx4] <;> simp
theorem iblk5_eq (c : Dev nD) (t : Fin cfg0.N) : iblk m c 5 t = m (c.tc.loc main_arg5) := by
  funext y; unfold iblk; blk_simp
  refine (congrFun (V_main_arg5 m c) _).trans (congrArg _ ?_)
  funext a; apply Fin.ext; fin_cases a <;> blk_simp [idx5] <;> simp

/-- The first result of the run, element by element. -/
theorem arrAt6_eq (c : Dev nD) : (dats m 0 c).arrAt 6 cfg0.N = fun y => hAt (m (c.tc.loc main_arg0)) (m (c.tc.loc main_arg1)) (m (c.tc.loc main_arg2)) (m (c.tc.loc main_arg3)) (m (c.tc.loc main_arg4)) (y 0) (y 1) := by
  refine (dats m 0 c).arrAt_eq_of_covers 6 _ (by decide +kernel) fun t hf y => ?_
  blk_simp
  rw [after0_6, iblk0_eq, iblk1_eq, iblk2_eq, iblk3_eq, iblk4_eq, iblk5_eq]
  obtain ⟨r, x, rfl⟩ : ∃ (r : Fin 4608) (x : Fin 3584), y = ix2 r x := ⟨y 0, y 1, by funext a; fin_cases a <;> rfl⟩
  have e0 : ((View.whole main_v0_0).slice (win0_6.rect t)).emb (ix2 r x) = ix2 r x := by
    funext a; apply Fin.ext; fin_cases a <;> blk_simp [idx6] <;> simp
  rw [e0]
  refine Eq.trans ?_ (hR_apply _ _ _ _ _ (m (c.tc.loc main_arg5)) r x)
  unfold out0_6
  exact congrFun (View.canon_unit_zero (by decide) _ _) _

/-- The second result of the run, element by element. -/
theorem arrAt7_eq (c : Dev nD) : (dats m 0 c).arrAt 7 cfg0.N = fun y => c3At (m (c.tc.loc main_arg0)) (m (c.tc.loc main_arg1)) (m (c.tc.loc main_arg2)) (m (c.tc.loc main_arg3)) (m (c.tc.loc main_arg4)) (m (c.tc.loc main_arg5)) (y 0) (y 1) := by
  refine (dats m 0 c).arrAt_eq_of_covers 7 _ (by decide +kernel) fun t hf y => ?_
  blk_simp
  rw [after0_7, iblk0_eq, iblk1_eq, iblk2_eq, iblk3_eq, iblk4_eq, iblk5_eq]
  obtain ⟨r, x, rfl⟩ : ∃ (r : Fin 4608) (x : Fin 3584), y = ix2 r x := ⟨y 0, y 1, by funext a; fin_cases a <;> rfl⟩
  have e0 : ((View.whole main_v0_1).slice (win0_7.rect t)).emb (ix2 r x) = ix2 r x := by
    funext a; apply Fin.ext; fin_cases a <;> blk_simp [idx7] <;> simp
  rw [e0]
  refine Eq.trans ?_ ((quant_apply (k0_pay6 (m (c.tc.loc main_arg0)) (m (c.tc.loc main_arg1)) (m (c.tc.loc main_arg2)) (m (c.tc.loc main_arg3)) (m (c.tc.loc main_arg4)) (m (c.tc.loc main_arg5)))
    (k0_pay7 (m (c.tc.loc main_arg0)) (m (c.tc.loc main_arg1)) (m (c.tc.loc main_arg2)) (m (c.tc.loc main_arg3)) (m (c.tc.loc main_arg4)) (m (c.tc.loc main_arg5)))
    (View.ld (m (c.tc.loc main_arg5)) r0_7) (View.ld (m (c.tc.loc main_arg5)) r0_3) r x).trans ?_)
  · unfold out0_7
    exact congrFun (View.canon_unit_zero (by decide) _ _) _
  · exact congrArg₂ quantOf (nR_apply _ _ _ _ _ _ r x)
      ((scale_apply _ _ _ _ r).trans (congrArg (fun f => scaleOf (amaxOf f)) (funext fun x => nR_apply _ _ _ _ _ _ r x)))

/-- The third result of the run, row by row. -/
theorem arrAt8_eq (c : Dev nD) : (dats m 0 c).arrAt 8 cfg0.N = fun y => s3At (m (c.tc.loc main_arg0)) (m (c.tc.loc main_arg1)) (m (c.tc.loc main_arg2)) (m (c.tc.loc main_arg3)) (m (c.tc.loc main_arg4)) (m (c.tc.loc main_arg5)) (y 0) := by
  refine (dats m 0 c).arrAt_eq_of_covers 8 _ (by decide +kernel) fun t hf y => ?_
  blk_simp
  rw [after0_8, iblk0_eq, iblk1_eq, iblk2_eq, iblk3_eq, iblk4_eq, iblk5_eq]
  obtain ⟨r, rfl⟩ : ∃ (r : Fin 4608), y = ix2 r (0 : Fin 1) := ⟨y 0, by
    funext a; fin_cases a
    · rfl
    · exact Fin.ext (by have h : (y 1).val < 1 := (y 1).isLt; show (y 1).val = 0; omega)⟩
  have e0 : ((View.whole main_v0_2).slice (win0_8.rect t)).emb (ix2 r (0 : Fin 1)) = ix2 r 0 := by
    funext a; apply Fin.ext; fin_cases a <;> blk_simp [idx8] <;> simp
  rw [e0]
  refine Eq.trans ?_ ((scale_apply (k0_pay6 (m (c.tc.loc main_arg0)) (m (c.tc.loc main_arg1)) (m (c.tc.loc main_arg2)) (m (c.tc.loc main_arg3)) (m (c.tc.loc main_arg4)) (m (c.tc.loc main_arg5)))
    (k0_pay7 (m (c.tc.loc main_arg0)) (m (c.tc.loc main_arg1)) (m (c.tc.loc main_arg2)) (m (c.tc.loc main_arg3)) (m (c.tc.loc main_arg4)) (m (c.tc.loc main_arg5)))
    (View.ld (m (c.tc.loc main_arg5)) r0_7) (View.ld (m (c.tc.loc main_arg5)) r0_3) r).trans ?_)
  · unfold out0_8
    exact congrFun (View.canon_unit_zero (by decide) _ _) _
  · exact congrArg (fun f => scaleOf (amaxOf f)) (funext fun x => nR_apply _ _ _ _ _ _ r x)

end Cert.OProjRefIdeal.Hand
-- ==== Proof.lean ====
/-
  The certificate of the down projection, of the gate and up projections and of the output projection. Each kernel's program runs from any memory and comes to
  rest with its arguments as they were, at the machine's words and at exact arithmetic, and so does its reference's; at exact
  arithmetic their results are equal. All of it comes from one run theorem per program: `Hand.run_post` for the kernels' programs
  (`Hand.run_main` for the output projection's), the generated frame for the references, and the results' closed forms `Hand.arrAt_eq` (`arrAt3_eq` …) on each side.
-/
module

public import proofs.«01_k».proof.Defs
public import proofs.«01_k».proof.Proof.Gen.Down
public import proofs.«01_k».proof.Proof.Gen.DownIdeal
public import proofs.«01_k».proof.Proof.Gen.DownRefIdeal
public import proofs.«01_k».proof.Proof.Gen.GateUp
public import proofs.«01_k».proof.Proof.Gen.GateUpIdeal
public import proofs.«01_k».proof.Proof.Gen.GateUpRefIdeal
public import proofs.«01_k».proof.Proof.Gen.OProj
public import proofs.«01_k».proof.Proof.Gen.OProjIdeal
public import proofs.«01_k».proof.Proof.Gen.OProjRefIdeal
public import proofs.«01_k».proof.Proof.DownFrame
public import proofs.«01_k».proof.Proof.DownIdealValue
public import proofs.«01_k».proof.Proof.DownRefIdealValue
public import proofs.«01_k».proof.Proof.GateUpFrame
public import proofs.«01_k».proof.Proof.GateUpIdealValue
public import proofs.«01_k».proof.Proof.GateUpRefIdealValue
public import proofs.«01_k».proof.Proof.OProjFrame
public import proofs.«01_k».proof.Proof.OProjIdealValue
public import proofs.«01_k».proof.Proof.OProjRefIdealValue

@[expose] public section

noncomputable section

namespace Cert.Proof

open Idealize.ShloMosaic Idealize.ShloMosaic.TcCoe Idealize.SL.Sem

/-- At exact arithmetic the kernel and the reference end with equal results. -/
theorem down_algebraic : algebraic_DownIdeal_DownRefIdeal := by
  intro m g m' g' _ hm
  refine ⟨fun c y => Cert.DownIdeal.Hand.downAt (m (c.tc.loc Cert.DownIdeal.main_arg0)) (m (c.tc.loc Cert.DownIdeal.main_arg1)) (m (c.tc.loc Cert.DownIdeal.main_arg2))
    (m (c.tc.loc Cert.DownIdeal.main_arg3)) (m (c.tc.loc Cert.DownIdeal.main_arg4)) (y 0) (y 1), ?_, ?_⟩
  · exact (θ_run Cert.DownIdeal.defs _ _).mono (fun _ h c => ⟨(h.2 c).trans (Cert.DownIdeal.Hand.arrAt_eq m c), h.1.1 c⟩) (Cert.DownIdeal.Hand.run_post m g)
  · refine (θ_run Cert.DownRefIdeal.defs _ _).mono (fun _ h c => ⟨?_, h.1.1 c⟩)
      (θ_run_and (Cert.DownRefIdeal.Gen.frame m' g') (Cert.DownRefIdeal.Gen.run_main m' g'))
    obtain ⟨h0, h1, h2, h3, h4⟩ := hm c
    refine ((h.2 c).1 5).trans ((Cert.DownRefIdeal.Hand.arrAt_eq m' c).trans ?_)
    rw [h0, h1, h2, h3, h4]
    rfl

/-- The same for the gate and up projections, whose results are the quantised activations and their scales. -/
theorem gateUp_algebraic : algebraic_GateUpIdeal_GateUpRefIdeal := by
  intro m g m' g' _ hm
  refine ⟨fun c y => Cert.GateUpIdeal.Hand.c4At (m (c.tc.loc Cert.GateUpIdeal.main_arg0)) (m (c.tc.loc Cert.GateUpIdeal.main_arg1)) (m (c.tc.loc Cert.GateUpIdeal.main_arg2))
    (m (c.tc.loc Cert.GateUpIdeal.main_arg3)) (y 0) (y 1),
    fun c y => Cert.GateUpIdeal.Hand.s4At (m (c.tc.loc Cert.GateUpIdeal.main_arg0)) (m (c.tc.loc Cert.GateUpIdeal.main_arg1)) (m (c.tc.loc Cert.GateUpIdeal.main_arg2))
    (m (c.tc.loc Cert.GateUpIdeal.main_arg3)) (y 0), ?_, ?_⟩
  · exact (θ_run Cert.GateUpIdeal.defs _ _).mono (fun _ h c => ⟨(h.2 c).1.trans (Cert.GateUpIdeal.Hand.arrAt3_eq m c), (h.2 c).2.trans (Cert.GateUpIdeal.Hand.arrAt4_eq m c), h.1.1 c⟩)
      (Cert.GateUpIdeal.Hand.run_post m g)
  · refine (θ_run Cert.GateUpRefIdeal.defs _ _).mono (fun _ h c => ⟨?_, ?_, h.1.1 c⟩)
      (θ_run_and (Cert.GateUpRefIdeal.Gen.frame m' g') (Cert.GateUpRefIdeal.Gen.run_main m' g'))
    · obtain ⟨h0, h1, h2, h3⟩ := hm c
      refine ((h.2 c).1 4).trans ((Cert.GateUpRefIdeal.Hand.arrAt4_eq m' c).trans ?_)
      rw [h0, h1, h2, h3]
      rfl
    · obtain ⟨h0, h1, h2, h3⟩ := hm c
      refine ((h.2 c).1 5).trans ((Cert.GateUpRefIdeal.Hand.arrAt5_eq m' c).trans ?_)
      rw [h0, h1, h2, h3]
      rfl

/-- The same for the output projection, whose results are the residual stream, its normalised rows quantised and their scales. -/
theorem oProj_algebraic : algebraic_OProjIdeal_OProjRefIdeal := by
  intro m g m' g' _ hm
  refine ⟨fun c y => Cert.OProjIdeal.Hand.hAt (m (c.tc.loc Cert.OProjIdeal.main_arg0)) (m (c.tc.loc Cert.OProjIdeal.main_arg1)) (m (c.tc.loc Cert.OProjIdeal.main_arg2))
    (m (c.tc.loc Cert.OProjIdeal.main_arg3)) (m (c.tc.loc Cert.OProjIdeal.main_arg4)) (y 0) (y 1),
    fun c y => Cert.OProjIdeal.Hand.c3At (m (c.tc.loc Cert.OProjIdeal.main_arg0)) (m (c.tc.loc Cert.OProjIdeal.main_arg1)) (m (c.tc.loc Cert.OProjIdeal.main_arg2))
    (m (c.tc.loc Cert.OProjIdeal.main_arg3)) (m (c.tc.loc Cert.OProjIdeal.main_arg4)) (m (c.tc.loc Cert.OProjIdeal.main_arg5)) (y 0) (y 1),
    fun c y => Cert.OProjIdeal.Hand.s3At (m (c.tc.loc Cert.OProjIdeal.main_arg0)) (m (c.tc.loc Cert.OProjIdeal.main_arg1)) (m (c.tc.loc Cert.OProjIdeal.main_arg2))
    (m (c.tc.loc Cert.OProjIdeal.main_arg3)) (m (c.tc.loc Cert.OProjIdeal.main_arg4)) (m (c.tc.loc Cert.OProjIdeal.main_arg5)) (y 0), ?_, ?_⟩
  · exact (θ_run Cert.OProjIdeal.defs _ _).mono (fun _ h c => ⟨((h.2 c).1 6).trans (Cert.OProjIdeal.Hand.arrAt6_eq m c), ((h.2 c).1 7).trans (Cert.OProjIdeal.Hand.arrAt7_eq m c),
      ((h.2 c).1 8).trans (Cert.OProjIdeal.Hand.arrAt8_eq m c), h.1.1 c⟩)
      (θ_run_and (Cert.OProjIdeal.Hand.frame m g) (Cert.OProjIdeal.Hand.run_main m g))
  · refine (θ_run Cert.OProjRefIdeal.defs _ _).mono (fun _ h c => ⟨?_, ?_, ?_, h.1.1 c⟩)
      (θ_run_and (Cert.OProjRefIdeal.Gen.frame m' g') (Cert.OProjRefIdeal.Gen.run_main m' g'))
    · obtain ⟨h0, h1, h2, h3, h4, h5⟩ := hm c
      refine ((h.2 c).1 6).trans ((Cert.OProjRefIdeal.Hand.arrAt6_eq m' c).trans ?_)
      rw [h0, h1, h2, h3, h4]
      rfl
    · obtain ⟨h0, h1, h2, h3, h4, h5⟩ := hm c
      refine ((h.2 c).1 7).trans ((Cert.OProjRefIdeal.Hand.arrAt7_eq m' c).trans ?_)
      rw [h0, h1, h2, h3, h4, h5]
      rfl
    · obtain ⟨h0, h1, h2, h3, h4, h5⟩ := hm c
      refine ((h.2 c).1 8).trans ((Cert.OProjRefIdeal.Hand.arrAt8_eq m' c).trans ?_)
      rw [h0, h1, h2, h3, h4, h5]
      rfl

theorem claim : Cert.Claim :=
  ⟨Cert.Down.Gen.facts, Cert.DownIdeal.Gen.facts, Cert.DownRefIdeal.Gen.facts, Cert.GateUp.Gen.facts, Cert.GateUpIdeal.Gen.facts, Cert.GateUpRefIdeal.Gen.facts,
    Cert.OProj.Gen.facts, Cert.OProjIdeal.Gen.facts, Cert.OProjRefIdeal.Gen.facts,
    fun m ρ _ => Cert.Down.Hand.frame m ρ, fun m ρ _ => Cert.DownIdeal.Hand.frame m ρ, fun m ρ _ => Cert.DownRefIdeal.Gen.frame m ρ,
    fun m ρ _ => Cert.GateUp.Hand.frame m ρ, fun m ρ _ => Cert.GateUpIdeal.Hand.frame m ρ, fun m ρ _ => Cert.GateUpRefIdeal.Gen.frame m ρ,
    fun m ρ _ => Cert.OProj.Hand.frame m ρ, fun m ρ _ => Cert.OProjIdeal.Hand.frame m ρ, fun m ρ _ => Cert.OProjRefIdeal.Gen.frame m ρ,
    trivial, down_algebraic, trivial, gateUp_algebraic, trivial, oProj_algebraic⟩

end Cert.Proof

end
